-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_band_masked [hPre_band_masked : Cert.Pre_band_masked.Facts] (m : (ℓ : Loc Cert.KernelIdeal.nD Cert.KernelIdeal.τ Cert.KernelIdeal.sig) → Buf (Elt Ideal) ℓ) : Prop :=
  ∀ c : Dev Cert.KernelIdeal.nD,
    (Cert.Pre_band_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_band_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_band_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_band_masked [hPre_band_masked : Cert.Pre_band_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_band_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_band_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_band_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QvKernel (m : (ℓ : Loc Cert.QvKernel.nD Cert.QvKernel.τ Cert.QvKernel.sig) → Buf (Elt Bits) ℓ) : Prop :=
  True

def Pre_QvKernelIdeal (m : (ℓ : Loc Cert.QvKernelIdeal.nD Cert.QvKernelIdeal.τ Cert.QvKernelIdeal.sig) → Buf (Elt Ideal) ℓ) : Prop :=
  True

def Pre_QvReferenceIdeal (m : (ℓ : Loc Cert.QvReferenceIdeal.nD Cert.QvReferenceIdeal.τ Cert.QvReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_rope_padded [hPre_rope_padded : Cert.Pre_rope_padded.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_rope_padded.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5)) (m ((c.tc : Thread Cert.MlaKernelIdeal.nD Cert.MlaKernelIdeal.τ).loc Cert.MlaKernelIdeal.main_arg6)) (m ((c.tc : Thread Cert.MlaKernelIdeal.nD Cert.MlaKernelIdeal.τ).loc Cert.MlaKernelIdeal.main_arg7)) (m ((c.tc : Thread Cert.MlaKernelIdeal.nD Cert.MlaKernelIdeal.τ).loc Cert.MlaKernelIdeal.main_arg8))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_rope_padded [hPre_rope_padded : Cert.Pre_rope_padded.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_rope_padded.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4)) (m ((c.tc : Thread Cert.MlaReferenceIdeal.nD Cert.MlaReferenceIdeal.τ).loc Cert.MlaReferenceIdeal.main_arg5)) (m ((c.tc : Thread Cert.MlaReferenceIdeal.nD Cert.MlaReferenceIdeal.τ).loc Cert.MlaReferenceIdeal.main_arg6)) (m ((c.tc : Thread Cert.MlaReferenceIdeal.nD Cert.MlaReferenceIdeal.τ).loc Cert.MlaReferenceIdeal.main_arg7)) (m ((c.tc : Thread Cert.MlaReferenceIdeal.nD Cert.MlaReferenceIdeal.τ).loc Cert.MlaReferenceIdeal.main_arg8))) = (fun _ => 1#1)

def Pre_SortKernel (m : (ℓ : Loc Cert.SortKernel.nD Cert.SortKernel.τ Cert.SortKernel.sig) → Buf (Elt Bits) ℓ) : Prop :=
  True

def Pre_SortKernelIdeal (m : (ℓ : Loc Cert.SortKernelIdeal.nD Cert.SortKernelIdeal.τ Cert.SortKernelIdeal.sig) → Buf (Elt Ideal) ℓ) : Prop :=
  True

def Pre_SortReferenceIdeal (m : (ℓ : Loc Cert.SortReferenceIdeal.nD Cert.SortReferenceIdeal.τ Cert.SortReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_band_masked [hKernelIdeal : Cert.KernelIdeal.Facts] [hPre_band_masked : Cert.Pre_band_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_band_masked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_band_masked [hReferenceIdeal : Cert.ReferenceIdeal.Facts] [hPre_band_masked : Cert.Pre_band_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_band_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_QvKernel [hQvKernel : Cert.QvKernel.Facts] : Prop :=
  ∀ (m : (ℓ : Loc Cert.QvKernel.nD Cert.QvKernel.τ Cert.QvKernel.sig) → Buf (Elt Bits) ℓ) (g : Dev Cert.QvKernel.nD → PrngReg), Pre_QvKernel m →
    θ_run (Cert.QvKernel.defs (F := Bits)) (onTc (τ := Cert.QvKernel.τ) (Cert.QvKernel.main (F := Bits))) ⟨m, fun _ => 0, g⟩ (fun r => (∀ c : Dev Cert.QvKernel.nD,
      r.2.mem ((c.tc : Thread Cert.QvKernel.nD Cert.QvKernel.τ).loc Cert.QvKernel.main_arg0) = m ((c.tc : Thread Cert.QvKernel.nD Cert.QvKernel.τ).loc Cert.QvKernel.main_arg0)
      ∧ r.2.mem ((c.tc : Thread Cert.QvKernel.nD Cert.QvKernel.τ).loc Cert.QvKernel.main_arg1) = m ((c.tc : Thread Cert.QvKernel.nD Cert.QvKernel.τ).loc Cert.QvKernel.main_arg1)
      ∧ r.2.mem ((c.tc : Thread Cert.QvKernel.nD Cert.QvKernel.τ).loc Cert.QvKernel.main_arg2) = m ((c.tc : Thread Cert.QvKernel.nD Cert.QvKernel.τ).loc Cert.QvKernel.main_arg2))
      ∧ r.2.sem = fun _ => 0)

def quiescent_QvKernelIdeal [hQvKernelIdeal : Cert.QvKernelIdeal.Facts] : Prop :=
  ∀ (m : (ℓ : Loc Cert.QvKernelIdeal.nD Cert.QvKernelIdeal.τ Cert.QvKernelIdeal.sig) → Buf (Elt Ideal) ℓ) (g : Dev Cert.QvKernelIdeal.nD → PrngReg), Pre_QvKernelIdeal m →
    θ_run (Cert.QvKernelIdeal.defs (F := Ideal)) (onTc (τ := Cert.QvKernelIdeal.τ) (Cert.QvKernelIdeal.main (F := Ideal))) ⟨m, fun _ => 0, g⟩ (fun r => (∀ c : Dev Cert.QvKernelIdeal.nD,
      r.2.mem ((c.tc : Thread Cert.QvKernelIdeal.nD Cert.QvKernelIdeal.τ).loc Cert.QvKernelIdeal.main_arg0) = m ((c.tc : Thread Cert.QvKernelIdeal.nD Cert.QvKernelIdeal.τ).loc Cert.QvKernelIdeal.main_arg0)
      ∧ r.2.mem ((c.tc : Thread Cert.QvKernelIdeal.nD Cert.QvKernelIdeal.τ).loc Cert.QvKernelIdeal.main_arg1) = m ((c.tc : Thread Cert.QvKernelIdeal.nD Cert.QvKernelIdeal.τ).loc Cert.QvKernelIdeal.main_arg1)
      ∧ r.2.mem ((c.tc : Thread Cert.QvKernelIdeal.nD Cert.QvKernelIdeal.τ).loc Cert.QvKernelIdeal.main_arg2) = m ((c.tc : Thread Cert.QvKernelIdeal.nD Cert.QvKernelIdeal.τ).loc Cert.QvKernelIdeal.main_arg2))
      ∧ r.2.sem = fun _ => 0)

def quiescent_QvReferenceIdeal [hQvReferenceIdeal : Cert.QvReferenceIdeal.Facts] : Prop :=
  ∀ (m : (ℓ : Loc Cert.QvReferenceIdeal.nD Cert.QvReferenceIdeal.τ Cert.QvReferenceIdeal.sig) → Buf (Elt Ideal) ℓ) (g : Dev Cert.QvReferenceIdeal.nD → PrngReg), Pre_QvReferenceIdeal m →
    θ_run (Cert.QvReferenceIdeal.defs (F := Ideal)) (onTc (τ := Cert.QvReferenceIdeal.τ) (Cert.QvReferenceIdeal.main (F := Ideal))) ⟨m, fun _ => 0, g⟩ (fun r => (∀ c : Dev Cert.QvReferenceIdeal.nD,
      r.2.mem ((c.tc : Thread Cert.QvReferenceIdeal.nD Cert.QvReferenceIdeal.τ).loc Cert.QvReferenceIdeal.main_arg0) = m ((c.tc : Thread Cert.QvReferenceIdeal.nD Cert.QvReferenceIdeal.τ).loc Cert.QvReferenceIdeal.main_arg0)
      ∧ r.2.mem ((c.tc : Thread Cert.QvReferenceIdeal.nD Cert.QvReferenceIdeal.τ).loc Cert.QvReferenceIdeal.main_arg1) = m ((c.tc : Thread Cert.QvReferenceIdeal.nD Cert.QvReferenceIdeal.τ).loc Cert.QvReferenceIdeal.main_arg1)
      ∧ r.2.mem ((c.tc : Thread Cert.QvReferenceIdeal.nD Cert.QvReferenceIdeal.τ).loc Cert.QvReferenceIdeal.main_arg2) = m ((c.tc : Thread Cert.QvReferenceIdeal.nD Cert.QvReferenceIdeal.τ).loc Cert.QvReferenceIdeal.main_arg2))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ r.2.sem = fun _ => 0)

def quiescent_MlaKernelIdeal_pre_rope_padded [hMlaKernelIdeal : Cert.MlaKernelIdeal.Facts] [hPre_rope_padded : Cert.Pre_rope_padded.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_rope_padded m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8))
      ∧ r.2.sem = fun _ => 0)

def quiescent_MlaReferenceIdeal_pre_rope_padded [hMlaReferenceIdeal : Cert.MlaReferenceIdeal.Facts] [hPre_rope_padded : Cert.Pre_rope_padded.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_rope_padded m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8))
      ∧ r.2.sem = fun _ => 0)

def quiescent_SortKernel [hSortKernel : Cert.SortKernel.Facts] : Prop :=
  ∀ (m : (ℓ : Loc Cert.SortKernel.nD Cert.SortKernel.τ Cert.SortKernel.sig) → Buf (Elt Bits) ℓ) (g : Dev Cert.SortKernel.nD → PrngReg), Pre_SortKernel m →
    θ_run (Cert.SortKernel.defs (F := Bits)) (onTc (τ := Cert.SortKernel.τ) (Cert.SortKernel.main (F := Bits))) ⟨m, fun _ => 0, g⟩ (fun r => (∀ c : Dev Cert.SortKernel.nD,
      r.2.mem ((c.tc : Thread Cert.SortKernel.nD Cert.SortKernel.τ).loc Cert.SortKernel.main_arg0) = m ((c.tc : Thread Cert.SortKernel.nD Cert.SortKernel.τ).loc Cert.SortKernel.main_arg0))
      ∧ r.2.sem = fun _ => 0)

def quiescent_SortKernelIdeal [hSortKernelIdeal : Cert.SortKernelIdeal.Facts] : Prop :=
  ∀ (m : (ℓ : Loc Cert.SortKernelIdeal.nD Cert.SortKernelIdeal.τ Cert.SortKernelIdeal.sig) → Buf (Elt Ideal) ℓ) (g : Dev Cert.SortKernelIdeal.nD → PrngReg), Pre_SortKernelIdeal m →
    θ_run (Cert.SortKernelIdeal.defs (F := Ideal)) (onTc (τ := Cert.SortKernelIdeal.τ) (Cert.SortKernelIdeal.main (F := Ideal))) ⟨m, fun _ => 0, g⟩ (fun r => (∀ c : Dev Cert.SortKernelIdeal.nD,
      r.2.mem ((c.tc : Thread Cert.SortKernelIdeal.nD Cert.SortKernelIdeal.τ).loc Cert.SortKernelIdeal.main_arg0) = m ((c.tc : Thread Cert.SortKernelIdeal.nD Cert.SortKernelIdeal.τ).loc Cert.SortKernelIdeal.main_arg0))
      ∧ r.2.sem = fun _ => 0)

def quiescent_SortReferenceIdeal [hSortReferenceIdeal : Cert.SortReferenceIdeal.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_band_masked [hKernelIdeal : Cert.KernelIdeal.Facts] [hReferenceIdeal : Cert.ReferenceIdeal.Facts] [hPre_band_masked : Cert.Pre_band_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_band_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v1)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v1) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_QvKernel_QvKernelIdeal : Prop :=
  IdealRules.named_const.Statement Cert.QvKernelIdeal.κ "mask" .f32 0xF149F2CA#32 ⊥
  ∧ IdealRules.named_const.Statement Cert.QvKernelIdeal.κ "qscale" .f32 0x3E0293EE#32 ((((Real.sqrt 128) * (Real.log 2))⁻¹ : ℝ) : EReal)

def algebraic_QvKernelIdeal_QvReferenceIdeal [hQvKernelIdeal : Cert.QvKernelIdeal.Facts] [hQvReferenceIdeal : Cert.QvReferenceIdeal.Facts] : Prop :=
  ∀ (m : (ℓ : Loc Cert.QvKernelIdeal.nD Cert.QvKernelIdeal.τ Cert.QvKernelIdeal.sig) → Buf (Elt Ideal) ℓ) (g : Dev Cert.QvKernelIdeal.nD → PrngReg)
    (m' : (ℓ : Loc Cert.QvReferenceIdeal.nD Cert.QvReferenceIdeal.τ Cert.QvReferenceIdeal.sig) → Buf (Elt Ideal) ℓ) (g' : Dev Cert.QvReferenceIdeal.nD → PrngReg), Pre_QvKernelIdeal m →
    (∀ c : Dev Cert.QvKernelIdeal.nD,
      m' ((c.tc : Thread Cert.QvReferenceIdeal.nD Cert.QvReferenceIdeal.τ).loc Cert.QvReferenceIdeal.main_arg0) = m ((c.tc : Thread Cert.QvKernelIdeal.nD Cert.QvKernelIdeal.τ).loc Cert.QvKernelIdeal.main_arg0)
      ∧ m' ((c.tc : Thread Cert.QvReferenceIdeal.nD Cert.QvReferenceIdeal.τ).loc Cert.QvReferenceIdeal.main_arg1) = m ((c.tc : Thread Cert.QvKernelIdeal.nD Cert.QvKernelIdeal.τ).loc Cert.QvKernelIdeal.main_arg1)
      ∧ m' ((c.tc : Thread Cert.QvReferenceIdeal.nD Cert.QvReferenceIdeal.τ).loc Cert.QvReferenceIdeal.main_arg2) = m ((c.tc : Thread Cert.QvKernelIdeal.nD Cert.QvKernelIdeal.τ).loc Cert.QvKernelIdeal.main_arg2)) →
    ∃ (v0 : (c : Dev Cert.QvKernelIdeal.nD) → Buf (Elt Ideal) ((c.tc : Thread Cert.QvKernelIdeal.nD Cert.QvKernelIdeal.τ).loc Cert.QvKernelIdeal.main_v2_0)) (v1 : (c : Dev Cert.QvKernelIdeal.nD) → Buf (Elt Ideal) ((c.tc : Thread Cert.QvKernelIdeal.nD Cert.QvKernelIdeal.τ).loc Cert.QvKernelIdeal.main_v2_1)),
      θ_run (Cert.QvKernelIdeal.defs (F := Ideal)) (onTc (τ := Cert.QvKernelIdeal.τ) (Cert.QvKernelIdeal.main (F := Ideal))) ⟨m, fun _ => 0, g⟩ (fun r => ∀ c : Dev Cert.QvKernelIdeal.nD,
          r.2.mem ((c.tc : Thread Cert.QvKernelIdeal.nD Cert.QvKernelIdeal.τ).loc Cert.QvKernelIdeal.main_v2_0) = v0 c
          ∧ r.2.mem ((c.tc : Thread Cert.QvKernelIdeal.nD Cert.QvKernelIdeal.τ).loc Cert.QvKernelIdeal.main_v2_1) = v1 c
          ∧ r.2.mem ((c.tc : Thread Cert.QvKernelIdeal.nD Cert.QvKernelIdeal.τ).loc Cert.QvKernelIdeal.main_arg0) = m ((c.tc : Thread Cert.QvKernelIdeal.nD Cert.QvKernelIdeal.τ).loc Cert.QvKernelIdeal.main_arg0)
          ∧ r.2.mem ((c.tc : Thread Cert.QvKernelIdeal.nD Cert.QvKernelIdeal.τ).loc Cert.QvKernelIdeal.main_arg1) = m ((c.tc : Thread Cert.QvKernelIdeal.nD Cert.QvKernelIdeal.τ).loc Cert.QvKernelIdeal.main_arg1)
          ∧ r.2.mem ((c.tc : Thread Cert.QvKernelIdeal.nD Cert.QvKernelIdeal.τ).loc Cert.QvKernelIdeal.main_arg2) = m ((c.tc : Thread Cert.QvKernelIdeal.nD Cert.QvKernelIdeal.τ).loc Cert.QvKernelIdeal.main_arg2))
      ∧ θ_run (Cert.QvReferenceIdeal.defs (F := Ideal)) (onTc (τ := Cert.QvReferenceIdeal.τ) (Cert.QvReferenceIdeal.main (F := Ideal))) ⟨m', fun _ => 0, g'⟩ (fun r => ∀ c : Dev Cert.QvReferenceIdeal.nD,
          r.2.mem ((c.tc : Thread Cert.QvReferenceIdeal.nD Cert.QvReferenceIdeal.τ).loc Cert.QvReferenceIdeal.main_v53) = v0 c
          ∧ r.2.mem ((c.tc : Thread Cert.QvReferenceIdeal.nD Cert.QvReferenceIdeal.τ).loc Cert.QvReferenceIdeal.main_v60) = v1 c
          ∧ r.2.mem ((c.tc : Thread Cert.QvReferenceIdeal.nD Cert.QvReferenceIdeal.τ).loc Cert.QvReferenceIdeal.main_arg0) = m' ((c.tc : Thread Cert.QvReferenceIdeal.nD Cert.QvReferenceIdeal.τ).loc Cert.QvReferenceIdeal.main_arg0)
          ∧ r.2.mem ((c.tc : Thread Cert.QvReferenceIdeal.nD Cert.QvReferenceIdeal.τ).loc Cert.QvReferenceIdeal.main_arg1) = m' ((c.tc : Thread Cert.QvReferenceIdeal.nD Cert.QvReferenceIdeal.τ).loc Cert.QvReferenceIdeal.main_arg1)
          ∧ r.2.mem ((c.tc : Thread Cert.QvReferenceIdeal.nD Cert.QvReferenceIdeal.τ).loc Cert.QvReferenceIdeal.main_arg2) = m' ((c.tc : Thread Cert.QvReferenceIdeal.nD Cert.QvReferenceIdeal.τ).loc Cert.QvReferenceIdeal.main_arg2))

def preserves_QkvKernel_QkvKernelIdeal : Prop :=
  IdealRules.named_const.Statement Cert.QkvKernelIdeal.κ "mask" .f32 0xF149F2CA#32 ⊥
  ∧ IdealRules.named_const.Statement Cert.QkvKernelIdeal.κ "qscale" .f32 0x3E38AA3B#32 (((8 * (Real.log 2))⁻¹ : ℝ) : EReal)

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)) →
    ∃ (v0 : (c : Dev Cert.QkvKernelIdeal.nD) → Buf (Elt Ideal) ((c.tc : Thread Cert.QkvKernelIdeal.nD Cert.QkvKernelIdeal.τ).loc Cert.QkvKernelIdeal.main_v69_0)) (v1 : (c : Dev Cert.QkvKernelIdeal.nD) → Buf (Elt Ideal) ((c.tc : Thread Cert.QkvKernelIdeal.nD Cert.QkvKernelIdeal.τ).loc Cert.QkvKernelIdeal.main_v69_1)) (v2 : (c : Dev Cert.QkvKernelIdeal.nD) → Buf (Elt Ideal) ((c.tc : Thread Cert.QkvKernelIdeal.nD Cert.QkvKernelIdeal.τ).loc Cert.QkvKernelIdeal.main_v69_2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v69_0) = v0 c
          ∧ r.2.mem ((c.tc : Thread Cert.QkvKernelIdeal.nD Cert.QkvKernelIdeal.τ).loc Cert.QkvKernelIdeal.main_v69_1) = v1 c
          ∧ r.2.mem ((c.tc : Thread Cert.QkvKernelIdeal.nD Cert.QkvKernelIdeal.τ).loc Cert.QkvKernelIdeal.main_v69_2) = v2 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v84) = v0 c
          ∧ r.2.mem ((c.tc : Thread Cert.QkvReferenceIdeal.nD Cert.QkvReferenceIdeal.τ).loc Cert.QkvReferenceIdeal.main_v88) = v1 c
          ∧ r.2.mem ((c.tc : Thread Cert.QkvReferenceIdeal.nD Cert.QkvReferenceIdeal.τ).loc Cert.QkvReferenceIdeal.main_v129) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)) →
    ∃ (v0 : (c : Dev Cert.PrepKernelIdeal.nD) → Buf (Elt Ideal) ((c.tc : Thread Cert.PrepKernelIdeal.nD Cert.PrepKernelIdeal.τ).loc Cert.PrepKernelIdeal.main_v1)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v1) = v0 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v36) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MlaKernel_MlaKernelIdeal : Prop :=
  IdealRules.named_const.Statement Cert.MlaKernelIdeal.κ "mask" .f32 0xF149F2CA#32 ⊥
  ∧ IdealRules.named_const.Statement Cert.MlaKernelIdeal.κ "qscale" .f32 0x3DD53B95#32 ((((Real.sqrt 192) * (Real.log 2))⁻¹ : ℝ) : EReal)

def algebraic_MlaKernelIdeal_MlaReferenceIdeal_pre_rope_padded [hMlaKernelIdeal : Cert.MlaKernelIdeal.Facts] [hMlaReferenceIdeal : Cert.MlaReferenceIdeal.Facts] [hPre_rope_padded : Cert.Pre_rope_padded.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_rope_padded m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)
      ∧ m' ((c.tc : Thread Cert.MlaReferenceIdeal.nD Cert.MlaReferenceIdeal.τ).loc Cert.MlaReferenceIdeal.main_arg8) = m ((c.tc : Thread Cert.MlaKernelIdeal.nD Cert.MlaKernelIdeal.τ).loc Cert.MlaKernelIdeal.main_arg8)) →
    ∃ (v0 : (c : Dev Cert.MlaKernelIdeal.nD) → Buf (Elt Ideal) ((c.tc : Thread Cert.MlaKernelIdeal.nD Cert.MlaKernelIdeal.τ).loc Cert.MlaKernelIdeal.main_v87_0)) (v1 : (c : Dev Cert.MlaKernelIdeal.nD) → Buf (Elt Ideal) ((c.tc : Thread Cert.MlaKernelIdeal.nD Cert.MlaKernelIdeal.τ).loc Cert.MlaKernelIdeal.main_v87_1)) (v2 : (c : Dev Cert.MlaKernelIdeal.nD) → Buf (Elt Ideal) ((c.tc : Thread Cert.MlaKernelIdeal.nD Cert.MlaKernelIdeal.τ).loc Cert.MlaKernelIdeal.main_v87_2)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v87_0) = v0 c
          ∧ r.2.mem ((c.tc : Thread Cert.MlaKernelIdeal.nD Cert.MlaKernelIdeal.τ).loc Cert.MlaKernelIdeal.main_v87_1) = v1 c
          ∧ r.2.mem ((c.tc : Thread Cert.MlaKernelIdeal.nD Cert.MlaKernelIdeal.τ).loc Cert.MlaKernelIdeal.main_v87_2) = v2 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v129) = v0 c
          ∧ r.2.mem ((c.tc : Thread Cert.MlaReferenceIdeal.nD Cert.MlaReferenceIdeal.τ).loc Cert.MlaReferenceIdeal.main_v183) = v1 c
          ∧ r.2.mem ((c.tc : Thread Cert.MlaReferenceIdeal.nD Cert.MlaReferenceIdeal.τ).loc Cert.MlaReferenceIdeal.main_v187) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8))

def preserves_SortKernel_SortKernelIdeal : Prop :=
  True

def algebraic_SortKernelIdeal_SortReferenceIdeal [hSortKernelIdeal : Cert.SortKernelIdeal.Facts] [hSortReferenceIdeal : Cert.SortReferenceIdeal.Facts] : Prop :=
  ∀ (m : (ℓ : Loc Cert.SortKernelIdeal.nD Cert.SortKernelIdeal.τ Cert.SortKernelIdeal.sig) → Buf (Elt Ideal) ℓ) (g : Dev Cert.SortKernelIdeal.nD → PrngReg)
    (m' : (ℓ : Loc Cert.SortReferenceIdeal.nD Cert.SortReferenceIdeal.τ Cert.SortReferenceIdeal.sig) → Buf (Elt Ideal) ℓ) (g' : Dev Cert.SortReferenceIdeal.nD → PrngReg), Pre_SortKernelIdeal m →
    (∀ c : Dev Cert.SortKernelIdeal.nD,
      m' ((c.tc : Thread Cert.SortReferenceIdeal.nD Cert.SortReferenceIdeal.τ).loc Cert.SortReferenceIdeal.main_arg0) = m ((c.tc : Thread Cert.SortKernelIdeal.nD Cert.SortKernelIdeal.τ).loc Cert.SortKernelIdeal.main_arg0)) →
    ∃ (v0 : (c : Dev Cert.SortKernelIdeal.nD) → Buf (Elt Ideal) ((c.tc : Thread Cert.SortKernelIdeal.nD Cert.SortKernelIdeal.τ).loc Cert.SortKernelIdeal.main_v1_0)) (v1 : (c : Dev Cert.SortKernelIdeal.nD) → Buf (Elt Ideal) ((c.tc : Thread Cert.SortKernelIdeal.nD Cert.SortKernelIdeal.τ).loc Cert.SortKernelIdeal.main_v1_1)) (v2 : (c : Dev Cert.SortKernelIdeal.nD) → Buf (Elt Ideal) ((c.tc : Thread Cert.SortKernelIdeal.nD Cert.SortKernelIdeal.τ).loc Cert.SortKernelIdeal.main_v1_2)) (v3 : (c : Dev Cert.SortKernelIdeal.nD) → Buf (Elt Ideal) ((c.tc : Thread Cert.SortKernelIdeal.nD Cert.SortKernelIdeal.τ).loc Cert.SortKernelIdeal.main_v1_3)),
      θ_run (Cert.SortKernelIdeal.defs (F := Ideal)) (onTc (τ := Cert.SortKernelIdeal.τ) (Cert.SortKernelIdeal.main (F := Ideal))) ⟨m, fun _ => 0, g⟩ (fun r => ∀ c : Dev Cert.SortKernelIdeal.nD,
          r.2.mem ((c.tc : Thread Cert.SortKernelIdeal.nD Cert.SortKernelIdeal.τ).loc Cert.SortKernelIdeal.main_v1_0) = v0 c
          ∧ r.2.mem ((c.tc : Thread Cert.SortKernelIdeal.nD Cert.SortKernelIdeal.τ).loc Cert.SortKernelIdeal.main_v1_1) = v1 c
          ∧ r.2.mem ((c.tc : Thread Cert.SortKernelIdeal.nD Cert.SortKernelIdeal.τ).loc Cert.SortKernelIdeal.main_v1_2) = v2 c
          ∧ r.2.mem ((c.tc : Thread Cert.SortKernelIdeal.nD Cert.SortKernelIdeal.τ).loc Cert.SortKernelIdeal.main_v1_3) = v3 c
          ∧ r.2.mem ((c.tc : Thread Cert.SortKernelIdeal.nD Cert.SortKernelIdeal.τ).loc Cert.SortKernelIdeal.main_arg0) = m ((c.tc : Thread Cert.SortKernelIdeal.nD Cert.SortKernelIdeal.τ).loc Cert.SortKernelIdeal.main_arg0))
      ∧ θ_run (Cert.SortReferenceIdeal.defs (F := Ideal)) (onTc (τ := Cert.SortReferenceIdeal.τ) (Cert.SortReferenceIdeal.main (F := Ideal))) ⟨m', fun _ => 0, g'⟩ (fun r => ∀ c : Dev Cert.SortReferenceIdeal.nD,
          r.2.mem ((c.tc : Thread Cert.SortReferenceIdeal.nD Cert.SortReferenceIdeal.τ).loc Cert.SortReferenceIdeal.main_v17) = v0 c
          ∧ r.2.mem ((c.tc : Thread Cert.SortReferenceIdeal.nD Cert.SortReferenceIdeal.τ).loc Cert.SortReferenceIdeal.main_v19) = v1 c
          ∧ r.2.mem ((c.tc : Thread Cert.SortReferenceIdeal.nD Cert.SortReferenceIdeal.τ).loc Cert.SortReferenceIdeal.main_v21) = v2 c
          ∧ r.2.mem ((c.tc : Thread Cert.SortReferenceIdeal.nD Cert.SortReferenceIdeal.τ).loc Cert.SortReferenceIdeal.main_v23) = v3 c
          ∧ r.2.mem ((c.tc : Thread Cert.SortReferenceIdeal.nD Cert.SortReferenceIdeal.τ).loc Cert.SortReferenceIdeal.main_arg0) = m' ((c.tc : Thread Cert.SortReferenceIdeal.nD Cert.SortReferenceIdeal.τ).loc Cert.SortReferenceIdeal.main_arg0))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hQvKernel : Cert.QvKernel.Facts) (hQvKernelIdeal : Cert.QvKernelIdeal.Facts) (hQvReferenceIdeal : Cert.QvReferenceIdeal.Facts) (hQkvKernel : Cert.QkvKernel.Facts) (hQkvKernelIdeal : Cert.QkvKernelIdeal.Facts) (hQkvReferenceIdeal : Cert.QkvReferenceIdeal.Facts) (hPrepKernel : Cert.PrepKernel.Facts) (hPrepKernelIdeal : Cert.PrepKernelIdeal.Facts) (hPrepReferenceIdeal : Cert.PrepReferenceIdeal.Facts) (hNormKernel : Cert.NormKernel.Facts) (hNormKernelIdeal : Cert.NormKernelIdeal.Facts) (hNormReferenceIdeal : Cert.NormReferenceIdeal.Facts) (hMlaKernel : Cert.MlaKernel.Facts) (hMlaKernelIdeal : Cert.MlaKernelIdeal.Facts) (hMlaReferenceIdeal : Cert.MlaReferenceIdeal.Facts) (hSortKernel : Cert.SortKernel.Facts) (hSortKernelIdeal : Cert.SortKernelIdeal.Facts) (hSortReferenceIdeal : Cert.SortReferenceIdeal.Facts) (hPre_band_masked : Cert.Pre_band_masked.Facts) (hPre_rope_padded : Cert.Pre_rope_padded.Facts),
    quiescent_Kernel (hKernel := hKernel)
    ∧ quiescent_KernelIdeal (hKernelIdeal := hKernelIdeal)
    ∧ quiescent_KernelIdeal_pre_band_masked (hKernelIdeal := hKernelIdeal) (hPre_band_masked := hPre_band_masked)
    ∧ quiescent_ReferenceIdeal (hReferenceIdeal := hReferenceIdeal)
    ∧ quiescent_ReferenceIdeal_pre_band_masked (hReferenceIdeal := hReferenceIdeal) (hPre_band_masked := hPre_band_masked)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_QvKernel (hQvKernel := hQvKernel)
    ∧ quiescent_QvKernelIdeal (hQvKernelIdeal := hQvKernelIdeal)
    ∧ quiescent_QvReferenceIdeal (hQvReferenceIdeal := hQvReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MlaKernel (hMlaKernel := hMlaKernel)
    ∧ quiescent_MlaKernelIdeal (hMlaKernelIdeal := hMlaKernelIdeal)
    ∧ quiescent_MlaKernelIdeal_pre_rope_padded (hMlaKernelIdeal := hMlaKernelIdeal) (hPre_rope_padded := hPre_rope_padded)
    ∧ quiescent_MlaReferenceIdeal (hMlaReferenceIdeal := hMlaReferenceIdeal)
    ∧ quiescent_MlaReferenceIdeal_pre_rope_padded (hMlaReferenceIdeal := hMlaReferenceIdeal) (hPre_rope_padded := hPre_rope_padded)
    ∧ quiescent_SortKernel (hSortKernel := hSortKernel)
    ∧ quiescent_SortKernelIdeal (hSortKernelIdeal := hSortKernelIdeal)
    ∧ quiescent_SortReferenceIdeal (hSortReferenceIdeal := hSortReferenceIdeal)
    ∧ preserves_Kernel_KernelIdeal
    ∧ algebraic_KernelIdeal_ReferenceIdeal_pre_band_masked (hKernelIdeal := hKernelIdeal) (hReferenceIdeal := hReferenceIdeal) (hPre_band_masked := hPre_band_masked)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
    ∧ preserves_QvKernel_QvKernelIdeal
    ∧ algebraic_QvKernelIdeal_QvReferenceIdeal (hQvKernelIdeal := hQvKernelIdeal) (hQvReferenceIdeal := hQvReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_NormKernel_NormKernelIdeal
    ∧ algebraic_NormKernelIdeal_NormReferenceIdeal (hNormKernelIdeal := hNormKernelIdeal) (hNormReferenceIdeal := hNormReferenceIdeal)
    ∧ preserves_MlaKernel_MlaKernelIdeal
    ∧ algebraic_MlaKernelIdeal_MlaReferenceIdeal_pre_rope_padded (hMlaKernelIdeal := hMlaKernelIdeal) (hMlaReferenceIdeal := hMlaReferenceIdeal) (hPre_rope_padded := hPre_rope_padded)
    ∧ preserves_SortKernel_SortKernelIdeal
    ∧ algebraic_SortKernelIdeal_SortReferenceIdeal (hSortKernelIdeal := hSortKernelIdeal) (hSortReferenceIdeal := hSortReferenceIdeal)
-- ==== Pre_band_masked.lean ====
abbrev S4x8x16x256x256 : Shape := ⟨5, ![4, 8, 16, 256, 256]⟩
abbrev S18432x2048 : Shape := ⟨2, ![18432, 2048]⟩
abbrev S4x8x18x128x256 : Shape := ⟨5, ![4, 8, 18, 128, 256]⟩
abbrev S16384x11264 : Shape := ⟨2, ![16384, 11264]⟩
abbrev S8x192 : Shape := ⟨2, ![8, 192]⟩
abbrev S_ : Shape := ⟨0, ![]⟩
abbrev S4x4608x8x256 : Shape := ⟨4, ![4, 4608, 8, 256]⟩

class Facts : Prop where
  bcast_S_S4x8x16x256x256 : S_.BroadcastsInDim S4x8x16x256x256 (![] : Fin 0 → Fin S4x8x16x256x256.rank)
  bitsLt_bf16_f32 : FTy.bits .bf16 < FTy.bits .f32
  bcast_S_S4x4608x8x256 : S_.BroadcastsInDim S4x4608x8x256 (![] : Fin 0 → Fin S4x4608x8x256.rank)
  shapeCasts_S18432x2048_S4x4608x8x256 : S18432x2048.ShapeCasts S4x4608x8x256
  bcast_S_S8x192 : S_.BroadcastsInDim S8x192 (![] : Fin 0 → Fin S8x192.rank)

variable [Facts]

def fn_where {F : FTy → Type} [FloatOps F] (arg0 : IVec S4x8x16x256x256 1) (arg1 : IVec S4x8x16x256x256 32) (arg2 : IVec S4x8x16x256x256 32) : IVec S4x8x16x256x256 32 :=
  let v0 : IVec S4x8x16x256x256 32 := select arg0 arg1 arg2
  v0

def fn_floor_divide {F : FTy → Type} [FloatOps F] (arg0 : IVec S4x8x16x256x256 32) (arg1 : IVec S_ 32) : IVec S4x8x16x256x256 32 :=
  let v0 : IVec S_ 32 := id arg1
  let v1 : IVec S4x8x16x256x256 32 := broadcastInDim S4x8x16x256x256 ![] bcast_S_S4x8x16x256x256 v0
  let v2 : IVec S4x8x16x256x256 32 := Host.divsi arg0 v1
  let v3 : IVec S4x8x16x256x256 32 := signi arg0
  let v4 : IVec S_ 32 := signi v0
  let v5 : IVec S4x8x16x256x256 32 := broadcastInDim S4x8x16x256x256 ![] bcast_S_S4x8x16x256x256 v4
  let v6 : IVec S4x8x16x256x256 1 := cmpi .ne v3 v5
  let v7 : IVec S4x8x16x256x256 32 := broadcastInDim S4x8x16x256x256 ![] bcast_S_S4x8x16x256x256 v0
  let v8 : IVec S4x8x16x256x256 32 := Host.remsi arg0 v7
  let c : IVec S_ 32 := constantI S_ 32 0#32
  let v9 : IVec S4x8x16x256x256 32 := broadcastInDim S4x8x16x256x256 ![] bcast_S_S4x8x16x256x256 c
  let v10 : IVec S4x8x16x256x256 1 := cmpi .ne v8 v9
  let v11 : IVec S4x8x16x256x256 1 := andi v6 v10
  let c_0 : IVec S_ 32 := constantI S_ 32 1#32
  let v12 : IVec S4x8x16x256x256 32 := broadcastInDim S4x8x16x256x256 ![] bcast_S_S4x8x16x256x256 c_0
  let v13 : IVec S4x8x16x256x256 32 := subi v2 v12
  let v14 : IVec S4x8x16x256x256 32 := fn_where (F := F) v11 v13 v2
  v14

def fn_where_0 {F : FTy → Type} [FloatOps F] (arg0 : IVec S4x8x16x256x256 1) (arg1 : FVec F S_ .f32) (arg2 : FVec F S_ .f32) : FVec F S4x8x16x256x256 .f32 :=
  let v0 : FVec F S4x8x16x256x256 .f32 := broadcastInDim S4x8x16x256x256 ![] bcast_S_S4x8x16x256x256 arg1
  let v1 : FVec F S4x8x16x256x256 .f32 := broadcastInDim S4x8x16x256x256 ![] bcast_S_S4x8x16x256x256 arg2
  let v2 : FVec F S4x8x16x256x256 .f32 := select arg0 v0 v1
  v2

def fn_where_1 {F : FTy → Type} [FloatOps F] (arg0 : IVec S4x8x16x256x256 1) (arg1 : IVec S4x8x16x256x256 1) (arg2 : IVec S4x8x16x256x256 1) : IVec S4x8x16x256x256 1 :=
  let v0 : IVec S4x8x16x256x256 1 := select arg0 arg1 arg2
  v0

def fn_where_3 {F : FTy → Type} [FloatOps F] (arg0 : IVec S4x4608x8x256 1) (arg1 : IVec S4x4608x8x256 32) (arg2 : IVec S4x4608x8x256 32) : IVec S4x4608x8x256 32 :=
  let v0 : IVec S4x4608x8x256 32 := select arg0 arg1 arg2
  v0

def fn_floor_divide_2 {F : FTy → Type} [FloatOps F] (arg0 : IVec S4x4608x8x256 32) (arg1 : IVec S_ 32) : IVec S4x4608x8x256 32 :=
  let v0 : IVec S_ 32 := id arg1
  let v1 : IVec S4x4608x8x256 32 := broadcastInDim S4x4608x8x256 ![] bcast_S_S4x4608x8x256 v0
  let v2 : IVec S4x4608x8x256 32 := Host.divsi arg0 v1
  let v3 : IVec S4x4608x8x256 32 := signi arg0
  let v4 : IVec S_ 32 := signi v0
  let v5 : IVec S4x4608x8x256 32 := broadcastInDim S4x4608x8x256 ![] bcast_S_S4x4608x8x256 v4
  let v6 : IVec S4x4608x8x256 1 := cmpi .ne v3 v5
  let v7 : IVec S4x4608x8x256 32 := broadcastInDim S4x4608x8x256 ![] bcast_S_S4x4608x8x256 v0
  let v8 : IVec S4x4608x8x256 32 := Host.remsi arg0 v7
  let c : IVec S_ 32 := constantI S_ 32 0#32
  let v9 : IVec S4x4608x8x256 32 := broadcastInDim S4x4608x8x256 ![] bcast_S_S4x4608x8x256 c
  let v10 : IVec S4x4608x8x256 1 := cmpi .ne v8 v9
  let v11 : IVec S4x4608x8x256 1 := andi v6 v10
  let c_0 : IVec S_ 32 := constantI S_ 32 1#32
  let v12 : IVec S4x4608x8x256 32 := broadcastInDim S4x4608x8x256 ![] bcast_S_S4x4608x8x256 c_0
  let v13 : IVec S4x4608x8x256 32 := subi v2 v12
  let v14 : IVec S4x4608x8x256 32 := fn_where_3 (F := F) v11 v13 v2
  v14

def fn_where_4 {F : FTy → Type} [FloatOps F] (arg0 : IVec S4x4608x8x256 1) (arg1 : IVec S4x4608x8x256 1) (arg2 : IVec S4x4608x8x256 1) : IVec S4x4608x8x256 1 :=
  let v0 : IVec S4x4608x8x256 1 := select arg0 arg1 arg2
  v0

def fn_where_5 {F : FTy → Type} [FloatOps F] (arg0 : IVec S4x4608x8x256 1) (arg1 : FVec F S_ .f32) (arg2 : FVec F S_ .f32) : FVec F S4x4608x8x256 .f32 :=
  let v0 : FVec F S4x4608x8x256 .f32 := broadcastInDim S4x4608x8x256 ![] bcast_S_S4x4608x8x256 arg1
  let v1 : FVec F S4x4608x8x256 .f32 := broadcastInDim S4x4608x8x256 ![] bcast_S_S4x4608x8x256 arg2
  let v2 : FVec F S4x4608x8x256 .f32 := select arg0 v0 v1
  v2

def fn_part3 {F : FTy → Type} [FloatOps F] (main_arg4 : FVec F S8x192 .f32) (main_v29 : IVec S4x8x16x256x256 1) (main_v35 : FVec F S4x4608x8x256 .f32) (main_v44 : IVec S4x4608x8x256 1) (main_v46 : IVec S4x4608x8x256 1) (main_v52 : IVec S4x4608x8x256 1) (main_cst_16 : FVec F S_ .f32) : IVec S4x8x16x256x256 1 × IVec S4x4608x8x256 1 × IVec S8x192 1 :=
  let main_cst_17 : FVec F S_ .f32 := constant S_ .f32 0x00000000#32
  let main_v53 : FVec F S4x4608x8x256 .f32 := fn_where_5 (F := F) main_v44 main_cst_16 main_cst_17
  let main_v54 : FVec F S4x4608x8x256 .f32 := id main_v53
  let main_v55 : IVec S4x4608x8x256 1 := cmpf .oeq main_v35 main_v54
  let main_v56 : IVec S4x4608x8x256 1 := fn_where_4 (F := F) main_v46 main_v52 main_v55
  let main_v57 : FVec F S8x192 .f32 := Host.absf main_arg4
  let main_cst_18 : FVec F S_ .f32 := constant S_ .f32 0x7F800000#32
  let main_v58 : FVec F S8x192 .f32 := broadcastInDim S8x192 ![] bcast_S_S8x192 main_cst_18
  let main_v59 : IVec S8x192 1 := cmpf .olt main_v57 main_v58
  (main_v29, main_v56, main_v59)

def fn_part2 {F : FTy → Type} [FloatOps F] (main_arg4 : FVec F S8x192 .f32) (main_v29 : IVec S4x8x16x256x256 1) (main_v30 : IVec S4x4608x8x256 32) (main_v33 : IVec S4x4608x8x256 32) (main_v35 : FVec F S4x4608x8x256 .f32) (main_c_9 : IVec S_ 32) : IVec S4x8x16x256x256 1 × IVec S4x4608x8x256 1 × IVec S8x192 1 :=
  let main_v36 : IVec S4x4608x8x256 32 := broadcastInDim S4x4608x8x256 ![] bcast_S_S4x4608x8x256 main_c_9
  let main_v37 : IVec S4x4608x8x256 1 := cmpi .slt main_v30 main_v36
  let main_c_10 : IVec S_ 32 := constantI S_ 32 64#32
  let main_v38 : IVec S4x4608x8x256 32 := broadcastInDim S4x4608x8x256 ![] bcast_S_S4x4608x8x256 main_c_10
  let main_v39 : IVec S4x4608x8x256 1 := cmpi .eq main_v33 main_v38
  let main_c_11 : IVec S_ 32 := constantI S_ 32 512#32
  let main_v40 : IVec S4x4608x8x256 32 := broadcastInDim S4x4608x8x256 ![] bcast_S_S4x4608x8x256 main_c_11
  let main_v41 : IVec S4x4608x8x256 32 := subi main_v30 main_v40
  let main_c_12 : IVec S_ 32 := constantI S_ 32 64#32
  let main_v42 : IVec S4x4608x8x256 32 := fn_floor_divide_2 (F := F) main_v41 main_c_12
  let main_v43 : IVec S4x4608x8x256 1 := cmpi .eq main_v33 main_v42
  let main_v44 : IVec S4x4608x8x256 1 := fn_where_4 (F := F) main_v37 main_v39 main_v43
  let main_c_13 : IVec S_ 32 := constantI S_ 32 0#32
  let main_v45 : IVec S4x4608x8x256 32 := broadcastInDim S4x4608x8x256 ![] bcast_S_S4x4608x8x256 main_c_13
  let main_v46 : IVec S4x4608x8x256 1 := cmpi .slt main_v33 main_v45
  let main_c_14 : IVec S_ 32 := constantI S_ 32 512#32
  let main_v47 : IVec S4x4608x8x256 32 := broadcastInDim S4x4608x8x256 ![] bcast_S_S4x4608x8x256 main_c_14
  let main_v48 : IVec S4x4608x8x256 1 := cmpi .slt main_v30 main_v47
  let main_v49 : FVec F S4x4608x8x256 .f32 := Host.absf main_v35
  let main_cst_15 : FVec F S_ .f32 := constant S_ .f32 0x7F800000#32
  let main_v50 : FVec F S4x4608x8x256 .f32 := broadcastInDim S4x4608x8x256 ![] bcast_S_S4x4608x8x256 main_cst_15
  let main_v51 : IVec S4x4608x8x256 1 := cmpf .olt main_v49 main_v50
  let main_v52 : IVec S4x4608x8x256 1 := ori main_v48 main_v51
  let main_cst_16 : FVec F S_ .f32 := constant S_ .f32 0x3F800000#32
  fn_part3 (F := F) main_arg4 main_v29 main_v35 main_v44 main_v46 main_v52 main_cst_16

def fn_part1 {F : FTy → Type} [FloatOps F] (main_arg0 : FVec F S4x8x16x256x256 .bf16) (main_arg1 : FVec F S18432x2048 .bf16) (main_arg4 : FVec F S8x192 .f32) (main_v4 : IVec S4x8x16x256x256 32) (main_v16 : IVec S4x8x16x256x256 1) (main_v17 : IVec S4x8x16x256x256 32) : IVec S4x8x16x256x256 1 × IVec S4x4608x8x256 1 × IVec S8x192 1 :=
  let main_v18 : IVec S4x8x16x256x256 1 := cmpi .eq main_v4 main_v17
  let main_v19 : IVec S4x8x16x256x256 1 := ori main_v16 main_v18
  let main_v20 : FVec F S4x8x16x256x256 .f32 := (extf .f32 · bitsLt_bf16_f32) main_arg0
  let main_c_5 : IVec S_ 32 := constantI S_ 32 0#32
  let main_v21 : IVec S4x8x16x256x256 32 := broadcastInDim S4x8x16x256x256 ![] bcast_S_S4x8x16x256x256 main_c_5
  let main_v22 : IVec S4x8x16x256x256 1 := cmpi .slt main_v4 main_v21
  let main_v23 : FVec F S4x8x16x256x256 .f32 := Host.absf main_v20
  let main_cst : FVec F S_ .f32 := constant S_ .f32 0x7F800000#32
  let main_v24 : FVec F S4x8x16x256x256 .f32 := broadcastInDim S4x8x16x256x256 ![] bcast_S_S4x8x16x256x256 main_cst
  let main_v25 : IVec S4x8x16x256x256 1 := cmpf .olt main_v23 main_v24
  let main_cst_6 : FVec F S_ .f32 := constant S_ .f32 0xFF800000#32
  let main_cst_7 : FVec F S_ .f32 := constant S_ .f32 0x00000000#32
  let main_v26 : FVec F S4x8x16x256x256 .f32 := fn_where_0 (F := F) main_v19 main_cst_6 main_cst_7
  let main_v27 : FVec F S4x8x16x256x256 .f32 := id main_v26
  let main_v28 : IVec S4x8x16x256x256 1 := cmpf .oeq main_v20 main_v27
  let main_v29 : IVec S4x8x16x256x256 1 := fn_where_1 (F := F) main_v22 main_v25 main_v28
  let main_v30 : IVec S4x4608x8x256 32 := iotaInDim S4x4608x8x256 32 1
  let main_v31 : IVec S4x4608x8x256 32 := iotaInDim S4x4608x8x256 32 3
  let main_c_8 : IVec S_ 32 := constantI S_ 32 128#32
  let main_v32 : IVec S4x4608x8x256 32 := broadcastInDim S4x4608x8x256 ![] bcast_S_S4x4608x8x256 main_c_8
  let main_v33 : IVec S4x4608x8x256 32 := subi main_v31 main_v32
  let main_v34 : FVec F S18432x2048 .f32 := (extf .f32 · bitsLt_bf16_f32) main_arg1
  let main_v35 : FVec F S4x4608x8x256 .f32 := shapeCast S4x4608x8x256 main_v34 shapeCasts_S18432x2048_S4x4608x8x256
  let main_c_9 : IVec S_ 32 := constantI S_ 32 512#32
  fn_part2 (F := F) main_arg4 main_v29 main_v30 main_v33 main_v35 main_c_9

def fn {F : FTy → Type} [FloatOps F] (main_arg0 : FVec F S4x8x16x256x256 .bf16) (main_arg1 : FVec F S18432x2048 .bf16) (main_arg2 : FVec F S4x8x18x128x256 .bf16) (main_arg3 : FVec F S16384x11264 .bf16) (main_arg4 : FVec F S8x192 .f32) : IVec S4x8x16x256x256 1 × IVec S4x4608x8x256 1 × IVec S8x192 1 :=
  let main_v0 : IVec S4x8x16x256x256 32 := iotaInDim S4x8x16x256x256 32 2
  let main_v1 : IVec S4x8x16x256x256 32 := iotaInDim S4x8x16x256x256 32 3
  let main_v2 : IVec S4x8x16x256x256 32 := iotaInDim S4x8x16x256x256 32 4
  let main_c : IVec S_ 32 := constantI S_ 32 128#32
  let main_v3 : IVec S4x8x16x256x256 32 := broadcastInDim S4x8x16x256x256 ![] bcast_S_S4x8x16x256x256 main_c
  let main_v4 : IVec S4x8x16x256x256 32 := subi main_v1 main_v3
  let main_c_0 : IVec S_ 32 := constantI S_ 32 256#32
  let main_v5 : IVec S4x8x16x256x256 32 := broadcastInDim S4x8x16x256x256 ![] bcast_S_S4x8x16x256x256 main_c_0
  let main_v6 : IVec S4x8x16x256x256 32 := muli main_v0 main_v5
  let main_v7 : IVec S4x8x16x256x256 32 := addi main_v6 main_v2
  let main_c_1 : IVec S_ 32 := constantI S_ 32 64#32
  let main_v8 : IVec S4x8x16x256x256 32 := fn_floor_divide (F := F) main_v7 main_c_1
  let main_c_2 : IVec S_ 32 := constantI S_ 32 64#32
  let main_v9 : IVec S4x8x16x256x256 32 := broadcastInDim S4x8x16x256x256 ![] bcast_S_S4x8x16x256x256 main_c_2
  let main_v10 : IVec S4x8x16x256x256 1 := cmpi .slt main_v4 main_v9
  let main_v11 : IVec S4x8x16x256x256 1 := cmpi .sgt main_v4 main_v8
  let main_c_3 : IVec S_ 32 := constantI S_ 32 8#32
  let main_v12 : IVec S4x8x16x256x256 32 := broadcastInDim S4x8x16x256x256 ![] bcast_S_S4x8x16x256x256 main_c_3
  let main_v13 : IVec S4x8x16x256x256 32 := subi main_v8 main_v12
  let main_v14 : IVec S4x8x16x256x256 1 := cmpi .slt main_v4 main_v13
  let main_v15 : IVec S4x8x16x256x256 1 := ori main_v11 main_v14
  let main_v16 : IVec S4x8x16x256x256 1 := andi main_v10 main_v15
  let main_c_4 : IVec S_ 32 := constantI S_ 32 64#32
  let main_v17 : IVec S4x8x16x256x256 32 := broadcastInDim S4x8x16x256x256 ![] bcast_S_S4x8x16x256x256 main_c_4
  fn_part1 (F := F) main_arg0 main_arg1 main_arg4 main_v4 main_v16 main_v17
-- ==== Pre_rope_padded.lean ====
abbrev S16384x11264 : Shape := ⟨2, ![16384, 11264]⟩
abbrev S2048x16384 : Shape := ⟨2, ![2048, 16384]⟩
abbrev S2048x128 : Shape := ⟨2, ![2048, 128]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S192 : Shape := ⟨1, ![192]⟩
abbrev S2048x64 : Shape := ⟨2, ![2048, 64]⟩
abbrev S_ : Shape := ⟨0, ![]⟩

class Facts : Prop where
  slices_S2048x128_S2048x64_0_64 : S2048x128.Slices ![0, 64] S2048x64
  bcast_S_S2048x64 : S_.BroadcastsInDim S2048x64 (![] : Fin 0 → Fin S2048x64.rank)

variable [Facts]

def fn {F : FTy → Type} [FloatOps F] (main_arg0 : FVec F S16384x11264 .bf16) (main_arg1 : FVec F S2048x16384 .bf16) (main_arg2 : FVec F S2048x128 .bf16) (main_arg3 : FVec F S512 .f32) (main_arg4 : FVec F S256 .f32) (main_arg5 : FVec F S512x1536 .f32) (main_arg6 : FVec F S256x2048 .f32) (main_arg7 : FVec F S192 .f32) (main_arg8 : FVec F S192 .f32) : IVec S2048x64 1 :=
  let main_v0 : FVec F S2048x64 .bf16 := (extractStridedSlice S2048x64 ![0, 64] · slices_S2048x128_S2048x64_0_64) main_arg2
  let main_cst : FVec F S_ .bf16 := constant S_ .bf16 0x0000#16
  let main_v1 : FVec F S2048x64 .bf16 := broadcastInDim S2048x64 ![] bcast_S_S2048x64 main_cst
  let main_v2 : IVec S2048x64 1 := cmpf .oeq main_v0 main_v1
  main_v2
-- ==== Kernel.lean ====
abbrev S4x8x16x256x256 : Shape := ⟨5, ![4, 8, 16, 256, 256]⟩
abbrev S18432x2048 : Shape := ⟨2, ![18432, 2048]⟩
abbrev S4x8x18x128x256 : Shape := ⟨5, ![4, 8, 18, 128, 256]⟩
abbrev S16384x11264 : Shape := ⟨2, ![16384, 11264]⟩
abbrev S8x192 : Shape := ⟨2, ![8, 192]⟩
abbrev S1024 : Shape := ⟨1, ![1024]⟩
abbrev S_ : Shape := ⟨0, ![]⟩
abbrev S1024x1 : Shape := ⟨2, ![1024, 1]⟩
abbrev S8x1024 : Shape := ⟨2, ![8, 1024]⟩
abbrev S8x1x1024 : Shape := ⟨3, ![8, 1, 1024]⟩
abbrev S16384x1024 : Shape := ⟨2, ![16384, 1024]⟩
abbrev S1x1x16x256x256 : Shape := ⟨5, ![1, 1, 16, 256, 256]⟩
abbrev S4608x256 : Shape := ⟨2, ![4608, 256]⟩
abbrev S1x1x18x128x256 : Shape := ⟨5, ![1, 1, 18, 128, 256]⟩
abbrev S4096x128 : Shape := ⟨2, ![4096, 128]⟩
abbrev S1x1x1024 : Shape := ⟨3, ![1, 1, 1024]⟩
abbrev S768x256 : Shape := ⟨2, ![768, 256]⟩
abbrev S1x1024 : Shape := ⟨2, ![1, 1024]⟩
abbrev S256x1024 : Shape := ⟨2, ![256, 1024]⟩
abbrev S256x768 : Shape := ⟨2, ![256, 768]⟩
abbrev S1x1x1x256x256 : Shape := ⟨5, ![1, 1, 1, 256, 256]⟩
abbrev S256x256 : Shape := ⟨2, ![256, 256]⟩
abbrev S256 : Shape := ⟨1, ![256]⟩
abbrev S1x256 : Shape := ⟨2, ![1, 256]⟩
abbrev S1x1x1x128x256 : Shape := ⟨5, ![1, 1, 1, 128, 256]⟩
abbrev S128x256 : Shape := ⟨2, ![128, 256]⟩
abbrev S256x128 : Shape := ⟨2, ![256, 128]⟩

abbrev nBuf : Space → Nat
  | .hbm => 38
  | .vmem => 19
  | .smem => 0
  | _ => 0

abbrev bufTy : (tb : Table) → Fin (tcTables nBuf tb) → BufTy
  | .hbm, ⟨0, _⟩ => ⟨S4x8x16x256x256, .bf16⟩
  | .hbm, ⟨1, _⟩ => ⟨S18432x2048, .bf16⟩
  | .hbm, ⟨2, _⟩ => ⟨S4x8x18x128x256, .bf16⟩
  | .hbm, ⟨3, _⟩ => ⟨S16384x11264, .bf16⟩
  | .hbm, ⟨4, _⟩ => ⟨S8x192, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S8x1024, .f32⟩
  | .hbm, ⟨36, _⟩ => ⟨S8x1x1024, .f32⟩
  | .hbm, ⟨37, _⟩ => ⟨S16384x1024, .bf16⟩
  | .local _ .vmem, ⟨0, _⟩ => ⟨S1x1x16x256x256, .bf16⟩
  | .local _ .vmem, ⟨1, _⟩ => ⟨S1x1x16x256x256, .bf16⟩
  | .local _ .vmem, ⟨2, _⟩ => ⟨S4608x256, .bf16⟩
  | .local _ .vmem, ⟨3, _⟩ => ⟨S4608x256, .bf16⟩
  | .local _ .vmem, ⟨4, _⟩ => ⟨S1x1x18x128x256, .bf16⟩
  | .local _ .vmem, ⟨5, _⟩ => ⟨S1x1x18x128x256, .bf16⟩
  | .local _ .vmem, ⟨6, _⟩ => ⟨S4096x128, .bf16⟩
  | .local _ .vmem, ⟨7, _⟩ => ⟨S4096x128, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .bf16⟩
  | .local _ .vmem, ⟨11, _⟩ => ⟨S4096x128, .bf16⟩
  | .local _ .vmem, ⟨12, _⟩ => ⟨S768x256, .f32⟩
  | .local _ .vmem, ⟨13, _⟩ => ⟨S768x256, .f32⟩
  | .local _ .vmem, ⟨14, _⟩ => ⟨S768x256, .f32⟩
  | .local _ .vmem, ⟨15, _⟩ => ⟨S768x256, .bf16⟩
  | .local _ .vmem, ⟨16, _⟩ => ⟨S768x256, .bf16⟩
  | .local _ .vmem, ⟨17, _⟩ => ⟨S768x256, .bf16⟩
  | .local _ .vmem, ⟨18, _⟩ => ⟨S768x256, .f32⟩
  | _, _ => ⟨S4x8x16x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_c_5 : Ref sig .tc := ⟨.hbm, 27, rfl⟩
abbrev main_v11 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1x16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4608x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x18x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x8x16x256x256 : Shape := ⟨5, ![4, 8, 16, 256, 256]⟩
abbrev S18432x2048 : Shape := ⟨2, ![18432, 2048]⟩
abbrev S4x8x18x128x256 : Shape := ⟨5, ![4, 8, 18, 128, 256]⟩
abbrev S16384x11264 : Shape := ⟨2, ![16384, 11264]⟩
abbrev S8x192 : Shape := ⟨2, ![8, 192]⟩
abbrev S4x8x16x128x256 : Shape := ⟨5, ![4, 8, 16, 128, 256]⟩
abbrev S4x8x16x256x128 : Shape := ⟨5, ![4, 8, 16, 256, 128]⟩
abbrev S4x8x4096x128 : Shape := ⟨4, ![4, 8, 4096, 128]⟩
abbrev S4x4608x8x256 : Shape := ⟨4, ![4, 4608, 8, 256]⟩
abbrev S4x4096x8x128 : Shape := ⟨4, ![4, 4096, 8, 128]⟩
abbrev S16384x1024 : Shape := ⟨2, ![16384, 1024]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩

abbrev nBuf : Space → Nat
  | .hbm => 119
  | .vmem => 0
  | .smem => 0
  | _ => 0

abbrev bufTy : (tb : Table) → Fin (tcTables nBuf tb) → BufTy
  | .hbm, ⟨0, _⟩ => ⟨S4x8x16x256x256, .bf16⟩
  | .hbm, ⟨1, _⟩ => ⟨S18432x2048, .bf16⟩
  | .hbm, ⟨2, _⟩ => ⟨S4x8x18x128x256, .bf16⟩
  | .hbm, ⟨3, _⟩ => ⟨S16384x11264, .bf16⟩
  | .hbm, ⟨4, _⟩ => ⟨S8x192, .f32⟩
  | .hbm, ⟨5, _⟩ => ⟨S4x8x16x128x256, .bf16⟩
  | .hbm, ⟨6, _⟩ => ⟨S4x8x16x128x256, .f32⟩
  | .hbm, ⟨7, _⟩ => ⟨S4x8x16x256x128, .f32⟩
  | .hbm, ⟨8, _⟩ => ⟨S4x8x4096x128, .f32⟩
  | .hbm, ⟨9, _⟩ => ⟨S18432x2048, .f32⟩
  | .hbm, ⟨10, _⟩ => ⟨S4x4608x8x256, .f32⟩
  | .hbm, ⟨11, _⟩ => ⟨S4x4096x8x128, .f32⟩
  | .hbm, ⟨12, _⟩ => ⟨S4x8x4096x128, .f32⟩
  | .hbm, ⟨13, _⟩ => ⟨S4x8x16x128x256, .bf16⟩
  | .hbm, ⟨14, _⟩ => ⟨S4x8x16x128x256, .f32⟩
  | .hbm, ⟨15, _⟩ => ⟨S4x8x16x256x128, .f32⟩
  | .hbm, ⟨16, _⟩ => ⟨S4x8x4096x128, .f32⟩
  | .hbm, ⟨17, _⟩ => ⟨S16384x1024, .bf16⟩
  | .hbm, ⟨18, _⟩ => ⟨S16384x1024, .f32⟩
  | .hbm, ⟨19, _⟩ => ⟨S4x4096x8x128, .f32⟩
  | .hbm, ⟨20, _⟩ => ⟨S4096, .i32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S4096x4096, .i32⟩
  | .hbm, ⟨39, _⟩ => ⟨S4096x4096, .i1⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i32⟩
  | .hbm, ⟨44, _⟩ => ⟨S4096x4096x1, .i32⟩
  | .hbm, ⟨45, _⟩ => ⟨S8x4096x4096, .f32⟩
  | .hbm, ⟨46, _⟩ => ⟨S4x8x4096x4096, .f32⟩
  | .hbm, ⟨47, _⟩ => ⟨S_, .f32⟩
  | .hbm, ⟨48, _⟩ => ⟨S_, .f32⟩
  | .hbm, ⟨49, _⟩ => ⟨S4x8x4096x4096, .f32⟩
  | .hbm, ⟨50, _⟩ => ⟨S4x8x4096x4096, .f32⟩
  | .hbm, ⟨51, _⟩ => ⟨S1x8x4096x4096, .f32⟩
  | .hbm, ⟨52, _⟩ => ⟨S4x8x4096x4096, .f32⟩
  | .hbm, ⟨53, _⟩ => ⟨S4x8x4096x4096, .f32⟩
  | .hbm, ⟨54, _⟩ => ⟨S_, .i32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S4096, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S1x4096, .i32⟩
  | .hbm, ⟨73, _⟩ => ⟨S4096x1, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S1x4096, .i32⟩
  | .hbm, ⟨78, _⟩ => ⟨S4096x1, .i32⟩
  | .hbm, ⟨79, _⟩ => ⟨S_, .i32⟩
  | .hbm, ⟨80, _⟩ => ⟨S4096x1, .i32⟩
  | .hbm, ⟨81, _⟩ => ⟨S4096x1, .i32⟩
  | .hbm, ⟨82, _⟩ => ⟨S4096x4096, .i32⟩
  | .hbm, ⟨83, _⟩ => ⟨S4096x4096, .i32⟩
  | .hbm, ⟨84, _⟩ => ⟨S4096x4096, .i1⟩
  | .hbm, ⟨85, _⟩ => ⟨S4096x4096, .i1⟩
  | .hbm, ⟨86, _⟩ => ⟨S_, .f32⟩
  | .hbm, ⟨87, _⟩ => ⟨S_, .f32⟩
  | .hbm, ⟨88, _⟩ => ⟨S4x8x4096x4096, .i1⟩
  | .hbm, ⟨89, _⟩ => ⟨S4x8x4096x4096, .f32⟩
  | .hbm, ⟨90, _⟩ => ⟨S4x8x4096x4096, .f32⟩
  | .hbm, ⟨91, _⟩ => ⟨S_, .f32⟩
  | .hbm, ⟨92, _⟩ => ⟨S4x8x4096, .f32⟩
  | .hbm, ⟨93, _⟩ => ⟨S_, .f32⟩
  | .hbm, ⟨94, _⟩ => ⟨S4x8x4096, .f32⟩
  | .hbm, ⟨95, _⟩ => ⟨S4x8x4096, .f32⟩
  | .hbm, ⟨96, _⟩ => ⟨S4x8x4096x1, .f32⟩
  | .hbm, ⟨97, _⟩ => ⟨S4x8x4096x4096, .f32⟩
  | .hbm, ⟨98, _⟩ => ⟨S4x8x4096x4096, .f32⟩
  | .hbm, ⟨99, _⟩ => ⟨S4x8x4096x4096, .f32⟩
  | .hbm, ⟨100, _⟩ => ⟨S_, .f32⟩
  | .hbm, ⟨101, _⟩ => ⟨S4x8x4096, .f32⟩
  | .hbm, ⟨102, _⟩ => ⟨S4x8x4096x1, .f32⟩
  | .hbm, ⟨103, _⟩ => ⟨S4x8x4096x4096, .f32⟩
  | .hbm, ⟨104, _⟩ => ⟨S4x8x4096x4096, .f32⟩
  | .hbm, ⟨105, _⟩ => ⟨S4x8x4096x128, .f32⟩
  | .hbm, ⟨106, _⟩ => ⟨S4x4096x8x128, .f32⟩
  | .hbm, ⟨107, _⟩ => ⟨S4x4096x8x128, .f32⟩
  | .hbm, ⟨108, _⟩ => ⟨S4x4096x8x128, .f32⟩
  | .hbm, ⟨109, _⟩ => ⟨S_, .f32⟩
  | .hbm, ⟨110, _⟩ => ⟨S4x4096x8x128, .f32⟩
  | .hbm, ⟨111, _⟩ => ⟨S4x4096x8x128, .f32⟩
  | .hbm, ⟨112, _⟩ => ⟨S_, .f32⟩
  | .hbm, ⟨113, _⟩ => ⟨S4x4096x8x128, .f32⟩
  | .hbm, ⟨114, _⟩ => ⟨S4x4096x8x128, .f32⟩
  | .hbm, ⟨115, _⟩ => ⟨S4x4096x8x128, .f32⟩
  | .hbm, ⟨116, _⟩ => ⟨S4x4096x8x128, .f32⟩
  | .hbm, ⟨117, _⟩ => ⟨S16384x1024, .f32⟩
  | .hbm, ⟨118, _⟩ => ⟨S16384x1024, .bf16⟩
  | _, _ => ⟨S4x8x16x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_6 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v52 : Ref sig .tc := ⟨.hbm, 90, rfl⟩
abbrev main_cst_7 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_9 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩

abbrev nD : Nat := 1
abbrev τ : Topo := Topo.v7x

variable {F : FTy → Type} [FloatOps F]
-- ==== ProjKernel.lean ====
abbrev S2048x16384 : Shape := ⟨2, ![2048, 16384]⟩
abbrev S2048x11264 : Shape := ⟨2, ![2048, 11264]⟩
abbrev S16384x11264 : Shape := ⟨2, ![16384, 11264]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x16384, .bf16⟩
  | .hbm, ⟨1, _⟩ => ⟨S2048x11264, .bf16⟩
  | .hbm, ⟨2, _⟩ => ⟨S16384x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2048x16384 : Shape := ⟨2, ![2048, 16384]⟩
abbrev S2048x11264 : Shape := ⟨2, ![2048, 11264]⟩
abbrev S16384x2048 : Shape := ⟨2, ![16384, 2048]⟩
abbrev S16384x11264 : Shape := ⟨2, ![16384, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S2048x11264, .bf16⟩
  | .hbm, ⟨2, _⟩ => ⟨S16384x2048, .bf16⟩
  | .hbm, ⟨3, _⟩ => ⟨S16384x11264, .f32⟩
  | .hbm, ⟨4, _⟩ => ⟨S16384x11264, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeKernel.lean ====
abbrev S16384x1024 : Shape := ⟨2, ![16384, 1024]⟩
abbrev S3x1024x2048 : Shape := ⟨3, ![3, 1024, 2048]⟩
abbrev S16384x11264 : Shape := ⟨2, ![16384, 11264]⟩
abbrev S16384x2048 : Shape := ⟨2, ![16384, 2048]⟩
abbrev S1024x1024 : Shape := ⟨2, ![1024, 1024]⟩
abbrev S3x1024x1024 : Shape := ⟨3, ![3, 1024, 1024]⟩
abbrev S1x1024x1024 : Shape := ⟨3, ![1, 1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .f32⟩
  | .hbm, ⟨4, _⟩ => ⟨S16384x11264, .bf16⟩
  | .hbm, ⟨5, _⟩ => ⟨S3x1024x2048, .bf16⟩
  | .hbm, ⟨6, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S3x1024x1024, .bf16⟩
  | .local _ .vmem, ⟨7, _⟩ => ⟨S3x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S16384x1024 : Shape := ⟨2, ![16384, 1024]⟩
abbrev S3x1024x2048 : Shape := ⟨3, ![3, 1024, 2048]⟩
abbrev S16384x11264 : Shape := ⟨2, ![16384, 11264]⟩
abbrev S16384x6144 : Shape := ⟨2, ![16384, 6144]⟩
abbrev S_ : Shape := ⟨0, ![]⟩
abbrev S16384x3x2048 : Shape := ⟨3, ![16384, 3, 2048]⟩
abbrev S16384x1x2048 : Shape := ⟨3, ![16384, 1, 2048]⟩
abbrev S16384x2048 : Shape := ⟨2, ![16384, 2048]⟩
abbrev S1x1024x2048 : Shape := ⟨3, ![1, 1024, 2048]⟩
abbrev S1024x2048 : Shape := ⟨2, ![1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .f32⟩
  | .hbm, ⟨4, _⟩ => ⟨S16384x11264, .bf16⟩
  | .hbm, ⟨5, _⟩ => ⟨S16384x6144, .bf16⟩
  | .hbm, ⟨6, _⟩ => ⟨S16384x6144, .f32⟩
  | .hbm, ⟨7, _⟩ => ⟨S16384x6144, .f32⟩
  | .hbm, ⟨8, _⟩ => ⟨S16384x6144, .f32⟩
  | .hbm, ⟨9, _⟩ => ⟨S_, .f32⟩
  | .hbm, ⟨10, _⟩ => ⟨S16384x6144, .f32⟩
  | .hbm, ⟨11, _⟩ => ⟨S16384x6144, .f32⟩
  | .hbm, ⟨12, _⟩ => ⟨S_, .f32⟩
  | .hbm, ⟨13, _⟩ => ⟨S16384x6144, .f32⟩
  | .hbm, ⟨14, _⟩ => ⟨S16384x6144, .f32⟩
  | .hbm, ⟨15, _⟩ => ⟨S16384x3x2048, .f32⟩
  | .hbm, ⟨16, _⟩ => ⟨S3x1024x2048, .bf16⟩
  | .hbm, ⟨17, _⟩ => ⟨S16384x1x2048, .f32⟩
  | .hbm, ⟨18, _⟩ => ⟨S16384x2048, .f32⟩
  | .hbm, ⟨19, _⟩ => ⟨S1x1024x2048, .bf16⟩
  | .hbm, ⟨20, _⟩ => ⟨S1024x2048, .bf16⟩
  | .hbm, ⟨21, _⟩ => ⟨S16384x2048, .f32⟩
  | .hbm, ⟨22, _⟩ => ⟨S16384x2048, .f32⟩
  | .hbm, ⟨23, _⟩ => ⟨S16384x1x2048, .f32⟩
  | .hbm, ⟨24, _⟩ => ⟨S16384x2048, .f32⟩
  | .hbm, ⟨25, _⟩ => ⟨S1x1024x2048, .bf16⟩
  | .hbm, ⟨26, _⟩ => ⟨S1024x2048, .bf16⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x1x2048, .f32⟩
  | .hbm, ⟨31, _⟩ => ⟨S16384x2048, .f32⟩
  | .hbm, ⟨32, _⟩ => ⟨S1x1024x2048, .bf16⟩
  | .hbm, ⟨33, _⟩ => ⟨S1024x2048, .bf16⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== OutKernel.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QvKernel.lean ====
abbrev S2048x2048 : Shape := ⟨2, ![2048, 2048]⟩
abbrev S2048x16384 : Shape := ⟨2, ![2048, 16384]⟩
abbrev S128 : Shape := ⟨1, ![128]⟩
abbrev S1x128 : Shape := ⟨2, ![1, 128]⟩
abbrev S128x1 : Shape := ⟨2, ![128, 1]⟩
abbrev S4x8x16x256x256 : Shape := ⟨5, ![4, 8, 16, 256, 256]⟩
abbrev S4x8x18x128x256 : Shape := ⟨5, ![4, 8, 18, 128, 256]⟩
abbrev S2048x512 : Shape := ⟨2, ![2048, 512]⟩
abbrev S1x8x2x256x256 : Shape := ⟨5, ![1, 8, 2, 256, 256]⟩
abbrev S1x8x2x128x256 : Shape := ⟨5, ![1, 8, 2, 128, 256]⟩
abbrev S128x512 : Shape := ⟨2, ![128, 512]⟩
abbrev S256x2048 : Shape := ⟨2, ![256, 2048]⟩
abbrev S256x512 : Shape := ⟨2, ![256, 512]⟩
abbrev S512 : Shape := ⟨1, ![512]⟩
abbrev S1x512 : Shape := ⟨2, ![1, 512]⟩
abbrev S128x256 : Shape := ⟨2, ![128, 256]⟩
abbrev S1x1x1x128x256 : Shape := ⟨5, ![1, 1, 1, 128, 256]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .bf16⟩
  | .hbm, ⟨2, _⟩ => ⟨S128, .f32⟩
  | .hbm, ⟨3, _⟩ => ⟨S1x128, .f32⟩
  | .hbm, ⟨4, _⟩ => ⟨S128x1, .f32⟩
  | .hbm, ⟨5, _⟩ => ⟨S4x8x16x256x256, .bf16⟩
  | .hbm, ⟨6, _⟩ => ⟨S4x8x18x128x256, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S128x1, .f32⟩
  | .local _ .vmem, ⟨4, _⟩ => ⟨S1x8x2x256x256, .bf16⟩
  | .local _ .vmem, ⟨5, _⟩ => ⟨S1x8x2x256x256, .bf16⟩
  | .local _ .vmem, ⟨6, _⟩ => ⟨S1x8x2x128x256, .bf16⟩
  | .local _ .vmem, ⟨7, _⟩ => ⟨S1x8x2x128x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![c0_i32_0.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v1.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x2x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QvKernelIdeal.lean ====
variable {F : FTy → Type} [FloatOps F] [Named F]
def κ : String → Option EReal := fun
  | "mask" => some ⊥
  | "qscale" => some ((((Real.sqrt 128) * (Real.log 2))⁻¹ : ℝ) : EReal)
  | _ => none
-- ==== QvReferenceIdeal.lean ====
abbrev S2048x2048 : Shape := ⟨2, ![2048, 2048]⟩
abbrev S2048x16384 : Shape := ⟨2, ![2048, 16384]⟩
abbrev S128 : Shape := ⟨1, ![128]⟩
abbrev S16384x2048 : Shape := ⟨2, ![16384, 2048]⟩
abbrev S16384x1024 : Shape := ⟨2, ![16384, 1024]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S4x4096x8x256 : Shape := ⟨4, ![4, 4096, 8, 256]⟩
abbrev S4x16x256x8x256 : Shape := ⟨5, ![4, 16, 256, 8, 256]⟩
abbrev S4x8x16x256x256 : Shape := ⟨5, ![4, 8, 16, 256, 256]⟩
abbrev S4x512x8x128 : Shape := ⟨4, ![4, 512, 8, 128]⟩
abbrev S4x4608x8x128 : Shape := ⟨4, ![4, 4608, 8, 128]⟩
abbrev S4x18x256x8x128 : Shape := ⟨5, ![4, 18, 256, 8, 128]⟩
abbrev S4x8x18x128x256 : Shape := ⟨5, ![4, 8, 18, 128, 256]⟩

abbrev nBuf : Space → Nat
  | .hbm => 95
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x16384, .bf16⟩
  | .hbm, ⟨2, _⟩ => ⟨S128, .f32⟩
  | .hbm, ⟨3, _⟩ => ⟨S16384x2048, .bf16⟩
  | .hbm, ⟨4, _⟩ => ⟨S2048x2048, .bf16⟩
  | .hbm, ⟨5, _⟩ => ⟨S16384x2048, .f32⟩
  | .hbm, ⟨6, _⟩ => ⟨S16384x1024, .f32⟩
  | .hbm, ⟨7, _⟩ => ⟨S4x4096x8x128, .f32⟩
  | .hbm, ⟨8, _⟩ => ⟨S4x4096x8x128, .f32⟩
  | .hbm, ⟨9, _⟩ => ⟨S_, .f32⟩
  | .hbm, ⟨10, _⟩ => ⟨S4x4096x8, .f32⟩
  | .hbm, ⟨11, _⟩ => ⟨S4x4096x8x1, .f32⟩
  | .hbm, ⟨12, _⟩ => ⟨S_, .f32⟩
  | .hbm, ⟨13, _⟩ => ⟨S4x4096x8x1, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S4x4096x8x1, .f32⟩
  | .hbm, ⟨19, _⟩ => ⟨S4x4096x8x128, .f32⟩
  | .hbm, ⟨20, _⟩ => ⟨S4x4096x8x128, .f32⟩
  | .hbm, ⟨21, _⟩ => ⟨S1x1x1x128, .f32⟩
  | .hbm, ⟨22, _⟩ => ⟨S4x4096x8x128, .f32⟩
  | .hbm, ⟨23, _⟩ => ⟨S4x4096x8x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096x8x128, .f32⟩
  | .hbm, ⟨32, _⟩ => ⟨S4x4096x8x128, .f32⟩
  | .hbm, ⟨33, _⟩ => ⟨S4096, .i32⟩
  | .hbm, ⟨34, _⟩ => ⟨S4096x1, .i32⟩
  | .hbm, ⟨35, _⟩ => ⟨S_, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S4096x1, .i32⟩
  | .hbm, ⟨53, _⟩ => ⟨S128, .i32⟩
  | .hbm, ⟨54, _⟩ => ⟨S1x128, .i32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S4096x128, .i32⟩
  | .hbm, ⟨59, _⟩ => ⟨S4096x128, .i32⟩
  | .hbm, ⟨60, _⟩ => ⟨S4096x128, .i1⟩
  | .hbm, ⟨61, _⟩ => ⟨S_, .i32⟩
  | .hbm, ⟨62, _⟩ => ⟨S4096x1, .i32⟩
  | .hbm, ⟨63, _⟩ => ⟨S4096x1, .i32⟩
  | .hbm, ⟨64, _⟩ => ⟨S4096x128, .i32⟩
  | .hbm, ⟨65, _⟩ => ⟨S4096x128, .i32⟩
  | .hbm, ⟨66, _⟩ => ⟨S4096x128, .i1⟩
  | .hbm, ⟨67, _⟩ => ⟨S4096x128, .i1⟩
  | .hbm, ⟨68, _⟩ => ⟨S4096x128, .i1⟩
  | .hbm, ⟨69, _⟩ => ⟨S4096x128, .i1⟩
  | .hbm, ⟨70, _⟩ => ⟨S_, .i32⟩
  | .hbm, ⟨71, _⟩ => ⟨S1x128, .i32⟩
  | .hbm, ⟨72, _⟩ => ⟨S1x128, .i1⟩
  | .hbm, ⟨73, _⟩ => ⟨S4096x128, .i1⟩
  | .hbm, ⟨74, _⟩ => ⟨S4096x128, .i1⟩
  | .hbm, ⟨75, _⟩ => ⟨S_, .f32⟩
  | .hbm, ⟨76, _⟩ => ⟨S_, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S1x4096x1x128, .f32⟩
  | .hbm, ⟨81, _⟩ => ⟨S4x4096x8x128, .f32⟩
  | .hbm, ⟨82, _⟩ => ⟨S4x4096x8x128, .f32⟩
  | .hbm, ⟨83, _⟩ => ⟨S4x4096x8x256, .f32⟩
  | .hbm, ⟨84, _⟩ => ⟨S4x4096x8x256, .bf16⟩
  | .hbm, ⟨85, _⟩ => ⟨S4x16x256x8x256, .bf16⟩
  | .hbm, ⟨86, _⟩ => ⟨S4x8x16x256x256, .bf16⟩
  | .hbm, ⟨87, _⟩ => ⟨S16384x1024, .f32⟩
  | .hbm, ⟨88, _⟩ => ⟨S4x4096x8x128, .f32⟩
  | .hbm, ⟨89, _⟩ => ⟨S_, .f32⟩
  | .hbm, ⟨90, _⟩ => ⟨S4x512x8x128, .f32⟩
  | .hbm, ⟨91, _⟩ => ⟨S4x4608x8x128, .f32⟩
  | .hbm, ⟨92, _⟩ => ⟨S4x4608x8x128, .bf16⟩
  | .hbm, ⟨93, _⟩ => ⟨S4x18x256x8x128, .bf16⟩
  | .hbm, ⟨94, _⟩ => ⟨S4x8x18x128x256, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩

abbrev nD : Nat := 1
abbrev τ : Topo := Topo.v7x

variable {F : FTy → Type} [FloatOps F]
-- ==== QkvKernel.lean ====
abbrev S3072x2048 : Shape := ⟨2, ![3072, 2048]⟩
abbrev S2048x16384 : Shape := ⟨2, ![2048, 16384]⟩
abbrev S64 : Shape := ⟨1, ![64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S128 : Shape := ⟨1, ![128]⟩
abbrev S1x128 : Shape := ⟨2, ![1, 128]⟩
abbrev S128x1 : Shape := ⟨2, ![128, 1]⟩
abbrev S4096x128 : Shape := ⟨2, ![4096, 128]⟩
abbrev S4096x384 : Shape := ⟨2, ![4096, 384]⟩
abbrev S1x64 : Shape := ⟨2, ![1, 64]⟩
abbrev S1x1x1x64 : Shape := ⟨4, ![1, 1, 1, 64]⟩
abbrev S1x1x2x64 : Shape := ⟨4, ![1, 1, 2, 64]⟩
abbrev S384x4096 : Shape := ⟨2, ![384, 4096]⟩
abbrev S4x8x16x256x512 : Shape := ⟨5, ![4, 8, 16, 256, 512]⟩
abbrev S4x8x8x128x512 : Shape := ⟨5, ![4, 8, 8, 128, 512]⟩
abbrev S4x8x8x256x512 : Shape := ⟨5, ![4, 8, 8, 256, 512]⟩
abbrev S2048x512 : Shape := ⟨2, ![2048, 512]⟩
abbrev S384x512 : Shape := ⟨2, ![384, 512]⟩
abbrev S1x8x2x256x512 : Shape := ⟨5, ![1, 8, 2, 256, 512]⟩
abbrev S1x8x1x128x512 : Shape := ⟨5, ![1, 8, 1, 128, 512]⟩
abbrev S1x8x1x256x512 : Shape := ⟨5, ![1, 8, 1, 256, 512]⟩
abbrev S128x512 : Shape := ⟨2, ![128, 512]⟩
abbrev S256x2048 : Shape := ⟨2, ![256, 2048]⟩
abbrev S256x512 : Shape := ⟨2, ![256, 512]⟩
abbrev S64x512 : Shape := ⟨2, ![64, 512]⟩
abbrev S512 : Shape := ⟨1, ![512]⟩
abbrev S1x512 : Shape := ⟨2, ![1, 512]⟩
abbrev S120x512 : Shape := ⟨2, ![120, 512]⟩
abbrev S8x512 : Shape := ⟨2, ![8, 512]⟩
abbrev S128x256 : Shape := ⟨2, ![128, 256]⟩
abbrev S1x1x1x128x256 : Shape := ⟨5, ![1, 1, 1, 128, 256]⟩
abbrev S1x1x1x128x512 : Shape := ⟨5, ![1, 1, 1, 128, 512]⟩

abbrev nBuf : Space → Nat
  | .hbm => 144
  | .vmem => 13
  | .smem => 0
  | _ => 0

abbrev hbmTy0_0 (i : Nat) : BufTy := match i % 128 with
  | 0 => ⟨S3072x2048, .bf16⟩
  | 1 => ⟨S2048x16384, .bf16⟩
  | 2 => ⟨S64, .f32⟩
  | 3 => ⟨S64, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096, .f32⟩
  | 21 => ⟨S4096x1, .f32⟩
  | 22 => ⟨S1x8, .f32⟩
  | 23 => ⟨S4096x8, .f32⟩
  | 24 => ⟨S4096x8, .f32⟩
  | 25 => ⟨S4096x8, .f32⟩
  | 26 => ⟨S4096x8, .f32⟩
  | 27 => ⟨S4096x8, .f32⟩
  | 28 => ⟨S128, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S128, .i32⟩
  | 36 => ⟨S128, .i32⟩
  | 37 => ⟨S_, .i32⟩
  | 38 => ⟨S128, .i32⟩
  | 39 => ⟨S128, .i1⟩
  | 40 => ⟨S_, .i32⟩
  | 41 => ⟨S128, .i32⟩
  | 42 => ⟨S128, .i1⟩
  | 43 => ⟨S_, .i32⟩
  | 44 => ⟨S_, .i1⟩
  | 45 => ⟨S128, .i1⟩
  | 46 => ⟨S128, .i1⟩
  | 47 => ⟨S128, .i1⟩
  | 48 => ⟨S128, .i32⟩
  | 49 => ⟨S128, .i32⟩
  | 50 => ⟨S128, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S128, .i32⟩
  | 58 => ⟨S128, .i32⟩
  | 59 => ⟨S_, .i32⟩
  | 60 => ⟨S128, .i32⟩
  | 61 => ⟨S128, .i1⟩
  | 62 => ⟨S_, .i32⟩
  | 63 => ⟨S128, .i32⟩
  | 64 => ⟨S128, .i1⟩
  | 65 => ⟨S_, .i32⟩
  | 66 => ⟨S_, .i1⟩
  | 67 => ⟨S128, .i1⟩
  | 68 => ⟨S128, .i1⟩
  | 69 => ⟨S128, .i1⟩
  | 70 => ⟨S128, .i32⟩
  | 71 => ⟨S128, .i32⟩
  | 72 => ⟨S128, .i32⟩
  | 73 => ⟨S_, .i32⟩
  | 74 => ⟨S128, .i32⟩
  | 75 => ⟨S128, .i1⟩
  | 76 => ⟨S1x128, .i1⟩
  | 77 => ⟨S_, .i32⟩
  | 78 => ⟨S128, .i32⟩
  | 79 => ⟨S128, .i1⟩
  | 80 => ⟨S_, .i32⟩
  | 81 => ⟨S128, .i32⟩
  | 82 => ⟨S128, .i1⟩
  | 83 => ⟨S128, .i1⟩
  | 84 => ⟨S1x128, .i1⟩
  | 85 => ⟨S1x128, .i1⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S4096x128, .f32⟩
  | 95 => ⟨S_, .f32⟩
  | 96 => ⟨S_, .f32⟩
  | 97 => ⟨S4096x128, .i1⟩
  | 98 => ⟨S4096x128, .f32⟩
  | 99 => ⟨S4096x128, .f32⟩
  | 100 => ⟨S_, .i32⟩
  | 101 => ⟨S128, .i32⟩
  | 102 => ⟨S128, .i1⟩
  | 103 => ⟨S_, .i32⟩
  | 104 => ⟨S128, .i32⟩
  | 105 => ⟨S128, .i32⟩
  | 106 => ⟨S128, .i32⟩
  | 107 => ⟨S128x1, .i32⟩
  | 108 => ⟨S4096x128, .f32⟩
  | 109 => ⟨S4096x128, .f32⟩
  | 110 => ⟨S_, .f32⟩
  | 111 => ⟨S_, .f32⟩
  | 112 => ⟨S4096x128, .i1⟩
  | 113 => ⟨S4096x128, .f32⟩
  | 114 => ⟨S4096x128, .f32⟩
  | 115 => ⟨S_, .i32⟩
  | 116 => ⟨S128, .i32⟩
  | 117 => ⟨S128, .i1⟩
  | 118 => ⟨S_, .i32⟩
  | 119 => ⟨S128, .i32⟩
  | 120 => ⟨S128, .i32⟩
  | 121 => ⟨S128, .i32⟩
  | 122 => ⟨S128x1, .i32⟩
  | 123 => ⟨S4096x128, .f32⟩
  | 124 => ⟨S_, .f32⟩
  | 125 => ⟨S_, .f32⟩
  | 126 => ⟨S4096x128, .i1⟩
  | 127 => ⟨S4096x128, .f32⟩
  | _ => ⟨S3072x2048, .bf16⟩

abbrev hbmTy0_1 (i : Nat) : BufTy := match i % 128 with
  | 0 => ⟨S4096x128, .f32⟩
  | 1 => ⟨S4096x384, .f32⟩
  | 2 => ⟨S1x64, .f32⟩
  | 3 => ⟨S1x1x1x64, .f32⟩
  | 4 => ⟨S1x1x2x64, .f32⟩
  | 5 => ⟨S1x128, .f32⟩
  | 6 => ⟨S128x1, .f32⟩
  | 7 => ⟨S1x64, .f32⟩
  | 8 => ⟨S1x1x1x64, .f32⟩
  | 9 => ⟨S1x1x2x64, .f32⟩
  | 10 => ⟨S1x128, .f32⟩
  | 11 => ⟨S128x1, .f32⟩
  | 12 => ⟨S384x4096, .f32⟩
  | 13 => ⟨S4x8x16x256x512, .bf16⟩
  | 14 => ⟨S4x8x8x128x512, .bf16⟩
  | 15 => ⟨S4x8x8x256x512, .bf16⟩
  | _ => ⟨S3072x2048, .bf16⟩

abbrev hbmTy (i : Nat) : BufTy := match i / 128 with
  | 0 => hbmTy0_0 i
  | 1 => hbmTy0_1 i
  | _ => ⟨S3072x2048, .bf16⟩

abbrev bufTy : (tb : Table) → Fin (tcTables nBuf tb) → BufTy
  | .hbm, ⟨i, _⟩ => hbmTy i
  | .local _ .vmem, ⟨0, _⟩ => ⟨S3072x2048, .bf16⟩
  | .local _ .vmem, ⟨1, _⟩ => ⟨S2048x512, .bf16⟩
  | .local _ .vmem, ⟨2, _⟩ => ⟨S2048x512, .bf16⟩
  | .local _ .vmem, ⟨3, _⟩ => ⟨S128x1, .f32⟩
  | .local _ .vmem, ⟨4, _⟩ => ⟨S128x1, .f32⟩
  | .local _ .vmem, ⟨5, _⟩ => ⟨S384x512, .f32⟩
  | .local _ .vmem, ⟨6, _⟩ => ⟨S384x512, .f32⟩
  | .local _ .vmem, ⟨7, _⟩ => ⟨S1x8x2x256x512, .bf16⟩
  | .local _ .vmem, ⟨8, _⟩ => ⟨S1x8x2x256x512, .bf16⟩
  | .local _ .vmem, ⟨9, _⟩ => ⟨S1x8x1x128x512, .bf16⟩
  | .local _ .vmem, ⟨10, _⟩ => ⟨S1x8x1x128x512, .bf16⟩
  | .local _ .vmem, ⟨11, _⟩ => ⟨S1x8x1x256x512, .bf16⟩
  | .local _ .vmem, ⟨12, _⟩ => ⟨S1x8x1x256x512, .bf16⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v20 : Ref sig .tc := ⟨.hbm, 50, rfl⟩
abbrev main_c_4 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v21 : Ref sig .tc := ⟨.hbm, 72, rfl⟩
abbrev main_c_5 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_6 : Ref sig .tc := ⟨.hbm, 77, rfl⟩
abbrev main_v25 : Ref sig .tc := ⟨.hbm, 78, rfl⟩
abbrev main_v26 : Ref sig .tc := ⟨.hbm, 79, rfl⟩
abbrev main_c_7 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_c_8 : Ref sig .tc := ⟨.hbm, 86, rfl⟩
abbrev main_v32 : Ref sig .tc := ⟨.hbm, 87, rfl⟩
abbrev main_v33 : Ref sig .tc := ⟨.hbm, 88, rfl⟩
abbrev main_c_9 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_10 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v39 : Ref sig .tc := ⟨.hbm, 99, rfl⟩
abbrev main_c_11 : Ref sig .tc := ⟨.hbm, 100, rfl⟩
abbrev main_v40 : Ref sig .tc := ⟨.hbm, 101, rfl⟩
abbrev main_v41 : Ref sig .tc := ⟨.hbm, 102, rfl⟩
abbrev main_c_12 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_13 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v48 : Ref sig .tc := ⟨.hbm, 114, rfl⟩
abbrev main_c_14 : Ref sig .tc := ⟨.hbm, 115, rfl⟩
abbrev main_v49 : Ref sig .tc := ⟨.hbm, 116, rfl⟩
abbrev main_v50 : Ref sig .tc := ⟨.hbm, 117, rfl⟩
abbrev main_c_15 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_16 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69_0 : Ref sig .tc := ⟨.hbm, 141, rfl⟩
abbrev main_v69_1 : Ref sig .tc := ⟨.hbm, 142, rfl⟩
abbrev main_v69_2 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 1 → Memref sig .tc .vmem S3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvKernelIdeal.lean ====
variable {F : FTy → Type} [FloatOps F] [Named F]
def κ : String → Option EReal := fun
  | "mask" => some ⊥
  | "qscale" => some (((8 * (Real.log 2))⁻¹ : ℝ) : EReal)
  | _ => none
-- ==== QkvReferenceIdeal.lean ====
abbrev S3072x2048 : Shape := ⟨2, ![3072, 2048]⟩
abbrev S2048x16384 : Shape := ⟨2, ![2048, 16384]⟩
abbrev S64 : Shape := ⟨1, ![64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x1x8 : Shape := ⟨5, ![1, 4096, 1, 1, 8]⟩
abbrev S16384x2048 : Shape := ⟨2, ![16384, 2048]⟩
abbrev S2048x3072 : Shape := ⟨2, ![2048, 3072]⟩
abbrev S16384x3072 : Shape := ⟨2, ![16384, 3072]⟩
abbrev S128 : Shape := ⟨1, ![128]⟩
abbrev S1x128 : Shape := ⟨2, ![1, 128]⟩
abbrev S16384x1024 : Shape := ⟨2, ![16384, 1024]⟩
abbrev S4x4096x8x2x64 : Shape := ⟨5, ![4, 4096, 8, 2, 64]⟩
abbrev S4x4096x8x2 : Shape := ⟨4, ![4, 4096, 8, 2]⟩
abbrev S4x4096x8x2x1 : Shape := ⟨5, ![4, 4096, 8, 2, 1]⟩
abbrev S1x1x1x1x64 : Shape := ⟨5, ![1, 1, 1, 1, 64]⟩
abbrev S4x4096x8x2x8 : Shape := ⟨5, ![4, 4096, 8, 2, 8]⟩
abbrev S4x4096x8x2x48 : Shape := ⟨5, ![4, 4096, 8, 2, 48]⟩
abbrev S4x4096x8x64 : Shape := ⟨4, ![4, 4096, 8, 64]⟩
abbrev S4096x128 : Shape := ⟨2, ![4096, 128]⟩
abbrev S1x4096x1x128 : Shape := ⟨4, ![1, 4096, 1, 128]⟩
abbrev S4x4096x8x128 : Shape := ⟨4, ![4, 4096, 8, 128]⟩
abbrev S4x4096x8x1x64 : Shape := ⟨5, ![4, 4096, 8, 1, 64]⟩
abbrev S4x4096x8x256 : Shape := ⟨4, ![4, 4096, 8, 256]⟩
abbrev S4x16x256x8x256 : Shape := ⟨5, ![4, 16, 256, 8, 256]⟩
abbrev S4x8x16x256x256 : Shape := ⟨5, ![4, 8, 16, 256, 256]⟩
abbrev S4x8x16x256x512 : Shape := ⟨5, ![4, 8, 16, 256, 512]⟩
abbrev S4x8x512x8x128 : Shape := ⟨5, ![4, 8, 512, 8, 128]⟩
abbrev S4x8x8x128x512 : Shape := ⟨5, ![4, 8, 8, 128, 512]⟩
abbrev S4x8x512x8x256 : Shape := ⟨5, ![4, 8, 512, 8, 256]⟩
abbrev S4x8x8x256x512 : Shape := ⟨5, ![4, 8, 8, 256, 512]⟩

abbrev nBuf : Space → Nat
  | .hbm => 174
  | .vmem => 0
  | .smem => 0
  | _ => 0

abbrev hbmTy0_0 (i : Nat) : BufTy := match i % 128 with
  | 0 => ⟨S3072x2048, .bf16⟩
  | 1 => ⟨S2048x16384, .bf16⟩
  | 2 => ⟨S64, .f32⟩
  | 3 => ⟨S64, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096, .f32⟩
  | 21 => ⟨S4096x1, .f32⟩
  | 22 => ⟨S1x8, .f32⟩
  | 23 => ⟨S4096x8, .f32⟩
  | 24 => ⟨S4096x8, .f32⟩
  | 25 => ⟨S4096x8, .f32⟩
  | 26 => ⟨S4096x8, .f32⟩
  | 27 => ⟨S1x4096x1x1x8, .f32⟩
  | 28 => ⟨S4096x8, .f32⟩
  | 29 => ⟨S1x4096x1x1x8, .f32⟩
  | 30 => ⟨S16384x2048, .bf16⟩
  | 31 => ⟨S2048x3072, .bf16⟩
  | 32 => ⟨S16384x3072, .f32⟩
  | 33 => ⟨S4096, .i32⟩
  | 34 => ⟨S4096x1, .i32⟩
  | 35 => ⟨S_, .i32⟩
  | 36 => ⟨S_, .i32⟩
  | 37 => ⟨S4096x1, .i32⟩
  | 38 => ⟨S4096x1, .i32⟩
  | 39 => ⟨S4096x1, .i32⟩
  | 40 => ⟨S_, .i32⟩
  | 41 => ⟨S4096x1, .i32⟩
  | 42 => ⟨S4096x1, .i1⟩
  | 43 => ⟨S4096x1, .i32⟩
  | 44 => ⟨S4096x1, .i32⟩
  | 45 => ⟨S_, .i32⟩
  | 46 => ⟨S4096x1, .i32⟩
  | 47 => ⟨S4096x1, .i1⟩
  | 48 => ⟨S4096x1, .i1⟩
  | 49 => ⟨S_, .i32⟩
  | 50 => ⟨S4096x1, .i32⟩
  | 51 => ⟨S4096x1, .i32⟩
  | 52 => ⟨S4096x1, .i32⟩
  | 53 => ⟨S128, .i32⟩
  | 54 => ⟨S1x128, .i32⟩
  | 55 => ⟨S16384x1024, .f32⟩
  | 56 => ⟨S4x4096x8x2x64, .f32⟩
  | 57 => ⟨S4x4096x8x2x64, .f32⟩
  | 58 => ⟨S_, .f32⟩
  | 59 => ⟨S4x4096x8x2, .f32⟩
  | 60 => ⟨S4x4096x8x2x1, .f32⟩
  | 61 => ⟨S_, .f32⟩
  | 62 => ⟨S4x4096x8x2x1, .f32⟩
  | 63 => ⟨S4x4096x8x2x1, .f32⟩
  | 64 => ⟨S_, .f32⟩
  | 65 => ⟨S4x4096x8x2x1, .f32⟩
  | 66 => ⟨S4x4096x8x2x1, .f32⟩
  | 67 => ⟨S4x4096x8x2x1, .f32⟩
  | 68 => ⟨S4x4096x8x2x64, .f32⟩
  | 69 => ⟨S4x4096x8x2x64, .f32⟩
  | 70 => ⟨S1x1x1x1x64, .f32⟩
  | 71 => ⟨S4x4096x8x2x64, .f32⟩
  | 72 => ⟨S4x4096x8x2x64, .f32⟩
  | 73 => ⟨S4x4096x8x2x8, .f32⟩
  | 74 => ⟨S4x4096x8x2x8, .f32⟩
  | 75 => ⟨S4x4096x8x2x8, .f32⟩
  | 76 => ⟨S4x4096x8x2x8, .f32⟩
  | 77 => ⟨S4x4096x8x2x8, .f32⟩
  | 78 => ⟨S4x4096x8x2x8, .f32⟩
  | 79 => ⟨S4x4096x8x2x8, .f32⟩
  | 80 => ⟨S4x4096x8x2x8, .f32⟩
  | 81 => ⟨S4x4096x8x2x8, .f32⟩
  | 82 => ⟨S4x4096x8x2x8, .f32⟩
  | 83 => ⟨S4x4096x8x2x8, .f32⟩
  | 84 => ⟨S4x4096x8x2x8, .f32⟩
  | 85 => ⟨S4x4096x8x2x48, .f32⟩
  | 86 => ⟨S4x4096x8x2x64, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S4x4096x8x2x64, .f32⟩
  | 94 => ⟨S4x4096x8x2x64, .f32⟩
  | 95 => ⟨S_, .f32⟩
  | 96 => ⟨S4x4096x8x64, .f32⟩
  | 97 => ⟨S4096x128, .i32⟩
  | 98 => ⟨S4096x128, .i32⟩
  | 99 => ⟨S4096x128, .i1⟩
  | 100 => ⟨S_, .f32⟩
  | 101 => ⟨S_, .f32⟩
  | 102 => ⟨S4096x128, .f32⟩
  | 103 => ⟨S4096x128, .f32⟩
  | 104 => ⟨S4096x128, .f32⟩
  | 105 => ⟨S1x4096x1x128, .f32⟩
  | 106 => ⟨S4x4096x8x128, .f32⟩
  | 107 => ⟨S4x4096x8x1x64, .f32⟩
  | 108 => ⟨S4x4096x8x64, .f32⟩
  | 109 => ⟨S4x4096x8x128, .f32⟩
  | 110 => ⟨S4x4096x8x256, .f32⟩
  | 111 => ⟨S4x4096x8x256, .bf16⟩
  | 112 => ⟨S4x4096x8x1x64, .f32⟩
  | 113 => ⟨S4x4096x8x64, .f32⟩
  | 114 => ⟨S4x4096x8x128, .f32⟩
  | 115 => ⟨S4x4096x8x256, .f32⟩
  | 116 => ⟨S4x4096x8x256, .bf16⟩
  | 117 => ⟨S4x16x256x8x256, .bf16⟩
  | 118 => ⟨S4x8x16x256x256, .bf16⟩
  | 119 => ⟨S4x16x256x8x256, .bf16⟩
  | 120 => ⟨S4x8x16x256x256, .bf16⟩
  | 121 => ⟨S4x8x16x256x512, .bf16⟩
  | 122 => ⟨S16384x1024, .f32⟩
  | 123 => ⟨S4x8x512x8x128, .f32⟩
  | 124 => ⟨S4x8x8x128x512, .f32⟩
  | 125 => ⟨S4x8x8x128x512, .bf16⟩
  | 126 => ⟨S16384x1024, .f32⟩
  | 127 => ⟨S4x4096x8x2x64, .f32⟩
  | _ => ⟨S3072x2048, .bf16⟩

abbrev hbmTy0_1 (i : Nat) : BufTy := match i % 128 with
  | 0 => ⟨S4x4096x8x2x64, .f32⟩
  | 1 => ⟨S_, .f32⟩
  | 2 => ⟨S4x4096x8x2, .f32⟩
  | 3 => ⟨S4x4096x8x2x1, .f32⟩
  | 4 => ⟨S_, .f32⟩
  | 5 => ⟨S4x4096x8x2x1, .f32⟩
  | 6 => ⟨S4x4096x8x2x1, .f32⟩
  | 7 => ⟨S_, .f32⟩
  | 8 => ⟨S4x4096x8x2x1, .f32⟩
  | 9 => ⟨S4x4096x8x2x1, .f32⟩
  | 10 => ⟨S4x4096x8x2x1, .f32⟩
  | 11 => ⟨S4x4096x8x2x64, .f32⟩
  | 12 => ⟨S4x4096x8x2x64, .f32⟩
  | 13 => ⟨S1x1x1x1x64, .f32⟩
  | 14 => ⟨S4x4096x8x2x64, .f32⟩
  | 15 => ⟨S4x4096x8x2x64, .f32⟩
  | 16 => ⟨S4x4096x8x2x8, .f32⟩
  | 17 => ⟨S4x4096x8x2x8, .f32⟩
  | 18 => ⟨S4x4096x8x2x8, .f32⟩
  | 19 => ⟨S4x4096x8x2x8, .f32⟩
  | 20 => ⟨S4x4096x8x2x8, .f32⟩
  | 21 => ⟨S4x4096x8x2x8, .f32⟩
  | 22 => ⟨S4x4096x8x2x8, .f32⟩
  | 23 => ⟨S4x4096x8x2x8, .f32⟩
  | 24 => ⟨S4x4096x8x2x8, .f32⟩
  | 25 => ⟨S4x4096x8x2x8, .f32⟩
  | 26 => ⟨S4x4096x8x2x8, .f32⟩
  | 27 => ⟨S4x4096x8x2x8, .f32⟩
  | 28 => ⟨S4x4096x8x2x48, .f32⟩
  | 29 => ⟨S4x4096x8x2x64, .f32⟩
  | 30 => ⟨S4x4096x8x128, .f32⟩
  | 31 => ⟨S4096x128, .i32⟩
  | 32 => ⟨S4096x128, .i32⟩
  | 33 => ⟨S4096x128, .i1⟩
  | 34 => ⟨S_, .f32⟩
  | 35 => ⟨S_, .f32⟩
  | 36 => ⟨S4096x128, .f32⟩
  | 37 => ⟨S4096x128, .f32⟩
  | 38 => ⟨S4096x128, .f32⟩
  | 39 => ⟨S1x4096x1x128, .f32⟩
  | 40 => ⟨S4x4096x8x128, .f32⟩
  | 41 => ⟨S4x4096x8x128, .f32⟩
  | 42 => ⟨S4x4096x8x256, .f32⟩
  | 43 => ⟨S4x4096x8x256, .bf16⟩
  | 44 => ⟨S4x8x512x8x256, .bf16⟩
  | 45 => ⟨S4x8x8x256x512, .bf16⟩
  | _ => ⟨S3072x2048, .bf16⟩

abbrev hbmTy (i : Nat) : BufTy := match i / 128 with
  | 0 => hbmTy0_0 i
  | 1 => hbmTy0_1 i
  | _ => ⟨S3072x2048, .bf16⟩

abbrev bufTy : (tb : Table) → Fin (tcTables nBuf tb) → BufTy
  | .hbm, ⟨i, _⟩ => hbmTy i
  | _, _ => ⟨S3072x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_cst_12 : Ref sig .tc := ⟨.hbm, 101, rfl⟩
abbrev main_call1_v0 : Ref sig .tc := ⟨.hbm, 102, rfl⟩
abbrev main_call1_v1 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_13 : Ref sig .tc := ⟨.hbm, 129, rfl⟩
abbrev main_v92 : Ref sig .tc := ⟨.hbm, 130, rfl⟩
abbrev main_v93 : Ref sig .tc := ⟨.hbm, 131, rfl⟩
abbrev main_cst_14 : Ref sig .tc := ⟨.hbm, 132, rfl⟩
abbrev main_v94 : Ref sig .tc := ⟨.hbm, 133, rfl⟩
abbrev main_v95 : Ref sig .tc := ⟨.hbm, 134, rfl⟩
abbrev main_cst_15 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_16 : Ref sig .tc := ⟨.hbm, 162, rfl⟩
abbrev main_cst_17 : Ref sig .tc := ⟨.hbm, 163, rfl⟩
abbrev main_call2_v0 : Ref sig .tc := ⟨.hbm, 164, rfl⟩
abbrev main_call2_v1 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩

abbrev nD : Nat := 1
abbrev τ : Topo := Topo.v7x

variable {F : FTy → Type} [FloatOps F]
-- ==== PrepKernel.lean ====
abbrev S16384x11264 : Shape := ⟨2, ![16384, 11264]⟩
abbrev S128 : Shape := ⟨1, ![128]⟩
abbrev S1x128 : Shape := ⟨2, ![1, 128]⟩
abbrev S18432x2048 : Shape := ⟨2, ![18432, 2048]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x11264, .bf16⟩
  | .hbm, ⟨1, _⟩ => ⟨S128, .f32⟩
  | .hbm, ⟨2, _⟩ => ⟨S1x128, .f32⟩
  | .hbm, ⟨3, _⟩ => ⟨S18432x2048, .bf16⟩
  | .local _ .vmem, ⟨0, _⟩ => ⟨S512x1024, .bf16⟩
  | .local _ .vmem, ⟨1, _⟩ => ⟨S512x1024, .bf16⟩
  | .local _ .vmem, ⟨2, _⟩ => ⟨S1x128, .f32⟩
  | .local _ .vmem, ⟨3, _⟩ => ⟨S512x2048, .bf16⟩
  | .local _ .vmem, ⟨4, _⟩ => ⟨S512x2048, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PrepReferenceIdeal.lean ====
abbrev S16384x11264 : Shape := ⟨2, ![16384, 11264]⟩
abbrev S128 : Shape := ⟨1, ![128]⟩
abbrev S16384x1024 : Shape := ⟨2, ![16384, 1024]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4608x8x128 : Shape := ⟨4, ![4, 4608, 8, 128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S512x128 : Shape := ⟨2, ![512, 128]⟩
abbrev S4608x128 : Shape := ⟨2, ![4608, 128]⟩
abbrev S1x4608x1x128 : Shape := ⟨4, ![1, 4608, 1, 128]⟩
abbrev S4x4608x8x256 : Shape := ⟨4, ![4, 4608, 8, 256]⟩
abbrev S18432x2048 : Shape := ⟨2, ![18432, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S128, .f32⟩
  | .hbm, ⟨2, _⟩ => ⟨S16384x1024, .bf16⟩
  | .hbm, ⟨3, _⟩ => ⟨S4x4096x8x128, .bf16⟩
  | .hbm, ⟨4, _⟩ => ⟨S4x4096x8x128, .f32⟩
  | .hbm, ⟨5, _⟩ => ⟨S4x4096x8x128, .f32⟩
  | .hbm, ⟨6, _⟩ => ⟨S_, .f32⟩
  | .hbm, ⟨7, _⟩ => ⟨S4x4096x8, .f32⟩
  | .hbm, ⟨8, _⟩ => ⟨S4x4096x8x1, .f32⟩
  | .hbm, ⟨9, _⟩ => ⟨S_, .f32⟩
  | .hbm, ⟨10, _⟩ => ⟨S4x4096x8x1, .f32⟩
  | .hbm, ⟨11, _⟩ => ⟨S4x4096x8x1, .f32⟩
  | .hbm, ⟨12, _⟩ => ⟨S_, .f32⟩
  | .hbm, ⟨13, _⟩ => ⟨S4x4096x8x1, .f32⟩
  | .hbm, ⟨14, _⟩ => ⟨S4x4096x8x1, .f32⟩
  | .hbm, ⟨15, _⟩ => ⟨S4x4096x8x1, .f32⟩
  | .hbm, ⟨16, _⟩ => ⟨S4x4096x8x128, .f32⟩
  | .hbm, ⟨17, _⟩ => ⟨S4x4096x8x128, .f32⟩
  | .hbm, ⟨18, _⟩ => ⟨S1x1x1x128, .f32⟩
  | .hbm, ⟨19, _⟩ => ⟨S4x4096x8x128, .f32⟩
  | .hbm, ⟨20, _⟩ => ⟨S4x4096x8x128, .f32⟩
  | .hbm, ⟨21, _⟩ => ⟨S_, .i32⟩
  | .hbm, ⟨22, _⟩ => ⟨S_, .f32⟩
  | .hbm, ⟨23, _⟩ => ⟨S4x4608x8x128, .f32⟩
  | .hbm, ⟨24, _⟩ => ⟨S4096, .i32⟩
  | .hbm, ⟨25, _⟩ => ⟨S4096x1, .i32⟩
  | .hbm, ⟨26, _⟩ => ⟨S_, .i32⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S4096x1, .i32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S128, .i32⟩
  | .hbm, ⟨45, _⟩ => ⟨S1x128, .i32⟩
  | .hbm, ⟨46, _⟩ => ⟨S4096x128, .i32⟩
  | .hbm, ⟨47, _⟩ => ⟨S4096x128, .i32⟩
  | .hbm, ⟨48, _⟩ => ⟨S4096x128, .i1⟩
  | .hbm, ⟨49, _⟩ => ⟨S_, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S_, .i32⟩
  | .hbm, ⟨55, _⟩ => ⟨S1x128, .i32⟩
  | .hbm, ⟨56, _⟩ => ⟨S1x128, .i1⟩
  | .hbm, ⟨57, _⟩ => ⟨S_, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S512x128, .f32⟩
  | .hbm, ⟨63, _⟩ => ⟨S4608x128, .f32⟩
  | .hbm, ⟨64, _⟩ => ⟨S1x4608x1x128, .f32⟩
  | .hbm, ⟨65, _⟩ => ⟨S4x4608x8x128, .f32⟩
  | .hbm, ⟨66, _⟩ => ⟨S4x4608x8x128, .f32⟩
  | .hbm, ⟨67, _⟩ => ⟨S4x4608x8x256, .f32⟩
  | .hbm, ⟨68, _⟩ => ⟨S4x4608x8x256, .bf16⟩
  | .hbm, ⟨69, _⟩ => ⟨S18432x2048, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_cst_4 : Ref sig .tc := ⟨.hbm, 50, rfl⟩
abbrev main_call2_v0 : Ref sig .tc := ⟨.hbm, 51, rfl⟩
abbrev main_call2_v1 : Ref sig .tc := ⟨.hbm, 52, rfl⟩
abbrev main_v25 : Ref sig .tc := ⟨.hbm, 53, rfl⟩
abbrev main_c_5 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_cst_7 : Ref sig .tc := ⟨.hbm, 58, rfl⟩
abbrev main_call3_v0 : Ref sig .tc := ⟨.hbm, 59, rfl⟩
abbrev main_call3_v1 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== NormKernel.lean ====
abbrev S16384x2048 : Shape := ⟨2, ![16384, 2048]⟩
abbrev S2048 : Shape := ⟨1, ![2048]⟩
abbrev S1x2048 : Shape := ⟨2, ![1, 2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S2048x16384, .f32⟩
  | .hbm, ⟨19, _⟩ => ⟨S2048x16384, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MlaKernel.lean ====
abbrev S16384x11264 : Shape := ⟨2, ![16384, 11264]⟩
abbrev S2048x16384 : Shape := ⟨2, ![2048, 16384]⟩
abbrev S2048x128 : Shape := ⟨2, ![2048, 128]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S192 : Shape := ⟨1, ![192]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S128 : Shape := ⟨1, ![128]⟩
abbrev S1x128 : Shape := ⟨2, ![1, 128]⟩
abbrev S128x1 : Shape := ⟨2, ![128, 1]⟩
abbrev S4096x128 : Shape := ⟨2, ![4096, 128]⟩
abbrev S4096x384 : Shape := ⟨2, ![4096, 384]⟩
abbrev S512x8x192 : Shape := ⟨3, ![512, 8, 192]⟩
abbrev S512x8x256 : Shape := ⟨3, ![512, 8, 256]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1024x256 : Shape := ⟨2, ![1024, 256]⟩
abbrev S64 : Shape := ⟨1, ![64]⟩
abbrev S1x64 : Shape := ⟨2, ![1, 64]⟩
abbrev S1x256 : Shape := ⟨2, ![1, 256]⟩
abbrev S1x512 : Shape := ⟨2, ![1, 512]⟩
abbrev S2048x512 : Shape := ⟨2, ![2048, 512]⟩
abbrev S256x1 : Shape := ⟨2, ![256, 1]⟩
abbrev S384x4096 : Shape := ⟨2, ![384, 4096]⟩
abbrev S4x8x8x256x512 : Shape := ⟨5, ![4, 8, 8, 256, 512]⟩
abbrev S16384x2048 : Shape := ⟨2, ![16384, 2048]⟩
abbrev S4x8x8x128x512 : Shape := ⟨5, ![4, 8, 8, 128, 512]⟩
abbrev S512x512 : Shape := ⟨2, ![512, 512]⟩
abbrev S512x256 : Shape := ⟨2, ![512, 256]⟩
abbrev S512x384 : Shape := ⟨2, ![512, 384]⟩
abbrev S384x512 : Shape := ⟨2, ![384, 512]⟩
abbrev S1x8x1x256x512 : Shape := ⟨5, ![1, 8, 1, 256, 512]⟩
abbrev S1x8x1x128x512 : Shape := ⟨5, ![1, 8, 1, 128, 512]⟩
abbrev S512x128 : Shape := ⟨2, ![512, 128]⟩
abbrev S512x1 : Shape := ⟨2, ![512, 1]⟩
abbrev S256x512 : Shape := ⟨2, ![256, 512]⟩
abbrev S1024x512 : Shape := ⟨2, ![1024, 512]⟩
abbrev S512x1024 : Shape := ⟨2, ![512, 1024]⟩
abbrev S128x512 : Shape := ⟨2, ![128, 512]⟩
abbrev S96x512 : Shape := ⟨2, ![96, 512]⟩
abbrev S32x512 : Shape := ⟨2, ![32, 512]⟩
abbrev S1x1x1x128x512 : Shape := ⟨5, ![1, 1, 1, 128, 512]⟩

abbrev nBuf : Space → Nat
  | .hbm => 173
  | .vmem => 24
  | .smem => 0
  | _ => 0

abbrev hbmTy0_0 (i : Nat) : BufTy := match i % 128 with
  | 0 => ⟨S16384x11264, .bf16⟩
  | 1 => ⟨S2048x16384, .bf16⟩
  | 2 => ⟨S2048x128, .bf16⟩
  | 3 => ⟨S512, .f32⟩
  | 4 => ⟨S256, .f32⟩
  | 5 => ⟨S512x1536, .f32⟩
  | 6 => ⟨S256x2048, .f32⟩
  | 7 => ⟨S192, .f32⟩
  | 8 => ⟨S192, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S128, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i1⟩
  | 48 => ⟨S_, .i32⟩
  | 49 => ⟨S_, .i1⟩
  | 50 => ⟨S128, .i1⟩
  | 51 => ⟨S128, .i1⟩
  | 52 => ⟨S128, .i1⟩
  | 53 => ⟨S128, .i32⟩
  | 54 => ⟨S128, .i32⟩
  | 55 => ⟨S128, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i1⟩
  | 70 => ⟨S_, .i32⟩
  | 71 => ⟨S_, .i1⟩
  | 72 => ⟨S128, .i1⟩
  | 73 => ⟨S128, .i1⟩
  | 74 => ⟨S128, .i1⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S1x128, .i1⟩
  | 82 => ⟨S_, .i32⟩
  | 83 => ⟨S128, .i32⟩
  | 84 => ⟨S128, .i1⟩
  | 85 => ⟨S_, .i32⟩
  | 86 => ⟨S128, .i32⟩
  | 87 => ⟨S128, .i1⟩
  | 88 => ⟨S128, .i1⟩
  | 89 => ⟨S1x128, .i1⟩
  | 90 => ⟨S1x128, .i1⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S4096x128, .f32⟩
  | 100 => ⟨S_, .f32⟩
  | 101 => ⟨S_, .f32⟩
  | 102 => ⟨S4096x128, .i1⟩
  | 103 => ⟨S4096x128, .f32⟩
  | 104 => ⟨S4096x128, .f32⟩
  | 105 => ⟨S_, .i32⟩
  | 106 => ⟨S128, .i32⟩
  | 107 => ⟨S128, .i1⟩
  | 108 => ⟨S_, .i32⟩
  | 109 => ⟨S128, .i32⟩
  | 110 => ⟨S128, .i32⟩
  | 111 => ⟨S128, .i32⟩
  | 112 => ⟨S128x1, .i32⟩
  | 113 => ⟨S4096x128, .f32⟩
  | 114 => ⟨S4096x128, .f32⟩
  | 115 => ⟨S_, .f32⟩
  | 116 => ⟨S_, .f32⟩
  | 117 => ⟨S4096x128, .i1⟩
  | 118 => ⟨S4096x128, .f32⟩
  | 119 => ⟨S4096x128, .f32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S16384x11264, .bf16⟩

abbrev hbmTy0_1 (i : Nat) : BufTy := match i % 128 with
  | 0 => ⟨S4096x128, .f32⟩
  | 1 => ⟨S_, .f32⟩
  | 2 => ⟨S_, .f32⟩
  | 3 => ⟨S4096x128, .i1⟩
  | 4 => ⟨S4096x128, .f32⟩
  | 5 => ⟨S4096x128, .f32⟩
  | 6 => ⟨S4096x384, .f32⟩
  | 7 => ⟨S512x8x192, .f32⟩
  | 8 => ⟨S_, .i32⟩
  | 9 => ⟨S_, .f32⟩
  | 10 => ⟨S512x8x256, .f32⟩
  | 11 => ⟨S512x2048, .f32⟩
  | 12 => ⟨S256x8x256, .f32⟩
  | 13 => ⟨S256x8x128, .f32⟩
  | 14 => ⟨S256x1024, .f32⟩
  | 15 => ⟨S256x1024, .bf16⟩
  | 16 => ⟨S256x8x128, .f32⟩
  | 17 => ⟨S256x1024, .f32⟩
  | 18 => ⟨S1024x256, .f32⟩
  | 19 => ⟨S1024x256, .bf16⟩
  | 20 => ⟨S128, .f32⟩
  | 21 => ⟨S1x128, .f32⟩
  | 22 => ⟨S64, .f32⟩
  | 23 => ⟨S1x64, .f32⟩
  | 24 => ⟨S_, .i32⟩
  | 25 => ⟨S_, .f32⟩
  | 26 => ⟨S1x128, .f32⟩
  | 27 => ⟨S1x256, .f32⟩
  | 28 => ⟨S128, .f32⟩
  | 29 => ⟨S1x128, .f32⟩
  | 30 => ⟨S64, .f32⟩
  | 31 => ⟨S1x64, .f32⟩
  | 32 => ⟨S_, .i32⟩
  | 33 => ⟨S_, .f32⟩
  | 34 => ⟨S1x128, .f32⟩
  | 35 => ⟨S1x256, .f32⟩
  | 36 => ⟨S1x512, .f32⟩
  | 37 => ⟨S1x256, .f32⟩
  | 38 => ⟨S2048x512, .f32⟩
  | 39 => ⟨S2048x512, .bf16⟩
  | 40 => ⟨S256x1, .f32⟩
  | 41 => ⟨S384x4096, .f32⟩
  | 42 => ⟨S4x8x8x256x512, .bf16⟩
  | 43 => ⟨S16384x2048, .bf16⟩
  | 44 => ⟨S4x8x8x128x512, .bf16⟩
  | _ => ⟨S16384x11264, .bf16⟩

abbrev hbmTy (i : Nat) : BufTy := match i / 128 with
  | 0 => hbmTy0_0 i
  | 1 => hbmTy0_1 i
  | _ => ⟨S16384x11264, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S1x512, .f32⟩
  | .local _ .vmem, ⟨8, _⟩ => ⟨S1x256, .f32⟩
  | .local _ .vmem, ⟨9, _⟩ => ⟨S2048x512, .bf16⟩
  | .local _ .vmem, ⟨10, _⟩ => ⟨S256x1024, .bf16⟩
  | .local _ .vmem, ⟨11, _⟩ => ⟨S1024x256, .bf16⟩
  | .local _ .vmem, ⟨12, _⟩ => ⟨S256x1, .f32⟩
  | .local _ .vmem, ⟨13, _⟩ => ⟨S1x256, .f32⟩
  | .local _ .vmem, ⟨14, _⟩ => ⟨S512x384, .f32⟩
  | .local _ .vmem, ⟨15, _⟩ => ⟨S512x384, .f32⟩
  | .local _ .vmem, ⟨16, _⟩ => ⟨S384x512, .f32⟩
  | .local _ .vmem, ⟨17, _⟩ => ⟨S384x512, .f32⟩
  | .local _ .vmem, ⟨18, _⟩ => ⟨S1x8x1x256x512, .bf16⟩
  | .local _ .vmem, ⟨19, _⟩ => ⟨S1x8x1x256x512, .bf16⟩
  | .local _ .vmem, ⟨20, _⟩ => ⟨S512x2048, .bf16⟩
  | .local _ .vmem, ⟨21, _⟩ => ⟨S512x2048, .bf16⟩
  | .local _ .vmem, ⟨22, _⟩ => ⟨S1x8x1x128x512, .bf16⟩
  | .local _ .vmem, ⟨23, _⟩ => ⟨S1x8x1x128x512, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v20 : Ref sig .tc := ⟨.hbm, 55, rfl⟩
abbrev main_c_4 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v21 : Ref sig .tc := ⟨.hbm, 77, rfl⟩
abbrev main_c_5 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_c_6 : Ref sig .tc := ⟨.hbm, 82, rfl⟩
abbrev main_v25 : Ref sig .tc := ⟨.hbm, 83, rfl⟩
abbrev main_v26 : Ref sig .tc := ⟨.hbm, 84, rfl⟩
abbrev main_c_7 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_8 : Ref sig .tc := ⟨.hbm, 91, rfl⟩
abbrev main_v32 : Ref sig .tc := ⟨.hbm, 92, rfl⟩
abbrev main_v33 : Ref sig .tc := ⟨.hbm, 93, rfl⟩
abbrev main_c_9 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_10 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v39 : Ref sig .tc := ⟨.hbm, 104, rfl⟩
abbrev main_c_11 : Ref sig .tc := ⟨.hbm, 105, rfl⟩
abbrev main_v40 : Ref sig .tc := ⟨.hbm, 106, rfl⟩
abbrev main_v41 : Ref sig .tc := ⟨.hbm, 107, rfl⟩
abbrev main_c_12 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_13 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v48 : Ref sig .tc := ⟨.hbm, 119, rfl⟩
abbrev main_c_14 : Ref sig .tc := ⟨.hbm, 120, rfl⟩
abbrev main_v49 : Ref sig .tc := ⟨.hbm, 121, rfl⟩
abbrev main_v50 : Ref sig .tc := ⟨.hbm, 122, rfl⟩
abbrev main_c_15 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_16 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_c_17 : Ref sig .tc := ⟨.hbm, 136, rfl⟩
abbrev main_call5_v0 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_c_18 : Ref sig .tc := ⟨.hbm, 152, rfl⟩
abbrev main_call6_v0 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_c_19 : Ref sig .tc := ⟨.hbm, 160, rfl⟩
abbrev main_call7_v0 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87_0 : Ref sig .tc := ⟨.hbm, 170, rfl⟩
abbrev main_v87_1 : Ref sig .tc := ⟨.hbm, 171, rfl⟩
abbrev main_v87_2 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaKernelIdeal.lean ====
variable {F : FTy → Type} [FloatOps F] [Named F]
def κ : String → Option EReal := fun
  | "mask" => some ⊥
  | "qscale" => some ((((Real.sqrt 192) * (Real.log 2))⁻¹ : ℝ) : EReal)
  | _ => none
-- ==== MlaReferenceIdeal.lean ====
abbrev S16384x11264 : Shape := ⟨2, ![16384, 11264]⟩
abbrev S2048x16384 : Shape := ⟨2, ![2048, 16384]⟩
abbrev S2048x128 : Shape := ⟨2, ![2048, 128]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S192 : Shape := ⟨1, ![192]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S16384x512 : Shape := ⟨2, ![16384, 512]⟩
abbrev S16384 : Shape := ⟨1, ![16384]⟩
abbrev S16384x1 : Shape := ⟨2, ![16384, 1]⟩
abbrev S1x512 : Shape := ⟨2, ![1, 512]⟩
abbrev S16384x256 : Shape := ⟨2, ![16384, 256]⟩
abbrev S1x256 : Shape := ⟨2, ![1, 256]⟩
abbrev S16384x1536 : Shape := ⟨2, ![16384, 1536]⟩
abbrev S4x4096x8x192 : Shape := ⟨4, ![4, 4096, 8, 192]⟩
abbrev S16384x2048 : Shape := ⟨2, ![16384, 2048]⟩
abbrev S4x4096x8x256 : Shape := ⟨4, ![4, 4096, 8, 256]⟩
abbrev S2048x64 : Shape := ⟨2, ![2048, 64]⟩
abbrev S16384x64 : Shape := ⟨2, ![16384, 64]⟩
abbrev S4x4096x1x64 : Shape := ⟨4, ![4, 4096, 1, 64]⟩
abbrev S64 : Shape := ⟨1, ![64]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S4x4096x8x128 : Shape := ⟨4, ![4, 4096, 8, 128]⟩
abbrev S128 : Shape := ⟨1, ![128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S1x1x1x64 : Shape := ⟨4, ![1, 1, 1, 64]⟩
abbrev S4x4096x8x32 : Shape := ⟨4, ![4, 4096, 8, 32]⟩
abbrev S4x8x512x8x256 : Shape := ⟨5, ![4, 8, 512, 8, 256]⟩
abbrev S4x8x8x256x512 : Shape := ⟨5, ![4, 8, 8, 256, 512]⟩
abbrev S4x4096x1 : Shape := ⟨3, ![4, 4096, 1]⟩
abbrev S4x4096x1x1 : Shape := ⟨4, ![4, 4096, 1, 1]⟩
abbrev S4x4096x1x32 : Shape := ⟨4, ![4, 4096, 1, 32]⟩
abbrev S4x4096x1x128 : Shape := ⟨4, ![4, 4096, 1, 128]⟩
abbrev S4x8x512x8x128 : Shape := ⟨5, ![4, 8, 512, 8, 128]⟩
abbrev S4x8x8x128x512 : Shape := ⟨5, ![4, 8, 8, 128, 512]⟩

abbrev nBuf : Space → Nat
  | .hbm => 248
  | .vmem => 0
  | .smem => 0
  | _ => 0

abbrev hbmTy0_0 (i : Nat) : BufTy := match i % 128 with
  | 0 => ⟨S16384x11264, .bf16⟩
  | 1 => ⟨S2048x16384, .bf16⟩
  | 2 => ⟨S2048x128, .bf16⟩
  | 3 => ⟨S512, .f32⟩
  | 4 => ⟨S256, .f32⟩
  | 5 => ⟨S512x1536, .f32⟩
  | 6 => ⟨S256x2048, .f32⟩
  | 7 => ⟨S192, .f32⟩
  | 8 => ⟨S192, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S1x4096x1x32, .f32⟩
  | 33 => ⟨S4096x32, .f32⟩
  | 34 => ⟨S1x4096x1x32, .f32⟩
  | 35 => ⟨S16384x512, .bf16⟩
  | 36 => ⟨S16384x512, .f32⟩
  | 37 => ⟨S16384x512, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S_, .f32⟩
  | 45 => ⟨S16384x1, .f32⟩
  | 46 => ⟨S16384x1, .f32⟩
  | 47 => ⟨S16384x1, .f32⟩
  | 48 => ⟨S16384x512, .f32⟩
  | 49 => ⟨S16384x512, .f32⟩
  | 50 => ⟨S1x512, .f32⟩
  | 51 => ⟨S16384x512, .f32⟩
  | 52 => ⟨S16384x512, .f32⟩
  | 53 => ⟨S16384x512, .bf16⟩
  | 54 => ⟨S16384x256, .bf16⟩
  | 55 => ⟨S16384x256, .f32⟩
  | 56 => ⟨S16384x256, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x256, .f32⟩
  | 68 => ⟨S16384x256, .f32⟩
  | 69 => ⟨S1x256, .f32⟩
  | 70 => ⟨S16384x256, .f32⟩
  | 71 => ⟨S16384x256, .f32⟩
  | 72 => ⟨S16384x256, .bf16⟩
  | 73 => ⟨S512x1536, .bf16⟩
  | 74 => ⟨S16384x1536, .f32⟩
  | 75 => ⟨S4x4096x8x192, .f32⟩
  | 76 => ⟨S256x2048, .bf16⟩
  | 77 => ⟨S16384x2048, .f32⟩
  | 78 => ⟨S4x4096x8x256, .f32⟩
  | 79 => ⟨S16384x2048, .bf16⟩
  | 80 => ⟨S2048x64, .bf16⟩
  | 81 => ⟨S16384x64, .f32⟩
  | 82 => ⟨S4x4096x1x64, .f32⟩
  | 83 => ⟨S4096, .i32⟩
  | 84 => ⟨S4096x1, .i32⟩
  | 85 => ⟨S_, .i32⟩
  | 86 => ⟨S_, .i32⟩
  | 87 => ⟨S4096x1, .i32⟩
  | 88 => ⟨S4096x1, .i32⟩
  | 89 => ⟨S4096x1, .i32⟩
  | 90 => ⟨S_, .i32⟩
  | 91 => ⟨S4096x1, .i32⟩
  | 92 => ⟨S4096x1, .i1⟩
  | 93 => ⟨S4096x1, .i32⟩
  | 94 => ⟨S4096x1, .i32⟩
  | 95 => ⟨S_, .i32⟩
  | 96 => ⟨S4096x1, .i32⟩
  | 97 => ⟨S4096x1, .i1⟩
  | 98 => ⟨S4096x1, .i1⟩
  | 99 => ⟨S_, .i32⟩
  | 100 => ⟨S4096x1, .i32⟩
  | 101 => ⟨S4096x1, .i32⟩
  | 102 => ⟨S4096x1, .i32⟩
  | 103 => ⟨S64, .i32⟩
  | 104 => ⟨S1x64, .i32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S4096x64, .i32⟩
  | 113 => ⟨S4096x64, .i32⟩
  | 114 => ⟨S4096x64, .i1⟩
  | 115 => ⟨S_, .f32⟩
  | 116 => ⟨S_, .f32⟩
  | 117 => ⟨S4096x64, .f32⟩
  | 118 => ⟨S4096x64, .f32⟩
  | 119 => ⟨S4096x64, .f32⟩
  | 120 => ⟨S1x4096x1x64, .f32⟩
  | 121 => ⟨S4x4096x8x64, .f32⟩
  | 122 => ⟨S4x4096x8x128, .f32⟩
  | 123 => ⟨S128, .f32⟩
  | 124 => ⟨S4x4096x8x128, .f32⟩
  | 125 => ⟨S_, .f32⟩
  | 126 => ⟨S4x4096x8, .f32⟩
  | 127 => ⟨S4x4096x8x1, .f32⟩
  | _ => ⟨S16384x11264, .bf16⟩

abbrev hbmTy0_1 (i : Nat) : BufTy := match i % 128 with
  | 0 => ⟨S_, .f32⟩
  | 1 => ⟨S4x4096x8x1, .f32⟩
  | 2 => ⟨S4x4096x8x1, .f32⟩
  | 3 => ⟨S_, .f32⟩
  | 4 => ⟨S4x4096x8x1, .f32⟩
  | 5 => ⟨S4x4096x8x1, .f32⟩
  | 6 => ⟨S4x4096x8x1, .f32⟩
  | 7 => ⟨S4x4096x8x128, .f32⟩
  | 8 => ⟨S4x4096x8x128, .f32⟩
  | 9 => ⟨S1x1x1x128, .f32⟩
  | 10 => ⟨S4x4096x8x128, .f32⟩
  | 11 => ⟨S4x4096x8x128, .f32⟩
  | 12 => ⟨S4x4096x8x128, .f32⟩
  | 13 => ⟨S4x4096x8x128, .f32⟩
  | 14 => ⟨S4x4096x8x64, .f32⟩
  | 15 => ⟨S64, .f32⟩
  | 16 => ⟨S4x4096x8x64, .f32⟩
  | 17 => ⟨S_, .f32⟩
  | 18 => ⟨S4x4096x8, .f32⟩
  | 19 => ⟨S4x4096x8x1, .f32⟩
  | 20 => ⟨S_, .f32⟩
  | 21 => ⟨S4x4096x8x1, .f32⟩
  | 22 => ⟨S4x4096x8x1, .f32⟩
  | 23 => ⟨S_, .f32⟩
  | 24 => ⟨S4x4096x8x1, .f32⟩
  | 25 => ⟨S4x4096x8x1, .f32⟩
  | 26 => ⟨S4x4096x8x1, .f32⟩
  | 27 => ⟨S4x4096x8x64, .f32⟩
  | 28 => ⟨S4x4096x8x64, .f32⟩
  | 29 => ⟨S1x1x1x64, .f32⟩
  | 30 => ⟨S4x4096x8x64, .f32⟩
  | 31 => ⟨S4x4096x8x64, .f32⟩
  | 32 => ⟨S4x4096x8x32, .f32⟩
  | 33 => ⟨S4x4096x8x32, .f32⟩
  | 34 => ⟨S4x4096x8x32, .f32⟩
  | 35 => ⟨S4x4096x8x32, .f32⟩
  | 36 => ⟨S4x4096x8x32, .f32⟩
  | 37 => ⟨S4x4096x8x32, .f32⟩
  | 38 => ⟨S4x4096x8x32, .f32⟩
  | 39 => ⟨S4x4096x8x32, .f32⟩
  | 40 => ⟨S4x4096x8x32, .f32⟩
  | 41 => ⟨S4x4096x8x32, .f32⟩
  | 42 => ⟨S4x4096x8x32, .f32⟩
  | 43 => ⟨S4x4096x8x32, .f32⟩
  | 44 => ⟨S4x4096x8x64, .f32⟩
  | 45 => ⟨S4x4096x8x64, .f32⟩
  | 46 => ⟨S4x4096x8x64, .f32⟩
  | 47 => ⟨S4x4096x8x64, .f32⟩
  | 48 => ⟨S4x4096x8x256, .f32⟩
  | 49 => ⟨S4x4096x8x256, .bf16⟩
  | 50 => ⟨S4x8x512x8x256, .bf16⟩
  | 51 => ⟨S4x8x8x256x512, .bf16⟩
  | 52 => ⟨S4096x64, .i32⟩
  | 53 => ⟨S4096x64, .i32⟩
  | 54 => ⟨S4096x64, .i1⟩
  | 55 => ⟨S_, .f32⟩
  | 56 => ⟨S_, .f32⟩
  | 57 => ⟨S4096x64, .f32⟩
  | 58 => ⟨S4096x64, .f32⟩
  | 59 => ⟨S4096x64, .f32⟩
  | 60 => ⟨S1x4096x1x64, .f32⟩
  | 61 => ⟨S4x4096x1x64, .f32⟩
  | 62 => ⟨S64, .f32⟩
  | 63 => ⟨S4x4096x1x64, .f32⟩
  | 64 => ⟨S_, .f32⟩
  | 65 => ⟨S4x4096x1, .f32⟩
  | 66 => ⟨S4x4096x1x1, .f32⟩
  | 67 => ⟨S_, .f32⟩
  | 68 => ⟨S4x4096x1x1, .f32⟩
  | 69 => ⟨S4x4096x1x1, .f32⟩
  | 70 => ⟨S_, .f32⟩
  | 71 => ⟨S4x4096x1x1, .f32⟩
  | 72 => ⟨S4x4096x1x1, .f32⟩
  | 73 => ⟨S4x4096x1x1, .f32⟩
  | 74 => ⟨S4x4096x1x64, .f32⟩
  | 75 => ⟨S4x4096x1x64, .f32⟩
  | 76 => ⟨S1x1x1x64, .f32⟩
  | 77 => ⟨S4x4096x1x64, .f32⟩
  | 78 => ⟨S4x4096x1x64, .f32⟩
  | 79 => ⟨S4x4096x1x32, .f32⟩
  | 80 => ⟨S4x4096x1x32, .f32⟩
  | 81 => ⟨S4x4096x1x32, .f32⟩
  | 82 => ⟨S4x4096x1x32, .f32⟩
  | 83 => ⟨S4x4096x1x32, .f32⟩
  | 84 => ⟨S4x4096x1x32, .f32⟩
  | 85 => ⟨S4x4096x1x32, .f32⟩
  | 86 => ⟨S4x4096x1x32, .f32⟩
  | 87 => ⟨S4x4096x1x32, .f32⟩
  | 88 => ⟨S4x4096x1x32, .f32⟩
  | 89 => ⟨S4x4096x1x32, .f32⟩
  | 90 => ⟨S4x4096x1x32, .f32⟩
  | 91 => ⟨S4x4096x1x64, .f32⟩
  | 92 => ⟨S4x4096x1x64, .f32⟩
  | 93 => ⟨S4x4096x1x128, .f32⟩
  | 94 => ⟨S4x4096x8x128, .f32⟩
  | 95 => ⟨S128, .f32⟩
  | 96 => ⟨S4x4096x8x128, .f32⟩
  | 97 => ⟨S_, .f32⟩
  | 98 => ⟨S4x4096x8, .f32⟩
  | 99 => ⟨S4x4096x8x1, .f32⟩
  | 100 => ⟨S_, .f32⟩
  | 101 => ⟨S4x4096x8x1, .f32⟩
  | 102 => ⟨S4x4096x8x1, .f32⟩
  | 103 => ⟨S_, .f32⟩
  | 104 => ⟨S4x4096x8x1, .f32⟩
  | 105 => ⟨S4x4096x8x1, .f32⟩
  | 106 => ⟨S4x4096x8x1, .f32⟩
  | 107 => ⟨S4x4096x8x128, .f32⟩
  | 108 => ⟨S4x4096x8x128, .f32⟩
  | 109 => ⟨S1x1x1x128, .f32⟩
  | 110 => ⟨S4x4096x8x128, .f32⟩
  | 111 => ⟨S4x4096x8x128, .f32⟩
  | 112 => ⟨S4x4096x8x128, .f32⟩
  | 113 => ⟨S4x4096x8x256, .f32⟩
  | 114 => ⟨S4x4096x8x256, .bf16⟩
  | 115 => ⟨S16384x2048, .bf16⟩
  | 116 => ⟨S4x4096x8x128, .f32⟩
  | 117 => ⟨S4x8x512x8x128, .f32⟩
  | 118 => ⟨S4x8x8x128x512, .f32⟩
  | 119 => ⟨S4x8x8x128x512, .bf16⟩
  | _ => ⟨S16384x11264, .bf16⟩

abbrev hbmTy (i : Nat) : BufTy := match i / 128 with
  | 0 => hbmTy0_0 i
  | 1 => hbmTy0_1 i
  | _ => ⟨S16384x11264, .bf16⟩

abbrev bufTy : (tb : Table) → Fin (tcTables nBuf tb) → BufTy
  | .hbm, ⟨i, _⟩ => hbmTy i
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_c : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_c_0 : Ref sig .tc := ⟨.hbm, 99, rfl⟩
abbrev main_call0_v12 : Ref sig .tc := ⟨.hbm, 100, rfl⟩
abbrev main_call0_v13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_10 : Ref sig .tc := ⟨.hbm, 105, rfl⟩
abbrev main_v68 : Ref sig .tc := ⟨.hbm, 106, rfl⟩
abbrev main_cst_11 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_13 : Ref sig .tc := ⟨.hbm, 115, rfl⟩
abbrev main_cst_14 : Ref sig .tc := ⟨.hbm, 116, rfl⟩
abbrev main_call1_v0 : Ref sig .tc := ⟨.hbm, 117, rfl⟩
abbrev main_call1_v1 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_15 : Ref sig .tc := ⟨.hbm, 125, rfl⟩
abbrev main_v81 : Ref sig .tc := ⟨.hbm, 126, rfl⟩
abbrev main_v82 : Ref sig .tc := ⟨.hbm, 127, rfl⟩
abbrev main_cst_16 : Ref sig .tc := ⟨.hbm, 128, rfl⟩
abbrev main_v83 : Ref sig .tc := ⟨.hbm, 129, rfl⟩
abbrev main_v84 : Ref sig .tc := ⟨.hbm, 130, rfl⟩
abbrev main_cst_17 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_cst_19 : Ref sig .tc := ⟨.hbm, 148, rfl⟩
abbrev main_v100 : Ref sig .tc := ⟨.hbm, 149, rfl⟩
abbrev main_v101 : Ref sig .tc := ⟨.hbm, 150, rfl⟩
abbrev main_cst_20 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_21 : Ref sig .tc := ⟨.hbm, 183, rfl⟩
abbrev main_cst_22 : Ref sig .tc := ⟨.hbm, 184, rfl⟩
abbrev main_call2_v0 : Ref sig .tc := ⟨.hbm, 185, rfl⟩
abbrev main_call2_v1 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_23 : Ref sig .tc := ⟨.hbm, 192, rfl⟩
abbrev main_v138 : Ref sig .tc := ⟨.hbm, 193, rfl⟩
abbrev main_v139 : Ref sig .tc := ⟨.hbm, 194, rfl⟩
abbrev main_cst_24 : Ref sig .tc := ⟨.hbm, 195, rfl⟩
abbrev main_v140 : Ref sig .tc := ⟨.hbm, 196, rfl⟩
abbrev main_v141 : Ref sig .tc := ⟨.hbm, 197, rfl⟩
abbrev main_cst_25 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_26 : Ref sig .tc := ⟨.hbm, 225, rfl⟩
abbrev main_v168 : Ref sig .tc := ⟨.hbm, 226, rfl⟩
abbrev main_v169 : Ref sig .tc := ⟨.hbm, 227, rfl⟩
abbrev main_cst_27 : Ref sig .tc := ⟨.hbm, 228, rfl⟩
abbrev main_v170 : Ref sig .tc := ⟨.hbm, 229, rfl⟩
abbrev main_v171 : Ref sig .tc := ⟨.hbm, 230, rfl⟩
abbrev main_cst_28 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩

abbrev nD : Nat := 1
abbrev τ : Topo := Topo.v7x

variable {F : FTy → Type} [FloatOps F]
-- ==== SortKernel.lean ====
abbrev S2x2048x16192 : Shape := ⟨3, ![2, 2048, 16192]⟩
abbrev S2x16192x2048 : Shape := ⟨3, ![2, 16192, 2048]⟩
abbrev S2048x11264 : Shape := ⟨2, ![2048, 11264]⟩
abbrev S3072x2048 : Shape := ⟨2, ![3072, 2048]⟩
abbrev S2048x2048 : Shape := ⟨2, ![2048, 2048]⟩
abbrev S2048x128 : Shape := ⟨2, ![2048, 128]⟩
abbrev S1x16192x128 : Shape := ⟨3, ![1, 16192, 128]⟩
abbrev S128x11264 : Shape := ⟨2, ![128, 11264]⟩
abbrev S3072x128 : Shape := ⟨2, ![3072, 128]⟩
abbrev S128x128 : Shape := ⟨2, ![128, 128]⟩
abbrev S1x1024x128 : Shape := ⟨3, ![1, 1024, 128]⟩
abbrev S1024x128 : Shape := ⟨2, ![1024, 128]⟩
abbrev S128x1024 : Shape := ⟨2, ![128, 1024]⟩
abbrev S1x768x128 : Shape := ⟨3, ![1, 768, 128]⟩
abbrev S768x128 : Shape := ⟨2, ![768, 128]⟩
abbrev S128x768 : Shape := ⟨2, ![128, 768]⟩
abbrev S128x256 : Shape := ⟨2, ![128, 256]⟩
abbrev S1x64x128 : Shape := ⟨3, ![1, 64, 128]⟩
abbrev S64x128 : Shape := ⟨2, ![64, 128]⟩
abbrev S128x64 : Shape := ⟨2, ![128, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x16192, .f32⟩
  | .hbm, ⟨1, _⟩ => ⟨S2x16192x2048, .f32⟩
  | .hbm, ⟨2, _⟩ => ⟨S2048x11264, .bf16⟩
  | .hbm, ⟨3, _⟩ => ⟨S3072x2048, .bf16⟩
  | .hbm, ⟨4, _⟩ => ⟨S2048x2048, .bf16⟩
  | .hbm, ⟨5, _⟩ => ⟨S2048x128, .bf16⟩
  | .local _ .vmem, ⟨0, _⟩ => ⟨S1x16192x128, .f32⟩
  | .local _ .vmem, ⟨1, _⟩ => ⟨S1x16192x128, .f32⟩
  | .local _ .vmem, ⟨2, _⟩ => ⟨S128x11264, .bf16⟩
  | .local _ .vmem, ⟨3, _⟩ => ⟨S128x11264, .bf16⟩
  | .local _ .vmem, ⟨4, _⟩ => ⟨S3072x128, .bf16⟩
  | .local _ .vmem, ⟨5, _⟩ => ⟨S3072x128, .bf16⟩
  | .local _ .vmem, ⟨6, _⟩ => ⟨S2048x128, .bf16⟩
  | .local _ .vmem, ⟨7, _⟩ => ⟨S2048x128, .bf16⟩
  | .local _ .vmem, ⟨8, _⟩ => ⟨S128x128, .bf16⟩
  | .local _ .vmem, ⟨9, _⟩ => ⟨S128x128, .bf16⟩
  | _, _ => ⟨S2x2048x16192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SortReferenceIdeal.lean ====
abbrev S2x2048x16192 : Shape := ⟨3, ![2, 2048, 16192]⟩
abbrev S1x2048x16192 : Shape := ⟨3, ![1, 2048, 16192]⟩
abbrev S2048x16192 : Shape := ⟨2, ![2048, 16192]⟩
abbrev S2048x768 : Shape := ⟨2, ![2048, 768]⟩
abbrev S2048x64 : Shape := ⟨2, ![2048, 64]⟩
abbrev S2048x9216 : Shape := ⟨2, ![2048, 9216]⟩
abbrev S2048x6144 : Shape := ⟨2, ![2048, 6144]⟩
abbrev S2048x1024 : Shape := ⟨2, ![2048, 1024]⟩
abbrev S_ : Shape := ⟨0, ![]⟩
abbrev S2048x256 : Shape := ⟨2, ![2048, 256]⟩
abbrev S2048x11264 : Shape := ⟨2, ![2048, 11264]⟩
abbrev S2048x3072 : Shape := ⟨2, ![2048, 3072]⟩
abbrev S3072x2048 : Shape := ⟨2, ![3072, 2048]⟩
abbrev S2048x2048 : Shape := ⟨2, ![2048, 2048]⟩
abbrev S2048x128 : Shape := ⟨2, ![2048, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x16192, .f32⟩
  | .hbm, ⟨1, _⟩ => ⟨S1x2048x16192, .f32⟩
  | .hbm, ⟨2, _⟩ => ⟨S2048x16192, .f32⟩
  | .hbm, ⟨3, _⟩ => ⟨S2048x16192, .bf16⟩
  | .hbm, ⟨4, _⟩ => ⟨S2048x768, .bf16⟩
  | .hbm, ⟨5, _⟩ => ⟨S2048x64, .bf16⟩
  | .hbm, ⟨6, _⟩ => ⟨S2048x9216, .bf16⟩
  | .hbm, ⟨7, _⟩ => ⟨S2048x6144, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S_, .bf16⟩
  | .hbm, ⟨18, _⟩ => ⟨S2048x256, .bf16⟩
  | .hbm, ⟨19, _⟩ => ⟨S2048x11264, .bf16⟩
  | .hbm, ⟨20, _⟩ => ⟨S2048x3072, .bf16⟩
  | .hbm, ⟨21, _⟩ => ⟨S3072x2048, .bf16⟩
  | .hbm, ⟨22, _⟩ => ⟨S2048x2048, .bf16⟩
  | .hbm, ⟨23, _⟩ => ⟨S2048x2048, .bf16⟩
  | .hbm, ⟨24, _⟩ => ⟨S_, .bf16⟩
  | .hbm, ⟨25, _⟩ => ⟨S2048x64, .bf16⟩
  | .hbm, ⟨26, _⟩ => ⟨S2048x128, .bf16⟩
  | _, _ => ⟨S2x2048x16192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst_0 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Proof.BandTile.lean ====
module

public import proofs.«01_k».proof.Proof.Gen.KernelIdeal.Value
public import Idealize.ShloMosaic.Lib.Tactic
public import Idealize.ShloMosaic.Lib.Pipeline.ReadBack
public import Idealize.ShloMosaic.Lib.Pipeline.ValueKit.Tiles
public import Idealize.ShloMosaic.Lib.ValueIdx

/-! One query tile of the band attention, in one uniform vocabulary: the bias tile, the scores of a tile, their
    exponentials, the column sums, and the gated output. Every one of the sixteen tiles the body stores is this. -/

@[expose] public section

set_option maxRecDepth 16384

noncomputable section

namespace Cert.KernelIdeal.Band

open Cert.KernelIdeal Cert.KernelIdeal.Gen Idealize.ShloMosaic Idealize.ShloMosaic.TcCoe

variable {F : FTy → Type} [FloatOps F] [Named F]

/-- The relative-position bias of a tile, key row by query column, in units of `log2 e`. -/
def bias (x4 : Vec F S1x1x1024 .f32) : FVec F S768x256 .f32 :=
  transpose S768x256 [1, 0]
    (mulf (extractStridedSlice S256x768 ![0, 0]
        (dynamicRotate 1 0#32 (some (1, 0))
          (broadcastTo S256x1024 (shapeCast S1x1024 x4 shapeCasts_S1x1x1024_S1x1024) broadcasts_S1x1024_S256x1024)
          rotates_S256x1024_d1s1a0) slices_S256x1024_o0_0_S256x768)
      (broadcast S256x768 (Named.named κ "log2e" 0x3FB8AA3B#32))) transposes_S256x768_p1_0_S768x256

/-- The scores of a tile: the products of 768 key rows with 256 query columns, plus the bias. -/
def score (k : FVec F S768x256 .bf16) (q : FVec F S256x256 .bf16) (b : FVec F S768x256 .f32) : FVec F S768x256 .f32 :=
  addf (matmul dot_S768x256_S256x256_S768x256_1_0_0_1_n_n none k q (constant S768x256 .f32 0x00000000#32)) b

/-- The exponentials of the scores less their column's largest. -/
def expo (s : FVec F S768x256 .f32) : FVec F S768x256 .f32 :=
  exp2 (subf s (broadcastTo S768x256 (shapeCast S1x256
    (multiReduction .maximumf [0] S256 s 0xFF800000#32 reduces_S768x256_S256 (.inl rfl) rfl) shapeCasts_S256_S1x256)
    broadcasts_S1x256_S768x256))

/-- The column sums of the exponentials. -/
def colSum (s : FVec F S768x256 .f32) : FVec F S1x256 .f32 :=
  shapeCast S1x256 (multiReduction .add [0] S256 (expo s) 0x00000000#32 reduces_S768x256_S256 (.inl rfl) rfl) shapeCasts_S256_S1x256

/-- One of the three partial products of values and exponentials: the 256 rows from row `256 a`. -/
def part (v : FVec F S128x256 .bf16) (p : FVec F S256x256 .bf16) : FVec F S128x256 .f32 :=
  matmul dot_S128x256_S256x256_S128x256_1_0_0_1_n_n none v p (constant S128x256 .f32 0x00000000#32)

/-- The rows `o .. o + 256` of the exponentials, rounded. -/
def expoRows (s : FVec F S768x256 .f32) (o : Fin 2 → Nat) (h : ∀ a, o a + S256x256.size a ≤ S768x256.size a) : FVec F S256x256 .bf16 :=
  View.ld (Val := Elt F) (e' := .bf16) (truncf .bf16 (expo s) bitsLt_bf16_f32 : FVec F S768x256 .bf16) (Rect.unit (s := S768x256) o S256x256.size h)

/-- The gate `z / (1 + e^(-z))`. -/
def silu (z : FVec F S256x128 .bf16) : FVec F S256x128 .f32 :=
  mulf (extf .f32 z bitsLt_bf16_f32) (divf (broadcast S256x128 (Scalar.ofBits .f32 0x3F800000#32))
    (addf (broadcast S256x128 (Scalar.ofBits .f32 0x3F800000#32))
      (exp (subf (broadcast S256x128 (Scalar.ofBits .f32 0x00000000#32)) (extf .f32 z bitsLt_bf16_f32)))))

/-- The output of a tile: the weighted values over the column sum, turned to query rows, times the gate. -/
def out (s : FVec F S768x256 .f32) (v0 v1 v2 : FVec F S128x256 .bf16) (z : FVec F S256x128 .bf16) : FVec F S256x128 .bf16 :=
  truncf .bf16 (mulf (transpose S256x128 [1, 0]
    (mulf (addf (addf (part v0 (expoRows s ![0, 0] (by decide))) (part v1 (expoRows s ![256, 0] (by decide)))) (part v2 (expoRows s ![512, 0] (by decide))))
      (broadcastTo S128x256 (divf (broadcast S1x256 (Scalar.ofBits .f32 0x3F800000#32)) (colSum s)) broadcasts_S1x256_S128x256))
    transposes_S128x256_p1_0_S256x128) (silu z)) bitsLt_bf16_f32

/-- The value block `n` of a head, as a matrix of features by keys. -/
def vBlock (x2 : Vec F S1x1x18x128x256 .bf16) (n : Nat) (h : n < 18) : FVec F S128x256 .bf16 :=
  shapeCast S128x256 (View.ld x2 (Rect.unit (s := S1x1x18x128x256) ![0, 0, n, 0, 0] S1x1x1x128x256.size
    (by intro a; fin_cases a <;> simp [Shape.size] <;> omega))) shapeCasts_S1x1x1x128x256_S128x256

/-- The scores of query tile `n` of a head: key rows `256 n .. 256 n + 768`. -/
def tileScore (x0 : Vec F S1x1x16x256x256 .bf16) (x1 : Vec F S4608x256 .bf16) (x4 : Vec F S1x1x1024 .f32) (n : Nat) (h : n < 16) : FVec F S768x256 .f32 :=
  score (View.ld x1 (Rect.unit (s := S4608x256) ![256 * n, 0] S768x256.size (by intro a; fin_cases a <;> simp [Shape.size] <;> omega)))
    (shapeCast S256x256 (View.ld x0 (Rect.unit (s := S1x1x16x256x256) ![0, 0, n, 0, 0] S1x1x1x256x256.size
      (by intro a; fin_cases a <;> simp [Shape.size] <;> omega))) shapeCasts_S1x1x1x256x256_S256x256) (bias x4)

/-- The output of query tile `n` of a head, from the head's blocks. -/
def tile (x0 : Vec F S1x1x16x256x256 .bf16) (x1 : Vec F S4608x256 .bf16) (x2 : Vec F S1x1x18x128x256 .bf16) (x3 : Vec F S4096x128 .bf16)
    (x4 : Vec F S1x1x1024 .f32) (n : Nat) (h : n < 16) : FVec F S256x128 .bf16 :=
  out (tileScore x0 x1 x4 n h) (vBlock x2 n (by omega)) (vBlock x2 (n + 1) (by omega)) (vBlock x2 (n + 2) (by omega))
    (View.ld x3 (Rect.unit (s := S4096x128) ![256 * n, 0] S256x128.size (by intro a; fin_cases a <;> simp [Shape.size] <;> omega)))

end Cert.KernelIdeal.Band
-- ==== Proof.BandMath.lean ====
module

public import Idealize.ShloMosaic.PureOps.Ideal
public import Idealize.ShloMosaic.PureOps.Ideal.Laws

/-! A softmax over a few keys, taken two ways: over all the keys with the masked ones at minus infinity and the
    exponential in base `e`; and over a window of slots that holds every unmasked key once, the scores scaled by
    `1 / log 2`, the exponential in base two, and the division done once at the end. The two agree. -/

@[expose] public section

noncomputable section

namespace Cert.BandMath

open Idealize.ShloMosaic

/-- The exponential of minus infinity's pattern: the maximum starts at the bottom. -/
theorem fold_max_bot {n : Nat} (f : Fin n → EReal) :
    Finset.fold max (Ideal.ofBits .f32 0xFF800000#32) f Finset.univ = Finset.univ.sup f := by
  have h : Ideal.ofBits .f32 0xFF800000#32 = ⊥ := by simp [Ideal.ofBits, Ideal.ieee]
  rw [h]; rfl

/-- A finite nonnegative factor moves inside a sum of extended reals. -/
theorem sum_mul_coe {B : Type} (S : Finset B) (f : B → EReal) (c : ℝ) (hc : 0 ≤ c) :
    (∑ b ∈ S, f b) * (c : EReal) = ∑ b ∈ S, f b * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- The sum of real numbers read in the extended reals. -/
theorem coe_sum {B : Type} (S : Finset B) (f : B → ℝ) : ((∑ b ∈ S, f b : ℝ) : EReal) = ∑ b ∈ S, (f b : EReal) := by
  classical
  induction S using Finset.induction_on with
  | empty => simp
  | insert a S ha ih => rw [Finset.sum_insert ha, Finset.sum_insert ha, EReal.coe_add, ih]

section
variable {A B : Type} [Fintype A] [Fintype B] (V : A → Prop) [DecidablePred V] (σ : A → ℝ) (L : ℝ)
variable (s : B → EReal) (e : A → B)

/-- The masked score of a key. -/
def masked (a : A) : EReal := if V a then (σ a : EReal) else ⊥

/-- The greatest masked score is the score of some unmasked key. -/
theorem sup_masked (hV : ∃ a, V a) :
    ∃ a, V a ∧ (Finset.univ.sup (masked V σ) = (σ a : EReal)) ∧ ∀ a', V a' → σ a' ≤ σ a := by
  obtain ⟨a₀, h₀⟩ := hV
  obtain ⟨a, ha, hmax⟩ := (Finset.univ.filter V).exists_max_image σ ⟨a₀, by simp [h₀]⟩
  have hVa : V a := (Finset.mem_filter.mp ha).2
  have hle : ∀ a', V a' → σ a' ≤ σ a := fun a' h => hmax a' (by simp [h])
  refine ⟨a, hVa, le_antisymm (Finset.sup_le fun b _ => ?_) ?_, hle⟩
  · unfold masked
    split
    · exact_mod_cast hle b ‹_›
    · exact bot_le
  · have : masked V σ a = (σ a : EReal) := if_pos hVa
    rw [← this]
    exact Finset.le_sup (Finset.mem_univ a)

variable (hL : 0 < L)
variable (hs : ∀ a, V a → s (e a) = ((σ a * L : ℝ) : EReal))
variable (hb : ∀ b, (∀ a, V a → e a ≠ b) → s b = ⊥)
include hL hs hb

/-- The greatest score of the window is the greatest masked score, scaled. -/
theorem sup_window (a : A) (ha : V a) (hle : ∀ a', V a' → σ a' ≤ σ a) :
    Finset.univ.sup s = ((σ a * L : ℝ) : EReal) := by
  refine le_antisymm (Finset.sup_le fun b _ => ?_) ?_
  · by_cases h : ∃ a', V a' ∧ e a' = b
    · obtain ⟨a', ha', rfl⟩ := h
      rw [hs a' ha']
      exact_mod_cast mul_le_mul_of_nonneg_right (hle a' ha') hL.le
    · rw [hb b fun a' ha' he => h ⟨a', ha', he⟩]
      exact bot_le
  · rw [← hs a ha]
    exact Finset.le_sup (Finset.mem_univ (e a))

omit hL hs hb in
/-- Base two with the exponent divided by `log 2` is base `e`. -/
theorem exp2_scaled (x : ℝ) : (2 : ℝ).rpow (x * (Real.log 2)⁻¹) = Real.exp x := by
  have h2 : Real.log 2 ≠ 0 := (Real.log_pos one_lt_two).ne'
  change (2 : ℝ) ^ (x * (Real.log 2)⁻¹) = Real.exp x
  rw [Real.rpow_def_of_pos two_pos]
  congr 1
  field_simp

variable (hinj : ∀ a a', V a → V a' → e a = e a' → a = a')
include hinj

omit hL in
/-- The softmax-weighted sum over the window, divided at the end, is the softmax-weighted sum over the keys. -/
theorem window_softmax (hL' : L = (Real.log 2)⁻¹) (hV : ∃ a, V a) (v : A → EReal) (v' : B → EReal)
    (hv : ∀ a, V a → v' (e a) = v a) :
    (∑ b, v' b * Ideal.exp2 (s b - Finset.univ.sup s))
        * Ideal.div 1 (∑ b, Ideal.exp2 (s b - Finset.univ.sup s))
      = ∑ a, Ideal.div (Ideal.exp (masked V σ a - Finset.univ.sup (masked V σ)))
          (∑ a, Ideal.exp (masked V σ a - Finset.univ.sup (masked V σ))) * v a := by
  classical
  have hL : 0 < L := by rw [hL']; exact inv_pos.mpr (Real.log_pos one_lt_two)
  obtain ⟨a₀, h₀, hsup, hle⟩ := sup_masked V σ hV
  rw [sup_window V σ L s e hL hs hb a₀ h₀ hle, hsup]
  -- the weights
  let w : A → ℝ := fun a => if V a then Real.exp (σ a - σ a₀) else 0
  have hw : ∀ a, Ideal.exp (masked V σ a - (σ a₀ : EReal)) = (w a : EReal) := by
    intro a
    unfold masked
    by_cases h : V a
    · rw [if_pos h, ← EReal.coe_sub, Ideal.exp_coe, show w a = _ from if_pos h]
    · rw [if_neg h, EReal.bot_sub, Ideal.exp_bot, show w a = _ from if_neg h, EReal.coe_zero]
  have hp : ∀ a, V a → Ideal.exp2 (s (e a) - ((σ a₀ * L : ℝ) : EReal)) = (w a : EReal) := by
    intro a h
    rw [hs a h, ← EReal.coe_sub, ← sub_mul, hL', Ideal.exp2_coe, exp2_scaled, show w a = _ from if_pos h]
  have hp0 : ∀ b, (∀ a, V a → e a ≠ b) → Ideal.exp2 (s b - ((σ a₀ * L : ℝ) : EReal)) = 0 := by
    intro b h
    rw [hb b h, EReal.bot_sub, Ideal.exp2_bot]
  have hwpos : ∀ a, 0 ≤ w a := fun a => by
    by_cases h : V a
    · rw [show w a = _ from if_pos h]; exact (Real.exp_pos _).le
    · rw [show w a = _ from if_neg h]
  -- a sum over the window of the weights times anything is the sum over the keys
  have hsum : ∀ (g : A → EReal) (g' : B → EReal), (∀ a, V a → g' (e a) = g a) →
      (∑ b, g' b * Ideal.exp2 (s b - ((σ a₀ * L : ℝ) : EReal))) = ∑ a, g a * (w a : EReal) := by
    intro g g' hg
    refine (Finset.sum_bij_ne_zero (fun a _ _ => e a) ?_ ?_ ?_ ?_).symm
    · intro a _ _; exact Finset.mem_univ _
    · intro a _ ha a' _ ha' he
      have hVa : V a := by
        by_contra h
        exact ha (by rw [show w a = _ from if_neg h, EReal.coe_zero, mul_zero])
      have hVa' : V a' := by
        by_contra h
        exact ha' (by rw [show w a' = _ from if_neg h, EReal.coe_zero, mul_zero])
      exact hinj a a' hVa hVa' he
    · intro b _ hne
      by_cases h : ∃ a, V a ∧ e a = b
      · obtain ⟨a, ha, rfl⟩ := h
        refine ⟨a, Finset.mem_univ _, ?_, rfl⟩
        rw [hp a ha, hg a ha] at hne
        exact hne
      · exact absurd (by rw [hp0 b fun a ha he => h ⟨a, ha, he⟩, mul_zero]) hne
    · intro a _ ha
      have hVa : V a := by
        by_contra h
        exact ha (by rw [show w a = _ from if_neg h, EReal.coe_zero, mul_zero])
      rw [hp a hVa, hg a hVa]
  have hl : (∑ b, Ideal.exp2 (s b - ((σ a₀ * L : ℝ) : EReal))) = ((∑ a, w a : ℝ) : EReal) := by
    have h := hsum (fun _ => 1) (fun _ => 1) (fun _ _ => rfl)
    simp only [one_mul] at h
    rw [h, coe_sum]
  have hlpos : 0 < ∑ a, w a := by
    refine lt_of_lt_of_le ?_ (Finset.single_le_sum (fun a _ => hwpos a) (Finset.mem_univ a₀))
    rw [show w a₀ = _ from if_pos h₀]
    exact Real.exp_pos _
  rw [hl, hsum v v' hv]
  simp only [hw]
  rw [← coe_sum, Ideal.div_coe hlpos.ne', one_mul, sum_mul_coe _ _ _ (by positivity)]
  refine Finset.sum_congr rfl fun a _ => ?_
  rw [Ideal.div_coe hlpos.ne', mul_assoc, mul_comm]
end

end Cert.BandMath
-- ==== Proof.BandRead.lean ====
module

public import proofs.«01_k».proof.Proof.BandTile
public import proofs.«01_k».proof.Proof.BandMath
public import Idealize.ShloMosaic.Lib.Pointwise
public import Idealize.ShloMosaic.PureOps.IdealRules

/-! One query tile of the band attention read at an index, over the extended reals. -/

@[expose] public section

set_option maxRecDepth 16384

noncomputable section

namespace Cert.KernelIdeal.Band

open Cert.KernelIdeal Cert.KernelIdeal.Gen Idealize.ShloMosaic

/-- The logarithm of `e` in base two, as the real the kernel's constant names. -/
abbrev log2e : ℝ := (Real.log 2)⁻¹

/-- The bias of key row `x` and query column `c` is the head's relative row at `x - c`, around the end. -/
theorem bias_apply (x4 : Vec Ideal S1x1x1024 .f32) (x : Fin 768) (c : Fin 256) :
    bias (F := Ideal) x4 (ix2 x c) = x4 (ix3 0 0 ⟨(x.val + 1024 - c.val) % 1024, by omega⟩) * (log2e : EReal) := by
  have h : Named.named (F := Ideal) κ "log2e" (φ := .f32) 0x3FB8AA3B#32 = (log2e : EReal) :=
    IdealRules.named_const.ideal_named_scalar _ _ _ _ rfl
  pointwise [bias]
  rw [h]
  congr 3
  refine Fin.ext ?_
  show (x.val + 1024 - c.val % 1024) % 1024 = (x.val + 1024 - c.val) % 1024
  omega

/-- A score is the product of its key row with its query column, plus its bias. -/
theorem score_apply (k : FVec Ideal S768x256 .bf16) (q : FVec Ideal S256x256 .bf16) (b : FVec Ideal S768x256 .f32)
    (x : Fin 768) (c : Fin 256) :
    score (F := Ideal) k q b (ix2 x c) = (∑ l : Fin 256, k (ix2 x l) * q (ix2 l c)) + b (ix2 x c) := by
  pointwise [score]

/-- An exponential is two to the score less the column's largest score. -/
theorem expo_apply (s : FVec Ideal S768x256 .f32) (x : Fin 768) (c : Fin 256) :
    expo (F := Ideal) s (ix2 x c) = Ideal.exp2 (s (ix2 x c) - Finset.univ.sup fun x' : Fin 768 => s (ix2 x' c)) := by
  pointwise [expo]
  erw [Cert.BandMath.fold_max_bot]
  rfl

/-- A column sum is the sum of its exponentials. -/
theorem colSum_apply (s : FVec Ideal S768x256 .f32) (c : Fin 256) :
    colSum (F := Ideal) s (ix2 0 c) = ∑ x : Fin 768, expo (F := Ideal) s (ix2 x c) := by
  pointwise [colSum]

/-- The gate at an element. -/
theorem silu_apply (z : FVec Ideal S256x128 .bf16) (r : Fin 256) (d : Fin 128) :
    silu (F := Ideal) z (ix2 r d) = z (ix2 r d) * Ideal.div 1 (1 + Ideal.exp (0 - z (ix2 r d))) := by
  pointwise [silu]

/-- A third of the exponentials at an element: the exponentials, `o` rows further down. -/
theorem expoRows_apply (s : FVec Ideal S768x256 .f32) (o : Nat) (h : ∀ a, ![o, 0] a + S256x256.size a ≤ S768x256.size a)
    (ho : o + 256 ≤ 768) (j r : Fin 256) :
    expoRows (F := Ideal) s ![o, 0] h (ix2 j r) = expo (F := Ideal) s (ix2 ⟨o + j.val, by omega⟩ r) := by
  refine (View.ld_unit_apply_of (Val := Elt Ideal) (e := .bf16) (truncf .bf16 (expo (F := Ideal) s) bitsLt_bf16_f32) ![o, 0] S256x256.size h (ix2 j r)
    (ix2 ⟨o + j.val, by omega⟩ r) fun a => ?_).trans ?_
  · match a with
    | ⟨0, _⟩ => rfl
    | ⟨1, _⟩ => exact (Nat.zero_add r.val).symm
  · rfl

/-- The sum over the window is the sum over its three thirds. -/
theorem sum_thirds (f : Fin 768 → EReal) :
    ∑ x, f x = (∑ j : Fin 256, f ⟨0 + j.val, by omega⟩) + (∑ j : Fin 256, f ⟨256 + j.val, by omega⟩)
      + ∑ j : Fin 256, f ⟨512 + j.val, by omega⟩ := by
  rw [Fin.sum_univ_add (a := 512) (b := 256) f, Fin.sum_univ_add (a := 256) (b := 256)]
  refine congrArg₂ _ (congrArg₂ _ (Finset.sum_congr rfl fun j _ => congrArg f (Fin.ext ?_)) ?_) ?_
  · simp
  · rfl
  · rfl

/-- The output of a tile at an element, the window's three thirds joined: `v` is the value at a window row. -/
theorem out_apply (s : FVec Ideal S768x256 .f32) (v0 v1 v2 : FVec Ideal S128x256 .bf16) (z : FVec Ideal S256x128 .bf16)
    (r : Fin 256) (d : Fin 128) (v : Fin 768 → EReal)
    (h0 : ∀ j : Fin 256, v0 (ix2 d j) = v ⟨0 + j.val, by omega⟩)
    (h1 : ∀ j : Fin 256, v1 (ix2 d j) = v ⟨256 + j.val, by omega⟩)
    (h2 : ∀ j : Fin 256, v2 (ix2 d j) = v ⟨512 + j.val, by omega⟩) :
    out (F := Ideal) s v0 v1 v2 z (ix2 r d)
      = (∑ x : Fin 768, v x * Ideal.exp2 (s (ix2 x r) - Finset.univ.sup fun x' : Fin 768 => s (ix2 x' r)))
        * Ideal.div 1 (∑ x : Fin 768, Ideal.exp2 (s (ix2 x r) - Finset.univ.sup fun x' : Fin 768 => s (ix2 x' r)))
        * (z (ix2 r d) * Ideal.div 1 (1 + Ideal.exp (0 - z (ix2 r d)))) := by
  pointwise [out, part]
  simp only [expoRows_apply s 0 _ (by omega), expoRows_apply s 256 _ (by omega), expoRows_apply s 512 _ (by omega), h0, h1, h2,
    colSum_apply, silu_apply]
  rw [← sum_thirds (fun x => v x * expo (F := Ideal) s (ix2 x r))]
  simp only [expo_apply]

section
variable (x0 : Vec Ideal S1x1x16x256x256 .bf16) (x1 : Vec Ideal S4608x256 .bf16) (x2 : Vec Ideal S1x1x18x128x256 .bf16)
  (x3 : Vec Ideal S4096x128 .bf16) (x4 : Vec Ideal S1x1x1024 .f32)

/-- The score of window row `x` for query column `c` of tile `n`, over the head's blocks. -/
def winScore (n : Fin 16) (c : Fin 256) (x : Fin 768) : EReal :=
  (∑ l : Fin 256, x1 (ix2 ⟨256 * n.val + x.val, by omega⟩ l) * x0 (ix5 0 0 n l c))
    + x4 (ix3 0 0 ⟨(x.val + 1024 - c.val) % 1024, by omega⟩) * (log2e : EReal)

/-- The value of feature `d` at window row `x` of tile `n`. -/
def winValue (n : Fin 16) (d : Fin 128) (x : Fin 768) : EReal :=
  x2 (ix5 0 0 ⟨n.val + x.val / 256, by omega⟩ d ⟨x.val % 256, by omega⟩)

/-- A query tile read as a matrix. -/
theorem cast_query (y : FVec Ideal S1x1x1x256x256 .bf16) (l c : Fin 256) :
    shapeCast S256x256 y shapeCasts_S1x1x1x256x256_S256x256 (ix2 l c) = y (ix5 0 0 0 l c) := by
  pointwise

/-- A value block read as a matrix. -/
theorem cast_value (y : FVec Ideal S1x1x1x128x256 .bf16) (d : Fin 128) (j : Fin 256) :
    shapeCast S128x256 y shapeCasts_S1x1x1x128x256_S128x256 (ix2 d j) = y (ix5 0 0 0 d j) := by
  pointwise

/-- The scores the body takes are the window's. -/
theorem tileScore_apply (n : Fin 16) (x : Fin 768) (c : Fin 256) :
    tileScore (F := Ideal) x0 x1 x4 n.val n.isLt (ix2 x c) = winScore x0 x1 x4 n c x := by
  unfold tileScore winScore
  rw [score_apply, bias_apply]
  refine congrArg₂ _ (Finset.sum_congr rfl fun l _ => congrArg₂ _ ?_ ?_) rfl
  · refine View.ld_unit_apply_of _ _ _ _ _ _ fun a => ?_
    match a with
    | ⟨0, _⟩ => rfl
    | ⟨1, _⟩ => exact (Nat.zero_add _).symm
  · rw [cast_query]
    refine View.ld_unit_apply_of _ _ _ _ _ _ fun a => ?_
    match a with
    | ⟨0, _⟩ => rfl
    | ⟨1, _⟩ => rfl
    | ⟨2, _⟩ => rfl
    | ⟨3, _⟩ => exact (Nat.zero_add _).symm
    | ⟨4, _⟩ => exact (Nat.zero_add _).symm

/-- A value block at an element. -/
theorem vBlock_apply (n : Nat) (h : n < 18) (d : Fin 128) (j : Fin 256) :
    vBlock (F := Ideal) x2 n h (ix2 d j) = x2 (ix5 0 0 ⟨n, h⟩ d j) := by
  unfold vBlock
  rw [cast_value]
  refine View.ld_unit_apply_of _ _ _ _ _ _ fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

/-- Window row `256 a + j` is row `j` of the tile's value block `a`. -/
theorem winValue_of (n : Fin 16) (d : Fin 128) (a : Nat) (j : Fin 256) (ha : a < 3) :
    x2 (ix5 0 0 ⟨n.val + a, by omega⟩ d j) = winValue x2 n d ⟨256 * a + j.val, by omega⟩ := by
  unfold winValue
  have h1 : (256 * a + j.val) / 256 = a := by omega
  have h2 : (256 * a + j.val) % 256 = j.val := by omega
  congr 2
  · exact Fin.ext (congrArg (n.val + ·) h1.symm)
  · exact Fin.ext h2.symm

/-- The output of query tile `n` at row `r` and feature `d`: the weighted window values over the weights' sum, gated. -/
theorem tile_apply (n : Fin 16) (r : Fin 256) (d : Fin 128) :
    tile (F := Ideal) x0 x1 x2 x3 x4 n.val n.isLt (ix2 r d)
      = (∑ x, winValue x2 n d x * Ideal.exp2 (winScore x0 x1 x4 n r x - Finset.univ.sup (winScore x0 x1 x4 n r)))
        * Ideal.div 1 (∑ x, Ideal.exp2 (winScore x0 x1 x4 n r x - Finset.univ.sup (winScore x0 x1 x4 n r)))
        * (x3 (ix2 ⟨256 * n.val + r.val, by omega⟩ d)
            * Ideal.div 1 (1 + Ideal.exp (0 - x3 (ix2 ⟨256 * n.val + r.val, by omega⟩ d)))) := by
  unfold tile
  rw [out_apply _ _ _ _ _ r d (winValue x2 n d)]
  · simp only [tileScore_apply x0 x1 x4 n]
    have hz : ∀ h, View.ld x3 (Rect.unit (s := S4096x128) ![256 * n.val, 0] S256x128.size h) (ix2 r d)
        = x3 (ix2 ⟨256 * n.val + r.val, by omega⟩ d) := by
      intro h
      refine View.ld_unit_apply_of _ _ _ _ _ _ fun a => ?_
      match a with
      | ⟨0, _⟩ => rfl
      | ⟨1, _⟩ => exact (Nat.zero_add _).symm
    rw [hz]
  · intro j; rw [vBlock_apply]; exact winValue_of x2 n d 0 j (by omega)
  · intro j; rw [vBlock_apply]; exact winValue_of x2 n d 1 j (by omega)
  · intro j; rw [vBlock_apply]; exact winValue_of x2 n d 2 j (by omega)
end

end Cert.KernelIdeal.Band
-- ==== Proof.BandPieces.lean ====
module

public import proofs.«01_k».proof.Proof.BandTile

/-! What one grid point leaves in the output block: the sixteen tiles. -/

@[expose] public section

set_option maxRecDepth 16384

noncomputable section

namespace Cert.KernelIdeal.Band

open Cert.KernelIdeal Cert.KernelIdeal.Gen Idealize.ShloMosaic Idealize.ShloMosaic.ValueIdx Idealize.ShloMosaic.TcCoe

variable {F : FTy → Type} [FloatOps F] [Named F]

/-- The output block of a head: row `y` is row `y mod 256` of tile `y / 256`. -/
def block (x0 : Vec F S1x1x16x256x256 .bf16) (x1 : Vec F S4608x256 .bf16) (x2 : Vec F S1x1x18x128x256 .bf16) (x3 : Vec F S4096x128 .bf16)
    (x4 : Vec F S1x1x1024 .f32) : Vec F S4096x128 .bf16 := fun y =>
  tile x0 x1 x2 x3 x4 ((y 0).val / 256) (by have h : (y 0).val < 4096 := (y 0).isLt; omega)
    (ix2 (⟨(y 0).val % 256, Nat.mod_lt _ (by decide)⟩ : Fin 256) (y 1))

/-- The block read through the rows of tile `n` is tile `n`. -/
theorem block_rows (x0 : Vec F S1x1x16x256x256 .bf16) (x1 : Vec F S4608x256 .bf16) (x2 : Vec F S1x1x18x128x256 .bf16) (x3 : Vec F S4096x128 .bf16)
    (x4 : Vec F S1x1x1024 .f32) (n : Nat) (h : n < 16) (inb : ∀ a, (![256 * n, 0] : Fin 2 → Nat) a + S256x128.size a ≤ S4096x128.size a)
    (x : S256x128.Idx) :
    block x0 x1 x2 x3 x4 ((Rect.unit (s := S4096x128) ![256 * n, 0] S256x128.size inb).emb x) = tile x0 x1 x2 x3 x4 n h x := by
  have e0 : (((Rect.unit (s := S4096x128) ![256 * n, 0] S256x128.size inb).emb x) 0).val = 256 * n + (x 0).val :=
    Rect.idx_unit_val (s := S4096x128) ![256 * n, 0] S256x128.size inb x 0
  have e1 : (((Rect.unit (s := S4096x128) ![256 * n, 0] S256x128.size inb).emb x) 1).val = 0 + (x 1).val :=
    Rect.idx_unit_val (s := S4096x128) ![256 * n, 0] S256x128.size inb x 1
  have hx : (x 0).val < 256 := (x 0).isLt
  have key : ∀ (m : Nat) (hm : m < 16) (w : S256x128.Idx), m = n → w = x → tile x0 x1 x2 x3 x4 m hm w = tile x0 x1 x2 x3 x4 n h x := by
    intro m hm w e f; subst e; subst f; rfl
  refine key _ _ _ (by rw [e0]; omega) (funext fun a => Fin.ext ?_)
  match a with
  | ⟨0, _⟩ => show (((Rect.unit (s := S4096x128) ![256 * n, 0] S256x128.size inb).emb x) 0).val % 256 = (x 0).val; rw [e0]; omega
  | ⟨1, _⟩ => show (((Rect.unit (s := S4096x128) ![256 * n, 0] S256x128.size inb).emb x) 1).val = (x 1).val; rw [e1]; omega

/-- What the body leaves in the output block: its sixteen stores are the sixteen query tiles of one block. -/
theorem out_eq (c : Dev nD) (i : grid0.Coords) (arg2 : Memref sig .tc .vmem S1x1x16x256x256 .bf16) (harg2 : arg2.IsWhole) (arg3 : Memref sig .tc .vmem S4608x256 .bf16) (harg3 : arg3.IsWhole) (arg4 : Memref sig .tc .vmem S1x1x18x128x256 .bf16) (harg4 : arg4.IsWhole) (arg5 : Memref sig .tc .vmem S4096x128 .bf16) (harg5 : arg5.IsWhole) (arg6 : Memref sig .tc .vmem S1x1x1024 .f32) (harg6 : arg6.IsWhole) (arg7 : Memref sig .tc .vmem S4096x128 .bf16) (harg7 : arg7.IsWhole) (arg8 : Memref sig .tc .vmem S768x256 .f32) (harg8 : arg8.IsWhole) (arg9 : Memref sig .tc .vmem S768x256 .f32) (harg9 : arg9.IsWhole) (arg10 : Memref sig .tc .vmem S768x256 .f32) (harg10 : arg10.IsWhole) (arg11 : Memref sig .tc .vmem S768x256 .bf16) (harg11 : arg11.IsWhole) (arg12 : Memref sig .tc .vmem S768x256 .bf16) (harg12 : arg12.IsWhole) (arg13 : Memref sig .tc .vmem S768x256 .bf16) (harg13 : arg13.IsWhole) (arg14 : Memref sig .tc .vmem S768x256 .f32) (harg14 : arg14.IsWhole)
    (x0 : Vec F S1x1x16x256x256 .bf16) (x1 : Vec F S4608x256 .bf16) (x2 : Vec F S1x1x18x128x256 .bf16) (x3 : Vec F S4096x128 .bf16) (x4 : Vec F S1x1x1024 .f32) :
    out0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4 = block x0 x1 x2 x3 x4 := by
  have hc := cover0_A_5 c i arg2 harg2 arg3 harg3 arg4 harg4 arg5 harg5 arg6 harg6 arg7 harg7 arg8 harg8 arg9 harg9 arg10 harg10 arg11 harg11 arg12 harg12 arg13 harg13 arg14 harg14 x0 x1 x2 x3 x4
  unfold out0_A_5
  rw [View.read_writes_eq_canon _ _ _ hc]
  funext y
  suffices hP : View.PiecesOf (block x0 x1 x2 x3 x4) (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4).1 from
    View.canon_apply_of_pieces _ _ hP.mem y (hc y)
  unfold kernelRun0_A
  dsimp only
  sl_unfold_words
  simp (disch := decide) only [↓View.readCov_fill, View.ld_unit_lit', View.readAt_eq_ld, Memref.IsWhole.read_unread, shapeCast_self]
  simp (disch := decide) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, View.ld_unit_lit', shapeCast_self]
  have row : ∀ (n : Nat) (h : n < 16) (inb : ∀ a, (![256 * n, 0] : Fin 2 → Nat) a + S256x128.size a ≤ S4096x128.size a)
      (w : S256x128.Idx → F .bf16), w = tile x0 x1 x2 x3 x4 n h → ∀ x : S256x128.Idx,
      w x = block x0 x1 x2 x3 x4 ((Rect.unit (s := S4096x128) ![256 * n, 0] S256x128.size inb).emb x) :=
    fun n h inb w e x => (congrFun e x).trans (block_rows x0 x1 x2 x3 x4 n h inb x).symm
  refine ⟨row 15 (by decide) (by decide) _ ?_, row 14 (by decide) (by decide) _ ?_, row 13 (by decide) (by decide) _ ?_, row 12 (by decide) (by decide) _ ?_, row 11 (by decide) (by decide) _ ?_, row 10 (by decide) (by decide) _ ?_, row 9 (by decide) (by decide) _ ?_, row 8 (by decide) (by decide) _ ?_, row 7 (by decide) (by decide) _ ?_, row 6 (by decide) (by decide) _ ?_, row 5 (by decide) (by decide) _ ?_, row 4 (by decide) (by decide) _ ?_, row 3 (by decide) (by decide) _ ?_, row 2 (by decide) (by decide) _ ?_, row 1 (by decide) (by decide) _ ?_, row 0 (by decide) (by decide) _ ?_, trivial⟩
  all_goals
    unfold tile out silu part expoRows colSum expo tileScore vBlock score bias
    rfl

end Cert.KernelIdeal.Band
-- ==== Proof.BandArray.lean ====
module

public import proofs.«01_k».proof.Proof.BandPieces
public import Idealize.ShloMosaic.Lib.Pipeline.ValueKit
public import Idealize.ShloMosaic.Lib.Pointwise

/-! From the band attention's blocks to its whole result array. -/

@[expose] public section

set_option maxRecDepth 16384

noncomputable section

namespace Cert.KernelIdeal.Band

open Cert.KernelIdeal Cert.KernelIdeal.Gen Idealize.ShloMosaic Idealize.ShloMosaic.TcCoe

variable {F : FTy → Type} [FloatOps F] [Named F]

/-- Batch `b`, head `h` of the queries. -/
def qBlk (a : Vec F S4x8x16x256x256 .bf16) (b : Fin 4) (h : Fin 8) : Vec F S1x1x16x256x256 .bf16 := fun y => a (ix5 b h (y 2) (y 3) (y 4))
/-- Batch `b`, head `h` of the padded keys. -/
def kBlk (a : Vec F S18432x2048 .bf16) (b : Fin 4) (h : Fin 8) : Vec F S4608x256 .bf16 := fun y =>
  a (ix2 ⟨4608 * b.val + (y 0).val, by have : (y 0).val < 4608 := (y 0).isLt; omega⟩ ⟨256 * h.val + (y 1).val, by have : (y 1).val < 256 := (y 1).isLt; omega⟩)
/-- Batch `b`, head `h` of the padded values. -/
def vBlk (a : Vec F S4x8x18x128x256 .bf16) (b : Fin 4) (h : Fin 8) : Vec F S1x1x18x128x256 .bf16 := fun y => a (ix5 b h (y 2) (y 3) (y 4))
/-- Batch `b`, head `h` of the gate columns, which start at column 3072. -/
def zBlk (a : Vec F S16384x11264 .bf16) (b : Fin 4) (h : Fin 8) : Vec F S4096x128 .bf16 := fun y =>
  a (ix2 ⟨4096 * b.val + (y 0).val, by have : (y 0).val < 4096 := (y 0).isLt; omega⟩ ⟨3072 + 128 * h.val + (y 1).val, by have : (y 1).val < 128 := (y 1).isLt; omega⟩)
/-- Head `h`'s relative row. -/
def rBlk (a : Vec F S8x1x1024 .f32) (h : Fin 8) : Vec F S1x1x1024 .f32 := fun y => a (ix3 h 0 (y 2))

/-- The whole result: batch by row blocks of 4096, head by column blocks of 128. -/
def whole (a0 : Vec F S4x8x16x256x256 .bf16) (a1 : Vec F S18432x2048 .bf16) (a2 : Vec F S4x8x18x128x256 .bf16) (a3 : Vec F S16384x11264 .bf16)
    (rr : Vec F S8x1x1024 .f32) : Vec F S16384x1024 .bf16 := fun i =>
  have h0 : (i 0).val < 16384 := (i 0).isLt
  have h1 : (i 1).val < 1024 := (i 1).isLt
  block (qBlk a0 ⟨(i 0).val / 4096, by omega⟩ ⟨(i 1).val / 128, by omega⟩) (kBlk a1 ⟨(i 0).val / 4096, by omega⟩ ⟨(i 1).val / 128, by omega⟩)
    (vBlk a2 ⟨(i 0).val / 4096, by omega⟩ ⟨(i 1).val / 128, by omega⟩) (zBlk a3 ⟨(i 0).val / 4096, by omega⟩ ⟨(i 1).val / 128, by omega⟩)
    (rBlk rr ⟨(i 1).val / 128, by omega⟩) (ix2 ⟨(i 0).val % 4096, by omega⟩ ⟨(i 1).val % 128, by omega⟩)

/-- The whole result at row `4096 b + y₀`, column `128 h + y₁` is entry `y` of the block of batch `b`, head `h`. -/
theorem whole_at (a0 : Vec F S4x8x16x256x256 .bf16) (a1 : Vec F S18432x2048 .bf16) (a2 : Vec F S4x8x18x128x256 .bf16) (a3 : Vec F S16384x11264 .bf16)
    (rr : Vec F S8x1x1024 .f32) (b : Fin 4) (h : Fin 8) (y : S4096x128.Idx) (i : S16384x1024.Idx)
    (h0 : (i 0).val = b.val * 4096 + (y 0).val) (h1 : (i 1).val = h.val * 128 + (y 1).val) :
    whole a0 a1 a2 a3 rr i = block (qBlk a0 b h) (kBlk a1 b h) (vBlk a2 b h) (zBlk a3 b h) (rBlk rr h) y := by
  have hy0 : (y 0).val < 4096 := (y 0).isLt
  have hy1 : (y 1).val < 128 := (y 1).isLt
  have key : ∀ (b' : Fin 4) (h' : Fin 8) (y' : S4096x128.Idx), b' = b → h' = h → y' = y →
      block (qBlk a0 b' h') (kBlk a1 b' h') (vBlk a2 b' h') (zBlk a3 b' h') (rBlk rr h') y'
        = block (qBlk a0 b h) (kBlk a1 b h) (vBlk a2 b h) (zBlk a3 b h) (rBlk rr h) y := by
    rintro _ _ _ rfl rfl rfl; rfl
  unfold whole
  refine key _ _ _ (Fin.ext ?_) (Fin.ext ?_) (funext fun a => Fin.ext ?_)
  · show (i 0).val / 4096 = b.val; omega
  · show (i 1).val / 128 = h.val; omega
  · match a with
    | ⟨0, _⟩ => show (i 0).val % 4096 = (y 0).val; omega
    | ⟨1, _⟩ => show (i 1).val % 128 = (y 1).val; omega

variable (m : (ℓ : Loc nD τ sig) → Buf (Elt F) ℓ)

/-- Which block of the queries a point takes. -/
theorem index0 : ∀ t : Fin cfg0.N, win0_0.index t = ![t.val / 8, t.val % 8, 0, 0, 0] := (by decide +kernel : ∀ t : Fin grid0.N, _)
/-- Which block of the keys a point takes. -/
theorem index1 : ∀ t : Fin cfg0.N, win0_1.index t = ![t.val / 8, t.val % 8] := (by decide +kernel : ∀ t : Fin grid0.N, _)
/-- Which block of the values a point takes. -/
theorem index2 : ∀ t : Fin cfg0.N, win0_2.index t = ![t.val / 8, t.val % 8, 0, 0, 0] := (by decide +kernel : ∀ t : Fin grid0.N, _)
/-- Which block of the gates a point takes. -/
theorem index3 : ∀ t : Fin cfg0.N, win0_3.index t = ![t.val / 8, 24 + t.val % 8] := (by decide +kernel : ∀ t : Fin grid0.N, _)
/-- Which block of the relative rows a point takes. -/
theorem index4 : ∀ t : Fin cfg0.N, win0_4.index t = ![t.val % 8, 0, 0] := (by decide +kernel : ∀ t : Fin grid0.N, _)
/-- Which block of the result a point takes. -/
theorem index5 : ∀ t : Fin cfg0.N, win0_5.index t = ![t.val / 8, t.val % 8] := (by decide +kernel : ∀ t : Fin grid0.N, _)

/-- A grid point's batch. -/
def pb (t : Fin cfg0.N) : Fin 4 := ⟨t.val / 8, by have h : t.val < 32 := t.isLt; omega⟩
/-- A grid point's head. -/
def ph (t : Fin cfg0.N) : Fin 8 := ⟨t.val % 8, by omega⟩

/-- A point's block of the queries. -/
theorem iblk0 (c : Dev nD) (t : Fin cfg0.N) : iblk m c 0 t = qBlk (V m c main_arg0) (pb t) (ph t) := by
  funext y
  unfold qBlk pb ph
  blk_simp [iblk]
  congr 1
  blk_ext [index0]

/-- A point's block of the keys. -/
theorem iblk1 (c : Dev nD) (t : Fin cfg0.N) : iblk m c 1 t = kBlk (V m c main_arg1) (pb t) (ph t) := by
  funext y
  unfold kBlk pb ph
  blk_simp [iblk]
  congr 1
  blk_ext [index1]

/-- A point's block of the values. -/
theorem iblk2 (c : Dev nD) (t : Fin cfg0.N) : iblk m c 2 t = vBlk (V m c main_arg2) (pb t) (ph t) := by
  funext y
  unfold vBlk pb ph
  blk_simp [iblk]
  congr 1
  blk_ext [index2]

/-- A point's block of the gates. -/
theorem iblk3 (c : Dev nD) (t : Fin cfg0.N) : iblk m c 3 t = zBlk (V m c main_arg3) (pb t) (ph t) := by
  funext y
  unfold zBlk pb ph
  blk_simp [iblk]
  congr 1
  blk_ext [index3]

/-- A point's block of the relative rows. -/
theorem iblk4 (c : Dev nD) (t : Fin cfg0.N) : iblk m c 4 t = rBlk (V m c main_v18) (ph t) := by
  funext y
  unfold rBlk ph
  blk_simp [iblk]
  congr 1
  blk_ext [index4]

/-- The result array after the run is the whole result of the arguments and the relative rows. -/
theorem final (c : Dev nD) : (dats m 0 c).arrAt 5 cfg0.N
    = whole (V m c main_arg0) (V m c main_arg1) (V m c main_arg2) (V m c main_arg3) (V m c main_v18) := by
  refine (dats m 0 c).arrAt_eq_of_covers 5 _ (by decide +kernel) fun t hf y => ?_
  blk_simp
  rw [after0_5]
  unfold outsAt0
  rw [out_eq, iblk0, iblk1, iblk2, iblk3, iblk4]
  refine (whole_at _ _ _ _ _ (pb t) (ph t) y _ ?_ ?_).symm
  · blk_simp [index5]; rfl
  · blk_simp [index5]; rfl

end Cert.KernelIdeal.Band
-- ==== Proof.BandWord.lean ====
module

public import Idealize.ShloMosaic.PureOps
public import Idealize.ShloMosaic.Lib.WordCmp

/-! The integer words the band attention computes with: the place of a distance in the bias table, a position's chunk. -/

@[expose] public section

set_option maxRecDepth 16384

noncomputable section

namespace Cert.Band

open Idealize.ShloMosaic Idealize.ShloMosaic.WordCmp

/-- The word of a distance's place in the bias table: clipped to -63 .. 128, counted from -63; a negative place from the end. -/
def relWord (v : BitVec 32) : BitVec 32 :=
  Scalar.select (IntOp.cmpi .slt (IntOp.addi (IntOp.minsi 128#32 (IntOp.maxsi 4294967233#32 v)) 63#32) 0#32)
    (IntOp.addi (IntOp.addi (IntOp.minsi 128#32 (IntOp.maxsi 4294967233#32 v)) 63#32) 192#32)
    (IntOp.addi (IntOp.minsi 128#32 (IntOp.maxsi 4294967233#32 v)) 63#32)

/-- A distance's place in the bias table. -/
def relIdx (v : BitVec 32) : Fin 192 := ⟨min (relWord v).toInt.toNat 191, by omega⟩

/-- The distance that entry `e` of a relative row stands for: `512 - e`, the last quarter counted from the end. -/
def entryDist (e : Nat) : BitVec 32 :=
  IntOp.subi 512#32 (Scalar.select (IntOp.cmpi .slt (BitVec.ofNat 32 e) 768#32) (BitVec.ofNat 32 e)
    (IntOp.subi (BitVec.ofNat 32 e) 1024#32))

/-- The window's offset `x - c` stands for the distance from the key at window row `x` of tile `n` to query column `c`. -/
theorem entryDist_eq (n c x : Nat) (hn : n < 16) (hc : c < 256) (hx' : x < 768) (hx : 512 ≤ 256 * n + x) :
    entryDist ((x + 1024 - c) % 1024) = IntOp.subi (BitVec.ofNat 32 (256 * n + c)) (BitVec.ofNat 32 (256 * n + x - 512)) := by
  unfold entryDist
  by_cases h : c ≤ x
  · rw [show (x + 1024 - c) % 1024 = x - c by omega,
      (cmpi_slt_ofNat_eq_one_iff (w := 32) (by omega) (by omega)).mpr (show x - c < 768 by omega)]
    show 512#32 - BitVec.ofNat 32 (x - c) = BitVec.ofNat 32 (256 * n + c) - BitVec.ofNat 32 (256 * n + x - 512)
    apply BitVec.eq_of_toNat_eq
    simp only [BitVec.toNat_sub, BitVec.toNat_ofNat]
    omega
  · rw [show (x + 1024 - c) % 1024 = x + 1024 - c by omega,
      (cmpi_slt_ofNat_eq_zero_iff (w := 32) (by omega) (by omega)).mpr (show ¬ x + 1024 - c < 768 by omega)]
    show 512#32 - (BitVec.ofNat 32 (x + 1024 - c) - 1024#32) = BitVec.ofNat 32 (256 * n + c) - BitVec.ofNat 32 (256 * n + x - 512)
    apply BitVec.eq_of_toNat_eq
    simp only [BitVec.toNat_sub, BitVec.toNat_ofNat]
    omega

/-- A word's quotient by 64, rounded down, as the host computes it: the quotient towards zero, one less where the signs differ
    and the division leaves a rest. -/
def chunkWord (w : BitVec 32) : BitVec 32 :=
  Scalar.select
    (IntOp.andi
      (IntOp.cmpi (w := 32) .ne (if w = 0 then 0 else if w.msb = true then -1 else 1)
        (if (64#32) = 0 then 0 else if BitVec.msb (64#32) = true then -1 else 1))
      (IntOp.cmpi .ne (IntOp.remsi .host w 64#32) 0#32))
    (IntOp.subi (IntOp.divsi .host w 64#32) 1#32)
    (IntOp.divsi .host w 64#32)

/-- A natural number's word over 64 is the word of its quotient. -/
theorem chunkWord_ofNat (a : Nat) (ha : a < 2 ^ 20) : chunkWord (BitVec.ofNat 32 a) = BitVec.ofNat 32 (a / 64) := by
  have hm : (BitVec.ofNat 32 a).msb = false := by
    rw [BitVec.msb_eq_false_iff_two_mul_lt]; simp only [BitVec.toNat_ofNat]; omega
  have h64 : (64#32).msb = false := by decide
  have hc : ¬ IntOp.SDivCorner (BitVec.ofNat 32 a) 64#32 := by
    unfold IntOp.SDivCorner; simp
  have hd : IntOp.divsi .host (BitVec.ofNat 32 a) 64#32 = BitVec.ofNat 32 (a / 64) := by
    unfold IntOp.divsi
    rw [if_neg hc, BitVec.sdiv_eq, hm, h64]
    apply BitVec.eq_of_toNat_eq
    simp only [BitVec.udiv_eq, BitVec.toNat_udiv, BitVec.toNat_ofNat]
    rw [Nat.mod_eq_of_lt (by omega : a < 2 ^ 32), Nat.mod_eq_of_lt (by omega : a / 64 < 2 ^ 32)]
  unfold chunkWord
  rw [hd]
  by_cases h0 : a = 0
  · subst h0
    have hr : IntOp.remsi .host (BitVec.ofNat 32 0) 64#32 = 0#32 := by
      unfold IntOp.remsi
      rw [if_neg hc]; decide
    rw [hr]
    rfl
  · have hne : ¬ BitVec.ofNat 32 a = 0 := by
      intro h
      have := congrArg BitVec.toNat h
      simp only [BitVec.toNat_ofNat] at this
      have h' : a % 2 ^ 32 = 0 := this
      omega
    rw [if_neg hne, hm]
    have : IntOp.cmpi (w := 32) .ne (if false = true then -1 else 1) (if (64#32) = 0 then 0 else if BitVec.msb (64#32) = true then -1 else 1) = 0#1 := by decide
    rw [this]
    show Scalar.select (0#1 &&& _) _ _ = _
    rw [BitVec.zero_and]
    rfl

/-- A word below 2^31 read as a signed number. -/
theorem toInt_word (a : Nat) (ha : a < 2 ^ 20) : (BitVec.ofNat 32 a).toInt = (a : Int) := by
  rw [BitVec.toInt_eq_toNat_bmod, BitVec.toNat_ofNat, Nat.mod_eq_of_lt (by omega)]
  exact Int.bmod_eq_of_le (by omega) (by omega)

/-- A difference of two small words read as a signed number. -/
theorem toInt_word_sub (a b : Nat) (ha : a < 2 ^ 20) (hb : b < 2 ^ 20) :
    (IntOp.subi (BitVec.ofNat 32 a) (BitVec.ofNat 32 b)).toInt = (a : Int) - (b : Int) := by
  show (BitVec.ofNat 32 a - BitVec.ofNat 32 b).toInt = _
  rw [BitVec.toInt_sub, toInt_word a ha, toInt_word b hb]
  exact Int.bmod_eq_of_le (by omega) (by omega)

/-- The conjunction of two decided bits. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two decided bits. -/
theorem or_bits (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- A selection by a decided bit. -/
theorem select_bit {α : Type} (p : Prop) [Decidable p] (a b : α) :
    Scalar.select (BitVec.ofBool (decide p)) a b = if p then a else b := by
  by_cases hp : p <;> simp [hp, Scalar.select]

/-- A decided bit is one exactly when the proposition holds. -/
theorem bit_eq_one (p : Prop) [Decidable p] : BitVec.ofBool (decide p) = 1#1 ↔ p := by
  by_cases hp : p <;> simp [hp]

end Cert.Band

end
-- ==== Proof.BandRel.lean ====
module

public import proofs.«01_k».proof.Proof.BandArray
public import Idealize.ShloMosaic.Lib.StableHlo.ReadAt
public import Idealize.ShloMosaic.Lib.Claim
public import proofs.«01_k».proof.Proof.BandWord

/-! The relative rows the host makes for the band attention: entry `e` of a head's row is the head's bias at the
    clipped distance the window's offset `e` stands for. -/

@[expose] public section

set_option maxRecDepth 16384

noncomputable section

namespace Cert.KernelIdeal.Band

open Cert.KernelIdeal Cert.KernelIdeal.Gen Idealize.ShloMosaic Idealize.ShloMosaic.TcCoe

/-- A column of every head's biases is read at the place its index word names. -/
theorem gather_apply {α : Type} (x : S8x192.Idx → α) (idx : IVec S1024x1 32) (h : Fin 8) (e : Fin 1024) :
    Host.gather gather_S8x192_S1024x1_S8x1024_0_1_n_n_1_1_81 x idx (ix2 h e)
      = x (ix2 h ⟨min (idx (ix2 e 0)).toInt.toNat 191, by omega⟩) := by
  unfold Host.gather
  congr 1
  funext a
  refine Fin.ext ?_
  show gather_S8x192_S1024x1_S8x1024_0_1_n_n_1_1_81.start (ix2 h e) idx a + gather_S8x192_S1024x1_S8x1024_0_1_n_n_1_1_81.batchCoord (ix2 h e) a
    + gather_S8x192_S1024x1_S8x1024_0_1_n_n_1_1_81.offCoord (ix2 h e) a = _
  rw [GatherDims.batchCoord_eq_zero _ _ _ List.not_mem_nil]
  obtain rfl | rfl : a = 0 ∨ a = 1 := match a with
    | ⟨0, _⟩ => Or.inl rfl
    | ⟨1, _⟩ => Or.inr rfl
  · unfold GatherDims.start
    rw [dif_neg (by decide)]
    unfold GatherDims.offCoord
    rw [dif_pos (by decide)]
    show 0 + 0 + h.val = h.val
    omega
  · rw [GatherDims.offCoord_eq_zero _ _ _ (by decide)]
    unfold GatherDims.start
    rw [dif_pos (by decide)]
    have hsi : gather_S8x192_S1024x1_S8x1024_0_1_n_n_1_1_81.siIdx (ix2 h e) ⟨List.idxOf (1 : Fin 2) gather_S8x192_S1024x1_S8x1024_0_1_n_n_1_1_81.startIndexMap, by decide⟩
        = ix2 e 0 := by
      funext b; refine Fin.ext ?_
      match b with
      | ⟨0, _⟩ => rfl
      | ⟨1, _⟩ => rfl
    erw [hsi]
    rfl

variable {F : FTy → Type} [FloatOps F] [Named F]
variable (m : (ℓ : Loc nD τ sig) → Buf (Elt F) ℓ)

/-- Entry `e` of head `h`'s relative row when the kernel is entered. -/
theorem rel_at (c : Dev nD) (h : Fin 8) (e : Fin 1024) :
    V m c main_v18 (ix3 h 0 e) = m ((c : Thread nD τ).loc main_arg4) (ix2 h (Cert.Band.relIdx (Cert.Band.entryDist e.val))) := by
  unfold V
  after_reads_at
  rw [gather_apply]
  pointwise
  rfl

end Cert.KernelIdeal.Band
-- ==== Proof.BandRef.lean ====
module

public import proofs.«01_k».proof.Proof.Gen.ReferenceIdeal.Read
public import Idealize.ShloMosaic.Lib.Pointwise
public import proofs.«01_k».proof.Proof.BandWord
public import proofs.«01_k».proof.Proof.BandMath

/-! The band attention's reference read at an index. -/

@[expose] public section

set_option maxRecDepth 16384

noncomputable section

namespace Cert.ReferenceIdeal.Band

open Cert.ReferenceIdeal Cert.ReferenceIdeal.Gen Cert.ReferenceIdeal.Read Idealize.ShloMosaic Idealize.ShloMosaic.WordCmp

variable (x0 : Vec Ideal S4x8x16x256x256 .bf16) (x1 : Vec Ideal S18432x2048 .bf16) (x2 : Vec Ideal S4x8x18x128x256 .bf16)
  (x3 : Vec Ideal S16384x11264 .bf16) (x4 : Vec Ideal S8x192 .f32)

/-- The query of position `i`. -/
theorem query_apply (b : Fin 4) (h : Fin 8) (i : Fin 4096) (l : Fin 128) :
    val_main_v3 (F := Ideal) x0 (ix4 b h i l) = x0 (ix5 b h ⟨i.val / 256, by omega⟩ ⟨l.val, by omega⟩ ⟨i.val % 256, by omega⟩) := by
  pointwise [val_main_v3, val_main_v2, val_main_v1, val_main_v0]

/-- The key of position `j`: row `512 + j` of its batch. -/
theorem key_apply (b : Fin 4) (h : Fin 8) (j : Fin 4096) (l : Fin 128) :
    val_main_v7 (F := Ideal) x1 (ix4 b h j l) = x1 (ix2 ⟨4608 * b.val + (512 + j.val), by omega⟩ ⟨256 * h.val + l.val, by omega⟩) := by
  pointwise [val_main_v7, val_main_v6, val_main_v5, val_main_v4]
  simp only [Nat.mul_comm]

/-- The value of position `j`, read two tiles further on. -/
theorem value_apply (b : Fin 4) (h : Fin 8) (j : Fin 4096) (d : Fin 128) :
    val_main_v11 (F := Ideal) x2 (ix4 b h j d) = x2 (ix5 b h ⟨2 + j.val / 256, by omega⟩ d ⟨j.val % 256, by omega⟩) := by
  pointwise [val_main_v11, val_main_v10, val_main_v9, val_main_v8]

/-- The gate of a position. -/
theorem gate_apply (b : Fin 4) (i : Fin 4096) (h : Fin 8) (d : Fin 128) :
    val_main_v14 (F := Ideal) x3 (ix4 b i h d) = x3 (ix2 ⟨4096 * b.val + i.val, by omega⟩ ⟨3072 + 128 * h.val + d.val, by omega⟩) := by
  pointwise [val_main_v14, val_main_v13, val_main_v12]
  simp only [Nat.mul_comm, Nat.add_assoc]

/-- A position's chunk: the position over 64. -/
theorem chunk_apply (i : Fin 4096) : val_main_v38 (F := Ideal) (ix1 i) = BitVec.ofNat 32 (i.val / 64) := by
  pointwise [val_main_v38, val_main_call1_v13, val_main_call1_v12, val_main_call1_c_0, val_main_call1_v11, val_main_call1_v10,
    val_main_call1_v9, val_main_call1_c, val_main_call1_v8, val_main_call1_v7, val_main_call1_v6, val_main_call1_v5,
    val_main_call1_v4, val_main_call1_v3, val_main_call1_v2, val_main_call1_v1, val_main_call1_v0, val_main_c_4, val_main_v15]
  exact Cert.Band.chunkWord_ofNat i.val (by omega)

/-- A query attends to a key of its own chunk and of the eight before it. -/
theorem valid_apply (i j : Fin 4096) :
    val_main_v51 (F := Ideal) (ix2 i j) = BitVec.ofBool (decide (j.val / 64 ≤ i.val / 64 ∧ i.val / 64 ≤ j.val / 64 + 8)) := by
  pointwise [val_main_v51, val_main_v50, val_main_v49, val_main_v48, val_main_v47, val_main_v46, val_main_v45, val_main_v44, val_main_v43, val_main_v42, val_main_v41, val_main_v40, val_main_v39, val_main_c_5]
  have hi := i.isLt
  have hj := j.isLt
  rw [chunk_apply, chunk_apply, cmpi_sle_eq, cmpi_sge_eq, Cert.Band.toInt_word _ (by omega), Cert.Band.toInt_word _ (by omega)]
  erw [Cert.Band.toInt_word_sub _ 8 (by omega) (by omega)]
  rw [Cert.Band.and_bits]
  congr 1
  rw [decide_eq_decide]
  omega

/-- A bias is read at the head and at the place its index word names. -/
theorem gather_apply {α : Type} (x : S8x192.Idx → α) (idx : IVec S4096x4096x1 32) (h : Fin 8) (i j : Fin 4096) :
    Host.gather gather_S8x192_S4096x4096x1_S8x4096x4096_0_1_n_n_1_2_81 x idx (ix3 h i j)
      = x (ix2 h ⟨min (idx (ix3 i j 0)).toInt.toNat 191, by omega⟩) := by
  unfold Host.gather
  congr 1
  funext a
  refine Fin.ext ?_
  show gather_S8x192_S4096x4096x1_S8x4096x4096_0_1_n_n_1_2_81.start (ix3 h i j) idx a + gather_S8x192_S4096x4096x1_S8x4096x4096_0_1_n_n_1_2_81.batchCoord (ix3 h i j) a
    + gather_S8x192_S4096x4096x1_S8x4096x4096_0_1_n_n_1_2_81.offCoord (ix3 h i j) a = _
  rw [GatherDims.batchCoord_eq_zero _ _ _ List.not_mem_nil]
  obtain rfl | rfl : a = 0 ∨ a = 1 := match a with
    | ⟨0, _⟩ => Or.inl rfl
    | ⟨1, _⟩ => Or.inr rfl
  · unfold GatherDims.start
    rw [dif_neg (by decide)]
    unfold GatherDims.offCoord
    rw [dif_pos (by decide)]
    show 0 + 0 + h.val = h.val
    omega
  · rw [GatherDims.offCoord_eq_zero _ _ _ (by decide)]
    unfold GatherDims.start
    rw [dif_pos (by decide)]
    have hsi : gather_S8x192_S4096x4096x1_S8x4096x4096_0_1_n_n_1_2_81.siIdx (ix3 h i j) ⟨List.idxOf (1 : Fin 2) gather_S8x192_S4096x4096x1_S8x4096x4096_0_1_n_n_1_2_81.startIndexMap, by decide⟩
        = ix3 i j 0 := by
      funext b; refine Fin.ext ?_
      match b with
      | ⟨0, _⟩ => rfl
      | ⟨1, _⟩ => rfl
      | ⟨2, _⟩ => rfl
    erw [hsi]
    rfl

/-- The bias of query `i` and key `j`: the head's, at the clipped distance. -/
theorem relative_apply (h : Fin 8) (i j : Fin 4096) :
    val_main_v30 (F := Ideal) x4 (ix3 h i j)
      = x4 (ix2 h (Cert.Band.relIdx (IntOp.subi (BitVec.ofNat 32 i.val) (BitVec.ofNat 32 j.val)))) := by
  unfold val_main_v30
  rw [gather_apply]
  pointwise [val_main_v29, val_main_v28, val_main_v27, val_main_v26, val_main_v25, val_main_v24, val_main_v23, val_main_v22, val_main_v21, val_main_v20, val_main_v19, val_main_v18, val_main_v17, val_main_v16, val_main_v15, val_main_call0_v4, val_main_call0_v3, val_main_call0_v2, val_main_call0_v1, val_main_call0_v0, val_main_c, val_main_c_0, val_main_c_1, val_main_c_2, val_main_c_3]
  rfl

/-- The logarithm of two, as the host's constant spells it. -/
theorem log_two : Ideal.log (Ideal.ofBits .f32 0x40000000#32) = (Real.log 2 : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- The score of query `i` and key `j`: their product times the logarithm of two, plus the head's bias. -/
def refScore (b : Fin 4) (h : Fin 8) (i j : Fin 4096) : EReal :=
  (∑ l : Fin 128, x0 (ix5 b h ⟨i.val / 256, by omega⟩ ⟨l.val, by omega⟩ ⟨i.val % 256, by omega⟩)
      * x1 (ix2 ⟨4608 * b.val + (512 + j.val), by omega⟩ ⟨256 * h.val + l.val, by omega⟩)) * (Real.log 2 : EReal)
    + x4 (ix2 h (Cert.Band.relIdx (IntOp.subi (BitVec.ofNat 32 i.val) (BitVec.ofNat 32 j.val))))

/-- The score of a query and a key is the reference's. -/
theorem score_apply (b : Fin 4) (h : Fin 8) (i j : Fin 4096) :
    val_main_v37 (F := Ideal) x0 x1 x4 (ix4 b h i j) = refScore x0 x1 x4 b h i j := by
  pointwise [val_main_v37, val_main_v36, val_main_v35, val_main_v34, val_main_v33, val_main_v32, val_main_cst, val_main_v31]
  rw [relative_apply, log_two]
  unfold refScore
  simp only [query_apply, key_apply]

/-- The masked score: minus infinity where the query does not attend. -/
def refMasked (b : Fin 4) (h : Fin 8) (i j : Fin 4096) : EReal :=
  if j.val / 64 ≤ i.val / 64 ∧ i.val / 64 ≤ j.val / 64 + 8 then refScore x0 x1 x4 b h i j else ⊥

/-- The masked scores are the reference's. -/
theorem masked_apply (b : Fin 4) (h : Fin 8) (i j : Fin 4096) :
    val_main_v52 (F := Ideal) x0 x1 x4 (ix4 b h i j) = refMasked x0 x1 x4 b h i j := by
  pointwise [val_main_v52, val_main_call2_v0, val_main_call2_v1, val_main_call2_v2, val_main_cst_6]
  rw [valid_apply, score_apply, Cert.Band.select_bit]
  have hb : (id (constant (F := Ideal) S_ .f32 0xFF800000#32) ix0 : EReal) = ⊥ := by
    show Ideal.ofBits .f32 0xFF800000#32 = ⊥
    simp [Ideal.ofBits, Ideal.ieee]
  unfold refMasked
  rw [← hb]

/-- The greatest masked score of a query. -/
theorem greatest_apply (b : Fin 4) (h : Fin 8) (i : Fin 4096) :
    val_main_v53 (F := Ideal) x0 x1 x4 (ix3 b h i) = Finset.univ.sup (refMasked x0 x1 x4 b h i) := by
  rw [← funext (masked_apply x0 x1 x4 b h i)]
  unfold val_main_v53 val_main_cst_7
  generalize val_main_v52 (F := Ideal) x0 x1 x4 = s
  pointwise []
  exact Cert.BandMath.fold_max_bot _

/-- Minus infinity is no greater than anything. -/
theorem max_neg_inf (a : EReal) : max (Ideal.ofBits .f32 0xFF800000#32) a = a := by
  have hb : Ideal.ofBits .f32 0xFF800000#32 = ⊥ := by simp [Ideal.ofBits, Ideal.ieee]
  rw [hb, max_eq_right bot_le]

/-- Scores less their rows' maxima, the maxima being no less than minus infinity. -/
theorem shifted_apply (s : FVec Ideal S4x8x4096x4096 .f32) (t : FVec Ideal S4x8x4096 .f32) (b : Fin 4) (h : Fin 8) (i j : Fin 4096) :
    Host.exp (subf s (broadcastInDim S4x8x4096x4096 ![0, 1, 2, 3] bcast_S4x8x4096x1_S4x8x4096x4096_0_1_2_3
      (broadcastInDim S4x8x4096x1 ![0, 1, 2] bcast_S4x8x4096_S4x8x4096x1_0_1_2
        (maximumf (broadcastInDim S4x8x4096 ![] bcast_S_S4x8x4096 (constant S_ .f32 0xFF800000#32)) t)))) (ix4 b h i j)
      = Ideal.exp (s (ix4 b h i j) - t (ix3 b h i)) := by
  pointwise []
  rw [max_neg_inf]

/-- The exponential of a masked score against the greatest. -/
theorem exponential_apply (b : Fin 4) (h : Fin 8) (i j : Fin 4096) :
    val_main_v59 (F := Ideal) x0 x1 x4 (ix4 b h i j)
      = Ideal.exp (refMasked x0 x1 x4 b h i j - Finset.univ.sup (refMasked x0 x1 x4 b h i)) := by
  have e := shifted_apply (val_main_v52 (F := Ideal) x0 x1 x4) (val_main_v53 (F := Ideal) x0 x1 x4) b h i j
  rw [masked_apply, greatest_apply] at e
  exact e

/-- The sum of a query's exponentials. -/
theorem total_apply (b : Fin 4) (h : Fin 8) (i : Fin 4096) :
    val_main_v60 (F := Ideal) x0 x1 x4 (ix3 b h i) = ∑ j : Fin 4096, val_main_v59 (F := Ideal) x0 x1 x4 (ix4 b h i j) := by
  unfold val_main_v60 val_main_cst_9
  generalize val_main_v59 (F := Ideal) x0 x1 x4 = s
  pointwise []

/-- The weight of a key. -/
theorem weight_apply (b : Fin 4) (h : Fin 8) (i j : Fin 4096) :
    val_main_v63 (F := Ideal) x0 x1 x4 (ix4 b h i j)
      = Ideal.div (Ideal.exp (refMasked x0 x1 x4 b h i j - Finset.univ.sup (refMasked x0 x1 x4 b h i)))
        (∑ j : Fin 4096, Ideal.exp (refMasked x0 x1 x4 b h i j - Finset.univ.sup (refMasked x0 x1 x4 b h i))) := by
  rw [← exponential_apply, ← funext (exponential_apply x0 x1 x4 b h i), ← total_apply]
  unfold val_main_v63 val_main_v62 val_main_v61
  generalize val_main_v59 (F := Ideal) x0 x1 x4 = s
  generalize val_main_v60 (F := Ideal) x0 x1 x4 = t
  pointwise []

/-- The reference at an element: the weighted sum of the values, times the gate. -/
theorem out_apply (b : Fin 4) (i : Fin 4096) (h : Fin 8) (d : Fin 128) :
    val_main_v69 (F := Ideal) x0 x1 x2 x3 x4 (ix2 ⟨4096 * b.val + i.val, by omega⟩ ⟨128 * h.val + d.val, by omega⟩)
      = (∑ j : Fin 4096, Ideal.div (Ideal.exp (refMasked x0 x1 x4 b h i j - Finset.univ.sup (refMasked x0 x1 x4 b h i)))
          (∑ j : Fin 4096, Ideal.exp (refMasked x0 x1 x4 b h i j - Finset.univ.sup (refMasked x0 x1 x4 b h i)))
          * x2 (ix5 b h ⟨2 + j.val / 256, by omega⟩ d ⟨j.val % 256, by omega⟩))
        * (x3 (ix2 ⟨4096 * b.val + i.val, by omega⟩ ⟨3072 + 128 * h.val + d.val, by omega⟩)
          * Ideal.div 1 (1 + Ideal.exp (- x3 (ix2 ⟨4096 * b.val + i.val, by omega⟩ ⟨3072 + 128 * h.val + d.val, by omega⟩)))) := by
  pointwise [val_main_v69, val_main_v68, val_main_v67, val_main_v66, val_main_v65, val_main_v64, val_main_call3_v0, val_main_call3_v1,
    val_main_call3_v2, val_main_call3_v3, val_main_call3_v4, val_main_call3_v5, val_main_call3_cst, val_main_call3_cst_0]
  simp only [weight_apply, value_apply, gate_apply]

end Cert.ReferenceIdeal.Band
-- ==== Proof.BandPre.lean ====
module

public import proofs.«01_k».proof.Proof.Gen.Pre_band_masked
public import proofs.«01_k».proof.Proof.BandWord
public import Idealize.ShloMosaic.Lib.Pointwise

/-! What the precondition says of the operands, element by element. -/

@[expose] public section

set_option maxRecDepth 16384

noncomputable section

namespace Cert.Pre_band_masked.Band

open Cert.Pre_band_masked Cert.Pre_band_masked.Gen Idealize.ShloMosaic Idealize.ShloMosaic.WordCmp

variable (x0 : Vec Ideal S4x8x16x256x256 .bf16) (x1 : Vec Ideal S18432x2048 .bf16) (x2 : Vec Ideal S4x8x18x128x256 .bf16)
  (x3 : Vec Ideal S16384x11264 .bf16) (x4 : Vec Ideal S8x192 .f32)

/-- A number whose absolute value is below infinity is real. -/
theorem real_of_absf (x : EReal) (h : max x (-x) < Ideal.ofBits .f32 0x7F800000#32) : ∃ r : ℝ, x = (r : EReal) := by
  have ht : Ideal.ofBits .f32 0x7F800000#32 = ⊤ := by simp [Ideal.ofBits, Ideal.ieee]
  rw [ht] at h
  obtain ⟨h1, h2⟩ := max_lt_iff.mp h
  refine ⟨x.toReal, (EReal.coe_toReal h1.ne ?_).symm⟩
  rintro rfl
  simp at h2

/-- The word of the position of column `c` of tile `n`. -/
theorem place_word (n : Fin 16) (c : Fin 256) :
    IntOp.addi (IntOp.muli (BitVec.ofNat 32 n.val) 256#32) (BitVec.ofNat 32 c.val) = BitVec.ofNat 32 (256 * n.val + c.val) := by
  show BitVec.ofNat 32 n.val * 256#32 + BitVec.ofNat 32 c.val = _
  apply BitVec.eq_of_toNat_eq
  simp only [BitVec.toNat_add, BitVec.toNat_mul, BitVec.toNat_ofNat]
  omega

/-- The bit of a query slot, from the slot's word and the position's. -/
def queryBit (q : EReal) (s w : BitVec 32) : BitVec 1 :=
  Scalar.select (IntOp.cmpi .slt (IntOp.subi s 128#32) 0#32)
    (BitVec.ofBool (decide (max q (-q) < Ideal.ofBits .f32 0x7F800000#32)))
    (BitVec.ofBool (decide (q = Scalar.select
      (IntOp.ori
        (IntOp.andi (IntOp.cmpi .slt (IntOp.subi s 128#32) 64#32)
          (IntOp.ori (IntOp.cmpi .sgt (IntOp.subi s 128#32) (Cert.Band.chunkWord w))
            (IntOp.cmpi .slt (IntOp.subi s 128#32) (IntOp.subi (Cert.Band.chunkWord w) 8#32))))
        (IntOp.cmpi .eq (IntOp.subi s 128#32) 64#32))
      (Ideal.ofBits .f32 0xFF800000#32) 0)))

/-- The bit of a query slot, read: a number below slot 128, the mask's value from there on. -/
theorem queryBit_eq (q : EReal) (s i : Nat) (hs : s < 256) (hi : i < 4096) :
    queryBit q (BitVec.ofNat 32 s) (BitVec.ofNat 32 i)
      = if s < 128 then BitVec.ofBool (decide (max q (-q) < Ideal.ofBits .f32 0x7F800000#32))
        else BitVec.ofBool (decide (q
          = if (s < 192 ∧ (i / 64 + 128 < s ∨ s + 8 < i / 64 + 128)) ∨ s = 192 then Ideal.ofBits .f32 0xFF800000#32 else 0)) := by
  unfold queryBit
  have e1 : (IntOp.subi (BitVec.ofNat 32 s) 128#32).toInt = (s : Int) - 128 := Cert.Band.toInt_word_sub s 128 (by omega) (by omega)
  have e2 : (IntOp.subi (BitVec.ofNat 32 (i / 64)) 8#32).toInt = ((i / 64 : Nat) : Int) - 8 := Cert.Band.toInt_word_sub (i / 64) 8 (by omega) (by omega)
  have e3 : (IntOp.subi (BitVec.ofNat 32 s) 128#32 = 64#32) ↔ s = 192 := by
    rw [← BitVec.toInt_inj, e1]
    show (s : Int) - 128 = 64 ↔ _
    omega
  have e4 : (0#32).toInt = 0 := rfl
  have e5 : (64#32).toInt = 64 := rfl
  rw [Cert.Band.chunkWord_ofNat i (by omega), cmpi_slt_eq, cmpi_slt_eq, cmpi_slt_eq, cmpi_sgt_eq, cmpi_eq_eq, e1, e2, e4, e5,
    Cert.Band.toInt_word (i / 64) (by omega), Cert.Band.or_bits, Cert.Band.and_bits, Cert.Band.or_bits, Cert.Band.select_bit, Cert.Band.select_bit]
  have h1 : ((s : Int) - 128 < 0) ↔ s < 128 := by omega
  have h2 : ((s : Int) - 128 < 64 ∧ (((i / 64 : Nat) : Int) < (s : Int) - 128 ∨ (s : Int) - 128 < ((i / 64 : Nat) : Int) - 8))
      ∨ IntOp.subi (BitVec.ofNat 32 s) 128#32 = 64#32
      ↔ (s < 192 ∧ (i / 64 + 128 < s ∨ s + 8 < i / 64 + 128)) ∨ s = 192 := by
    rw [e3]; omega
  simp only [h1, h2]

/-- The bit of a key lane, from the lane's word and the row's. -/
def keyBit (q : EReal) (l r : BitVec 32) : BitVec 1 :=
  Scalar.select (IntOp.cmpi .slt (IntOp.subi l 128#32) 0#32)
    (IntOp.ori (IntOp.cmpi .slt r 512#32) (BitVec.ofBool (decide (max q (-q) < Ideal.ofBits .f32 0x7F800000#32))))
    (BitVec.ofBool (decide (q = Scalar.select
      (Scalar.select (IntOp.cmpi .slt r 512#32) (IntOp.cmpi .eq (IntOp.subi l 128#32) 64#32)
        (IntOp.cmpi .eq (IntOp.subi l 128#32) (Cert.Band.chunkWord (IntOp.subi r 512#32))))
      1 0)))

/-- The bit of a key lane, read: a number below lane 128 of the rows from 512 on, the indicator of the row's chunk from lane 128 on. -/
theorem keyBit_eq (q : EReal) (l r : Nat) (hl : l < 256) (hr : r < 4608) :
    keyBit q (BitVec.ofNat 32 l) (BitVec.ofNat 32 r)
      = if l < 128 then BitVec.ofBool (decide (r < 512 ∨ max q (-q) < Ideal.ofBits .f32 0x7F800000#32))
        else BitVec.ofBool (decide (q = if l = (if r < 512 then 192 else 128 + (r - 512) / 64) then 1 else 0)) := by
  unfold keyBit
  have e1 : (IntOp.subi (BitVec.ofNat 32 l) 128#32).toInt = (l : Int) - 128 := Cert.Band.toInt_word_sub l 128 (by omega) (by omega)
  have e4 : (0#32).toInt = 0 := rfl
  have e5 : (512#32).toInt = 512 := rfl
  have h1 : ((l : Int) - 128 < 0) ↔ l < 128 := by omega
  have h2 : ((r : Int) < 512) ↔ r < 512 := by omega
  have e3 : ∀ a : Nat, a < 128 → ((IntOp.subi (BitVec.ofNat 32 l) 128#32 = BitVec.ofNat 32 a) ↔ l = 128 + a) := fun a ha => by
    rw [← BitVec.toInt_inj, e1, Cert.Band.toInt_word a (by omega)]
    omega
  have e6 : IntOp.subi (BitVec.ofNat 32 l) 128#32 = 64#32 ↔ l = 192 := e3 64 (by omega)
  rw [cmpi_slt_eq, cmpi_slt_eq, cmpi_eq_eq, cmpi_eq_eq, e1, e4, e5, Cert.Band.toInt_word r (by omega), Cert.Band.or_bits, Cert.Band.select_bit,
    Cert.Band.select_bit]
  simp only [h1, h2, e6]
  by_cases h : r < 512
  · simp only [if_pos h, Cert.Band.select_bit]
  · have ew : IntOp.subi (BitVec.ofNat 32 r) 512#32 = BitVec.ofNat 32 (r - 512) := by
      show BitVec.ofNat 32 r - 512#32 = _
      apply BitVec.eq_of_toNat_eq
      simp only [BitVec.toNat_sub, BitVec.toNat_ofNat]
      omega
    simp only [if_neg h, ew, Cert.Band.chunkWord_ofNat (r - 512) (by omega), e3 ((r - 512) / 64) (by omega), Cert.Band.select_bit]

/-- The bit the precondition gives a query slot. -/
theorem query_word (b : Fin 4) (h : Fin 8) (n : Fin 16) (s c : Fin 256) :
    (fn (F := Ideal) x0 x1 x2 x3 x4).1 (ix5 b h n s c)
      = if s.val < 128 then BitVec.ofBool (decide (max (x0 (ix5 b h n s c)) (-(x0 (ix5 b h n s c))) < Ideal.ofBits .f32 0x7F800000#32))
        else BitVec.ofBool (decide (x0 (ix5 b h n s c)
          = if (s.val < 192 ∧ ((256 * n.val + c.val) / 64 + 128 < s.val ∨ s.val + 8 < (256 * n.val + c.val) / 64 + 128)) ∨ s.val = 192
            then Ideal.ofBits .f32 0xFF800000#32 else 0)) := by
  simp only [fn, fn_part1, fn_part2, fn_part3, fn_where, fn_where_0, fn_where_1, fn_floor_divide, id_eq]
  pointwise []
  rw [place_word]
  exact queryBit_eq _ s.val (256 * n.val + c.val) s.isLt (by omega)

/-- The bit the precondition gives a key lane. -/
theorem key_word (b : Fin 4) (r : Fin 4608) (h : Fin 8) (l : Fin 256) :
    (fn (F := Ideal) x0 x1 x2 x3 x4).2.1 (ix4 b r h l)
      = if l.val < 128 then BitVec.ofBool (decide (r.val < 512 ∨ max (x1 (ix2 ⟨4608 * b.val + r.val, by omega⟩ ⟨256 * h.val + l.val, by omega⟩))
            (-(x1 (ix2 ⟨4608 * b.val + r.val, by omega⟩ ⟨256 * h.val + l.val, by omega⟩))) < Ideal.ofBits .f32 0x7F800000#32))
        else BitVec.ofBool (decide (x1 (ix2 ⟨4608 * b.val + r.val, by omega⟩ ⟨256 * h.val + l.val, by omega⟩)
          = if l.val = (if r.val < 512 then 192 else 128 + (r.val - 512) / 64) then 1 else 0)) := by
  simp only [fn, fn_part1, fn_part2, fn_part3, fn_where_3, fn_where_4, fn_where_5, fn_floor_divide_2, id_eq]
  pointwise []
  simp only [Nat.mul_comm b.val, Nat.mul_comm h.val]
  exact keyBit_eq _ l.val r.val l.isLt r.isLt

/-- The bit the precondition gives a bias. -/
theorem rel_word (h : Fin 8) (e : Fin 192) :
    (fn (F := Ideal) x0 x1 x2 x3 x4).2.2 (ix2 h e) = BitVec.ofBool (decide (max (x4 (ix2 h e)) (-(x4 (ix2 h e))) < Ideal.ofBits .f32 0x7F800000#32)) := by
  simp only [fn, fn_part1, fn_part2, fn_part3]
  pointwise []
  rfl

end Cert.Pre_band_masked.Band
-- ==== Proof.BandSame.lean ====
module

public import proofs.«01_k».proof.Proof.BandRead
public import proofs.«01_k».proof.Proof.BandRel
public import proofs.«01_k».proof.Proof.BandRef
public import proofs.«01_k».proof.Proof.BandPre

/-! Under the precondition the kernel's tiles are the reference's rows. -/

@[expose] public section

set_option maxRecDepth 16384

noncomputable section

namespace Cert.Band

open Idealize.ShloMosaic Cert.KernelIdeal Cert.KernelIdeal.Band

/-- What the precondition says of the operands: the features, the keys' features and the biases are real numbers; from slot 128 on the
    queries hold the mask and the keys the indicator of their chunk. -/
structure Operands (a0 : Vec Ideal S4x8x16x256x256 .bf16) (a1 : Vec Ideal S18432x2048 .bf16) (a4 : Vec Ideal S8x192 .f32) : Prop where
  query : ∀ (b : Fin 4) (h : Fin 8) (n : Fin 16) (s c : Fin 256), s.val < 128 → ∃ r : ℝ, (a0 (ix5 b h n s c) : EReal) = r
  mask : ∀ (b : Fin 4) (h : Fin 8) (n : Fin 16) (s c : Fin 256), 128 ≤ s.val → (a0 (ix5 b h n s c) : EReal)
    = if (s.val < 192 ∧ ((256 * n.val + c.val) / 64 + 128 < s.val ∨ s.val + 8 < (256 * n.val + c.val) / 64 + 128)) ∨ s.val = 192 then ⊥ else 0
  key : ∀ (b : Fin 4) (r : Fin 4608) (h : Fin 8) (l : Fin 256), l.val < 128 → 512 ≤ r.val →
    ∃ k : ℝ, (a1 (ix2 ⟨4608 * b.val + r.val, by omega⟩ ⟨256 * h.val + l.val, by omega⟩) : EReal) = k
  chunk : ∀ (b : Fin 4) (r : Fin 4608) (h : Fin 8) (l : Fin 256), 128 ≤ l.val →
    (a1 (ix2 ⟨4608 * b.val + r.val, by omega⟩ ⟨256 * h.val + l.val, by omega⟩) : EReal)
      = if l.val = (if r.val < 512 then 192 else 128 + (r.val - 512) / 64) then 1 else 0
  rel : ∀ (h : Fin 8) (e : Fin 192), ∃ r : ℝ, (a4 (ix2 h e) : EReal) = r

/-- The precondition gives the operands' facts. -/
theorem operands_of_pre (a0 : Vec Ideal S4x8x16x256x256 .bf16) (a1 : Vec Ideal S18432x2048 .bf16) (a2 : Vec Ideal S4x8x18x128x256 .bf16)
    (a3 : Vec Ideal S16384x11264 .bf16) (a4 : Vec Ideal S8x192 .f32)
    (h1 : (Cert.Pre_band_masked.fn (F := Ideal) a0 a1 a2 a3 a4).1 = fun _ => 1#1)
    (h2 : (Cert.Pre_band_masked.fn (F := Ideal) a0 a1 a2 a3 a4).2.1 = fun _ => 1#1)
    (h3 : (Cert.Pre_band_masked.fn (F := Ideal) a0 a1 a2 a3 a4).2.2 = fun _ => 1#1) : Operands a0 a1 a4 where
  query b h n s c hs := by
    have e := (Cert.Pre_band_masked.Band.query_word a0 a1 a2 a3 a4 b h n s c).symm.trans (congrFun h1 _)
    rw [if_pos hs, bit_eq_one] at e
    exact Cert.Pre_band_masked.Band.real_of_absf _ e
  mask b h n s c hs := by
    have e := (Cert.Pre_band_masked.Band.query_word a0 a1 a2 a3 a4 b h n s c).symm.trans (congrFun h1 _)
    have hb : Ideal.ofBits .f32 0xFF800000#32 = ⊥ := by simp [Ideal.ofBits, Ideal.ieee]
    rw [if_neg (by omega), bit_eq_one, hb] at e
    exact e
  key b r h l hl hr := by
    have e := (Cert.Pre_band_masked.Band.key_word a0 a1 a2 a3 a4 b r h l).symm.trans (congrFun h2 _)
    rw [if_pos hl, bit_eq_one] at e
    exact Cert.Pre_band_masked.Band.real_of_absf _ (e.resolve_left (by omega))
  chunk b r h l hl := by
    have e := (Cert.Pre_band_masked.Band.key_word a0 a1 a2 a3 a4 b r h l).symm.trans (congrFun h2 _)
    rw [if_neg (by omega), bit_eq_one] at e
    exact e
  rel h e := by
    have e' := (Cert.Pre_band_masked.Band.rel_word a0 a1 a2 a3 a4 h e).symm.trans (congrFun h3 _)
    rw [bit_eq_one] at e'
    exact Cert.Pre_band_masked.Band.real_of_absf _ e'

/-- A sum over 256 lanes is the sum over the first 128 and the sum over the last. -/
theorem sum_halves (f : Fin 256 → EReal) :
    ∑ l, f l = (∑ l : Fin 128, f ⟨l.val, by omega⟩) + ∑ l : Fin 128, f ⟨128 + l.val, by omega⟩ :=
  Fin.sum_univ_add (a := 128) (b := 128) f

section
variable (a0 : Vec Ideal S4x8x16x256x256 .bf16) (a1 : Vec Ideal S18432x2048 .bf16) (a2 : Vec Ideal S4x8x18x128x256 .bf16)
  (a3 : Vec Ideal S16384x11264 .bf16) (a4 : Vec Ideal S8x192 .f32) (rr : Vec Ideal S8x1x1024 .f32)
variable (H : Operands a0 a1 a4) (hrr : ∀ (h : Fin 8) (e : Fin 1024), rr (ix3 h 0 e) = a4 (ix2 h (relIdx (entryDist e.val))))

/-- The slot whose indicator a key row holds: its chunk, or 64 for a row of the padding. -/
def slot (r : Nat) : Nat := if r < 512 then 64 else (r - 512) / 64

include H in
/-- The last 128 lanes of a score add the mask at the key row's slot. -/
theorem mask_sum (b : Fin 4) (h : Fin 8) (n : Fin 16) (c : Fin 256) (r : Fin 4608) :
    (∑ l : Fin 128, (a1 (ix2 ⟨4608 * b.val + r.val, by omega⟩ ⟨256 * h.val + (128 + l.val), by omega⟩) : EReal) * a0 (ix5 b h n ⟨128 + l.val, by omega⟩ c))
      = if (slot r.val < 64 ∧ ((256 * n.val + c.val) / 64 < slot r.val ∨ slot r.val + 8 < (256 * n.val + c.val) / 64)) ∨ slot r.val = 64
        then ⊥ else 0 := by
  have hr := r.isLt
  have hs : slot r.val < 128 := by unfold slot; split <;> omega
  rw [Finset.sum_eq_single (⟨slot r.val, hs⟩ : Fin 128)]
  · have e1 := H.chunk b r h ⟨128 + slot r.val, by omega⟩ (by show 128 ≤ 128 + slot r.val; omega)
    have e2 := H.mask b h n ⟨128 + slot r.val, by omega⟩ c (by show 128 ≤ 128 + slot r.val; omega)
    rw [if_pos (by show 128 + slot r.val = _; unfold slot; split <;> omega)] at e1
    refine (congrArg₂ (· * ·) e1 e2).trans ?_
    rw [one_mul]
    refine if_congr ?_ rfl rfl
    show (128 + slot r.val < 192 ∧ ((256 * n.val + c.val) / 64 + 128 < 128 + slot r.val ∨ 128 + slot r.val + 8 < (256 * n.val + c.val) / 64 + 128)) ∨ 128 + slot r.val = 192 ↔ _
    omega
  · intro l _ hl
    have e1 := H.chunk b r h ⟨128 + l.val, by omega⟩ (by show 128 ≤ 128 + l.val; omega)
    have hne : l.val ≠ slot r.val := fun e => hl (Fin.ext e)
    rw [if_neg (by show ¬ 128 + l.val = _; unfold slot at hne; split at hne <;> split <;> omega)] at e1
    refine (congrArg (· * _) e1).trans (zero_mul _)
  · intro h; exact absurd (Finset.mem_univ _) h

/-- Whether query column `c` of tile `n` attends to the key of position `j`. -/
abbrev Attends (n : Fin 16) (c : Fin 256) (j : Fin 4096) : Prop :=
  j.val / 64 ≤ (256 * n.val + c.val) / 64 ∧ (256 * n.val + c.val) / 64 ≤ j.val / 64 + 8

/-- The window row of the key of position `j` in tile `n`. -/
def windowRow (n : Fin 16) (j : Fin 4096) : Fin 768 := ⟨(j.val + 512 - 256 * n.val) % 768, Nat.mod_lt _ (by decide)⟩

include H hrr in
/-- A window score is the sum over the features, the mask, and the scaled bias. -/
theorem winScore_eq (b : Fin 4) (h : Fin 8) (n : Fin 16) (c : Fin 256) (x : Fin 768) :
    winScore (qBlk a0 b h) (kBlk a1 b h) (rBlk rr h) n c x
      = ((∑ l : Fin 128, (a1 (ix2 ⟨4608 * b.val + (256 * n.val + x.val), by omega⟩ ⟨256 * h.val + l.val, by omega⟩) : EReal) * a0 (ix5 b h n ⟨l.val, by omega⟩ c))
        + if (slot (256 * n.val + x.val) < 64 ∧ ((256 * n.val + c.val) / 64 < slot (256 * n.val + x.val) ∨ slot (256 * n.val + x.val) + 8 < (256 * n.val + c.val) / 64)) ∨ slot (256 * n.val + x.val) = 64
          then ⊥ else 0)
        + (a4 (ix2 h (relIdx (entryDist ((x.val + 1024 - c.val) % 1024)))) : EReal) * (log2e : EReal) := by
  have hm := mask_sum a0 a1 a4 H b h n c ⟨256 * n.val + x.val, by omega⟩
  unfold winScore
  rw [sum_halves, ← hm]
  refine congrArg₂ (· + ·) rfl (congrArg (· * _) ?_)
  exact hrr h ⟨(x.val + 1024 - c.val) % 1024, by omega⟩

include H hrr in
/-- At a query's element the kernel's tile is the reference's result. -/
theorem tile_same (b : Fin 4) (h : Fin 8) (n : Fin 16) (r : Fin 256) (d : Fin 128) :
    tile (F := Ideal) (qBlk a0 b h) (kBlk a1 b h) (vBlk a2 b h) (zBlk a3 b h) (rBlk rr h) n.val n.isLt (ix2 r d)
      = Cert.ReferenceIdeal.Read.val_main_v69 (F := Ideal) a0 a1 a2 a3 a4
          (ix2 ⟨4096 * b.val + (256 * n.val + r.val), by omega⟩ ⟨128 * h.val + d.val, by omega⟩) := by
  have hn := n.isLt
  have hr := r.isLt
  choose q hq using fun l : Fin 128 => H.query b h n ⟨l.val, by omega⟩ r l.isLt
  choose k hk using fun (j : Fin 4096) (l : Fin 128) => H.key b ⟨512 + j.val, by omega⟩ h ⟨l.val, by omega⟩ l.isLt (Nat.le_add_right 512 j.val)
  choose t ht using fun j : Fin 4096 => H.rel h (relIdx (IntOp.subi (BitVec.ofNat 32 (256 * n.val + r.val)) (BitVec.ofNat 32 j.val)))
  -- the reference's scores are real
  have hσ : ∀ j, Cert.ReferenceIdeal.Band.refScore a0 a1 a4 b h ⟨256 * n.val + r.val, by omega⟩ j
      = (((∑ l, q l * k j l) * Real.log 2 + t j : ℝ) : EReal) := by
    intro j
    unfold Cert.ReferenceIdeal.Band.refScore
    rw [EReal.coe_add, EReal.coe_mul, Cert.BandMath.coe_sum]
    refine congrArg₂ (· + ·) (congrArg (· * _) (Finset.sum_congr rfl fun l _ => ?_)) (ht j)
    rw [EReal.coe_mul, ← hq l, ← hk j l]
    refine congrArg₂ (· * ·) (congrArg a0 ?_) rfl
    congr 1
    · exact Fin.ext (by show (256 * n.val + r.val) / 256 = n.val; omega)
    · exact Fin.ext (by show (256 * n.val + r.val) % 256 = r.val; omega)
  have hmask : Cert.ReferenceIdeal.Band.refMasked a0 a1 a4 b h ⟨256 * n.val + r.val, by omega⟩
      = Cert.BandMath.masked (Attends n r) (fun j => (∑ l, q l * k j l) * Real.log 2 + t j) := by
    funext j
    unfold Cert.ReferenceIdeal.Band.refMasked Cert.BandMath.masked
    exact if_congr Iff.rfl (hσ j) rfl
  have hlog : Real.log 2 ≠ 0 := (Real.log_pos one_lt_two).ne'
  -- the window's scores
  have hw : ∀ j, Attends n r j → (windowRow n j).val = j.val + 512 - 256 * n.val ∧ 256 * n.val + (windowRow n j).val = 512 + j.val := by
    intro j hj
    have hj' := j.isLt
    obtain ⟨h1, h2⟩ := hj
    have : (windowRow n j).val = (j.val + 512 - 256 * n.val) % 768 := rfl
    omega
  have hs : ∀ j, Attends n r j → winScore (qBlk a0 b h) (kBlk a1 b h) (rBlk rr h) n r (windowRow n j)
      = ((((∑ l, q l * k j l) * Real.log 2 + t j) * log2e : ℝ) : EReal) := by
    intro j hj
    obtain ⟨hx1, hx2⟩ := hw j hj
    have hj' := j.isLt
    have hsl : slot (256 * n.val + (windowRow n j).val) = j.val / 64 := by
      rw [hx2]; unfold slot; rw [if_neg (by omega)]; omega
    rw [winScore_eq a0 a1 a4 rr H hrr, hsl, if_neg (by obtain ⟨h1, h2⟩ := hj; omega), add_zero,
      entryDist_eq n.val r.val (windowRow n j).val n.isLt r.isLt (windowRow n j).isLt (by omega)]
    have hd : 256 * n.val + (windowRow n j).val - 512 = j.val := by omega
    rw [hd, ht j]
    have hsum : (∑ l : Fin 128, (a1 (ix2 ⟨4608 * b.val + (256 * n.val + (windowRow n j).val), by omega⟩ ⟨256 * h.val + l.val, by omega⟩) : EReal) * a0 (ix5 b h n ⟨l.val, by omega⟩ r))
        = ((∑ l, q l * k j l : ℝ) : EReal) := by
      rw [Cert.BandMath.coe_sum]
      refine Finset.sum_congr rfl fun l _ => ?_
      rw [mul_comm (q l), EReal.coe_mul, ← hq l, ← hk j l]
      refine congrArg (· * _) (congrArg a1 ?_)
      congr 1
      exact Fin.ext (by show 4608 * b.val + (256 * n.val + (windowRow n j).val) = 4608 * b.val + (512 + j.val); omega)
    rw [hsum, ← EReal.coe_mul, ← EReal.coe_add]
    congr 1
    rw [add_mul, mul_assoc, mul_inv_cancel₀ hlog, mul_one]
  have hb : ∀ x, (∀ j, Attends n r j → windowRow n j ≠ x) → winScore (qBlk a0 b h) (kBlk a1 b h) (rBlk rr h) n r x = ⊥ := by
    intro x hx
    have hx' := x.isLt
    have hout : (slot (256 * n.val + x.val) < 64 ∧ ((256 * n.val + r.val) / 64 < slot (256 * n.val + x.val) ∨ slot (256 * n.val + x.val) + 8 < (256 * n.val + r.val) / 64)) ∨ slot (256 * n.val + x.val) = 64 := by
      by_cases h512 : 256 * n.val + x.val < 512
      · right; unfold slot; rw [if_pos h512]
      · left
        have hsl : slot (256 * n.val + x.val) = (256 * n.val + x.val - 512) / 64 := by unfold slot; rw [if_neg h512]
        have hno : ¬ Attends n r ⟨256 * n.val + x.val - 512, by omega⟩ := fun hj =>
          hx _ hj (Fin.ext (by show (256 * n.val + x.val - 512 + 512 - 256 * n.val) % 768 = x.val; omega))
        have hno' : ¬ ((256 * n.val + x.val - 512) / 64 ≤ (256 * n.val + r.val) / 64 ∧ (256 * n.val + r.val) / 64 ≤ (256 * n.val + x.val - 512) / 64 + 8) := hno
        rw [hsl]
        omega
    rw [winScore_eq a0 a1 a4 rr H hrr, if_pos hout, EReal.add_bot, EReal.bot_add]
  have hinj : ∀ j j', Attends n r j → Attends n r j' → windowRow n j = windowRow n j' → j = j' := by
    intro j j' hj hj' e
    have e' := congrArg Fin.val e
    have := (hw j hj).2
    have := (hw j' hj').2
    exact Fin.ext (by omega)
  rw [tile_apply, Cert.ReferenceIdeal.Band.out_apply a0 a1 a2 a3 a4 b ⟨256 * n.val + r.val, by omega⟩ h d, hmask]
  refine congrArg₂ (· * ·) ?_ ?_
  · exact Cert.BandMath.window_softmax (Attends n r) (fun j => (∑ l, q l * k j l) * Real.log 2 + t j) log2e _ (windowRow n) hs hb hinj rfl
      ⟨⟨256 * n.val + r.val, by omega⟩, le_refl _, Nat.le_add_right _ _⟩ _ _ (fun j hj => by
        obtain ⟨hx1, hx2⟩ := hw j hj
        refine congrArg a2 ?_
        congr 1
        · exact Fin.ext (by show n.val + (windowRow n j).val / 256 = 2 + j.val / 256; omega)
        · exact Fin.ext (by show (windowRow n j).val % 256 = j.val % 256; omega))
  · rw [sub_eq_add_neg, zero_add]
    rfl

include H hrr in
/-- The kernel's whole result is the reference's. -/
theorem whole_same : whole a0 a1 a2 a3 rr = Cert.ReferenceIdeal.Read.val_main_v69 (F := Ideal) a0 a1 a2 a3 a4 := by
  funext i
  have h0 : (i 0).val < 16384 := (i 0).isLt
  have h1 : (i 1).val < 1024 := (i 1).isLt
  unfold whole block
  refine (tile_same a0 a1 a2 a3 a4 rr H hrr ⟨(i 0).val / 4096, by omega⟩ ⟨(i 1).val / 128, by omega⟩ ⟨(i 0).val % 4096 / 256, by omega⟩
    ⟨(i 0).val % 4096 % 256, by omega⟩ ⟨(i 1).val % 128, by omega⟩).trans (congrArg _ ?_)
  funext a
  refine Fin.ext ?_
  match a with
  | ⟨0, _⟩ => show 4096 * ((i 0).val / 4096) + (256 * ((i 0).val % 4096 / 256) + (i 0).val % 4096 % 256) = (i 0).val; omega
  | ⟨1, _⟩ => show 128 * ((i 1).val / 128) + (i 1).val % 128 = (i 1).val; omega

end

end Cert.Band

end
-- ==== Proof.ProjSame.lean ====
module

public import proofs.«01_k».proof.Proof.Gen.ProjKernelIdeal.Value
public import proofs.«01_k».proof.Proof.Gen.ProjReferenceIdeal.Read
public import Idealize.ShloMosaic.Lib.Tactic
public import Idealize.ShloMosaic.Lib.Pipeline.ValueKit
public import Idealize.ShloMosaic.Lib.Pointwise

/-! The input projection: every entry of the kernel's result and of the reference's is one sum over the 2048 features. -/

@[expose] public section

set_option maxRecDepth 16384

noncomputable section

namespace Cert.Proj

open Idealize.ShloMosaic Idealize.ShloMosaic.TcCoe

/-- The projection's whole result: row `i` of the transposed first array against column `j` of the second. -/
def product (a : Vec Ideal Cert.ProjKernelIdeal.S2048x16384 .bf16) (w : Vec Ideal Cert.ProjKernelIdeal.S2048x11264 .bf16) :
    Vec Ideal Cert.ProjKernelIdeal.S16384x11264 .bf16 := fun i =>
  ∑ k : Fin 2048, a (ix2 k (i 0)) * w (ix2 k (i 1))

/-- The reference computes the product. -/
theorem reference_product (a : Vec Ideal Cert.ProjKernelIdeal.S2048x16384 .bf16) (w : Vec Ideal Cert.ProjKernelIdeal.S2048x11264 .bf16) :
    Cert.ProjReferenceIdeal.Read.val_main_v2 (F := Ideal) a w = product a w := by
  funext i
  unfold product
  pointwise [Cert.ProjReferenceIdeal.Read.val_main_v2, Cert.ProjReferenceIdeal.Read.val_main_v1, Cert.ProjReferenceIdeal.Read.val_main_v0]

open Cert.ProjKernelIdeal Cert.ProjKernelIdeal.Gen

/-- The block that a grid point stores: the product of its two blocks. -/
theorem block_apply (x0 x1 : Vec Ideal S2048x1024 .bf16) (y : S1024x1024.Idx) :
    out0_2 (F := Ideal) x0 x1 y = ∑ k : Fin 2048, x0 (ix2 k (y 0)) * x1 (ix2 k (y 1)) := by
  have hz : (![0, 0] : Fin 2 → Nat) = fun _ => 0 := by funext a; fin_cases a <;> rfl
  unfold out0_2
  rw [View.canon_unit_zero hz, View.ld_unit_zero hz, View.ld_unit_zero hz]
  unfold_payloads
  pointwise

/-- Where two blocks hold a row and a column of the whole arrays, the stored block holds the product's entry. -/
theorem block_product (a : Vec Ideal S2048x16384 .bf16) (w : Vec Ideal S2048x11264 .bf16) (x0 x1 : Vec Ideal S2048x1024 .bf16)
    (y : S1024x1024.Idx) (i : S16384x11264.Idx) (h0 : ∀ k : Fin 2048, x0 (ix2 k (y 0)) = a (ix2 k (i 0)))
    (h1 : ∀ k : Fin 2048, x1 (ix2 k (y 1)) = w (ix2 k (i 1))) : out0_2 (F := Ideal) x0 x1 y = product a w i := by
  rw [block_apply]
  exact Finset.sum_congr rfl fun k _ => by rw [h0, h1]

variable (m : (ℓ : Loc nD τ sig) → Buf (Elt Ideal) ℓ)

/-- Which columns of the first array a point takes. -/
theorem index0 : ∀ t : Fin cfg0.N, win0_0.index t = ![0, t.val / 11] := (by decide +kernel : ∀ t : Fin grid0.N, _)
/-- Which columns of the second array a point takes. -/
theorem index1 : ∀ t : Fin cfg0.N, win0_1.index t = ![0, t.val % 11] := (by decide +kernel : ∀ t : Fin grid0.N, _)
/-- Which block of the result a point writes. -/
theorem index2 : ∀ t : Fin cfg0.N, win0_2.index t = ![t.val / 11, t.val % 11] := (by decide +kernel : ∀ t : Fin grid0.N, _)

/-- The result array after the run is the product of the arguments. -/
theorem final (c : Dev nD) : (dats m 0 c).arrAt 2 cfg0.N = product (V m c main_arg0) (V m c main_arg1) := by
  refine (dats m 0 c).arrAt_eq_of_covers 2 _ (by decide +kernel) fun t hf y => ?_
  blk_simp
  rw [after0_2]
  refine block_product _ _ _ _ y _ (fun k => ?_) (fun k => ?_)
  · blk_simp [iblk]
    congr 1
    blk_ext [index0, index2]
  · blk_simp [iblk]
    congr 1
    blk_ext [index1, index2]

end Cert.Proj
-- ==== Proof.MergeSame.lean ====
module

public import proofs.«01_k».proof.Proof.Gen.MergeKernelIdeal.Value
public import proofs.«01_k».proof.Proof.Gen.MergeReferenceIdeal.Read
public import Idealize.ShloMosaic.Lib.Tactic
public import Idealize.ShloMosaic.Lib.Pipeline.ValueKit
public import Idealize.ShloMosaic.Lib.Pointwise
public import Idealize.ShloMosaic.Lib.StableHlo.ReadAt

/-! The gated merge: every entry of the kernel's result and of the reference's is the sum over the three branches of the
    sigmoid of the branch's gate times the branch's product with its weights. -/

@[expose] public section

set_option maxRecDepth 16384

noncomputable section

namespace Cert.Merge

open Idealize.ShloMosaic Idealize.ShloMosaic.TcCoe
open Cert.MergeKernelIdeal Cert.MergeKernelIdeal.Gen

/-- One branch's term: the sigmoid of its gate times its row's product with its weights' column. -/
def term (z : EReal) (o w : Fin 1024 → EReal) : EReal := Ideal.logistic z * ∑ k : Fin 1024, o k * w k

/-- The merge's whole result; branch `n` has its gates in the columns from `4096 + 2048 n`. -/
def merged (oa ob oc : Vec Ideal S16384x1024 .bf16) (w : Vec Ideal S3x1024x2048 .f32) (u : Vec Ideal S16384x11264 .bf16) :
    Vec Ideal S16384x2048 .bf16 := fun i =>
  have h1 : (i 1).val < 2048 := (i 1).isLt
  term (u (ix2 (i 0) ⟨4096 + (i 1).val, by omega⟩)) (fun k => oa (ix2 (i 0) k)) (fun k => w (ix3 0 k (i 1)))
    + term (u (ix2 (i 0) ⟨6144 + (i 1).val, by omega⟩)) (fun k => ob (ix2 (i 0) k)) (fun k => w (ix3 1 k (i 1)))
    + term (u (ix2 (i 0) ⟨8192 + (i 1).val, by omega⟩)) (fun k => oc (ix2 (i 0) k)) (fun k => w (ix3 2 k (i 1)))

section Reference
open Cert.MergeReferenceIdeal.Read

variable (w : Vec Ideal S3x1024x2048 .f32) (u : Vec Ideal S16384x11264 .bf16)

/-- The reference's gate of branch `n` at row `r`, column `c`. -/
theorem gate_apply (r : Fin 16384) (n : Fin 3) (c : Fin 2048) :
    val_main_v8 (F := Ideal) u (ix3 r n c) = Ideal.logistic (u (ix2 r ⟨4096 + (n.val * 2048 + c.val), by omega⟩)) := by
  pointwise [val_main_v8, val_main_v7, val_main_v6, val_main_v5, val_main_v4, val_main_v3, val_main_v2, val_main_v1, val_main_v0, val_main_cst,
    val_main_cst_0]
  rfl

/-- The same, the gate's column given by its number. -/
theorem gate_at (r : Fin 16384) (n : Fin 3) (c : Fin 2048) (d : Fin 11264) (h : d.val = 4096 + (n.val * 2048 + c.val)) :
    val_main_v8 (F := Ideal) u (ix3 r n c) = Ideal.logistic (u (ix2 r d)) := by
  rw [gate_apply]
  congr 3
  exact Fin.ext h.symm

/-- The reference computes it. -/
theorem reference_merged (oa ob oc : Vec Ideal S16384x1024 .bf16) :
    val_main_v30 (F := Ideal) oa ob oc w u = merged oa ob oc w u := by
  funext i
  have h1 : (i 1).val < 2048 := (i 1).isLt
  unfold merged term
  pointwise [val_main_v30, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11, val_main_v10,
    val_main_v9]
  exact congrArg₂ (· + ·) (congrArg₂ (· + ·)
    (congrArg (· * _) (gate_at u (i 0) 0 (i 1) ⟨4096 + (i 1).val, by omega⟩ (by simp)))
    (congrArg (· * _) (gate_at u (i 0) 1 (i 1) ⟨6144 + (i 1).val, by omega⟩ (by simp; omega))))
    (congrArg (· * _) (gate_at u (i 0) 2 (i 1) ⟨8192 + (i 1).val, by omega⟩ (by simp; omega)))

end Reference

/-- The block that a grid point stores. -/
theorem block_apply (x0 x1 x2 : Vec Ideal S1024x1024 .bf16) (x3 : Vec Ideal S3x1024x1024 .bf16) (x4 x5 x6 : Vec Ideal S1024x1024 .bf16) (j : S1024x1024.Idx) :
    out0_7 (F := Ideal) x0 x1 x2 x3 x4 x5 x6 j
      = term (x4 j) (fun k => x0 (ix2 (j 0) k)) (fun k => x3 (ix3 0 k (j 1))) + term (x5 j) (fun k => x1 (ix2 (j 0) k)) (fun k => x3 (ix3 1 k (j 1)))
        + term (x6 j) (fun k => x2 (ix2 (j 0) k)) (fun k => x3 (ix3 2 k (j 1))) := by
  have hz : (![0, 0] : Fin 2 → Nat) = fun _ => 0 := by funext a; fin_cases a <;> rfl
  unfold out0_7
  rw [View.canon_unit_zero hz, View.ld_unit_zero hz, View.ld_unit_zero hz, View.ld_unit_zero hz, View.ld_unit_zero hz, View.ld_unit_zero hz,
    View.ld_unit_zero hz]
  unfold_payloads
  pointwise
  simp only [zero_sub]
  rfl

/-- Where the blocks hold the rows, the columns and the gates of the whole arrays, the stored block holds the whole result's entry. -/
theorem block_merged (oa ob oc : Vec Ideal S16384x1024 .bf16) (w : Vec Ideal S3x1024x2048 .f32) (u : Vec Ideal S16384x11264 .bf16)
    (x0 x1 x2 : Vec Ideal S1024x1024 .bf16) (x3 : Vec Ideal S3x1024x1024 .bf16) (x4 x5 x6 : Vec Ideal S1024x1024 .bf16) (j : S1024x1024.Idx)
    (i : S16384x2048.Idx) (b : (i 1).val < 2048)
    (h0 : ∀ k : Fin 1024, x0 (ix2 (j 0) k) = oa (ix2 (i 0) k)) (h1 : ∀ k : Fin 1024, x1 (ix2 (j 0) k) = ob (ix2 (i 0) k))
    (h2 : ∀ k : Fin 1024, x2 (ix2 (j 0) k) = oc (ix2 (i 0) k)) (h3 : ∀ (n : Fin 3) (k : Fin 1024), x3 (ix3 n k (j 1)) = w (ix3 n k (i 1)))
    (h4 : x4 j = u (ix2 (i 0) ⟨4096 + (i 1).val, by omega⟩)) (h5 : x5 j = u (ix2 (i 0) ⟨6144 + (i 1).val, by omega⟩))
    (h6 : x6 j = u (ix2 (i 0) ⟨8192 + (i 1).val, by omega⟩)) :
    out0_7 (F := Ideal) x0 x1 x2 x3 x4 x5 x6 j = merged oa ob oc w u i := by
  rw [block_apply, h4, h5, h6]
  simp only [h0, h1, h2, h3]
  rfl

variable (m : (ℓ : Loc nD τ sig) → Buf (Elt Ideal) ℓ)

/-- The weights as the launch finds them are the argument's, a change of format being the identity. -/
theorem weights_at (c : Dev nD) (i : S3x1024x2048.Idx) : V m c main_v0 i = V m c main_arg3 i := by
  unfold V
  after_reads_at

/-- Which rows of the first branch a point takes. -/
theorem index0 : ∀ t : Fin cfg0.N, win0_0.index t = ![t.val / 2, 0] := (by decide +kernel : ∀ t : Fin grid0.N, _)
/-- Which rows of the second branch a point takes. -/
theorem index1 : ∀ t : Fin cfg0.N, win0_1.index t = ![t.val / 2, 0] := (by decide +kernel : ∀ t : Fin grid0.N, _)
/-- Which rows of the third branch a point takes. -/
theorem index2 : ∀ t : Fin cfg0.N, win0_2.index t = ![t.val / 2, 0] := (by decide +kernel : ∀ t : Fin grid0.N, _)
/-- Which columns of the weights a point takes. -/
theorem index3 : ∀ t : Fin cfg0.N, win0_3.index t = ![0, 0, t.val % 2] := (by decide +kernel : ∀ t : Fin grid0.N, _)
/-- Which block of the first branch's gates a point takes. -/
theorem index4 : ∀ t : Fin cfg0.N, win0_4.index t = ![t.val / 2, 4 + t.val % 2] := (by decide +kernel : ∀ t : Fin grid0.N, _)
/-- Which block of the second branch's gates a point takes. -/
theorem index5 : ∀ t : Fin cfg0.N, win0_5.index t = ![t.val / 2, 6 + t.val % 2] := (by decide +kernel : ∀ t : Fin grid0.N, _)
/-- Which block of the third branch's gates a point takes. -/
theorem index6 : ∀ t : Fin cfg0.N, win0_6.index t = ![t.val / 2, 8 + t.val % 2] := (by decide +kernel : ∀ t : Fin grid0.N, _)
/-- Which block of the result a point writes. -/
theorem index7 : ∀ t : Fin cfg0.N, win0_7.index t = ![t.val / 2, t.val % 2] := (by decide +kernel : ∀ t : Fin grid0.N, _)

/-- The result array after the run is the merge of the arguments. -/
theorem final (c : Dev nD) : (dats m 0 c).arrAt 7 cfg0.N
    = merged (V m c main_arg0) (V m c main_arg1) (V m c main_arg2) (V m c main_arg3) (V m c main_arg4) := by
  refine (dats m 0 c).arrAt_eq_of_covers 7 _ (by decide +kernel) fun t hf j => ?_
  blk_simp
  rw [after0_7]
  refine block_merged _ _ _ _ _ _ _ _ _ _ _ _ j _ (Fin.isLt _) (fun k => ?_) (fun k => ?_) (fun k => ?_) (fun n k => ?_) ?_ ?_ ?_
  · blk_simp [iblk]
    congr 1
    blk_ext [index0, index7]
  · blk_simp [iblk]
    congr 1
    blk_ext [index1, index7]
  · blk_simp [iblk]
    congr 1
    blk_ext [index2, index7]
  · refine Eq.trans ?_ (weights_at m c _)
    blk_simp [iblk]
    congr 1
    blk_ext [index3, index7]
  · blk_simp [iblk]
    congr 1
    blk_ext [index4, index7]
  · blk_simp [iblk]
    congr 1
    blk_ext [index5, index7]
  · blk_simp [iblk]
    congr 1
    blk_ext [index6, index7]

end Cert.Merge
-- ==== Proof.OutSame.lean ====
module

public import proofs.«01_k».proof.Proof.Gen.OutKernelIdeal.Value
public import proofs.«01_k».proof.Proof.Gen.OutReferenceIdeal.Read
public import Idealize.ShloMosaic.Lib.Tactic
public import Idealize.ShloMosaic.Lib.Pipeline.ValueKit
public import Idealize.ShloMosaic.Lib.Pointwise
public import Idealize.ShloMosaic.Lib.StableHlo.ReadAt

/-! The output projection onto the residual stream: every entry of the kernel's result and of the reference's is the
    residual's entry plus one sum over the 2048 merged features. -/

@[expose] public section

set_option maxRecDepth 16384

noncomputable section

namespace Cert.Out

open Idealize.ShloMosaic Idealize.ShloMosaic.TcCoe
open Cert.OutKernelIdeal Cert.OutKernelIdeal.Gen

/-- The residual plus the product of the merged rows and the weights. -/
def residual (y : Vec Ideal S16384x2048 .bf16) (w : Vec Ideal S2048x2048 .f32) (x : Vec Ideal S16384x2048 .f32) :
    Vec Ideal S16384x2048 .f32 := fun i => x i + ∑ k : Fin 2048, y (ix2 (i 0) k) * w (ix2 k (i 1))

/-- The reference computes it. -/
theorem reference_residual (y : Vec Ideal S16384x2048 .bf16) (w : Vec Ideal S2048x2048 .f32) (x : Vec Ideal S16384x2048 .f32) :
    Cert.OutReferenceIdeal.Read.val_main_v2 (F := Ideal) y w x = residual y w x := by
  funext i
  unfold residual
  pointwise [Cert.OutReferenceIdeal.Read.val_main_v2, Cert.OutReferenceIdeal.Read.val_main_v1, Cert.OutReferenceIdeal.Read.val_main_v0]

/-- The block that a grid point stores: its residual block plus the product of its two blocks. -/
theorem block_apply (x0 : Vec Ideal S1024x2048 .bf16) (x1 : Vec Ideal S2048x1024 .bf16) (x2 : Vec Ideal S1024x1024 .f32) (j : S1024x1024.Idx) :
    out0_3 (F := Ideal) x0 x1 x2 j = x2 j + ∑ k : Fin 2048, x0 (ix2 (j 0) k) * x1 (ix2 k (j 1)) := by
  have hz : (![0, 0] : Fin 2 → Nat) = fun _ => 0 := by funext a; fin_cases a <;> rfl
  unfold out0_3
  rw [View.canon_unit_zero hz, View.ld_unit_zero hz, View.ld_unit_zero hz, View.ld_unit_zero hz]
  unfold_payloads
  pointwise

/-- Where the blocks hold a row, a column and an entry of the whole arrays, the stored block holds the whole result's entry. -/
theorem block_residual (y : Vec Ideal S16384x2048 .bf16) (w : Vec Ideal S2048x2048 .f32) (x : Vec Ideal S16384x2048 .f32)
    (x0 : Vec Ideal S1024x2048 .bf16) (x1 : Vec Ideal S2048x1024 .bf16) (x2 : Vec Ideal S1024x1024 .f32) (j : S1024x1024.Idx)
    (i : S16384x2048.Idx) (h0 : ∀ k : Fin 2048, x0 (ix2 (j 0) k) = y (ix2 (i 0) k)) (h1 : ∀ k : Fin 2048, x1 (ix2 k (j 1)) = w (ix2 k (i 1)))
    (h2 : x2 j = x i) : out0_3 (F := Ideal) x0 x1 x2 j = residual y w x i := by
  rw [block_apply, h2]
  exact congrArg (x i + ·) (Finset.sum_congr rfl fun k _ => by rw [h0, h1])

variable (m : (ℓ : Loc nD τ sig) → Buf (Elt Ideal) ℓ)

/-- The weights as the launch finds them are the argument's, a change of format being the identity. -/
theorem weights_at (c : Dev nD) (i : S2048x2048.Idx) : V m c main_v0 i = V m c main_arg1 i := by
  unfold V
  after_reads_at

/-- Which rows of the merged branches a point takes. -/
theorem index0 : ∀ t : Fin cfg0.N, win0_0.index t = ![t.val / 2, 0] := (by decide +kernel : ∀ t : Fin grid0.N, _)
/-- Which columns of the weights a point takes. -/
theorem index1 : ∀ t : Fin cfg0.N, win0_1.index t = ![0, t.val % 2] := (by decide +kernel : ∀ t : Fin grid0.N, _)
/-- Which block of the residual a point takes. -/
theorem index2 : ∀ t : Fin cfg0.N, win0_2.index t = ![t.val / 2, t.val % 2] := (by decide +kernel : ∀ t : Fin grid0.N, _)
/-- Which block of the result a point writes. -/
theorem index3 : ∀ t : Fin cfg0.N, win0_3.index t = ![t.val / 2, t.val % 2] := (by decide +kernel : ∀ t : Fin grid0.N, _)

/-- The result array after the run is the residual plus the product. -/
theorem final (c : Dev nD) : (dats m 0 c).arrAt 3 cfg0.N = residual (V m c main_arg0) (V m c main_arg1) (V m c main_arg2) := by
  refine (dats m 0 c).arrAt_eq_of_covers 3 _ (by decide +kernel) fun t hf j => ?_
  blk_simp
  rw [after0_3]
  refine block_residual _ _ _ _ _ _ j _ (fun k => ?_) (fun k => ?_) ?_
  · blk_simp [iblk]
    congr 1
    blk_ext [index0, index3]
  · refine Eq.trans ?_ (weights_at m c _)
    blk_simp [iblk]
    congr 1
    blk_ext [index1, index3]
  · blk_simp [iblk]
    congr 1
    blk_ext [index2, index3]

end Cert.Out
-- ==== Proof.QvTile.lean ====
module

public import proofs.«01_k».proof.Proof.Gen.QvKernelIdeal.Value
public import Idealize.ShloMosaic.Lib.Tactic
public import Idealize.ShloMosaic.Lib.Pipeline.ReadBack
public import Idealize.ShloMosaic.Lib.Pipeline.ValueKit
public import Idealize.ShloMosaic.Lib.Pointwise

/-! What one grid point of the band branch's projection leaves in its two output blocks: for each of the eight heads the
    normalized queries over their mask rows, and the values. -/

@[expose] public section

set_option maxRecDepth 16384

noncomputable section

namespace Cert.Qv

open Cert.QvKernelIdeal Cert.QvKernelIdeal.Gen Idealize.ShloMosaic Idealize.ShloMosaic.TcCoe

variable {F : FTy → Type} [FloatOps F] [Named F]

/-- Two heads' projection: the 256 weight rows from row `256 n`, times the tokens of the point. -/
def pairRows (x0 : Vec F S2048x2048 .bf16) (x1 : Vec F S2048x512 .bf16) (n : Nat) (h : n < 8) : FVec F S256x512 .f32 :=
  matmul dot_S256x2048_S2048x512_S256x512_1_0_0_1_n_n none
    (View.ld x0 (Rect.unit (s := S2048x2048) ![256 * n, 0] S256x2048.size (by intro a; fin_cases a <;> simp [Shape.size] <;> omega)) : Vec F S256x2048 .bf16)
    (View.ld x1 r0_0 : Vec F S2048x512 .bf16) (constant S256x512 .f32 0x00000000#32)

/-- One head's projection: the first or second half of its pair's. -/
def headRows (x0 : Vec F S2048x2048 .bf16) (x1 : Vec F S2048x512 .bf16) (n : Nat) (h : n < 16) : FVec F S128x512 .f32 :=
  extractStridedSlice S128x512 ![128 * (n % 2), 0] (pairRows x0 x1 (n / 2) (by omega))
    ⟨by decide, by intro a; fin_cases a <;> simp [Shape.size] <;> omega⟩

/-- A head's queries normalized by their root mean square, times the gain and the scale, rounded. -/
def normed (u : FVec F S128x512 .f32) (g : FVec F S128x1 .f32) : FVec F S128x512 .bf16 :=
  truncf .bf16 (mulf (mulf (mulf u (broadcastTo S128x512 (rsqrt (addf (mulf
      (shapeCast S1x512 (multiReduction .add [0] S512 (mulf u u) 0x00000000#32 reduces_S128x512_S512 (.inl rfl) rfl) shapeCasts_S512_S1x512)
      (broadcast S1x512 (Scalar.ofBits .f32 0x3C000000#32))) (broadcast S1x512 (Scalar.ofBits .f32 0x358637BD#32)))) broadcasts_S1x512_S128x512))
    (broadcastTo S128x512 g broadcasts_S128x1_S128x512)) (broadcast S128x512 (Named.named κ "qscale" 0x3E0293EE#32))) bitsLt_bf16_f32

/-- The gain as the body reads it. -/
def gain (x2 : Vec F S128x1 .f32) : FVec F S128x1 .f32 := k0_pay3 (View.ld x2 r0_1)

/-- The mask rows of the point. -/
def maskRows (i : grid0.Coords) : FVec F S128x512 .bf16 :=
  k0_pay8 (F := F) (iota .tc S128x512 32 [0] iota_S128x512_d0_w32) k0_pay5 (k0_pay6 i) (k0_pay7 i)

/-- A head's values, zero where the point lies in the padding. -/
def valRows (i : grid0.Coords) (u : FVec F S128x512 .f32) : FVec F S128x512 .bf16 :=
  Scalar.select (Scalar.cmpi .eq (BitVec.ofNat 32 (i 1).val) 0#32) (broadcast S128x512 (Scalar.ofBits .bf16 0x0000#16))
    (truncf .bf16 u bitsLt_bf16_f32)

/-- Half `a` of 512 columns, as the body stores it. -/
def half (w : FVec F S128x512 .bf16) (a : Nat) (h : a < 2) : FVec F S1x1x1x128x256 .bf16 :=
  shapeCast S1x1x1x128x256 (extractStridedSlice S128x256 ![0, 256 * a] w
    ⟨by decide, by intro a; fin_cases a <;> simp [Shape.size] <;> omega⟩) shapeCasts_S128x256_S1x1x1x128x256

/-- A stored half read at an index. -/
theorem half_apply (w : FVec F S128x512 .bf16) (a : Nat) (h : a < 2) (x : S1x1x1x128x256.Idx) (b : 256 * a + (x 4).val < 512) :
    half w a h x = w (ix2 (x 3) ⟨256 * a + (x 4).val, b⟩) := by
  have h0 : (x 0).val < 1 := (x 0).isLt
  have h1 : (x 1).val < 1 := (x 1).isLt
  have h2 : (x 2).val < 1 := (x 2).isLt
  unfold half
  rw [shapeCast_apply _ shapeCasts_S128x256_S1x1x1x128x256 x (ix2 (x 3) (x 4)) (by
    rw [Shape.rowMajor_val_two, Shape.rowMajor_val_five]
    show (x 3).val * 256 + (x 4).val = ((((x 0).val * 1 + (x 1).val) * 1 + (x 2).val) * 128 + (x 3).val) * 256 + (x 4).val
    omega)]
  exact extractStridedSlice_apply _ w _ (ix2 (x 3) (x 4)) _ (fun a => match a with
    | ⟨0, _⟩ => by show (x 3).val = 0 + (x 3).val; omega
    | ⟨1, _⟩ => by rfl)

/-- The query block of a point: a head's 128 normalized rows, then its 128 mask rows. -/
def queries (i : grid0.Coords) (x0 : Vec F S2048x2048 .bf16) (x1 : Vec F S2048x512 .bf16) (x2 : Vec F S128x1 .f32) : Vec F S1x8x2x256x256 .bf16 := fun y =>
  have h1 : (y 1).val < 8 := (y 1).isLt
  have h2 : (y 2).val < 2 := (y 2).isLt
  have h3 : (y 3).val < 256 := (y 3).isLt
  have h4 : (y 4).val < 256 := (y 4).isLt
  if h : (y 3).val < 128 then normed (headRows x0 x1 (y 1).val (by omega)) (gain x2) (ix2 ⟨(y 3).val, h⟩ ⟨256 * (y 2).val + (y 4).val, by omega⟩)
  else maskRows i (ix2 ⟨(y 3).val - 128, by omega⟩ ⟨256 * (y 2).val + (y 4).val, by omega⟩)

/-- The value block of a point. -/
def values (i : grid0.Coords) (x0 : Vec F S2048x2048 .bf16) (x1 : Vec F S2048x512 .bf16) : Vec F S1x8x2x128x256 .bf16 := fun y =>
  have h1 : (y 1).val < 8 := (y 1).isLt
  have h2 : (y 2).val < 2 := (y 2).isLt
  have h4 : (y 4).val < 256 := (y 4).isLt
  valRows i (headRows x0 x1 (8 + (y 1).val) (by omega)) (ix2 (y 3) ⟨256 * (y 2).val + (y 4).val, by omega⟩)

/-- The query block read through a piece of query rows. -/
theorem piece_q (i : grid0.Coords) (x0 : Vec F S2048x2048 .bf16) (x1 : Vec F S2048x512 .bf16) (x2 : Vec F S128x1 .f32) (n a : Nat) (hn : n < 8) (ha : a < 2)
    (inb : ∀ d, (![0, n, a, 0, 0] : Fin 5 → Nat) d + S1x1x1x128x256.size d ≤ S1x8x2x256x256.size d) (x : S1x1x1x128x256.Idx) :
    half (normed (headRows x0 x1 n (by omega)) (gain x2)) a ha x = queries i x0 x1 x2 ((Rect.unit (s := S1x8x2x256x256) ![0, n, a, 0, 0] S1x1x1x128x256.size inb).emb x) := by
  have e1 : (((Rect.unit (s := S1x8x2x256x256) ![0, n, a, 0, 0] S1x1x1x128x256.size inb).emb x) 1).val = n + (x 1).val := Rect.idx_unit_val (s := S1x8x2x256x256) ![0, n, a, 0, 0] S1x1x1x128x256.size inb x 1
  have e2 : (((Rect.unit (s := S1x8x2x256x256) ![0, n, a, 0, 0] S1x1x1x128x256.size inb).emb x) 2).val = a + (x 2).val := Rect.idx_unit_val (s := S1x8x2x256x256) ![0, n, a, 0, 0] S1x1x1x128x256.size inb x 2
  have e3 : (((Rect.unit (s := S1x8x2x256x256) ![0, n, a, 0, 0] S1x1x1x128x256.size inb).emb x) 3).val = 0 + (x 3).val := Rect.idx_unit_val (s := S1x8x2x256x256) ![0, n, a, 0, 0] S1x1x1x128x256.size inb x 3
  have e4 : (((Rect.unit (s := S1x8x2x256x256) ![0, n, a, 0, 0] S1x1x1x128x256.size inb).emb x) 4).val = 0 + (x 4).val := Rect.idx_unit_val (s := S1x8x2x256x256) ![0, n, a, 0, 0] S1x1x1x128x256.size inb x 4
  have h1 : (x 1).val < 1 := (x 1).isLt
  have h2 : (x 2).val < 1 := (x 2).isLt
  have h3 : (x 3).val < 128 := (x 3).isLt
  have h4 : (x 4).val < 256 := (x 4).isLt
  rw [half_apply _ a ha x (by omega)]
  unfold queries
  dsimp only
  rw [dif_pos (by rw [e3]; omega)]
  have key : ∀ (m : Nat) (hm : m < 16) (w : S128x512.Idx), n = m → ix2 (x 3) ⟨256 * a + (x 4).val, by omega⟩ = w →
      normed (headRows x0 x1 n (by omega)) (gain x2) (ix2 (x 3) ⟨256 * a + (x 4).val, by omega⟩) = normed (headRows x0 x1 m hm) (gain x2) w := by
    intro m hm w e f; subst e; subst f; rfl
  refine key _ _ _ (by rw [e1]; omega) (congrArg₂ (ix2 (n0 := 128) (n1 := 512)) (Fin.ext ?_) (Fin.ext ?_))
  · refine Eq.trans (b := (((Rect.unit (s := S1x8x2x256x256) ![0, n, a, 0, 0] S1x1x1x128x256.size inb).emb x) 3).val) ?_ rfl; omega
  · refine Eq.trans (b := 256 * (((Rect.unit (s := S1x8x2x256x256) ![0, n, a, 0, 0] S1x1x1x128x256.size inb).emb x) 2).val + (((Rect.unit (s := S1x8x2x256x256) ![0, n, a, 0, 0] S1x1x1x128x256.size inb).emb x) 4).val) ?_ rfl; show 256 * a + (x 4).val = _; omega

/-- The query block read through a piece of mask rows. -/
theorem piece_m (i : grid0.Coords) (x0 : Vec F S2048x2048 .bf16) (x1 : Vec F S2048x512 .bf16) (x2 : Vec F S128x1 .f32) (n a : Nat) (hn : n < 8) (ha : a < 2)
    (inb : ∀ d, (![0, n, a, 128, 0] : Fin 5 → Nat) d + S1x1x1x128x256.size d ≤ S1x8x2x256x256.size d) (x : S1x1x1x128x256.Idx) :
    half (maskRows i) a ha x = queries i x0 x1 x2 ((Rect.unit (s := S1x8x2x256x256) ![0, n, a, 128, 0] S1x1x1x128x256.size inb).emb x) := by
  have e1 : (((Rect.unit (s := S1x8x2x256x256) ![0, n, a, 128, 0] S1x1x1x128x256.size inb).emb x) 1).val = n + (x 1).val := Rect.idx_unit_val (s := S1x8x2x256x256) ![0, n, a, 128, 0] S1x1x1x128x256.size inb x 1
  have e2 : (((Rect.unit (s := S1x8x2x256x256) ![0, n, a, 128, 0] S1x1x1x128x256.size inb).emb x) 2).val = a + (x 2).val := Rect.idx_unit_val (s := S1x8x2x256x256) ![0, n, a, 128, 0] S1x1x1x128x256.size inb x 2
  have e3 : (((Rect.unit (s := S1x8x2x256x256) ![0, n, a, 128, 0] S1x1x1x128x256.size inb).emb x) 3).val = 128 + (x 3).val := Rect.idx_unit_val (s := S1x8x2x256x256) ![0, n, a, 128, 0] S1x1x1x128x256.size inb x 3
  have e4 : (((Rect.unit (s := S1x8x2x256x256) ![0, n, a, 128, 0] S1x1x1x128x256.size inb).emb x) 4).val = 0 + (x 4).val := Rect.idx_unit_val (s := S1x8x2x256x256) ![0, n, a, 128, 0] S1x1x1x128x256.size inb x 4
  have h1 : (x 1).val < 1 := (x 1).isLt
  have h2 : (x 2).val < 1 := (x 2).isLt
  have h3 : (x 3).val < 128 := (x 3).isLt
  have h4 : (x 4).val < 256 := (x 4).isLt
  rw [half_apply _ a ha x (by omega)]
  unfold queries
  dsimp only
  rw [dif_neg (by rw [e3]; omega)]
  refine congrArg _ (congrArg₂ (ix2 (n0 := 128) (n1 := 512)) (Fin.ext ?_) (Fin.ext ?_))
  · refine Eq.trans (b := (((Rect.unit (s := S1x8x2x256x256) ![0, n, a, 128, 0] S1x1x1x128x256.size inb).emb x) 3).val - 128) ?_ rfl; omega
  · refine Eq.trans (b := 256 * (((Rect.unit (s := S1x8x2x256x256) ![0, n, a, 128, 0] S1x1x1x128x256.size inb).emb x) 2).val + (((Rect.unit (s := S1x8x2x256x256) ![0, n, a, 128, 0] S1x1x1x128x256.size inb).emb x) 4).val) ?_ rfl; show 256 * a + (x 4).val = _; omega

/-- The value block read through a piece. -/
theorem piece_v (i : grid0.Coords) (x0 : Vec F S2048x2048 .bf16) (x1 : Vec F S2048x512 .bf16) (n a : Nat) (hn : n < 8) (ha : a < 2)
    (inb : ∀ d, (![0, n, a, 0, 0] : Fin 5 → Nat) d + S1x1x1x128x256.size d ≤ S1x8x2x128x256.size d) (x : S1x1x1x128x256.Idx) :
    half (valRows i (headRows x0 x1 (8 + n) (by omega))) a ha x = values i x0 x1 ((Rect.unit (s := S1x8x2x128x256) ![0, n, a, 0, 0] S1x1x1x128x256.size inb).emb x) := by
  have e1 : (((Rect.unit (s := S1x8x2x128x256) ![0, n, a, 0, 0] S1x1x1x128x256.size inb).emb x) 1).val = n + (x 1).val := Rect.idx_unit_val (s := S1x8x2x128x256) ![0, n, a, 0, 0] S1x1x1x128x256.size inb x 1
  have e2 : (((Rect.unit (s := S1x8x2x128x256) ![0, n, a, 0, 0] S1x1x1x128x256.size inb).emb x) 2).val = a + (x 2).val := Rect.idx_unit_val (s := S1x8x2x128x256) ![0, n, a, 0, 0] S1x1x1x128x256.size inb x 2
  have e3 : (((Rect.unit (s := S1x8x2x128x256) ![0, n, a, 0, 0] S1x1x1x128x256.size inb).emb x) 3).val = 0 + (x 3).val := Rect.idx_unit_val (s := S1x8x2x128x256) ![0, n, a, 0, 0] S1x1x1x128x256.size inb x 3
  have e4 : (((Rect.unit (s := S1x8x2x128x256) ![0, n, a, 0, 0] S1x1x1x128x256.size inb).emb x) 4).val = 0 + (x 4).val := Rect.idx_unit_val (s := S1x8x2x128x256) ![0, n, a, 0, 0] S1x1x1x128x256.size inb x 4
  have h1 : (x 1).val < 1 := (x 1).isLt
  have h2 : (x 2).val < 1 := (x 2).isLt
  have h3 : (x 3).val < 128 := (x 3).isLt
  have h4 : (x 4).val < 256 := (x 4).isLt
  rw [half_apply _ a ha x (by omega)]
  unfold values
  dsimp only
  have key : ∀ (m : Nat) (hm : 8 + m < 16) (w : S128x512.Idx), n = m → ix2 (x 3) ⟨256 * a + (x 4).val, by omega⟩ = w →
      valRows i (headRows x0 x1 (8 + n) (by omega)) (ix2 (x 3) ⟨256 * a + (x 4).val, by omega⟩) = valRows i (headRows x0 x1 (8 + m) hm) w := by
    intro m hm w e f; subst e; subst f; rfl
  refine key _ _ _ (by rw [e1]; omega) (congrArg₂ (ix2 (n0 := 128) (n1 := 512)) (Fin.ext ?_) (Fin.ext ?_))
  · refine Eq.trans (b := (((Rect.unit (s := S1x8x2x128x256) ![0, n, a, 0, 0] S1x1x1x128x256.size inb).emb x) 3).val) ?_ rfl; omega
  · refine Eq.trans (b := 256 * (((Rect.unit (s := S1x8x2x128x256) ![0, n, a, 0, 0] S1x1x1x128x256.size inb).emb x) 2).val + (((Rect.unit (s := S1x8x2x128x256) ![0, n, a, 0, 0] S1x1x1x128x256.size inb).emb x) 4).val) ?_ rfl; show 256 * a + (x 4).val = _; omega

/-- The body's 32 stores into the query block are the block. -/
theorem out3_eq (i : grid0.Coords) (x0 : Vec F S2048x2048 .bf16) (x1 : Vec F S2048x512 .bf16) (x2 : Vec F S128x1 .f32) :
    out0_3 i x0 x1 x2 = queries i x0 x1 x2 := by
  funext y
  unfold out0_3
  refine View.canon_apply_of_pieces _ _ (View.PiecesOf.mem (?_ : View.PiecesOf (queries i x0 x1 x2) _)) y (cover0_3 _ _ _ _ _ _ _ _ _ _ _ _ _ _ _ _ _ _ _ _ _ _ _ _ _ _ _ _ _ _ _ _ y)
  have rowq : ∀ (n a : Nat) (hn : n < 8) (ha : a < 2) (inb : ∀ d, (![0, n, a, 0, 0] : Fin 5 → Nat) d + S1x1x1x128x256.size d ≤ S1x8x2x256x256.size d)
      (w : S1x1x1x128x256.Idx → F .bf16), w = half (normed (headRows x0 x1 n (by omega)) (gain x2)) a ha → ∀ x : S1x1x1x128x256.Idx,
      w x = queries i x0 x1 x2 ((Rect.unit (s := S1x8x2x256x256) ![0, n, a, 0, 0] S1x1x1x128x256.size inb).emb x) :=
    fun n a hn ha inb w e x => (congrFun e x).trans (piece_q i x0 x1 x2 n a hn ha inb x)
  have rowm : ∀ (n a : Nat) (hn : n < 8) (ha : a < 2) (inb : ∀ d, (![0, n, a, 128, 0] : Fin 5 → Nat) d + S1x1x1x128x256.size d ≤ S1x8x2x256x256.size d)
      (w : S1x1x1x128x256.Idx → F .bf16), w = half (maskRows i) a ha → ∀ x : S1x1x1x128x256.Idx,
      w x = queries i x0 x1 x2 ((Rect.unit (s := S1x8x2x256x256) ![0, n, a, 128, 0] S1x1x1x128x256.size inb).emb x) :=
    fun n a hn ha inb w e x => (congrFun e x).trans (piece_m i x0 x1 x2 n a hn ha inb x)
  refine ⟨rowm 7 1 (by decide) (by decide) (by decide) _ ?_, rowq 7 1 (by decide) (by decide) (by decide) _ ?_, rowm 7 0 (by decide) (by decide) (by decide) _ ?_, rowq 7 0 (by decide) (by decide) (by decide) _ ?_, rowm 6 1 (by decide) (by decide) (by decide) _ ?_, rowq 6 1 (by decide) (by decide) (by decide) _ ?_, rowm 6 0 (by decide) (by decide) (by decide) _ ?_, rowq 6 0 (by decide) (by decide) (by decide) _ ?_, rowm 5 1 (by decide) (by decide) (by decide) _ ?_, rowq 5 1 (by decide) (by decide) (by decide) _ ?_, rowm 5 0 (by decide) (by decide) (by decide) _ ?_, rowq 5 0 (by decide) (by decide) (by decide) _ ?_, rowm 4 1 (by decide) (by decide) (by decide) _ ?_, rowq 4 1 (by decide) (by decide) (by decide) _ ?_, rowm 4 0 (by decide) (by decide) (by decide) _ ?_, rowq 4 0 (by decide) (by decide) (by decide) _ ?_, rowm 3 1 (by decide) (by decide) (by decide) _ ?_, rowq 3 1 (by decide) (by decide) (by decide) _ ?_, rowm 3 0 (by decide) (by decide) (by decide) _ ?_, rowq 3 0 (by decide) (by decide) (by decide) _ ?_, rowm 2 1 (by decide) (by decide) (by decide) _ ?_, rowq 2 1 (by decide) (by decide) (by decide) _ ?_, rowm 2 0 (by decide) (by decide) (by decide) _ ?_, rowq 2 0 (by decide) (by decide) (by decide) _ ?_, rowm 1 1 (by decide) (by decide) (by decide) _ ?_, rowq 1 1 (by decide) (by decide) (by decide) _ ?_, rowm 1 0 (by decide) (by decide) (by decide) _ ?_, rowq 1 0 (by decide) (by decide) (by decide) _ ?_, rowm 0 1 (by decide) (by decide) (by decide) _ ?_, rowq 0 1 (by decide) (by decide) (by decide) _ ?_, rowm 0 0 (by decide) (by decide) (by decide) _ ?_, rowq 0 0 (by decide) (by decide) (by decide) _ ?_, trivial⟩
  all_goals
    simp only [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, half, normed, headRows, pairRows, maskRows, gain] <;> rfl

/-- The body's 16 stores into the value block are the block. -/
theorem out4_eq (i : grid0.Coords) (x0 : Vec F S2048x2048 .bf16) (x1 : Vec F S2048x512 .bf16) (x2 : Vec F S128x1 .f32) :
    out0_4 i x0 x1 x2 = values i x0 x1 := by
  funext y
  unfold out0_4
  refine View.canon_apply_of_pieces _ _ (View.PiecesOf.mem (?_ : View.PiecesOf (values i x0 x1) _)) y (cover0_4 _ _ _ _ _ _ _ _ _ _ _ _ _ _ _ _ y)
  have rowv : ∀ (n a : Nat) (hn : n < 8) (ha : a < 2) (inb : ∀ d, (![0, n, a, 0, 0] : Fin 5 → Nat) d + S1x1x1x128x256.size d ≤ S1x8x2x128x256.size d)
      (w : S1x1x1x128x256.Idx → F .bf16), w = half (valRows i (headRows x0 x1 (8 + n) (by omega))) a ha → ∀ x : S1x1x1x128x256.Idx,
      w x = values i x0 x1 ((Rect.unit (s := S1x8x2x128x256) ![0, n, a, 0, 0] S1x1x1x128x256.size inb).emb x) :=
    fun n a hn ha inb w e x => (congrFun e x).trans (piece_v i x0 x1 n a hn ha inb x)
  refine ⟨rowv 7 1 (by decide) (by decide) (by decide) _ ?_, rowv 7 0 (by decide) (by decide) (by decide) _ ?_, rowv 6 1 (by decide) (by decide) (by decide) _ ?_, rowv 6 0 (by decide) (by decide) (by decide) _ ?_, rowv 5 1 (by decide) (by decide) (by decide) _ ?_, rowv 5 0 (by decide) (by decide) (by decide) _ ?_, rowv 4 1 (by decide) (by decide) (by decide) _ ?_, rowv 4 0 (by decide) (by decide) (by decide) _ ?_, rowv 3 1 (by decide) (by decide) (by decide) _ ?_, rowv 3 0 (by decide) (by decide) (by decide) _ ?_, rowv 2 1 (by decide) (by decide) (by decide) _ ?_, rowv 2 0 (by decide) (by decide) (by decide) _ ?_, rowv 1 1 (by decide) (by decide) (by decide) _ ?_, rowv 1 0 (by decide) (by decide) (by decide) _ ?_, rowv 0 1 (by decide) (by decide) (by decide) _ ?_, rowv 0 0 (by decide) (by decide) (by decide) _ ?_, trivial⟩
  all_goals
    simp only [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, half, valRows, headRows, pairRows] <;> rfl

end Cert.Qv

end
-- ==== Proof.QvWord.lean ====
module

public import proofs.«01_k».proof.Proof.BandWord

/-! The integer words of the band branch's projection: a position's chunk as the kernel computes it, and the bit of a mask row. -/

@[expose] public section

set_option maxRecDepth 16384

noncomputable section

namespace Cert.Qv

open Idealize.ShloMosaic Idealize.ShloMosaic.WordCmp

/-- A word's quotient by 64, rounded down, as the kernel computes it. -/
def chunkVec (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- A natural number's word over 64 is the word of its quotient. -/
theorem chunkVec_ofNat (a : Nat) (ha : a < 2 ^ 20) : chunkVec (BitVec.ofNat 32 a) = BitVec.ofNat 32 (a / 64) := by
  have hm : (BitVec.ofNat 32 a).msb = false := by
    rw [BitVec.msb_eq_false_iff_two_mul_lt]; simp only [BitVec.toNat_ofNat]; omega
  have h64 : (64#32).msb = false := by decide
  have hc : ¬ IntOp.SDivCorner (BitVec.ofNat 32 a) 64#32 := by
    unfold IntOp.SDivCorner; simp
  have hd : IntOp.divsi .vector (BitVec.ofNat 32 a) 64#32 = BitVec.ofNat 32 (a / 64) := by
    unfold IntOp.divsi
    rw [if_neg hc, BitVec.sdiv_eq, hm, h64]
    apply BitVec.eq_of_toNat_eq
    simp only [BitVec.udiv_eq, BitVec.toNat_udiv, BitVec.toNat_ofNat]
    rw [Nat.mod_eq_of_lt (by omega : a < 2 ^ 32), Nat.mod_eq_of_lt (by omega : a / 64 < 2 ^ 32)]
  unfold chunkVec
  rw [hd]
  by_cases h0 : a = 0
  · subst h0
    have hr : IntOp.remsi .vector (BitVec.ofNat 32 0) 64#32 = 0#32 := by
      unfold IntOp.remsi
      rw [if_neg hc]; decide
    rw [hr]
    rfl
  · have e4 : (0#32).toInt = 0 := rfl
    rw [cmpi_sgt_eq, cmpi_slt_eq, Cert.Band.toInt_word a ha, e4, decide_eq_true (by omega : (0 : Int) < a), decide_eq_false (by omega : ¬ (a : Int) < 0)]
    have : IntOp.cmpi .ne (IntOp.subi (BitVec.setWidth 32 (BitVec.ofBool true)) (BitVec.setWidth 32 (BitVec.ofBool false)))
        (Scalar.subi (Scalar.extui (Scalar.cmpi .sgt 64#32 0#32)) (Scalar.extui (Scalar.cmpi .slt 64#32 0#32))) = 0#1 := by decide
    rw [this]
    show Scalar.select (0#1 &&& _) _ _ = _
    rw [BitVec.zero_and]
    rfl

/-- The bit of mask row `s` for a query of chunk `w`. -/
def hiddenBit (s w : BitVec 32) : BitVec 1 :=
  IntOp.ori
    (IntOp.andi (IntOp.cmpi .slt s 64#32) (IntOp.ori (IntOp.cmpi .sgt s w) (IntOp.cmpi .slt s (IntOp.subi w 8#32))))
    (IntOp.cmpi .eq s 64#32)

/-- Mask row `s` hides from a query of chunk `a`: a later chunk, a chunk more than eight before, or the padding's row. -/
abbrev Hidden (s a : Nat) : Prop := (s < 64 ∧ (a < s ∨ s + 8 < a)) ∨ s = 64

/-- The bit says so. -/
theorem hiddenBit_ofNat (s a : Nat) (hs : s < 128) (ha : a < 2 ^ 16) :
    hiddenBit (BitVec.ofNat 32 s) (BitVec.ofNat 32 a) = BitVec.ofBool (decide (Hidden s a)) := by
  unfold hiddenBit
  have e2 : (IntOp.subi (BitVec.ofNat 32 a) 8#32).toInt = (a : Int) - 8 := Cert.Band.toInt_word_sub a 8 (by omega) (by omega)
  have e3 : (BitVec.ofNat 32 s = 64#32) ↔ s = 64 := by
    rw [← BitVec.toInt_inj, Cert.Band.toInt_word s (by omega)]
    show (s : Int) = 64 ↔ _
    omega
  have e5 : (64#32).toInt = 64 := rfl
  rw [cmpi_slt_eq, cmpi_slt_eq, cmpi_sgt_eq, cmpi_eq_eq, e2, e5, Cert.Band.toInt_word s (by omega), Cert.Band.toInt_word a (by omega),
    Cert.Band.or_bits, Cert.Band.and_bits, Cert.Band.or_bits]
  congr 1
  rw [decide_eq_decide, e3]
  unfold Hidden
  omega

/-- The first position of a grid row, as the kernel computes it: 512 positions a row, the first row again for the padding. -/
theorem start_word : ∀ r : Fin 9, Scalar.muli (Scalar.maxsi (Scalar.subi (BitVec.ofNat 32 r.val) 1#32) 0#32) 512#32 = BitVec.ofNat 32 (512 * (r.val - 1)) := by
  decide

/-- The padding's bit. -/
theorem first_word : ∀ r : Fin 9, Scalar.cmpi .eq (BitVec.ofNat 32 r.val) 0#32 = BitVec.ofBool (decide (r.val = 0)) := by
  decide

end Cert.Qv

end
-- ==== Proof.QvRead.lean ====
module

public import proofs.«01_k».proof.Proof.QvTile
public import proofs.«01_k».proof.Proof.QvWord

/-! The point's blocks read at an index over the extended reals. -/

@[expose] public section

set_option maxRecDepth 16384

noncomputable section

namespace Cert.Qv

open Cert.QvKernelIdeal Cert.QvKernelIdeal.Gen Idealize.ShloMosaic Idealize.ShloMosaic.WordCmp Idealize.ShloMosaic.TcCoe

/-- One over the mean square's root, from a row's entries. -/
def invRms (x : Fin 128 → EReal) : EReal :=
  Ideal.rsqrt ((∑ e : Fin 128, x e * x e) * Ideal.ofBits .f32 0x3C000000#32 + Ideal.ofBits .f32 0x358637BD#32)

/-- A head's projection read at an index. -/
theorem headRows_apply (x0 : Vec Ideal S2048x2048 .bf16) (x1 : Vec Ideal S2048x512 .bf16) (n : Nat) (h : n < 16) (d : Fin 128) (c : Fin 512) :
    headRows (F := Ideal) x0 x1 n h (ix2 d c) = ∑ k : Fin 2048, x0 (ix2 ⟨128 * n + d.val, by omega⟩ k) * x1 (ix2 k c) := by
  have hz : (![0, 0] : Fin 2 → Nat) = fun _ => 0 := by funext a; fin_cases a <;> rfl
  unfold headRows pairRows
  rw [View.ld_unit_zero hz]
  pointwise
  refine Finset.sum_congr rfl fun k _ => congrArg (· * _) (congrArg x0 (congrArg (fun r => ix2 r k) (Fin.ext ?_)))
  show 256 * (n / 2) + (128 * (n % 2) + d.val) = 128 * n + d.val
  omega

/-- The normalized queries read at an index. -/
theorem normed_apply (u : FVec Ideal S128x512 .f32) (g : FVec Ideal S128x1 .f32) (d : Fin 128) (c : Fin 512) :
    normed (F := Ideal) u g (ix2 d c) = u (ix2 d c) * invRms (fun e => u (ix2 e c)) * g (ix2 d 0)
      * (((Real.sqrt 128 * Real.log 2)⁻¹ : ℝ) : EReal) := by
  unfold normed invRms
  pointwise
  have h : Named.named (F := Ideal) κ "qscale" (φ := .f32) 0x3E0293EE#32 = (((Real.sqrt 128 * Real.log 2)⁻¹ : ℝ) : EReal) :=
    IdealRules.named_const.ideal_named_scalar _ _ _ _ rfl
  rw [h]

/-- The gain read at an index. -/
theorem gain_apply (x2 : Vec Ideal S128x1 .f32) (d : Fin 128) : gain (F := Ideal) x2 (ix2 d 0) = x2 (ix2 d 0) := by
  have hz : (![0, 0] : Fin 2 → Nat) = fun _ => 0 := by funext a; fin_cases a <;> rfl
  unfold gain k0_pay3
  rw [View.ld_unit_zero hz]
  pointwise

/-- The values read at an index. -/
theorem valRows_apply (i : grid0.Coords) (u : FVec Ideal S128x512 .f32) (d : Fin 128) (c : Fin 512) :
    valRows (F := Ideal) i u (ix2 d c) = if (i 1).val = 0 then 0 else u (ix2 d c) := by
  unfold valRows
  pointwise
  rw [first_word (i 1), Cert.Band.select_bit]

/-- The kernel's chunk word of a position. -/
theorem pay4_apply (i : grid0.Coords) (s : Fin 128) (c : Fin 512) :
    k0_pay4 i (ix2 s c) = BitVec.ofNat 32 ((512 * ((i 1).val - 1) + c.val) / 64) := by
  unfold k0_pay4
  pointwise
  rw [start_word (i 1)]
  have hr : (i 1).val < 9 := (i 1).isLt
  have hw : IntOp.addi (BitVec.ofNat 32 (512 * ((i 1).val - 1))) (BitVec.ofNat 32 c.val) = BitVec.ofNat 32 (512 * ((i 1).val - 1) + c.val) := by
    show BitVec.ofNat 32 _ + BitVec.ofNat 32 _ = _
    rw [← BitVec.ofNat_add]
  rw [hw]
  exact chunkVec_ofNat _ (by omega)

/-- The mask read at an index. -/
theorem maskRows_apply (i : grid0.Coords) (s : Fin 128) (c : Fin 512) :
    maskRows (F := Ideal) i (ix2 s c) = if Hidden s.val ((512 * ((i 1).val - 1) + c.val) / 64) then (⊥ : EReal) else 0 := by
  unfold maskRows k0_pay8 k0_pay5 k0_pay6 k0_pay7
  pointwise
  have h : Named.named (F := Ideal) κ "mask" (φ := .f32) 0xF149F2CA#32 = (⊥ : EReal) :=
    IdealRules.named_const.ideal_named_scalar _ _ _ _ rfl
  have hr : (i 1).val < 9 := (i 1).isLt
  rw [h, pay4_apply]
  refine (congrArg (fun b => Scalar.select b (⊥ : EReal) 0) (hiddenBit_ofNat s.val _ s.isLt (by omega))).trans ?_
  rw [Cert.Band.select_bit]

end Cert.Qv

end
-- ==== Proof.QvRef.lean ====
module

public import proofs.«01_k».proof.Proof.Gen.QvReferenceIdeal.Read
public import proofs.«01_k».proof.Proof.QvRead
public import proofs.«01_k».proof.Proof.BandRef

/-! The band branch's projection as mathematics, and the reference read as it. -/

@[expose] public section

set_option maxRecDepth 16384

noncomputable section

namespace Cert.Qv

open Idealize.ShloMosaic Idealize.ShloMosaic.WordCmp Idealize.ShloMosaic.TcCoe
open Cert.QvReferenceIdeal Cert.QvReferenceIdeal.Read

variable (w : Vec Ideal S2048x2048 .bf16) (h : Vec Ideal S2048x16384 .bf16) (g : Vec Ideal S128 .f32)

/-- The constant 128. -/
theorem bits_128 : Ideal.ofBits .f32 0x43000000#32 = ((128 : ℝ) : EReal) := by
  simp [Ideal.ofBits, Ideal.ieee]
  rw [← EReal.coe_mul]
  norm_num

/-- The constant 1/128. -/
theorem bits_inv_128 : Ideal.ofBits .f32 0x3C000000#32 = ((1 / 128 : ℝ) : EReal) := by
  simp [Ideal.ofBits, Ideal.ieee]
  rw [← EReal.coe_mul]
  norm_num

/-- Output feature `j` of token `t`. -/
def feature (j : Fin 2048) (t : Fin 16384) : EReal := ∑ k : Fin 2048, w (ix2 j k) * h (ix2 k t)

/-- Entry `d` of head `n`'s normalized and scaled query at token `t`. -/
def query (n : Fin 8) (d : Fin 128) (t : Fin 16384) : EReal :=
  feature w h ⟨128 * n.val + d.val, by omega⟩ t * invRms (fun e => feature w h ⟨128 * n.val + e.val, by omega⟩ t) * g (ix1 d)
    * (((Real.sqrt 128 * Real.log 2)⁻¹ : ℝ) : EReal)

/-- The whole query array. -/
def allQueries : Vec Ideal S4x8x16x256x256 .bf16 := fun i =>
  have h0 : (i 0).val < 4 := (i 0).isLt
  have h2 : (i 2).val < 16 := (i 2).isLt
  have h3 : (i 3).val < 256 := (i 3).isLt
  have h4 : (i 4).val < 256 := (i 4).isLt
  if hs : (i 3).val < 128 then query w h g (i 1) ⟨(i 3).val, hs⟩ ⟨4096 * (i 0).val + (256 * (i 2).val + (i 4).val), by omega⟩
  else if Hidden ((i 3).val - 128) ((256 * (i 2).val + (i 4).val) / 64) then ⊥ else 0

/-- The whole value array: 512 positions of padding, then the values. -/
def allValues : Vec Ideal S4x8x18x128x256 .bf16 := fun i =>
  have h0 : (i 0).val < 4 := (i 0).isLt
  have h1 : (i 1).val < 8 := (i 1).isLt
  have h2 : (i 2).val < 18 := (i 2).isLt
  have h3 : (i 3).val < 128 := (i 3).isLt
  have h4 : (i 4).val < 256 := (i 4).isLt
  if (i 2).val < 2 then 0
  else feature w h ⟨1024 + (128 * (i 1).val + (i 3).val), by omega⟩ ⟨4096 * (i 0).val + (256 * (i 2).val + (i 4).val - 512), by omega⟩

/-- The reference's projection. -/
theorem product_apply (t : Fin 16384) (j : Fin 2048) : val_main_v2 (F := Ideal) w h (ix2 t j) = feature w h j t := by
  unfold feature
  pointwise [val_main_v2, val_main_v1, val_main_v0]
  exact Finset.sum_congr rfl fun k _ => mul_comm _ _

/-- The reference's query feature. -/
theorem v4_apply (b : Fin 4) (p : Fin 4096) (n : Fin 8) (d : Fin 128) :
    val_main_v4 (F := Ideal) w h (ix4 b p n d) = feature w h ⟨128 * n.val + d.val, by omega⟩ ⟨4096 * b.val + p.val, by omega⟩ := by
  pointwise [val_main_v4, val_main_v3]
  rw [product_apply]
  exact congrArg₂ (feature w h) (Fin.ext (by show n.val * 128 + d.val = 128 * n.val + d.val; omega)) (Fin.ext (by show b.val * 4096 + p.val = 4096 * b.val + p.val; omega))

/-- The reference's scale. -/
theorem scale_apply (i : S_.Idx) : val_main_v21 (F := Ideal) i = (((Real.sqrt 128 * Real.log 2)⁻¹ : ℝ) : EReal) := by
  pointwise [val_main_v21, val_main_v20, val_main_v19, val_main_v18, val_main_cst_2, val_main_cst_3, val_main_cst_4]
  have hp : (Real.sqrt 128 * Real.log 2) ≠ 0 := mul_ne_zero (Real.sqrt_ne_zero'.mpr (by norm_num)) (Real.log_pos (by norm_num)).ne'
  rw [bits_128, Cert.ReferenceIdeal.Band.log_two, Ideal.sqrt_coe, if_neg (by norm_num), ← EReal.coe_mul, Ideal.div_coe hp, one_mul, one_div]

/-- The reference's normalized query. -/
theorem v23_apply (b : Fin 4) (p : Fin 4096) (n : Fin 8) (d : Fin 128) :
    val_main_v23 (F := Ideal) w h g (ix4 b p n d) = query w h g n d ⟨4096 * b.val + p.val, by omega⟩ := by
  unfold query invRms
  pointwise [val_main_v23, val_main_v22, val_main_v17, val_main_v16, val_main_v15, val_main_v14, val_main_v13, val_main_v12, val_main_v11,
    val_main_v10, val_main_v9, val_main_v8, val_main_v7, val_main_v6, val_main_v5, val_main_cst, val_main_cst_0, val_main_cst_1]
  rw [bits_128, bits_inv_128, scale_apply, Ideal.div_coe (by norm_num)]
  simp only [v4_apply]

/-- A position's chunk. -/
theorem v26_apply (p : Fin 4096) : val_main_v26 (F := Ideal) (ix2 p 0) = BitVec.ofNat 32 (p.val / 64) := by
  pointwise [val_main_v26, val_main_call0_v13, val_main_call0_v12, val_main_call0_c_0, val_main_call0_v11, val_main_call0_v10,
    val_main_call0_v9, val_main_call0_c, val_main_call0_v8, val_main_call0_v7, val_main_call0_v6, val_main_call0_v5,
    val_main_call0_v4, val_main_call0_v3, val_main_call0_v2, val_main_call0_v1, val_main_call0_v0, val_main_c, val_main_v25, val_main_v24]
  exact Cert.Band.chunkWord_ofNat p.val (by omega)

/-- The reference's mask. -/
theorem v46_apply (p : Fin 4096) (s : Fin 128) :
    val_main_v46 (F := Ideal) (ix2 p s) = if Hidden s.val (p.val / 64) then (⊥ : EReal) else 0 := by
  pointwise [val_main_v46, val_main_call1_v1, val_main_call1_v0, val_main_cst_8, val_main_cst_9, val_main_v45, val_main_v44, val_main_v43, val_main_v42,
    val_main_v41, val_main_v40, val_main_v39, val_main_v38, val_main_v37, val_main_v36, val_main_v35, val_main_v34, val_main_v33, val_main_v32,
    val_main_v31, val_main_v30, val_main_v29, val_main_v28, val_main_v27, val_main_c_5, val_main_c_6, val_main_c_7]
  have hb : Ideal.ofBits .f32 0xFF800000#32 = ⊥ := by simp [Ideal.ofBits, Ideal.ieee]
  rw [v26_apply, hb]
  refine (congrArg (fun b => Scalar.select b (⊥ : EReal) 0) (hiddenBit_ofNat s.val _ s.isLt (by omega))).trans ?_
  rw [Cert.Band.select_bit]

/-- The reference's queries are the whole query array. -/
theorem reference_queries : val_main_v53 (F := Ideal) w h g = allQueries w h g := by
  funext i
  unfold allQueries
  pointwise [val_main_v53, val_main_v52, val_main_v51, val_main_v50, val_main_v49, val_main_v48, val_main_v47]
  have h0 : (i 0).val < 4 := (i 0).isLt
  have h2 : (i 2).val < 16 := (i 2).isLt
  have h3 : (i 3).val < 256 := (i 3).isLt
  have h4 : (i 4).val < 256 := (i 4).isLt
  by_cases hs : (i 3).val < 128
  · rw [dif_pos hs, dif_pos hs]
    refine (v23_apply w h g (i 0) _ (i 1) _).trans (congrArg (query w h g (i 1) _) (Fin.ext ?_))
    show 4096 * (i 0).val + ((i 2).val * 256 + (i 4).val) = 4096 * (i 0).val + (256 * (i 2).val + (i 4).val)
    omega
  · rw [dif_neg hs, dif_neg hs, id_eq]
    pointwise
    rw [v46_apply]
    simp only [Nat.mul_comm]

/-- The reference's values are the whole value array. -/
theorem reference_values : val_main_v60 (F := Ideal) w h = allValues w h := by
  funext i
  unfold allValues
  pointwise [val_main_v60, val_main_v59, val_main_v58, val_main_v57, val_main_v56, val_main_v55, val_main_v54, val_main_cst_10]
  have h1 : (i 1).val < 8 := (i 1).isLt
  have h2 : (i 2).val < 18 := (i 2).isLt
  have h3 : (i 3).val < 128 := (i 3).isLt
  have h4 : (i 4).val < 256 := (i 4).isLt
  by_cases hp : (i 2).val < 2
  · rw [if_pos hp, dif_pos (by omega)]
  · rw [if_neg hp, dif_neg (by omega), product_apply]
    exact congrArg₂ (feature w h) (Fin.ext (by show 1024 + ((i 1).val * 128 + (i 3).val) = 1024 + (128 * (i 1).val + (i 3).val); omega))
      (Fin.ext (by show (i 0).val * 4096 + ((i 2).val * 256 + (i 4).val - 512) = 4096 * (i 0).val + (256 * (i 2).val + (i 4).val - 512); omega))

end Cert.Qv

end
-- ==== Proof.QvSame.lean ====
module

public import proofs.«01_k».proof.Proof.QvRef
public import Idealize.ShloMosaic.Lib.StableHlo.ReadAt

/-! The band branch's projection: the kernel's two result arrays after the run are the whole query and value arrays. -/

@[expose] public section

set_option maxRecDepth 16384

noncomputable section

namespace Cert.Qv

open Idealize.ShloMosaic Idealize.ShloMosaic.TcCoe
open Cert.QvKernelIdeal Cert.QvKernelIdeal.Gen

/-- Where the blocks hold the weights, the tokens of the row and the gain, a stored query entry is the whole array's. -/
theorem block_queries (w : Vec Ideal S2048x2048 .bf16) (h : Vec Ideal S2048x16384 .bf16) (g : Vec Ideal S128 .f32)
    (q : grid0.Coords) (x0 : Vec Ideal S2048x2048 .bf16) (x1 : Vec Ideal S2048x512 .bf16) (x2 : Vec Ideal S128x1 .f32)
    (y : S1x8x2x256x256.Idx) (i : S4x8x16x256x256.Idx) (b : 256 * (y 2).val + (y 4).val < 512)
    (b' : 4096 * (i 0).val + (256 * (i 2).val + (i 4).val) < 16384) (e1 : (i 1).val = (y 1).val) (e3 : (i 3).val = (y 3).val)
    (hp : 512 * ((q 1).val - 1) + (256 * (y 2).val + (y 4).val) = 256 * (i 2).val + (i 4).val)
    (hw : ∀ (j k : Fin 2048), x0 (ix2 j k) = w (ix2 j k))
    (hh : ∀ k : Fin 2048, x1 (ix2 k ⟨256 * (y 2).val + (y 4).val, b⟩) = h (ix2 k ⟨4096 * (i 0).val + (256 * (i 2).val + (i 4).val), b'⟩))
    (hg : ∀ d : Fin 128, x2 (ix2 d 0) = g (ix1 d)) :
    out0_3 (F := Ideal) q x0 x1 x2 y = allQueries w h g i := by
  have ei : i 1 = y 1 := Fin.ext e1
  rw [out3_eq]
  unfold queries allQueries
  dsimp only
  by_cases hs : (y 3).val < 128
  · rw [dif_pos hs, dif_pos (by rw [e3]; exact hs), normed_apply, gain_apply, hg]
    unfold query
    simp only [headRows_apply, hw, hh, e3, ei]
    rfl
  · rw [dif_neg hs, dif_neg (by rw [e3]; exact hs), maskRows_apply]
    simp only [hp, e3]

/-- Likewise a stored value entry. -/
theorem block_values (w : Vec Ideal S2048x2048 .bf16) (h : Vec Ideal S2048x16384 .bf16)
    (q : grid0.Coords) (x0 : Vec Ideal S2048x2048 .bf16) (x1 : Vec Ideal S2048x512 .bf16) (x2 : Vec Ideal S128x1 .f32)
    (y : S1x8x2x128x256.Idx) (i : S4x8x18x128x256.Idx) (b : 256 * (y 2).val + (y 4).val < 512)
    (b' : 4096 * (i 0).val + (256 * (i 2).val + (i 4).val - 512) < 16384) (e1 : (i 1).val = (y 1).val) (e3 : (i 3).val = (y 3).val)
    (hp : (q 1).val = 0 ↔ (i 2).val < 2)
    (hw : ∀ (j k : Fin 2048), x0 (ix2 j k) = w (ix2 j k))
    (hh : (q 1).val ≠ 0 → ∀ k : Fin 2048, x1 (ix2 k ⟨256 * (y 2).val + (y 4).val, b⟩) = h (ix2 k ⟨4096 * (i 0).val + (256 * (i 2).val + (i 4).val - 512), b'⟩)) :
    out0_4 (F := Ideal) q x0 x1 x2 y = allValues w h i := by
  have h1 : (y 1).val < 8 := (y 1).isLt
  have h3 : (y 3).val < 128 := (y 3).isLt
  have ei : i 1 = y 1 := Fin.ext e1
  have ei3 : i 3 = y 3 := Fin.ext e3
  rw [out4_eq]
  unfold values allValues
  dsimp only
  refine (valRows_apply q _ (y 3) _).trans ?_
  by_cases hq : (q 1).val = 0
  · rw [if_pos hq, if_pos (hp.mp hq)]
  · rw [if_neg hq, if_neg (fun c => hq (hp.mpr c))]
    refine (headRows_apply x0 x1 _ _ (y 3) _).trans ?_
    unfold feature
    refine Finset.sum_congr rfl fun k _ => ?_
    rw [hw, hh hq]
    refine congrArg (· * _) (congrArg w (congrArg (fun r => ix2 r k) (Fin.ext ?_)))
    show 128 * (8 + (y 1).val) + (y 3).val = 1024 + (128 * (i 1).val + (i 3).val)
    omega

variable (m : (ℓ : Loc nD τ sig) → Buf (Elt Ideal) ℓ)

/-- The gain as the launch finds it is the argument's, turned to a column. -/
theorem gain_at (c : Dev nD) (d : Fin 128) : V m c main_v1 (ix2 d 0) = V m c main_arg2 (ix1 d) := by
  unfold V
  after_reads_at

/-- The weights are taken whole. -/
theorem index0 : ∀ t : Fin cfg0.N, win0_0.index t = ![0, 0] := (by decide +kernel : ∀ t : Fin grid0.N, _)
/-- Which tokens a point takes. -/
theorem index1 : ∀ t : Fin cfg0.N, win0_1.index t = ![0, 8 * (t.val / 9) + (t.val % 9 - 1)] := (by decide +kernel : ∀ t : Fin grid0.N, _)
/-- The gain is taken whole. -/
theorem index2 : ∀ t : Fin cfg0.N, win0_2.index t = ![0, 0] := (by decide +kernel : ∀ t : Fin grid0.N, _)
/-- Which block of the queries a point writes. -/
theorem index3 : ∀ t : Fin cfg0.N, win0_3.index t = ![t.val / 9, 0, t.val % 9 - 1, 0, 0] := (by decide +kernel : ∀ t : Fin grid0.N, _)
/-- Which block of the values a point writes. -/
theorem index4 : ∀ t : Fin cfg0.N, win0_4.index t = ![t.val / 9, 0, t.val % 9, 0, 0] := (by decide +kernel : ∀ t : Fin grid0.N, _)
/-- A point's row in the grid. -/
theorem row_of : ∀ t : Fin cfg0.N, ((grid0.coords t) 1).val = t.val % 9 := (by decide +kernel : ∀ t : Fin grid0.N, _)

/-- The query array after the run. -/
theorem final3 (c : Dev nD) : (dats m 0 c).arrAt 3 cfg0.N = allQueries (V m c main_arg0) (V m c main_arg1) (V m c main_arg2) := by
  refine (dats m 0 c).arrAt_eq_of_covers 3 _ (by decide +kernel) fun t hf y => ?_
  have h1 : (y 1).val < 8 := (y 1).isLt
  have h2 : (y 2).val < 2 := (y 2).isLt
  have h3 : (y 3).val < 256 := (y 3).isLt
  have h4 : (y 4).val < 256 := (y 4).isLt
  have h0 : (y 0).val < 1 := (y 0).isLt
  have ht : t.val < 36 := t.isLt
  blk_simp
  rw [after0_3]
  refine block_queries _ _ _ _ _ _ _ y _ (by omega) ?_ ?_ ?_ ?_ (fun j k => ?_) (fun k => ?_) (fun d => ?_)
  · blk_simp [index3]; omega
  · blk_simp [index3]
  · blk_simp [index3]
  · rw [row_of]; blk_simp [index3]; omega
  · blk_simp [iblk]; congr 1; blk_ext [index0]
  · blk_simp [iblk]; congr 1; blk_ext [index1, index3]
  · refine Eq.trans ?_ (gain_at m c d)
    blk_simp [iblk]; congr 1; blk_ext [index2]

/-- The value array after the run. -/
theorem final4 (c : Dev nD) : (dats m 0 c).arrAt 4 cfg0.N = allValues (V m c main_arg0) (V m c main_arg1) := by
  refine (dats m 0 c).arrAt_eq_of_covers 4 _ (by decide +kernel) fun t hf y => ?_
  have h1 : (y 1).val < 8 := (y 1).isLt
  have h2 : (y 2).val < 2 := (y 2).isLt
  have h3 : (y 3).val < 128 := (y 3).isLt
  have h4 : (y 4).val < 256 := (y 4).isLt
  have h0 : (y 0).val < 1 := (y 0).isLt
  have ht : t.val < 36 := t.isLt
  blk_simp
  rw [after0_4]
  refine block_values _ _ _ _ _ _ y _ (by omega) ?_ ?_ ?_ ?_ (fun j k => ?_) (fun hq k => ?_)
  · blk_simp [index4]; omega
  · blk_simp [index4]
  · blk_simp [index4]
  · rw [row_of]; blk_simp [index4]; omega
  · blk_simp [iblk]; congr 1; blk_ext [index0]
  · rw [row_of] at hq
    blk_simp [iblk]; congr 1; blk_ext [index1, index4]

end Cert.Qv

end
-- ==== Proof.QkvTile.lean ====
module

public import proofs.«01_k».proof.Proof.Gen.QkvKernelIdeal.Value
public import Idealize.ShloMosaic.Lib.Tactic
public import Idealize.ShloMosaic.Lib.Pipeline.ReadBack
public import Idealize.ShloMosaic.Lib.Pipeline.ValueKit
public import Idealize.ShloMosaic.Lib.Pointwise

/-! What one grid point of the differential branch's projection leaves in its three output blocks: for each of the eight heads
    the two maps' queries over their mask rows, the values, and the keys over their chunk's indicator. -/

@[expose] public section

set_option maxRecDepth 16384

noncomputable section

namespace Cert.Qkv

open Cert.QkvKernelIdeal Cert.QkvKernelIdeal.Gen Idealize.ShloMosaic Idealize.ShloMosaic.TcCoe

variable {F : FTy → Type} [FloatOps F] [Named F]

/-- Two heads' projection: the 256 weight rows from row `256 n`, times the tokens of the point. -/
def pairRows (x0 : Vec F S3072x2048 .bf16) (x1 : Vec F S2048x512 .bf16) (n : Nat) (h : n < 12) : FVec F S256x512 .f32 :=
  matmul dot_S256x2048_S2048x512_S256x512_1_0_0_1_n_n none
    (View.ld x0 (Rect.unit (s := S3072x2048) ![256 * n, 0] S256x2048.size (by intro a; fin_cases a <;> simp [Shape.size] <;> omega)) : Vec F S256x2048 .bf16)
    (View.ld x1 r0_0 : Vec F S2048x512 .bf16) (constant S256x512 .f32 0x00000000#32)

/-- One head's projection: the first or second half of its pair's. -/
def headRows (x0 : Vec F S3072x2048 .bf16) (x1 : Vec F S2048x512 .bf16) (n : Nat) (h : n < 24) : FVec F S128x512 .f32 :=
  extractStridedSlice S128x512 ![128 * (n % 2), 0] (pairRows x0 x1 (n / 2) (by omega))
    ⟨by decide, by intro a; fin_cases a <;> simp [Shape.size] <;> omega⟩

/-- The rows of the first map. -/
def firstRows : IVec S128x512 1 :=
  broadcastTo S128x512 (shapeCast S128x1 (k0_pay5) shapeCasts_S128x1_S128x1) broadcasts_S128x1_S128x512

/-- The sum of squares of the 64 rows from row `o`, on every row. -/
def squares (o : Nat) (h : o ≤ 64) (u : FVec F S128x512 .f32) : FVec F S128x512 .f32 :=
  broadcastTo S128x512 (shapeCast S1x512 (shapeCast S1x512 (multiReduction .add [0] S512
      (extractStridedSlice S64x512 ![o, 0] (mulf u u) ⟨by decide, by intro a; fin_cases a <;> simp [Shape.size] <;> omega⟩)
      0x00000000#32 reduces_S64x512_S512 (.inl rfl) rfl) shapeCasts_S512_S1x512) shapeCasts_S1x512_S1x512) broadcasts_S1x512_S128x512

/-- A head's two maps, each normalized by its root mean square, times the gain. -/
def unitRows (u : FVec F S128x512 .f32) (g : FVec F S128x1 .f32) : FVec F S128x512 .f32 :=
  mulf (mulf u (rsqrt (addf (mulf (select firstRows (squares 0 (by omega) u) (squares 64 (by omega) u))
      (broadcast S128x512 (Scalar.ofBits .f32 0x3C800000#32))) (broadcast S128x512 (Scalar.ofBits .f32 0x358637BD#32)))))
    (broadcastTo S128x512 g broadcasts_S128x1_S128x512)

/-- Both maps' rotation by their positions: the table's cosines, and its sines for the rows eight below and eight above. -/
def turned (r : FVec F S384x512 .f32) (y : FVec F S128x512 .f32) : FVec F S128x512 .f32 :=
  addf (addf (mulf y (extractStridedSlice S128x512 ![0, 0] r slices_S384x512_o0_0_S128x512))
    (mulf (concatenate S128x512 0 [⟨S120x512, extractStridedSlice S120x512 ![8, 0] y slices_S128x512_o8_0_S120x512⟩,
        ⟨S8x512, extractStridedSlice S8x512 ![0, 0] y slices_S128x512_o0_0_S8x512⟩] concatenates_S120x512_S8x512_S128x512_d0)
      (extractStridedSlice S128x512 ![128, 0] r slices_S384x512_o128_0_S128x512)))
    (mulf (concatenate S128x512 0 [⟨S8x512, extractStridedSlice S8x512 ![120, 0] y slices_S128x512_o120_0_S8x512⟩,
        ⟨S120x512, extractStridedSlice S120x512 ![0, 0] y slices_S128x512_o0_0_S120x512⟩] concatenates_S8x512_S120x512_S128x512_d0)
      (extractStridedSlice S128x512 ![256, 0] r slices_S384x512_o256_0_S128x512))

/-- The rotation table as the body reads it. -/
def table (x4 : Vec F S384x512 .f32) : FVec F S384x512 .f32 := k0_pay3 (View.ld x4 r0_1)

/-- A gain as the body reads it. -/
def gain (x2 : Vec F S128x1 .f32) : FVec F S128x1 .f32 := k0_pay4 (View.ld x2 r0_2)

/-- A head's scaled queries. -/
def scaled (x0 : Vec F S3072x2048 .bf16) (x1 : Vec F S2048x512 .bf16) (x2 : Vec F S128x1 .f32) (x4 : Vec F S384x512 .f32) (n : Nat) (h : n < 24) : FVec F S128x512 .f32 :=
  mulf (turned (table x4) (unitRows (headRows x0 x1 n h) (gain x2))) (broadcast S128x512 (Named.named κ "qscale" 0x3E38AA3B#32))

/-- The mask rows of the point. -/
def maskRows (i : grid0.Coords) : FVec F S128x512 .bf16 := k0_pay10 (F := F) (k0_pay7 i) (k0_pay8 i) (k0_pay9 i)

/-- The first position of the point, as the body computes it. -/
def start (i : grid0.Coords) : BitVec 32 :=
  Scalar.muli (Scalar.select (Scalar.andi (Scalar.xori (Scalar.cmpi .slt (Scalar.remsi (BitVec.ofNat 32 (i 0).val) (Scalar.select (Scalar.cmpi .eq 8#32 0#32) 1#32 8#32)) 0#32)
    (Scalar.cmpi .slt (Scalar.select (Scalar.cmpi .eq 8#32 0#32) 1#32 8#32) 0#32))
    (Scalar.cmpi .ne (Scalar.remsi (BitVec.ofNat 32 (i 0).val) (Scalar.select (Scalar.cmpi .eq 8#32 0#32) 1#32 8#32)) 0#32))
    (Scalar.addi (Scalar.remsi (BitVec.ofNat 32 (i 0).val) (Scalar.select (Scalar.cmpi .eq 8#32 0#32) 1#32 8#32)) (Scalar.select (Scalar.cmpi .eq 8#32 0#32) 1#32 8#32))
    (Scalar.remsi (BitVec.ofNat 32 (i 0).val) (Scalar.select (Scalar.cmpi .eq 8#32 0#32) 1#32 8#32))) 512#32

/-- The indicator rows of the point. -/
def ownRows (i : grid0.Coords) : FVec F S128x512 .bf16 :=
  k0_pay142 (F := F) (k0_pay139 (start i)) 64#32 (k0_pay140 (start i)) (k0_pay141 (start i)) (Scalar.cmpi .sgt 64#32 0#32)

/-- What a head's query block holds in its row half `r` and its column half `c`: the first map's queries, the second's, or the mask. -/
def queryPart (i : grid0.Coords) (x0 : Vec F S3072x2048 .bf16) (x1 : Vec F S2048x512 .bf16) (x2 : Vec F S128x1 .f32) (x4 : Vec F S384x512 .f32) (n : Nat) (h : n < 8) :
    Nat → Nat → FVec F S128x512 .bf16
  | 0, 0 => truncf .bf16 (select firstRows (scaled x0 x1 x2 x4 n (by omega)) (broadcast S128x512 (Scalar.ofBits .f32 0x00000000#32))) bitsLt_bf16_f32
  | 0, _ + 1 => truncf .bf16 (select firstRows (broadcast S128x512 (Scalar.ofBits .f32 0x00000000#32)) (scaled x0 x1 x2 x4 n (by omega))) bitsLt_bf16_f32
  | _ + 1, _ => maskRows i

/-- What a head's key block holds in its row half `r`: the keys, or the indicator. -/
def keyPart (i : grid0.Coords) (x0 : Vec F S3072x2048 .bf16) (x1 : Vec F S2048x512 .bf16) (x3 : Vec F S128x1 .f32) (x4 : Vec F S384x512 .f32) (n : Nat) (h : n < 8) :
    Nat → FVec F S128x512 .bf16
  | 0 => truncf .bf16 (turned (table x4) (unitRows (headRows x0 x1 (16 + n) (by omega)) (gain x3))) bitsLt_bf16_f32
  | _ + 1 => ownRows i

/-- Half `a` of 512 columns, as the body stores it. -/
def half (w : FVec F S128x512 .bf16) (a : Nat) (h : a < 2) : FVec F S1x1x1x128x256 .bf16 :=
  shapeCast S1x1x1x128x256 (extractStridedSlice S128x256 ![0, 256 * a] w
    ⟨by decide, by intro a; fin_cases a <;> simp [Shape.size] <;> omega⟩) shapeCasts_S128x256_S1x1x1x128x256

/-- A stored half read at an index. -/
theorem half_apply (w : FVec F S128x512 .bf16) (a : Nat) (h : a < 2) (x : S1x1x1x128x256.Idx) (b : 256 * a + (x 4).val < 512) :
    half w a h x = w (ix2 (x 3) ⟨256 * a + (x 4).val, b⟩) := by
  have h0 : (x 0).val < 1 := (x 0).isLt
  have h1 : (x 1).val < 1 := (x 1).isLt
  have h2 : (x 2).val < 1 := (x 2).isLt
  unfold half
  rw [shapeCast_apply _ shapeCasts_S128x256_S1x1x1x128x256 x (ix2 (x 3) (x 4)) (by
    rw [Shape.rowMajor_val_two, Shape.rowMajor_val_five]
    show (x 3).val * 256 + (x 4).val = ((((x 0).val * 1 + (x 1).val) * 1 + (x 2).val) * 128 + (x 3).val) * 256 + (x 4).val
    omega)]
  exact extractStridedSlice_apply _ w _ (ix2 (x 3) (x 4)) _ (fun a => match a with
    | ⟨0, _⟩ => by show (x 3).val = 0 + (x 3).val; omega
    | ⟨1, _⟩ => by rfl)

/-- All 512 columns, as the body stores them. -/
def whole (w : FVec F S128x512 .bf16) : FVec F S1x1x1x128x512 .bf16 := shapeCast S1x1x1x128x512 w shapeCasts_S128x512_S1x1x1x128x512

/-- They are read at the same place. -/
theorem whole_apply (w : FVec F S128x512 .bf16) (x : S1x1x1x128x512.Idx) : whole w x = w (ix2 (x 3) (x 4)) := by
  have h0 : (x 0).val < 1 := (x 0).isLt
  have h1 : (x 1).val < 1 := (x 1).isLt
  have h2 : (x 2).val < 1 := (x 2).isLt
  unfold whole
  exact shapeCast_apply _ shapeCasts_S128x512_S1x1x1x128x512 x (ix2 (x 3) (x 4)) (by
    rw [Shape.rowMajor_val_two, Shape.rowMajor_val_five]
    show (x 3).val * 512 + (x 4).val = ((((x 0).val * 1 + (x 1).val) * 1 + (x 2).val) * 128 + (x 3).val) * 512 + (x 4).val
    omega)

/-- The query block of a point. -/
def queries (i : grid0.Coords) (x0 : Vec F S3072x2048 .bf16) (x1 : Vec F S2048x512 .bf16) (x2 : Vec F S128x1 .f32) (x4 : Vec F S384x512 .f32) : Vec F S1x8x2x256x512 .bf16 := fun y =>
  have h1 : (y 1).val < 8 := (y 1).isLt
  have h2 : (y 2).val < 2 := (y 2).isLt
  queryPart i x0 x1 x2 x4 (y 1).val h1 ((y 3).val / 128) ((y 4).val / 256) (ix2 ⟨(y 3).val % 128, by omega⟩ ⟨256 * (y 2).val + (y 4).val % 256, by omega⟩)

/-- The value block of a point. -/
def values (x0 : Vec F S3072x2048 .bf16) (x1 : Vec F S2048x512 .bf16) : Vec F S1x8x1x128x512 .bf16 := fun y =>
  have h1 : (y 1).val < 8 := (y 1).isLt
  truncf .bf16 (headRows x0 x1 (8 + (y 1).val) (by omega)) bitsLt_bf16_f32 (ix2 (y 3) (y 4))

/-- The key block of a point. -/
def keys (i : grid0.Coords) (x0 : Vec F S3072x2048 .bf16) (x1 : Vec F S2048x512 .bf16) (x3 : Vec F S128x1 .f32) (x4 : Vec F S384x512 .f32) : Vec F S1x8x1x256x512 .bf16 := fun y =>
  have h1 : (y 1).val < 8 := (y 1).isLt
  keyPart i x0 x1 x3 x4 (y 1).val h1 ((y 3).val / 128) (ix2 ⟨(y 3).val % 128, by omega⟩ (y 4))

/-- The query block read through a stored piece. -/
theorem piece_q (i : grid0.Coords) (x0 : Vec F S3072x2048 .bf16) (x1 : Vec F S2048x512 .bf16) (x2 : Vec F S128x1 .f32) (x4 : Vec F S384x512 .f32) (n a r c : Nat) (hn : n < 8) (ha : a < 2)
    (inb : ∀ d, (![0, n, a, 128 * r, 256 * c] : Fin 5 → Nat) d + S1x1x1x128x256.size d ≤ S1x8x2x256x512.size d) (x : S1x1x1x128x256.Idx) :
    half (queryPart i x0 x1 x2 x4 n hn r c) a ha x = queries i x0 x1 x2 x4 (((Rect.unit (s := S1x8x2x256x512) ![0, n, a, 128 * r, 256 * c] S1x1x1x128x256.size inb).emb x)) := by
  have e1 : (((Rect.unit (s := S1x8x2x256x512) ![0, n, a, 128 * r, 256 * c] S1x1x1x128x256.size inb).emb x) 1).val = n + (x 1).val := Rect.idx_unit_val (s := S1x8x2x256x512) ![0, n, a, 128 * r, 256 * c] S1x1x1x128x256.size inb x 1
  have e2 : (((Rect.unit (s := S1x8x2x256x512) ![0, n, a, 128 * r, 256 * c] S1x1x1x128x256.size inb).emb x) 2).val = a + (x 2).val := Rect.idx_unit_val (s := S1x8x2x256x512) ![0, n, a, 128 * r, 256 * c] S1x1x1x128x256.size inb x 2
  have e3 : (((Rect.unit (s := S1x8x2x256x512) ![0, n, a, 128 * r, 256 * c] S1x1x1x128x256.size inb).emb x) 3).val = 128 * r + (x 3).val := Rect.idx_unit_val (s := S1x8x2x256x512) ![0, n, a, 128 * r, 256 * c] S1x1x1x128x256.size inb x 3
  have e4 : (((Rect.unit (s := S1x8x2x256x512) ![0, n, a, 128 * r, 256 * c] S1x1x1x128x256.size inb).emb x) 4).val = 256 * c + (x 4).val := Rect.idx_unit_val (s := S1x8x2x256x512) ![0, n, a, 128 * r, 256 * c] S1x1x1x128x256.size inb x 4
  have h1 : (x 1).val < 1 := (x 1).isLt
  have h2 : (x 2).val < 1 := (x 2).isLt
  have h3 : (x 3).val < 128 := (x 3).isLt
  have h4 : (x 4).val < 256 := (x 4).isLt
  rw [half_apply _ a ha x (by omega)]
  unfold queries
  dsimp only
  have key : ∀ (m : Nat) (hm : m < 8) (r' c' : Nat) (w : S128x512.Idx), n = m → r = r' → c = c' → ix2 (x 3) ⟨256 * a + (x 4).val, by omega⟩ = w →
      queryPart i x0 x1 x2 x4 n hn r c (ix2 (x 3) ⟨256 * a + (x 4).val, by omega⟩) = queryPart i x0 x1 x2 x4 m hm r' c' w := by
    intro m hm r' c' w e f g k; subst e; subst f; subst g; subst k; rfl
  refine key _ _ _ _ _ (by rw [e1]; omega) (by rw [e3]; omega) (by rw [e4]; omega) (congrArg₂ (ix2 (n0 := 128) (n1 := 512)) (Fin.ext ?_) (Fin.ext ?_))
  · refine Eq.trans (b := (((Rect.unit (s := S1x8x2x256x512) ![0, n, a, 128 * r, 256 * c] S1x1x1x128x256.size inb).emb x) 3).val % 128) ?_ rfl; omega
  · refine Eq.trans (b := 256 * (((Rect.unit (s := S1x8x2x256x512) ![0, n, a, 128 * r, 256 * c] S1x1x1x128x256.size inb).emb x) 2).val + (((Rect.unit (s := S1x8x2x256x512) ![0, n, a, 128 * r, 256 * c] S1x1x1x128x256.size inb).emb x) 4).val % 256) ?_ rfl; show 256 * a + (x 4).val = _; omega

/-- The value block read through a stored piece. -/
theorem piece_v (x0 : Vec F S3072x2048 .bf16) (x1 : Vec F S2048x512 .bf16) (n : Nat) (hn : n < 8)
    (inb : ∀ d, (![0, n, 0, 0, 0] : Fin 5 → Nat) d + S1x1x1x128x512.size d ≤ S1x8x1x128x512.size d) (x : S1x1x1x128x512.Idx) :
    whole (truncf .bf16 (headRows x0 x1 (8 + n) (by omega)) bitsLt_bf16_f32) x = values x0 x1 (((Rect.unit (s := S1x8x1x128x512) ![0, n, 0, 0, 0] S1x1x1x128x512.size inb).emb x)) := by
  have e1 : (((Rect.unit (s := S1x8x1x128x512) ![0, n, 0, 0, 0] S1x1x1x128x512.size inb).emb x) 1).val = n + (x 1).val := Rect.idx_unit_val (s := S1x8x1x128x512) ![0, n, 0, 0, 0] S1x1x1x128x512.size inb x 1
  have e3 : (((Rect.unit (s := S1x8x1x128x512) ![0, n, 0, 0, 0] S1x1x1x128x512.size inb).emb x) 3).val = 0 + (x 3).val := Rect.idx_unit_val (s := S1x8x1x128x512) ![0, n, 0, 0, 0] S1x1x1x128x512.size inb x 3
  have e4 : (((Rect.unit (s := S1x8x1x128x512) ![0, n, 0, 0, 0] S1x1x1x128x512.size inb).emb x) 4).val = 0 + (x 4).val := Rect.idx_unit_val (s := S1x8x1x128x512) ![0, n, 0, 0, 0] S1x1x1x128x512.size inb x 4
  have h1 : (x 1).val < 1 := (x 1).isLt
  have h3 : (x 3).val < 128 := (x 3).isLt
  have h4 : (x 4).val < 512 := (x 4).isLt
  rw [whole_apply]
  unfold values
  dsimp only
  have key : ∀ (m : Nat) (hm : 8 + m < 24) (w : S128x512.Idx), n = m → ix2 (x 3) (x 4) = w →
      truncf .bf16 (headRows x0 x1 (8 + n) (by omega)) bitsLt_bf16_f32 (ix2 (x 3) (x 4)) = truncf .bf16 (headRows x0 x1 (8 + m) hm) bitsLt_bf16_f32 w := by
    intro m hm w e f; subst e; subst f; rfl
  refine key _ _ _ (by rw [e1]; omega) (congrArg₂ (ix2 (n0 := 128) (n1 := 512)) (Fin.ext ?_) (Fin.ext ?_))
  · refine Eq.trans (b := (((Rect.unit (s := S1x8x1x128x512) ![0, n, 0, 0, 0] S1x1x1x128x512.size inb).emb x) 3).val) ?_ rfl; omega
  · refine Eq.trans (b := (((Rect.unit (s := S1x8x1x128x512) ![0, n, 0, 0, 0] S1x1x1x128x512.size inb).emb x) 4).val) ?_ rfl; omega

/-- The key block read through a stored piece. -/
theorem piece_k (i : grid0.Coords) (x0 : Vec F S3072x2048 .bf16) (x1 : Vec F S2048x512 .bf16) (x3 : Vec F S128x1 .f32) (x4 : Vec F S384x512 .f32) (n r : Nat) (hn : n < 8)
    (inb : ∀ d, (![0, n, 0, 128 * r, 0] : Fin 5 → Nat) d + S1x1x1x128x512.size d ≤ S1x8x1x256x512.size d) (x : S1x1x1x128x512.Idx) :
    whole (keyPart i x0 x1 x3 x4 n hn r) x = keys i x0 x1 x3 x4 (((Rect.unit (s := S1x8x1x256x512) ![0, n, 0, 128 * r, 0] S1x1x1x128x512.size inb).emb x)) := by
  have e1 : (((Rect.unit (s := S1x8x1x256x512) ![0, n, 0, 128 * r, 0] S1x1x1x128x512.size inb).emb x) 1).val = n + (x 1).val := Rect.idx_unit_val (s := S1x8x1x256x512) ![0, n, 0, 128 * r, 0] S1x1x1x128x512.size inb x 1
  have e3 : (((Rect.unit (s := S1x8x1x256x512) ![0, n, 0, 128 * r, 0] S1x1x1x128x512.size inb).emb x) 3).val = 128 * r + (x 3).val := Rect.idx_unit_val (s := S1x8x1x256x512) ![0, n, 0, 128 * r, 0] S1x1x1x128x512.size inb x 3
  have e4 : (((Rect.unit (s := S1x8x1x256x512) ![0, n, 0, 128 * r, 0] S1x1x1x128x512.size inb).emb x) 4).val = 0 + (x 4).val := Rect.idx_unit_val (s := S1x8x1x256x512) ![0, n, 0, 128 * r, 0] S1x1x1x128x512.size inb x 4
  have h1 : (x 1).val < 1 := (x 1).isLt
  have h3 : (x 3).val < 128 := (x 3).isLt
  have h4 : (x 4).val < 512 := (x 4).isLt
  rw [whole_apply]
  unfold keys
  dsimp only
  have key : ∀ (m : Nat) (hm : m < 8) (r' : Nat) (w : S128x512.Idx), n = m → r = r' → ix2 (x 3) (x 4) = w →
      keyPart i x0 x1 x3 x4 n hn r (ix2 (x 3) (x 4)) = keyPart i x0 x1 x3 x4 m hm r' w := by
    intro m hm r' w e f g; subst e; subst f; subst g; rfl
  refine key _ _ _ _ (by rw [e1]; omega) (by rw [e3]; omega) (congrArg₂ (ix2 (n0 := 128) (n1 := 512)) (Fin.ext ?_) (Fin.ext ?_))
  · refine Eq.trans (b := (((Rect.unit (s := S1x8x1x256x512) ![0, n, 0, 128 * r, 0] S1x1x1x128x512.size inb).emb x) 3).val % 128) ?_ rfl; omega
  · refine Eq.trans (b := (((Rect.unit (s := S1x8x1x256x512) ![0, n, 0, 128 * r, 0] S1x1x1x128x512.size inb).emb x) 4).val) ?_ rfl; omega

/-- The body's 64 stores into the query block are the block. -/
theorem out5_eq (i : grid0.Coords) (x0 : Vec F S3072x2048 .bf16) (x1 : Vec F S2048x512 .bf16) (x2 : Vec F S128x1 .f32) (x3 : Vec F S128x1 .f32) (x4 : Vec F S384x512 .f32) :
    out0_5 i x0 x1 x2 x3 x4 = queries i x0 x1 x2 x4 := by
  funext y
  unfold out0_5
  refine View.canon_apply_of_pieces _ _ (View.PiecesOf.mem (?_ : View.PiecesOf (queries i x0 x1 x2 x4) _)) y (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  have row : ∀ (n a r c o3 o4 : Nat) (hn : n < 8) (ha : a < 2) (_ : o3 = 128 * r) (_ : o4 = 256 * c) (inb : ∀ d, (![0, n, a, o3, o4] : Fin 5 → Nat) d + S1x1x1x128x256.size d ≤ S1x8x2x256x512.size d)
      (w : S1x1x1x128x256.Idx → F .bf16), w = half (queryPart i x0 x1 x2 x4 n hn r c) a ha → ∀ x : S1x1x1x128x256.Idx,
      w x = queries i x0 x1 x2 x4 ((Rect.unit (s := S1x8x2x256x512) ![0, n, a, o3, o4] S1x1x1x128x256.size inb).emb x) := by
    intro n a r c o3 o4 hn ha h3 h4 inb w e x
    subst h3; subst h4
    exact (congrFun e x).trans (piece_q i x0 x1 x2 x4 n a r c hn ha inb x)
  refine ⟨row 7 1 1 1 128 256 (by decide) (by decide) (by decide) (by decide) inb_S1x8x2x256x512_S1x1x1x128x256_0_7_1_128_256 _ ?_, row 7 1 1 0 128 0 (by decide) (by decide) (by decide) (by decide) inb_S1x8x2x256x512_S1x1x1x128x256_0_7_1_128_0 _ ?_, row 7 1 0 1 0 256 (by decide) (by decide) (by decide) (by decide) inb_S1x8x2x256x512_S1x1x1x128x256_0_7_1_0_256 _ ?_, row 7 1 0 0 0 0 (by decide) (by decide) (by decide) (by decide) inb_S1x8x2x256x512_S1x1x1x128x256_0_7_1_0_0 _ ?_, row 7 0 1 1 128 256 (by decide) (by decide) (by decide) (by decide) inb_S1x8x2x256x512_S1x1x1x128x256_0_7_0_128_256 _ ?_, row 7 0 1 0 128 0 (by decide) (by decide) (by decide) (by decide) inb_S1x8x2x256x512_S1x1x1x128x256_0_7_0_128_0 _ ?_, row 7 0 0 1 0 256 (by decide) (by decide) (by decide) (by decide) inb_S1x8x2x256x512_S1x1x1x128x256_0_7_0_0_256 _ ?_, row 7 0 0 0 0 0 (by decide) (by decide) (by decide) (by decide) inb_S1x8x2x256x512_S1x1x1x128x256_0_7_0_0_0 _ ?_, row 6 1 1 1 128 256 (by decide) (by decide) (by decide) (by decide) inb_S1x8x2x256x512_S1x1x1x128x256_0_6_1_128_256 _ ?_, row 6 1 1 0 128 0 (by decide) (by decide) (by decide) (by decide) inb_S1x8x2x256x512_S1x1x1x128x256_0_6_1_128_0 _ ?_, row 6 1 0 1 0 256 (by decide) (by decide) (by decide) (by decide) inb_S1x8x2x256x512_S1x1x1x128x256_0_6_1_0_256 _ ?_, row 6 1 0 0 0 0 (by decide) (by decide) (by decide) (by decide) inb_S1x8x2x256x512_S1x1x1x128x256_0_6_1_0_0 _ ?_, row 6 0 1 1 128 256 (by decide) (by decide) (by decide) (by decide) inb_S1x8x2x256x512_S1x1x1x128x256_0_6_0_128_256 _ ?_, row 6 0 1 0 128 0 (by decide) (by decide) (by decide) (by decide) inb_S1x8x2x256x512_S1x1x1x128x256_0_6_0_128_0 _ ?_, row 6 0 0 1 0 256 (by decide) (by decide) (by decide) (by decide) inb_S1x8x2x256x512_S1x1x1x128x256_0_6_0_0_256 _ ?_, row 6 0 0 0 0 0 (by decide) (by decide) (by decide) (by decide) inb_S1x8x2x256x512_S1x1x1x128x256_0_6_0_0_0 _ ?_, row 5 1 1 1 128 256 (by decide) (by decide) (by decide) (by decide) inb_S1x8x2x256x512_S1x1x1x128x256_0_5_1_128_256 _ ?_, row 5 1 1 0 128 0 (by decide) (by decide) (by decide) (by decide) inb_S1x8x2x256x512_S1x1x1x128x256_0_5_1_128_0 _ ?_, row 5 1 0 1 0 256 (by decide) (by decide) (by decide) (by decide) inb_S1x8x2x256x512_S1x1x1x128x256_0_5_1_0_256 _ ?_, row 5 1 0 0 0 0 (by decide) (by decide) (by decide) (by decide) inb_S1x8x2x256x512_S1x1x1x128x256_0_5_1_0_0 _ ?_, row 5 0 1 1 128 256 (by decide) (by decide) (by decide) (by decide) inb_S1x8x2x256x512_S1x1x1x128x256_0_5_0_128_256 _ ?_, row 5 0 1 0 128 0 (by decide) (by decide) (by decide) (by decide) inb_S1x8x2x256x512_S1x1x1x128x256_0_5_0_128_0 _ ?_, row 5 0 0 1 0 256 (by decide) (by decide) (by decide) (by decide) inb_S1x8x2x256x512_S1x1x1x128x256_0_5_0_0_256 _ ?_, row 5 0 0 0 0 0 (by decide) (by decide) (by decide) (by decide) inb_S1x8x2x256x512_S1x1x1x128x256_0_5_0_0_0 _ ?_, row 4 1 1 1 128 256 (by decide) (by decide) (by decide) (by decide) inb_S1x8x2x256x512_S1x1x1x128x256_0_4_1_128_256 _ ?_, row 4 1 1 0 128 0 (by decide) (by decide) (by decide) (by decide) inb_S1x8x2x256x512_S1x1x1x128x256_0_4_1_128_0 _ ?_, row 4 1 0 1 0 256 (by decide) (by decide) (by decide) (by decide) inb_S1x8x2x256x512_S1x1x1x128x256_0_4_1_0_256 _ ?_, row 4 1 0 0 0 0 (by decide) (by decide) (by decide) (by decide) inb_S1x8x2x256x512_S1x1x1x128x256_0_4_1_0_0 _ ?_, row 4 0 1 1 128 256 (by decide) (by decide) (by decide) (by decide) inb_S1x8x2x256x512_S1x1x1x128x256_0_4_0_128_256 _ ?_, row 4 0 1 0 128 0 (by decide) (by decide) (by decide) (by decide) inb_S1x8x2x256x512_S1x1x1x128x256_0_4_0_128_0 _ ?_, row 4 0 0 1 0 256 (by decide) (by decide) (by decide) (by decide) inb_S1x8x2x256x512_S1x1x1x128x256_0_4_0_0_256 _ ?_, row 4 0 0 0 0 0 (by decide) (by decide) (by decide) (by decide) inb_S1x8x2x256x512_S1x1x1x128x256_0_4_0_0_0 _ ?_, row 3 1 1 1 128 256 (by decide) (by decide) (by decide) (by decide) inb_S1x8x2x256x512_S1x1x1x128x256_0_3_1_128_256 _ ?_, row 3 1 1 0 128 0 (by decide) (by decide) (by decide) (by decide) inb_S1x8x2x256x512_S1x1x1x128x256_0_3_1_128_0 _ ?_, row 3 1 0 1 0 256 (by decide) (by decide) (by decide) (by decide) inb_S1x8x2x256x512_S1x1x1x128x256_0_3_1_0_256 _ ?_, row 3 1 0 0 0 0 (by decide) (by decide) (by decide) (by decide) inb_S1x8x2x256x512_S1x1x1x128x256_0_3_1_0_0 _ ?_, row 3 0 1 1 128 256 (by decide) (by decide) (by decide) (by decide) inb_S1x8x2x256x512_S1x1x1x128x256_0_3_0_128_256 _ ?_, row 3 0 1 0 128 0 (by decide) (by decide) (by decide) (by decide) inb_S1x8x2x256x512_S1x1x1x128x256_0_3_0_128_0 _ ?_, row 3 0 0 1 0 256 (by decide) (by decide) (by decide) (by decide) inb_S1x8x2x256x512_S1x1x1x128x256_0_3_0_0_256 _ ?_, row 3 0 0 0 0 0 (by decide) (by decide) (by decide) (by decide) inb_S1x8x2x256x512_S1x1x1x128x256_0_3_0_0_0 _ ?_, row 2 1 1 1 128 256 (by decide) (by decide) (by decide) (by decide) inb_S1x8x2x256x512_S1x1x1x128x256_0_2_1_128_256 _ ?_, row 2 1 1 0 128 0 (by decide) (by decide) (by decide) (by decide) inb_S1x8x2x256x512_S1x1x1x128x256_0_2_1_128_0 _ ?_, row 2 1 0 1 0 256 (by decide) (by decide) (by decide) (by decide) inb_S1x8x2x256x512_S1x1x1x128x256_0_2_1_0_256 _ ?_, row 2 1 0 0 0 0 (by decide) (by decide) (by decide) (by decide) inb_S1x8x2x256x512_S1x1x1x128x256_0_2_1_0_0 _ ?_, row 2 0 1 1 128 256 (by decide) (by decide) (by decide) (by decide) inb_S1x8x2x256x512_S1x1x1x128x256_0_2_0_128_256 _ ?_, row 2 0 1 0 128 0 (by decide) (by decide) (by decide) (by decide) inb_S1x8x2x256x512_S1x1x1x128x256_0_2_0_128_0 _ ?_, row 2 0 0 1 0 256 (by decide) (by decide) (by decide) (by decide) inb_S1x8x2x256x512_S1x1x1x128x256_0_2_0_0_256 _ ?_, row 2 0 0 0 0 0 (by decide) (by decide) (by decide) (by decide) inb_S1x8x2x256x512_S1x1x1x128x256_0_2_0_0_0 _ ?_, row 1 1 1 1 128 256 (by decide) (by decide) (by decide) (by decide) inb_S1x8x2x256x512_S1x1x1x128x256_0_1_1_128_256 _ ?_, row 1 1 1 0 128 0 (by decide) (by decide) (by decide) (by decide) inb_S1x8x2x256x512_S1x1x1x128x256_0_1_1_128_0 _ ?_, row 1 1 0 1 0 256 (by decide) (by decide) (by decide) (by decide) inb_S1x8x2x256x512_S1x1x1x128x256_0_1_1_0_256 _ ?_, row 1 1 0 0 0 0 (by decide) (by decide) (by decide) (by decide) inb_S1x8x2x256x512_S1x1x1x128x256_0_1_1_0_0 _ ?_, row 1 0 1 1 128 256 (by decide) (by decide) (by decide) (by decide) inb_S1x8x2x256x512_S1x1x1x128x256_0_1_0_128_256 _ ?_, row 1 0 1 0 128 0 (by decide) (by decide) (by decide) (by decide) inb_S1x8x2x256x512_S1x1x1x128x256_0_1_0_128_0 _ ?_, row 1 0 0 1 0 256 (by decide) (by decide) (by decide) (by decide) inb_S1x8x2x256x512_S1x1x1x128x256_0_1_0_0_256 _ ?_, row 1 0 0 0 0 0 (by decide) (by decide) (by decide) (by decide) inb_S1x8x2x256x512_S1x1x1x128x256_0_1_0_0_0 _ ?_, row 0 1 1 1 128 256 (by decide) (by decide) (by decide) (by decide) inb_S1x8x2x256x512_S1x1x1x128x256_0_0_1_128_256 _ ?_, row 0 1 1 0 128 0 (by decide) (by decide) (by decide) (by decide) inb_S1x8x2x256x512_S1x1x1x128x256_0_0_1_128_0 _ ?_, row 0 1 0 1 0 256 (by decide) (by decide) (by decide) (by decide) inb_S1x8x2x256x512_S1x1x1x128x256_0_0_1_0_256 _ ?_, row 0 1 0 0 0 0 (by decide) (by decide) (by decide) (by decide) inb_S1x8x2x256x512_S1x1x1x128x256_0_0_1_0_0 _ ?_, row 0 0 1 1 128 256 (by decide) (by decide) (by decide) (by decide) inb_S1x8x2x256x512_S1x1x1x128x256_0_0_0_128_256 _ ?_, row 0 0 1 0 128 0 (by decide) (by decide) (by decide) (by decide) inb_S1x8x2x256x512_S1x1x1x128x256_0_0_0_128_0 _ ?_, row 0 0 0 1 0 256 (by decide) (by decide) (by decide) (by decide) inb_S1x8x2x256x512_S1x1x1x128x256_0_0_0_0_256 _ ?_, row 0 0 0 0 0 0 (by decide) (by decide) (by decide) (by decide) inb_S1x8x2x256x512_S1x1x1x128x256_0_0_0_0_0 _ ?_, trivial⟩
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, half, queryPart, scaled, turned, unitRows, squares, firstRows, headRows, pairRows, maskRows, gain, table] <;> rfl

/-- The body's 8 stores into the value block are the block. -/
theorem out6_eq (i : grid0.Coords) (x0 : Vec F S3072x2048 .bf16) (x1 : Vec F S2048x512 .bf16) (x2 : Vec F S128x1 .f32) (x3 : Vec F S128x1 .f32) (x4 : Vec F S384x512 .f32) :
    out0_6 i x0 x1 x2 x3 x4 = values x0 x1 := by
  funext y
  unfold out0_6
  refine View.canon_apply_of_pieces _ _ (View.PiecesOf.mem (?_ : View.PiecesOf (values x0 x1) _)) y (cover0_6 _ _ _ _ _ _ _ _ y)
  have row : ∀ (n : Nat) (hn : n < 8) (inb : ∀ d, (![0, n, 0, 0, 0] : Fin 5 → Nat) d + S1x1x1x128x512.size d ≤ S1x8x1x128x512.size d)
      (w : S1x1x1x128x512.Idx → F .bf16), w = whole (truncf .bf16 (headRows x0 x1 (8 + n) (by omega)) bitsLt_bf16_f32) → ∀ x : S1x1x1x128x512.Idx,
      w x = values x0 x1 ((Rect.unit (s := S1x8x1x128x512) ![0, n, 0, 0, 0] S1x1x1x128x512.size inb).emb x) :=
    fun n hn inb w e x => (congrFun e x).trans (piece_v x0 x1 n hn inb x)
  refine ⟨row 7 (by decide) inb_S1x8x1x128x512_S1x1x1x128x512_0_7_0_0_0 _ ?_, row 6 (by decide) inb_S1x8x1x128x512_S1x1x1x128x512_0_6_0_0_0 _ ?_, row 5 (by decide) inb_S1x8x1x128x512_S1x1x1x128x512_0_5_0_0_0 _ ?_, row 4 (by decide) inb_S1x8x1x128x512_S1x1x1x128x512_0_4_0_0_0 _ ?_, row 3 (by decide) inb_S1x8x1x128x512_S1x1x1x128x512_0_3_0_0_0 _ ?_, row 2 (by decide) inb_S1x8x1x128x512_S1x1x1x128x512_0_2_0_0_0 _ ?_, row 1 (by decide) inb_S1x8x1x128x512_S1x1x1x128x512_0_1_0_0_0 _ ?_, row 0 (by decide) inb_S1x8x1x128x512_S1x1x1x128x512_0_0_0_0_0 _ ?_, trivial⟩
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, whole, headRows, pairRows] <;> rfl

/-- The body's 16 stores into the key block are the block. -/
theorem out7_eq (i : grid0.Coords) (x0 : Vec F S3072x2048 .bf16) (x1 : Vec F S2048x512 .bf16) (x2 : Vec F S128x1 .f32) (x3 : Vec F S128x1 .f32) (x4 : Vec F S384x512 .f32) :
    out0_7 i x0 x1 x2 x3 x4 = keys i x0 x1 x3 x4 := by
  funext y
  unfold out0_7
  refine View.canon_apply_of_pieces _ _ (View.PiecesOf.mem (?_ : View.PiecesOf (keys i x0 x1 x3 x4) _)) y (cover0_7 _ _ _ _ _ _ _ _ _ _ _ _ _ _ _ _ y)
  have row : ∀ (n r o3 : Nat) (hn : n < 8) (_ : o3 = 128 * r) (inb : ∀ d, (![0, n, 0, o3, 0] : Fin 5 → Nat) d + S1x1x1x128x512.size d ≤ S1x8x1x256x512.size d)
      (w : S1x1x1x128x512.Idx → F .bf16), w = whole (keyPart i x0 x1 x3 x4 n hn r) → ∀ x : S1x1x1x128x512.Idx,
      w x = keys i x0 x1 x3 x4 ((Rect.unit (s := S1x8x1x256x512) ![0, n, 0, o3, 0] S1x1x1x128x512.size inb).emb x) := by
    intro n r o3 hn h3 inb w e x
    subst h3
    exact (congrFun e x).trans (piece_k i x0 x1 x3 x4 n r hn inb x)
  refine ⟨row 7 1 128 (by decide) (by decide) inb_S1x8x1x256x512_S1x1x1x128x512_0_7_0_128_0 _ ?_, row 7 0 0 (by decide) (by decide) inb_S1x8x1x256x512_S1x1x1x128x512_0_7_0_0_0 _ ?_, row 6 1 128 (by decide) (by decide) inb_S1x8x1x256x512_S1x1x1x128x512_0_6_0_128_0 _ ?_, row 6 0 0 (by decide) (by decide) inb_S1x8x1x256x512_S1x1x1x128x512_0_6_0_0_0 _ ?_, row 5 1 128 (by decide) (by decide) inb_S1x8x1x256x512_S1x1x1x128x512_0_5_0_128_0 _ ?_, row 5 0 0 (by decide) (by decide) inb_S1x8x1x256x512_S1x1x1x128x512_0_5_0_0_0 _ ?_, row 4 1 128 (by decide) (by decide) inb_S1x8x1x256x512_S1x1x1x128x512_0_4_0_128_0 _ ?_, row 4 0 0 (by decide) (by decide) inb_S1x8x1x256x512_S1x1x1x128x512_0_4_0_0_0 _ ?_, row 3 1 128 (by decide) (by decide) inb_S1x8x1x256x512_S1x1x1x128x512_0_3_0_128_0 _ ?_, row 3 0 0 (by decide) (by decide) inb_S1x8x1x256x512_S1x1x1x128x512_0_3_0_0_0 _ ?_, row 2 1 128 (by decide) (by decide) inb_S1x8x1x256x512_S1x1x1x128x512_0_2_0_128_0 _ ?_, row 2 0 0 (by decide) (by decide) inb_S1x8x1x256x512_S1x1x1x128x512_0_2_0_0_0 _ ?_, row 1 1 128 (by decide) (by decide) inb_S1x8x1x256x512_S1x1x1x128x512_0_1_0_128_0 _ ?_, row 1 0 0 (by decide) (by decide) inb_S1x8x1x256x512_S1x1x1x128x512_0_1_0_0_0 _ ?_, row 0 1 128 (by decide) (by decide) inb_S1x8x1x256x512_S1x1x1x128x512_0_0_0_128_0 _ ?_, row 0 0 0 (by decide) (by decide) inb_S1x8x1x256x512_S1x1x1x128x512_0_0_0_0_0 _ ?_, trivial⟩
  all_goals
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, whole, keyPart, turned, unitRows, squares, firstRows, headRows, pairRows, ownRows, start, gain, table] <;> rfl

end Cert.Qkv

end
-- ==== Proof.QkvWord.lean ====
module

public import proofs.«01_k».proof.Proof.QkvTile
public import proofs.«01_k».proof.Proof.QvWord

/-! The integer words of the differential branch's projection: the first position of a grid point, and the bits of a mask row and of an indicator row. -/

@[expose] public section

set_option maxRecDepth 16384

noncomputable section

namespace Cert.Qkv

open Cert.QkvKernelIdeal Cert.QkvKernelIdeal.Gen Idealize.ShloMosaic Idealize.ShloMosaic.WordCmp Idealize.ShloMosaic.TcCoe

/-- The first position of a grid point: 512 positions a point, eight points a sequence. -/
theorem start_word (i : grid0.Coords) : start i = BitVec.ofNat 32 (512 * ((i 0).val % 8)) := by
  have key : ∀ r : Fin 32, Scalar.muli (Scalar.select (Scalar.andi (Scalar.xori (Scalar.cmpi .slt (Scalar.remsi (BitVec.ofNat 32 r.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 r.val) (Scalar.select (Scalar.cmpi .eq 8#32 0#32) 1#32 8#32)) 0#32))
      (Scalar.addi (Scalar.remsi (BitVec.ofNat 32 r.val) (Scalar.select (Scalar.cmpi .eq 8#32 0#32) 1#32 8#32)) (Scalar.select (Scalar.cmpi .eq 8#32 0#32) 1#32 8#32))
      (Scalar.remsi (BitVec.ofNat 32 r.val) (Scalar.select (Scalar.cmpi .eq 8#32 0#32) 1#32 8#32))) 512#32 = BitVec.ofNat 32 (512 * (r.val % 8)) := by decide
  exact key (i 0)

/-- The bit of mask row `s` for a query of chunk `a`: the row's chunk is later. -/
theorem laterBit_ofNat (s a : Nat) (hs : s < 128) (ha : a < 2 ^ 16) :
    IntOp.andi (IntOp.cmpi .sge (BitVec.ofNat 32 s) 0#32) (IntOp.cmpi .sgt (IntOp.subi (BitVec.ofNat 32 s) 0#32) (BitVec.ofNat 32 a)) = BitVec.ofBool (decide (a < s)) := by
  have e2 : (IntOp.subi (BitVec.ofNat 32 s) 0#32).toInt = (s : Int) - 0 := Cert.Band.toInt_word_sub s 0 (by omega) (by omega)
  have e0 : (0#32).toInt = 0 := rfl
  rw [cmpi_sge_eq, cmpi_sgt_eq, e2, e0, Cert.Band.toInt_word s (by omega), Cert.Band.toInt_word a (by omega), Cert.Band.and_bits]
  congr 1
  rw [decide_eq_decide]
  omega

/-- The same bit where it is compared alone. -/
theorem afterBit_ofNat (s a : Nat) (hs : s < 128) (ha : a < 2 ^ 16) :
    IntOp.cmpi .sgt (BitVec.ofNat 32 s) (BitVec.ofNat 32 a) = BitVec.ofBool (decide (a < s)) := by
  rw [cmpi_sgt_eq, Cert.Band.toInt_word s (by omega), Cert.Band.toInt_word a (by omega)]
  congr 1
  rw [decide_eq_decide]
  omega

/-- The bit of indicator row `s` for a key of chunk `a`. -/
theorem ownBit_ofNat (s a : Nat) (hs : s < 128) (ha : a < 2 ^ 16) :
    IntOp.cmpi .eq (BitVec.ofNat 32 s) (BitVec.ofNat 32 a) = BitVec.ofBool (decide (s = a)) := by
  have e3 : (BitVec.ofNat 32 s = BitVec.ofNat 32 a) ↔ s = a := by
    rw [← BitVec.toInt_inj, Cert.Band.toInt_word s (by omega), Cert.Band.toInt_word a (by omega)]
    omega
  rw [cmpi_eq_eq]
  congr 1
  rw [decide_eq_decide, e3]

/-- The bit of the first map's rows. -/
theorem firstBit_ofNat (s : Nat) (hs : s < 128) : IntOp.cmpi .slt (BitVec.ofNat 32 s) 64#32 = BitVec.ofBool (decide (s < 64)) := by
  have e0 : (64#32).toInt = 64 := rfl
  rw [cmpi_slt_eq, e0, Cert.Band.toInt_word s (by omega)]
  congr 1
  rw [decide_eq_decide]
  omega

end Cert.Qkv

end
-- ==== Proof.QkvRead.lean ====
module

public import proofs.«01_k».proof.Proof.QkvWord

/-! The point's blocks read at an index over the extended reals. -/

@[expose] public section

set_option maxRecDepth 16384

noncomputable section

namespace Cert.Qkv

open Cert.QkvKernelIdeal Cert.QkvKernelIdeal.Gen Idealize.ShloMosaic Idealize.ShloMosaic.WordCmp Idealize.ShloMosaic.TcCoe

/-- One over the mean square's root, from a map's 64 entries. -/
def invRms (x : Fin 64 → EReal) : EReal :=
  Ideal.rsqrt ((∑ e : Fin 64, x e * x e) * Ideal.ofBits .f32 0x3C800000#32 + Ideal.ofBits .f32 0x358637BD#32)

/-- A head's projection read at an index. -/
theorem headRows_apply (x0 : Vec Ideal S3072x2048 .bf16) (x1 : Vec Ideal S2048x512 .bf16) (n : Nat) (h : n < 24) (d : Fin 128) (c : Fin 512) :
    headRows (F := Ideal) x0 x1 n h (ix2 d c) = ∑ k : Fin 2048, x0 (ix2 ⟨128 * n + d.val, by omega⟩ k) * x1 (ix2 k c) := by
  have hz : (![0, 0] : Fin 2 → Nat) = fun _ => 0 := by funext a; fin_cases a <;> rfl
  unfold headRows pairRows
  rw [View.ld_unit_zero hz]
  pointwise
  refine Finset.sum_congr rfl fun k _ => congrArg (· * _) (congrArg x0 (congrArg (fun r => ix2 r k) (Fin.ext ?_)))
  show 256 * (n / 2) + (128 * (n % 2) + d.val) = 128 * n + d.val
  omega

/-- The bit of the first map's rows, read. -/
theorem firstRows_apply (d : Fin 128) (c : Fin 512) : firstRows (ix2 d c) = BitVec.ofBool (decide (d.val < 64)) := by
  unfold firstRows k0_pay5
  pointwise
  exact firstBit_ofNat d.val d.isLt

/-- A sum of squares read at an index. -/
theorem squares_apply (o : Nat) (h : o ≤ 64) (u : FVec Ideal S128x512 .f32) (d : Fin 128) (c : Fin 512) :
    squares (F := Ideal) o h u (ix2 d c) = ∑ e : Fin 64, u (ix2 ⟨o + e.val, by omega⟩ c) * u (ix2 ⟨o + e.val, by omega⟩ c) := by
  unfold squares
  pointwise

/-- A head's two normalized maps read at an index. -/
theorem unitRows_apply (u : FVec Ideal S128x512 .f32) (g : FVec Ideal S128x1 .f32) (d : Fin 128) (c : Fin 512) :
    unitRows (F := Ideal) u g (ix2 d c) = u (ix2 d c) * invRms (fun e => u (ix2 ⟨64 * (d.val / 64) + e.val, by omega⟩ c)) * g (ix2 d 0) := by
  unfold unitRows invRms
  pointwise
  rw [firstRows_apply, Cert.Band.select_bit, squares_apply, squares_apply]
  have hd : d.val < 128 := d.isLt
  by_cases hs : d.val < 64
  · rw [if_pos hs]
    have : d.val / 64 = 0 := by omega
    simp only [this, Nat.mul_zero]
  · rw [if_neg hs]
    have : d.val / 64 = 1 := by omega
    simp only [this, Nat.mul_one]

/-- The rotation read at an index. -/
theorem turned_apply (r : FVec Ideal S384x512 .f32) (y : FVec Ideal S128x512 .f32) (d : Fin 128) (c : Fin 512) :
    turned (F := Ideal) r y (ix2 d c) = y (ix2 d c) * r (ix2 ⟨d.val, by omega⟩ c)
      + y (ix2 ⟨(d.val + 8) % 128, by omega⟩ c) * r (ix2 ⟨128 + d.val, by omega⟩ c)
      + y (ix2 ⟨(d.val + 120) % 128, by omega⟩ c) * r (ix2 ⟨256 + d.val, by omega⟩ c) := by
  unfold turned
  pointwise
  have hd : d.val < 128 := d.isLt
  have e1 : (if h : d.val < 120 then y (ix2 ⟨8 + d.val, by omega⟩ c) else y (ix2 ⟨d.val - 120, by omega⟩ c)) = y (ix2 ⟨(d.val + 8) % 128, by omega⟩ c) := by
    split
    · exact congrArg (fun r => y (ix2 r c)) (Fin.ext (by show 8 + d.val = (d.val + 8) % 128; omega))
    · exact congrArg (fun r => y (ix2 r c)) (Fin.ext (by show d.val - 120 = (d.val + 8) % 128; omega))
  have e2 : (if h : d.val < 8 then y (ix2 ⟨120 + d.val, by omega⟩ c) else y (ix2 ⟨d.val - 8, by omega⟩ c)) = y (ix2 ⟨(d.val + 120) % 128, by omega⟩ c) := by
    split
    · exact congrArg (fun r => y (ix2 r c)) (Fin.ext (by show 120 + d.val = (d.val + 120) % 128; omega))
    · exact congrArg (fun r => y (ix2 r c)) (Fin.ext (by show d.val - 8 = (d.val + 120) % 128; omega))
  rw [e1, e2]

/-- The table read at an index. -/
theorem table_apply (x4 : Vec Ideal S384x512 .f32) (d : Fin 384) (c : Fin 512) : table (F := Ideal) x4 (ix2 d c) = x4 (ix2 d c) := by
  have hz : (![0, 0] : Fin 2 → Nat) = fun _ => 0 := by funext a; fin_cases a <;> rfl
  unfold table k0_pay3
  rw [View.ld_unit_zero hz]
  pointwise

/-- The gain read at an index. -/
theorem gain_apply (x2 : Vec Ideal S128x1 .f32) (d : Fin 128) : gain (F := Ideal) x2 (ix2 d 0) = x2 (ix2 d 0) := by
  have hz : (![0, 0] : Fin 2 → Nat) = fun _ => 0 := by funext a; fin_cases a <;> rfl
  unfold gain k0_pay4
  rw [View.ld_unit_zero hz]
  pointwise

/-- The queries' scale. -/
theorem qscale_eq : Named.named (F := Ideal) κ "qscale" (φ := .f32) 0x3E38AA3B#32 = (((8 * Real.log 2)⁻¹ : ℝ) : EReal) :=
  IdealRules.named_const.ideal_named_scalar _ _ _ _ rfl

/-- The chunk word of a position. -/
theorem chunk_apply (i : grid0.Coords) (c : Fin 512) :
    Cert.Qv.chunkVec (IntOp.addi (BitVec.ofNat 32 (512 * ((i 0).val % 8))) (BitVec.ofNat 32 c.val)) = BitVec.ofNat 32 ((512 * ((i 0).val % 8) + c.val) / 64) := by
  have hw : IntOp.addi (BitVec.ofNat 32 (512 * ((i 0).val % 8))) (BitVec.ofNat 32 c.val) = BitVec.ofNat 32 (512 * ((i 0).val % 8) + c.val) := by
    show BitVec.ofNat 32 _ + BitVec.ofNat 32 _ = _
    rw [← BitVec.ofNat_add]
  rw [hw]
  exact Cert.Qv.chunkVec_ofNat _ (by omega)

/-- The position word of a column. -/
theorem pay6_apply (i : grid0.Coords) (s : Fin 128) (c : Fin 512) :
    k0_pay6 i (ix2 s c) = IntOp.addi (BitVec.ofNat 32 (512 * ((i 0).val % 8))) (BitVec.ofNat 32 c.val) := by
  unfold k0_pay6
  pointwise
  exact congrArg (IntOp.addi · _) (start_word i)

/-- The mask read at an index. -/
theorem maskRows_apply (i : grid0.Coords) (s : Fin 128) (c : Fin 512) :
    maskRows (F := Ideal) i (ix2 s c) = if (512 * ((i 0).val % 8) + c.val) / 64 < s.val then (⊥ : EReal) else 0 := by
  unfold maskRows k0_pay10 k0_pay7 k0_pay8 k0_pay9
  pointwise
  have h : Named.named (F := Ideal) κ "mask" (φ := .f32) 0xF149F2CA#32 = (⊥ : EReal) :=
    IdealRules.named_const.ideal_named_scalar _ _ _ _ rfl
  rw [h]
  simp only [pay6_apply]
  have hc := chunk_apply i c
  unfold Cert.Qv.chunkVec at hc
  rw [hc]
  refine (congrArg (fun b => Scalar.select b (⊥ : EReal) 0) (laterBit_ofNat s.val _ s.isLt (by omega))).trans ?_
  rw [Cert.Band.select_bit]

/-- The indicator read at an index. -/
theorem ownRows_apply (i : grid0.Coords) (s : Fin 128) (c : Fin 512) :
    ownRows (F := Ideal) i (ix2 s c) = if s.val = (512 * ((i 0).val % 8) + c.val) / 64 then (1 : EReal) else 0 := by
  unfold ownRows k0_pay142 k0_pay140 k0_pay141 k0_pay139
  rw [start_word]
  pointwise
  have hc := chunk_apply i c
  unfold Cert.Qv.chunkVec at hc
  rw [hc]
  refine (congrArg (fun b => Scalar.select b (1 : EReal) 0) (ownBit_ofNat s.val _ s.isLt (by omega))).trans ?_
  rw [Cert.Band.select_bit]

end Cert.Qkv

end
-- ==== Proof.QkvRef.lean ====
module

public import proofs.«01_k».proof.Proof.Gen.QkvReferenceIdeal.Read
public import proofs.«01_k».proof.Proof.QkvRead
public import proofs.«01_k».proof.Proof.BandRef

/-! The differential branch's projection as mathematics, and the reference read as it. -/

@[expose] public section

set_option maxRecDepth 16384

noncomputable section

namespace Cert.Qkv

open Idealize.ShloMosaic Idealize.ShloMosaic.WordCmp Idealize.ShloMosaic.TcCoe
open Cert.QkvReferenceIdeal Cert.QkvReferenceIdeal.Read

variable (w : Vec Ideal S3072x2048 .bf16) (h : Vec Ideal S2048x16384 .bf16) (g gk : Vec Ideal S64 .f32)

/-- The constant 64. -/
theorem bits_64 : Ideal.ofBits .f32 0x42800000#32 = ((64 : ℝ) : EReal) := by
  simp [Ideal.ofBits, Ideal.ieee]
  rw [← EReal.coe_mul]
  norm_num

/-- The constant 1/64. -/
theorem bits_inv_64 : Ideal.ofBits .f32 0x3C800000#32 = ((1 / 64 : ℝ) : EReal) := by
  simp [Ideal.ofBits, Ideal.ieee]
  rw [← EReal.coe_mul]
  norm_num

/-- The constant 8. -/
theorem bits_8 : Ideal.ofBits .f32 0x41000000#32 = ((8 : ℝ) : EReal) := by
  simp [Ideal.ofBits, Ideal.ieee]
  rw [← EReal.coe_mul]
  norm_num

/-- Output feature `j` of token `t`. -/
def feature (j : Fin 3072) (t : Fin 16384) : EReal := ∑ k : Fin 2048, w (ix2 j k) * h (ix2 k t)

/-- The 64 features of map `m` of head `n`, the value's and key's heads counted on from the queries'. -/
def mapRow (n : Nat) (m : Fin 2) (hn : n < 24) (t : Fin 16384) (e : Fin 64) : EReal :=
  feature w h ⟨128 * n + (64 * m.val + e.val), by omega⟩ t

/-- A map's features over their root mean square, times the gain. -/
def unit (g : Vec Ideal S64 .f32) (x : Fin 64 → EReal) (e : Fin 64) : EReal := x e * invRms x * g (ix1 e)

/-- The angle of frequency `j` at position `p`. -/
def angle (p : Fin 4096) (j : Fin 8) : EReal :=
  FloatOps.sitofp (F := Ideal) .f32 (BitVec.ofNat 32 p.val)
    * Ideal.div 1 (Ideal.pow (Ideal.ofBits .f32 0x48F42400#32)
        (Ideal.div (Ideal.ofBits .f32 0x40000000#32 * FloatOps.sitofp (F := Ideal) .f32 (BitVec.ofNat 32 j.val)) (Ideal.ofBits .f32 0x41800000#32)))

/-- A map's first sixteen entries turned by their position, in pairs eight apart. -/
def rotated (p : Fin 4096) (y : Fin 64 → EReal) (e : Fin 64) : EReal :=
  if h : e.val < 8 then y e * Ideal.cos (angle p ⟨e.val, h⟩) - y ⟨8 + e.val, by omega⟩ * Ideal.sin (angle p ⟨e.val, h⟩)
  else if h' : e.val < 16 then y e * Ideal.cos (angle p ⟨e.val - 8, by omega⟩) + y ⟨e.val - 8, by omega⟩ * Ideal.sin (angle p ⟨e.val - 8, by omega⟩)
  else y e

/-- Entry `e` of map `m` of head `n` at position `p` of sequence `b`: normalized, then turned. -/
def turnedMap (g : Vec Ideal S64 .f32) (n : Nat) (hn : n < 24) (b : Fin 4) (p : Fin 4096) (m : Fin 2) (e : Fin 64) : EReal :=
  rotated p (unit g (mapRow w h n m hn ⟨4096 * b.val + p.val, by omega⟩)) e

/-- Equal places hold equal entries. -/
theorem turnedMap_congr (n n' : Nat) (hn : n < 24) (hn' : n' < 24) (b b' : Fin 4) (p p' : Fin 4096) (m m' : Fin 2) (e e' : Fin 64)
    (h0 : n = n') (h1 : b = b') (h2 : p = p') (h3 : m = m') (h4 : e = e') :
    turnedMap w h g n hn b p m e = turnedMap w h g n' hn' b' p' m' e' := by
  subst h0; subst h1; subst h2; subst h3; subst h4; rfl

/-- The reference's projection. -/
theorem product_apply (t : Fin 16384) (j : Fin 3072) : val_main_v23 (F := Ideal) w h (ix2 t j) = feature w h j t := by
  unfold feature
  pointwise [val_main_v23, val_main_v22, val_main_v21]
  exact Finset.sum_congr rfl fun k _ => mul_comm _ _

/-- The reference's angle. -/
theorem angle_apply (p : Fin 4096) (j : Fin 8) : val_main_v16 (F := Ideal) (ix2 p j) = angle p j := by
  pointwise [val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, val_main_cst_3]
  rfl

/-- The turn as it is put together from three pieces. -/
theorem rotated_pieces (c s : Fin 8 → EReal) (y : Fin 64 → EReal) (e : Fin 64) :
    (if h : e.val < 8 then y e * c ⟨e.val, h⟩ - y ⟨8 + e.val, by omega⟩ * s ⟨e.val, h⟩
      else if h' : e.val - 8 < 8 then y ⟨8 + (e.val - 8), by omega⟩ * c ⟨e.val - 8, h'⟩ + y ⟨e.val - 8, by omega⟩ * s ⟨e.val - 8, h'⟩
      else y ⟨16 + (e.val - 8 - 8), by omega⟩)
    = if h : e.val < 8 then y e * c ⟨e.val, h⟩ - y ⟨8 + e.val, by omega⟩ * s ⟨e.val, h⟩
      else if h' : e.val < 16 then y e * c ⟨e.val - 8, by omega⟩ + y ⟨e.val - 8, by omega⟩ * s ⟨e.val - 8, by omega⟩
      else y e := by
  by_cases h : e.val < 8
  · rw [dif_pos h, dif_pos h]
  · rw [dif_neg h, dif_neg h]
    by_cases h' : e.val < 16
    · rw [dif_pos h', dif_pos (by omega)]
      have : (⟨8 + (e.val - 8), by omega⟩ : Fin 64) = e := Fin.ext (by show 8 + (e.val - 8) = e.val; omega)
      rw [this]
    · rw [dif_neg h', dif_neg (by omega)]
      exact congrArg y (Fin.ext (by show 16 + (e.val - 8 - 8) = e.val; omega))

/-- The reference's query feature. -/
theorem v30_apply (b : Fin 4) (p : Fin 4096) (n : Fin 8) (m : Fin 2) (e : Fin 64) :
    val_main_v30 (F := Ideal) w h (ix5 b p n m e) = mapRow w h n.val m (by omega) ⟨4096 * b.val + p.val, by omega⟩ e := by
  pointwise [val_main_v30, val_main_v29]
  rw [product_apply]
  unfold mapRow
  exact congrArg₂ (feature w h) (Fin.ext (by show n.val * 128 + m.val * 64 + e.val = 128 * n.val + (64 * m.val + e.val); omega))
    (Fin.ext (by show b.val * 4096 + p.val = 4096 * b.val + p.val; omega))

/-- The reference's normalized query. -/
theorem v43_apply (b : Fin 4) (p : Fin 4096) (n : Fin 8) (m : Fin 2) (e : Fin 64) :
    val_main_v43 (F := Ideal) w h g (ix5 b p n m e) = unit g (mapRow w h n.val m (by omega) ⟨4096 * b.val + p.val, by omega⟩) e := by
  unfold unit invRms
  pointwise [val_main_v43, val_main_v42, val_main_v41, val_main_v40, val_main_v39, val_main_v38, val_main_v37, val_main_v36, val_main_v35, val_main_v34,
    val_main_v33, val_main_v32, val_main_v31, val_main_cst_4, val_main_cst_5, val_main_cst_6]
  rw [bits_64, bits_inv_64, Ideal.div_coe (by norm_num)]
  simp only [v30_apply]

/-- The reference's turned query. -/
theorem v57_apply (b : Fin 4) (p : Fin 4096) (n : Fin 8) (m : Fin 2) (e : Fin 64) :
    val_main_v57 (F := Ideal) w h g (ix5 b p n m e) = turnedMap w h g n.val (by omega) b p m e := by
  unfold turnedMap rotated
  pointwise [val_main_v57, val_main_v56, val_main_v55, val_main_v54, val_main_v53, val_main_v52, val_main_v51, val_main_v50, val_main_v49, val_main_v48,
    val_main_v47, val_main_v46, val_main_v45, val_main_v44, val_main_v20, val_main_v19, val_main_v18, val_main_v17]
  simp only [v43_apply, angle_apply]
  exact rotated_pieces (fun j => Ideal.cos (angle p j)) (fun j => Ideal.sin (angle p j)) _ e

/-- The reference's key feature. -/
theorem v90_apply (b : Fin 4) (p : Fin 4096) (n : Fin 8) (m : Fin 2) (e : Fin 64) :
    val_main_v90 (F := Ideal) w h (ix5 b p n m e) = mapRow w h (16 + n.val) m (by omega) ⟨4096 * b.val + p.val, by omega⟩ e := by
  pointwise [val_main_v90, val_main_v89]
  rw [product_apply]
  unfold mapRow
  exact congrArg₂ (feature w h) (Fin.ext (by show 2048 + (n.val * 128 + m.val * 64 + e.val) = 128 * (16 + n.val) + (64 * m.val + e.val); omega))
    (Fin.ext (by show b.val * 4096 + p.val = 4096 * b.val + p.val; omega))

/-- The reference's normalized key. -/
theorem v103_apply (b : Fin 4) (p : Fin 4096) (n : Fin 8) (m : Fin 2) (e : Fin 64) :
    val_main_v103 (F := Ideal) w h g (ix5 b p n m e) = unit g (mapRow w h (16 + n.val) m (by omega) ⟨4096 * b.val + p.val, by omega⟩) e := by
  unfold unit invRms
  pointwise [val_main_v103, val_main_v102, val_main_v101, val_main_v100, val_main_v99, val_main_v98, val_main_v97, val_main_v96, val_main_v95, val_main_v94,
    val_main_v93, val_main_v92, val_main_v91, val_main_cst_13, val_main_cst_14, val_main_cst_15]
  rw [bits_64, bits_inv_64, Ideal.div_coe (by norm_num)]
  simp only [v90_apply]

/-- The reference's turned key. -/
theorem v117_apply (b : Fin 4) (p : Fin 4096) (n : Fin 8) (m : Fin 2) (e : Fin 64) :
    val_main_v117 (F := Ideal) w h g (ix5 b p n m e) = turnedMap w h g (16 + n.val) (by omega) b p m e := by
  unfold turnedMap rotated
  pointwise [val_main_v117, val_main_v116, val_main_v115, val_main_v114, val_main_v113, val_main_v112, val_main_v111, val_main_v110, val_main_v109, val_main_v108,
    val_main_v107, val_main_v106, val_main_v105, val_main_v104, val_main_v20, val_main_v19, val_main_v18, val_main_v17]
  simp only [v103_apply, angle_apply]
  exact rotated_pieces (fun j => Ideal.cos (angle p j)) (fun j => Ideal.sin (angle p j)) _ e

/-- The reference's scale. -/
theorem scale_apply (i : S_.Idx) : val_main_v60 (F := Ideal) i = (((8 * Real.log 2)⁻¹ : ℝ) : EReal) := by
  pointwise [val_main_v60, val_main_v59, val_main_v58, val_main_cst_7, val_main_cst_8, val_main_cst_9]
  have hp : (8 * Real.log 2) ≠ 0 := mul_ne_zero (by norm_num) (Real.log_pos (by norm_num)).ne'
  rw [bits_8, Cert.ReferenceIdeal.Band.log_two, ← EReal.coe_mul, Ideal.div_coe hp, one_mul, one_div]

/-- A position's chunk. -/
theorem v26_apply (p : Fin 4096) : val_main_v26 (F := Ideal) (ix2 p 0) = BitVec.ofNat 32 (p.val / 64) := by
  pointwise [val_main_v26, val_main_call0_v13, val_main_call0_v12, val_main_call0_c_0, val_main_call0_v11, val_main_call0_v10,
    val_main_call0_v9, val_main_call0_c, val_main_call0_v8, val_main_call0_v7, val_main_call0_v6, val_main_call0_v5,
    val_main_call0_v4, val_main_call0_v3, val_main_call0_v2, val_main_call0_v1, val_main_call0_v0, val_main_c, val_main_v25, val_main_v24]
  exact Cert.Band.chunkWord_ofNat p.val (by omega)

/-- The reference's mask. -/
theorem v67_apply (p : Fin 4096) (s : Fin 128) :
    val_main_v67 (F := Ideal) (ix2 p s) = if p.val / 64 < s.val then (⊥ : EReal) else 0 := by
  pointwise [val_main_v67, val_main_call1_v1, val_main_call1_v0, val_main_cst_11, val_main_cst_12, val_main_v66, val_main_v65, val_main_v64, val_main_v28, val_main_v27]
  have hb : Ideal.ofBits .f32 0xFF800000#32 = ⊥ := by simp [Ideal.ofBits, Ideal.ieee]
  rw [v26_apply, hb]
  refine (congrArg (fun b => Scalar.select b (⊥ : EReal) 0) (afterBit_ofNat s.val _ s.isLt (by omega))).trans ?_
  rw [Cert.Band.select_bit]

/-- The reference's indicator. -/
theorem v122_apply (p : Fin 4096) (s : Fin 128) :
    val_main_v122 (F := Ideal) (ix2 p s) = if s.val = p.val / 64 then (1 : EReal) else 0 := by
  pointwise [val_main_v122, val_main_call2_v1, val_main_call2_v0, val_main_cst_16, val_main_cst_17, val_main_v121, val_main_v120, val_main_v119, val_main_v28, val_main_v27]
  rw [v26_apply]
  refine (congrArg (fun b => Scalar.select b (1 : EReal) 0) (ownBit_ofNat s.val _ s.isLt (by omega))).trans ?_
  rw [Cert.Band.select_bit]

/-- The whole query array: the first map's queries or zeros, zeros or the second map's queries, and the mask. -/
def allQueries : Vec Ideal S4x8x16x256x512 .bf16 := fun i =>
  have h0 : (i 0).val < 4 := (i 0).isLt
  have h1 : (i 1).val < 8 := (i 1).isLt
  have h2 : (i 2).val < 16 := (i 2).isLt
  have h3 : (i 3).val < 256 := (i 3).isLt
  have h4 : (i 4).val < 512 := (i 4).isLt
  if hs : (i 3).val < 128 then
    if (i 3).val / 64 = (i 4).val / 256 then
      turnedMap w h g (i 1).val (by omega) (i 0) ⟨256 * (i 2).val + (i 4).val % 256, by omega⟩ ⟨(i 3).val / 64, by omega⟩ ⟨(i 3).val % 64, by omega⟩
        * (((8 * Real.log 2)⁻¹ : ℝ) : EReal)
    else 0
  else if (256 * (i 2).val + (i 4).val % 256) / 64 < (i 3).val - 128 then ⊥ else 0

/-- The whole value array. -/
def allValues : Vec Ideal S4x8x8x128x512 .bf16 := fun i =>
  have h0 : (i 0).val < 4 := (i 0).isLt
  have h1 : (i 1).val < 8 := (i 1).isLt
  have h2 : (i 2).val < 8 := (i 2).isLt
  have h3 : (i 3).val < 128 := (i 3).isLt
  have h4 : (i 4).val < 512 := (i 4).isLt
  feature w h ⟨1024 + (128 * (i 1).val + (i 3).val), by omega⟩ ⟨4096 * (i 0).val + (512 * (i 2).val + (i 4).val), by omega⟩

/-- The whole key array: the keys of both maps, and their chunk's indicator. -/
def allKeys : Vec Ideal S4x8x8x256x512 .bf16 := fun i =>
  have h0 : (i 0).val < 4 := (i 0).isLt
  have h1 : (i 1).val < 8 := (i 1).isLt
  have h2 : (i 2).val < 8 := (i 2).isLt
  have h3 : (i 3).val < 256 := (i 3).isLt
  have h4 : (i 4).val < 512 := (i 4).isLt
  if hs : (i 3).val < 128 then
    turnedMap w h gk (16 + (i 1).val) (by omega) (i 0) ⟨512 * (i 2).val + (i 4).val, by omega⟩ ⟨(i 3).val / 64, by omega⟩ ⟨(i 3).val % 64, by omega⟩
  else if (i 3).val - 128 = (512 * (i 2).val + (i 4).val) / 64 then 1 else 0

/-- The reference's values are the whole value array. -/
theorem reference_values : val_main_v88 (F := Ideal) w h = allValues w h := by
  funext i
  unfold allValues
  pointwise [val_main_v88, val_main_v87, val_main_v86, val_main_v85]
  have h1 : (i 1).val < 8 := (i 1).isLt
  have h2 : (i 2).val < 8 := (i 2).isLt
  have h3 : (i 3).val < 128 := (i 3).isLt
  have h4 : (i 4).val < 512 := (i 4).isLt
  rw [product_apply]
  exact congrArg₂ (feature w h) (Fin.ext (by show 1024 + ((i 1).val * 128 + (i 3).val) = 1024 + (128 * (i 1).val + (i 3).val); omega))
    (Fin.ext (by show (i 0).val * 4096 + (i 2).val * 512 + (i 4).val = 4096 * (i 0).val + (512 * (i 2).val + (i 4).val); omega))

/-- The reference's queries are the whole query array. -/
theorem reference_queries : val_main_v84 (F := Ideal) w h g = allQueries w h g := by
  funext i
  unfold allQueries
  pointwise [val_main_v84, val_main_v83, val_main_v82, val_main_v81, val_main_v80, val_main_v79, val_main_v78, val_main_v77, val_main_v76, val_main_v75,
    val_main_v74, val_main_v73, val_main_v72, val_main_v71, val_main_v70, val_main_v69, val_main_v68, val_main_v63, val_main_v62, val_main_v61, val_main_cst_10]
  have h0 : (i 0).val < 4 := (i 0).isLt
  have h1 : (i 1).val < 8 := (i 1).isLt
  have h2 : (i 2).val < 16 := (i 2).isLt
  have h3 : (i 3).val < 256 := (i 3).isLt
  have h4 : (i 4).val < 512 := (i 4).isLt
  by_cases hs : (i 3).val < 128
  · by_cases hc : (i 4).val < 256
    · by_cases hf : (i 3).val < 64
      · have hm : (i 3).val / 64 = (i 4).val / 256 := by omega
        simp only [hs, hc, hf, hm, dite_true, if_true, scale_apply]
        refine congrArg (· * (((8 * Real.log 2)⁻¹ : ℝ) : EReal)) ?_
        refine (v57_apply w h g (i 0) _ (i 1) _ _).trans ?_
        refine turnedMap_congr w h g _ _ _ _ _ _ _ _ _ _ _ _ rfl rfl (Fin.ext ?_) (Fin.ext ?_) (Fin.ext ?_)
        · show (i 2).val * 256 + (i 4).val = 256 * (i 2).val + (i 4).val % 256; omega
        · show 0 = (i 4).val / 256; omega
        · show (i 3).val = (i 3).val % 64; omega
      · have hf' : (i 3).val - 64 < 64 := by omega
        have hm : ¬ (i 3).val / 64 = (i 4).val / 256 := by omega
        simp only [hs, hc, hf, hf', hm, dite_true, dite_false, if_false]
    · by_cases hf : (i 3).val < 64
      · have hm : ¬ (i 3).val / 64 = (i 4).val / 256 := by omega
        simp only [hs, hc, hf, hm, dite_true, dite_false, if_false]
      · have hf' : (i 3).val - 64 < 64 := by omega
        have hm : (i 3).val / 64 = (i 4).val / 256 := by omega
        simp only [hs, hc, hf, hf', hm, dite_true, dite_false, if_true, scale_apply]
        refine congrArg (· * (((8 * Real.log 2)⁻¹ : ℝ) : EReal)) ?_
        refine (v57_apply w h g (i 0) _ (i 1) _ _).trans ?_
        refine turnedMap_congr w h g _ _ _ _ _ _ _ _ _ _ _ _ rfl rfl (Fin.ext ?_) (Fin.ext ?_) (Fin.ext ?_)
        · show (i 2).val * 256 + ((i 4).val - 256) = 256 * (i 2).val + (i 4).val % 256; omega
        · show 1 = (i 4).val / 256; omega
        · show (i 3).val - 64 = (i 3).val % 64; omega
  · have hf : ¬ (i 3).val < 64 := by omega
    have hf' : ¬ (i 3).val - 64 < 64 := by omega
    have e3 : (i 3).val - 64 - 64 = (i 3).val - 128 := by omega
    by_cases hc : (i 4).val < 256
    · have e4 : (i 2).val * 256 + (i 4).val = 256 * (i 2).val + (i 4).val % 256 := by omega
      simp only [hs, hc, hf, hf', dite_true, dite_false, id_eq]
      pointwise
      rw [v67_apply]
      simp only [e3, e4]
    · have e4 : (i 2).val * 256 + ((i 4).val - 256) = 256 * (i 2).val + (i 4).val % 256 := by omega
      simp only [hs, hc, hf, hf', dite_false, id_eq]
      pointwise
      rw [v67_apply]
      simp only [e3, e4]

/-- The reference's keys are the whole key array. -/
theorem reference_keys : val_main_v129 (F := Ideal) w h gk = allKeys w h gk := by
  funext i
  unfold allKeys
  pointwise [val_main_v129, val_main_v128, val_main_v127, val_main_v126, val_main_v125, val_main_v124, val_main_v123, val_main_v118]
  have h0 : (i 0).val < 4 := (i 0).isLt
  have h1 : (i 1).val < 8 := (i 1).isLt
  have h2 : (i 2).val < 8 := (i 2).isLt
  have h3 : (i 3).val < 256 := (i 3).isLt
  have h4 : (i 4).val < 512 := (i 4).isLt
  by_cases hs : (i 3).val < 128
  · rw [dif_pos hs, dif_pos hs]
    refine (v117_apply w h gk (i 0) _ (i 1) _ _).trans (turnedMap_congr w h gk _ _ _ _ _ _ _ _ _ _ _ _ rfl rfl (Fin.ext ?_) rfl rfl)
    show (i 2).val * 512 + (i 4).val = 512 * (i 2).val + (i 4).val
    omega
  · rw [dif_neg hs, dif_neg hs, id_eq]
    pointwise
    rw [v122_apply]
    simp only [Nat.mul_comm]

end Cert.Qkv

end
-- ==== Proof.QkvTable.lean ====
module

public import proofs.«01_k».proof.Proof.QkvRef
public import Idealize.ShloMosaic.Lib.StableHlo.ReadAt

/-! The rotation table and the gains the host makes for the differential branch's projection. -/

@[expose] public section

set_option maxRecDepth 16384

noncomputable section

namespace Cert.Qkv

open Idealize.ShloMosaic Idealize.ShloMosaic.TcCoe
open Cert.QkvKernelIdeal Cert.QkvKernelIdeal.Gen

/-- A frequency's column is read at the place its index word names. -/
theorem gather_apply {α : Type} (x : S4096x8.Idx → α) (idx : IVec S128x1 32) (p : Fin 4096) (e : Fin 128) :
    Host.gather gather_S4096x8_S128x1_S4096x128_0_1_n_n_1_1_40961 x idx (ix2 p e)
      = x (ix2 p ⟨min (idx (ix2 e 0)).toInt.toNat 7, by omega⟩) := by
  unfold Host.gather
  congr 1
  funext a
  refine Fin.ext ?_
  show gather_S4096x8_S128x1_S4096x128_0_1_n_n_1_1_40961.start (ix2 p e) idx a + gather_S4096x8_S128x1_S4096x128_0_1_n_n_1_1_40961.batchCoord (ix2 p e) a
    + gather_S4096x8_S128x1_S4096x128_0_1_n_n_1_1_40961.offCoord (ix2 p e) a = _
  rw [GatherDims.batchCoord_eq_zero _ _ _ List.not_mem_nil]
  obtain rfl | rfl : a = 0 ∨ a = 1 := match a with
    | ⟨0, _⟩ => Or.inl rfl
    | ⟨1, _⟩ => Or.inr rfl
  · unfold GatherDims.start
    rw [dif_neg (by decide)]
    unfold GatherDims.offCoord
    rw [dif_pos (by decide)]
    show 0 + 0 + p.val = p.val
    omega
  · rw [GatherDims.offCoord_eq_zero _ _ _ (by decide)]
    unfold GatherDims.start
    rw [dif_pos (by decide)]
    have hsi : gather_S4096x8_S128x1_S4096x128_0_1_n_n_1_1_40961.siIdx (ix2 p e) ⟨List.idxOf (1 : Fin 2) gather_S4096x8_S128x1_S4096x128_0_1_n_n_1_1_40961.startIndexMap, by decide⟩
        = ix2 e 0 := by
      funext b; refine Fin.ext ?_
      match b with
      | ⟨0, _⟩ => rfl
      | ⟨1, _⟩ => rfl
    erw [hsi]
    rfl

variable (m : (ℓ : Loc nD τ sig) → Buf (Elt Ideal) ℓ)

/-- The queries' gain as the launch finds it: the argument's, once for each map. -/
theorem gain_q_at (c : Dev nD) (d : Fin 128) : V m c main_v62 (ix2 d 0) = V m c main_arg2 (ix1 ⟨d.val % 64, by omega⟩) := by
  unfold V
  after_reads_at

/-- The keys' gain likewise. -/
theorem gain_k_at (c : Dev nD) (d : Fin 128) : V m c main_v67 (ix2 d 0) = V m c main_arg3 (ix1 ⟨d.val % 64, by omega⟩) := by
  unfold V
  after_reads_at

/-- Row `d` of the rotation table at position `p`: 128 cosines, the negated sines of each map's first eight rows, and the sines of its next eight. -/
def tableEntry (d : Nat) (p : Fin 4096) : EReal :=
  if d < 128 then if d % 64 < 16 then Ideal.cos (angle p ⟨d % 8, by omega⟩) else 1
  else if d < 256 then if d % 64 < 8 then -Ideal.sin (angle p ⟨d % 8, by omega⟩) else 0
  else if 8 ≤ d % 64 ∧ d % 64 < 16 then Ideal.sin (angle p ⟨d % 8, by omega⟩) else 0

/-- A word's remainder as the host computes it, of the divisor's sign. -/
def remWord (w k : BitVec 32) : BitVec 32 :=
  Scalar.select
    (IntOp.andi
      (IntOp.cmpi .ne (IntOp.cmpi .slt (IntOp.remsi .host w (Scalar.select (IntOp.cmpi .eq k 0#32) 1#32 k)) 0#32)
        (IntOp.cmpi .slt (Scalar.select (IntOp.cmpi .eq k 0#32) 1#32 k) 0#32))
      (IntOp.cmpi .ne (IntOp.remsi .host w (Scalar.select (IntOp.cmpi .eq k 0#32) 1#32 k)) 0#32))
    (IntOp.addi (IntOp.remsi .host w (Scalar.select (IntOp.cmpi .eq k 0#32) 1#32 k)) (Scalar.select (IntOp.cmpi .eq k 0#32) 1#32 k))
    (IntOp.remsi .host w (Scalar.select (IntOp.cmpi .eq k 0#32) 1#32 k))

/-- A row's place within its map. -/
def mapWord (w : BitVec 32) : BitVec 32 := remWord w 64#32

/-- The frequency a row is turned by. -/
def freqWord (w : BitVec 32) : BitVec 32 :=
  Scalar.select (IntOp.cmpi .slt (remWord (mapWord w) 8#32) 0#32) (IntOp.addi (remWord (mapWord w) 8#32) 8#32) (remWord (mapWord w) 8#32)

/-- The bit of a map's first eight rows. -/
def lowBit (w : BitVec 32) : BitVec 1 := IntOp.cmpi .slt (mapWord w) 8#32

/-- The bit of its next eight. -/
def highBit (w : BitVec 32) : BitVec 1 := IntOp.andi (IntOp.cmpi .sge (mapWord w) 8#32) (IntOp.cmpi .slt (mapWord w) 16#32)

/-- A row's frequency. -/
theorem freqWord_row : ∀ d : Fin 128, min (freqWord (BitVec.ofNat 32 d.val)).toInt.toNat 7 = d.val % 8 := by decide +kernel

/-- The first eight rows. -/
theorem lowBit_row : ∀ d : Fin 128, lowBit (BitVec.ofNat 32 d.val) = BitVec.ofBool (decide (d.val % 64 < 8)) := by decide +kernel

/-- The next eight. -/
theorem highBit_row : ∀ d : Fin 128, highBit (BitVec.ofNat 32 d.val) = BitVec.ofBool (decide (8 ≤ d.val % 64 ∧ d.val % 64 < 16)) := by decide +kernel

/-- All sixteen. -/
theorem eitherBit_row : ∀ d : Fin 128, IntOp.ori (lowBit (BitVec.ofNat 32 d.val)) (highBit (BitVec.ofNat 32 d.val)) = BitVec.ofBool (decide (d.val % 64 < 16)) := by decide +kernel

set_option maxHeartbeats 1000000 in
/-- The rotation table as the launch finds it. -/
theorem table_at (c : Dev nD) (d : Fin 384) (p : Fin 4096) : V m c main_v68 (ix2 d p) = tableEntry d.val p := by
  unfold V
  after_reads_at
  unfold tableEntry
  by_cases h1 : d.val < 128
  · rw [dif_pos h1, if_pos h1]
    after_reads_at
    rw [gather_apply]
    pointwise
    have hf := freqWord_row ⟨d.val, h1⟩
    have hb := eitherBit_row ⟨d.val, h1⟩
    refine Eq.trans (b := Scalar.select (IntOp.ori (lowBit (BitVec.ofNat 32 d.val)) (highBit (BitVec.ofNat 32 d.val)))
      (Ideal.cos (angle p ⟨min (freqWord (BitVec.ofNat 32 d.val)).toInt.toNat 7, by omega⟩)) (Ideal.ofBits .f32 0x3F800000#32)) rfl ?_
    rw [hb, Cert.Band.select_bit]
    pointwise
    simp only [hf]
  · rw [dif_neg h1, if_neg h1]
    by_cases h2 : d.val - 128 < 128
    · have h3 : d.val < 256 := by omega
      rw [dif_pos h2, if_pos h3]
      after_reads_at
      rw [gather_apply]
      pointwise
      have hf := freqWord_row ⟨d.val - 128, h2⟩
      have hb := lowBit_row ⟨d.val - 128, h2⟩
      refine Eq.trans (b := Scalar.select (lowBit (BitVec.ofNat 32 (d.val - 128)))
        (-Ideal.sin (angle p ⟨min (freqWord (BitVec.ofNat 32 (d.val - 128))).toInt.toNat 7, by omega⟩)) (Ideal.ofBits .f32 0x00000000#32)) rfl ?_
      rw [hb, Cert.Band.select_bit]
      pointwise
      have e1 : (d.val - 128) % 64 = d.val % 64 := by omega
      have e2 : (d.val - 128) % 8 = d.val % 8 := by omega
      simp only [hf, e1, e2]
    · have h3 : ¬ d.val < 256 := by omega
      rw [dif_neg h2, if_neg h3]
      after_reads_at
      rw [gather_apply]
      pointwise
      have hf := freqWord_row ⟨d.val - 128 - 128, by omega⟩
      have hb := highBit_row ⟨d.val - 128 - 128, by omega⟩
      refine Eq.trans (b := Scalar.select (highBit (BitVec.ofNat 32 (d.val - 128 - 128)))
        (Ideal.sin (angle p ⟨min (freqWord (BitVec.ofNat 32 (d.val - 128 - 128))).toInt.toNat 7, by omega⟩)) (Ideal.ofBits .f32 0x00000000#32)) rfl ?_
      rw [hb, Cert.Band.select_bit]
      pointwise
      have e1 : (d.val - 128 - 128) % 64 = d.val % 64 := by omega
      have e2 : (d.val - 128 - 128) % 8 = d.val % 8 := by omega
      simp only [hf, e1, e2]

end Cert.Qkv

end
-- ==== Proof.QkvSame.lean ====
module

public import proofs.«01_k».proof.Proof.QkvTable

/-! The differential branch's projection: the kernel's three result arrays after the run are the whole query, value and key arrays. -/

@[expose] public section

set_option maxRecDepth 16384

noncomputable section

namespace Cert.Qkv

open Idealize.ShloMosaic Idealize.ShloMosaic.TcCoe
open Cert.QkvKernelIdeal Cert.QkvKernelIdeal.Gen

/-- The three products with the table's rows are the turn: outside the turned rows the cosine is one and the sines are zero. -/
theorem turned_rows (p : Fin 4096) (y : Fin 128 → EReal) (d : Fin 128) :
    y d * tableEntry d.val p + y ⟨(d.val + 8) % 128, by omega⟩ * tableEntry (128 + d.val) p + y ⟨(d.val + 120) % 128, by omega⟩ * tableEntry (256 + d.val) p
      = rotated p (fun e => y ⟨64 * (d.val / 64) + e.val, by omega⟩) ⟨d.val % 64, by omega⟩ := by
  have hd : d.val < 128 := d.isLt
  have a1 : (128 + d.val) % 64 = d.val % 64 := by omega
  have a2 : (256 + d.val) % 64 = d.val % 64 := by omega
  have b1 : (128 + d.val) % 8 = d.val % 8 := by omega
  have b2 : (256 + d.val) % 8 = d.val % 8 := by omega
  have c1 : ¬ 128 + d.val < 128 := by omega
  have c2 : 128 + d.val < 256 := by omega
  have c3 : ¬ 256 + d.val < 128 := by omega
  have c4 : ¬ 256 + d.val < 256 := by omega
  have e0 : (⟨64 * (d.val / 64) + d.val % 64, by omega⟩ : Fin 128) = d := Fin.ext (by show 64 * (d.val / 64) + d.val % 64 = d.val; omega)
  unfold tableEntry rotated
  simp only [a1, a2, b1, b2, c1, c2, c3, c4, hd, e0, if_true, if_false]
  by_cases h8 : d.val % 64 < 8
  · have h16 : d.val % 64 < 16 := by omega
    have hn : ¬ (8 ≤ d.val % 64 ∧ d.val % 64 < 16) := by omega
    have f1 : (⟨64 * (d.val / 64) + (8 + d.val % 64), by omega⟩ : Fin 128) = ⟨(d.val + 8) % 128, by omega⟩ :=
      Fin.ext (by show 64 * (d.val / 64) + (8 + d.val % 64) = (d.val + 8) % 128; omega)
    have f2 : (⟨d.val % 64, h8⟩ : Fin 8) = ⟨d.val % 8, by omega⟩ := Fin.ext (by show d.val % 64 = d.val % 8; omega)
    rw [dif_pos h8, if_pos h16, if_pos h8, if_neg hn, f1, f2, mul_zero, add_zero, mul_neg, ← sub_eq_add_neg]
  · rw [dif_neg h8, if_neg h8, mul_zero, add_zero]
    by_cases h16 : d.val % 64 < 16
    · have hn : 8 ≤ d.val % 64 ∧ d.val % 64 < 16 := by omega
      have f1 : (⟨64 * (d.val / 64) + (d.val % 64 - 8), by omega⟩ : Fin 128) = ⟨(d.val + 120) % 128, by omega⟩ :=
        Fin.ext (by show 64 * (d.val / 64) + (d.val % 64 - 8) = (d.val + 120) % 128; omega)
      have f2 : (⟨d.val % 64 - 8, by omega⟩ : Fin 8) = ⟨d.val % 8, by omega⟩ := Fin.ext (by show d.val % 64 - 8 = d.val % 8; omega)
      rw [dif_pos h16, if_pos h16, if_pos hn, f1, f2]
    · have hn : ¬ (8 ≤ d.val % 64 ∧ d.val % 64 < 16) := by omega
      rw [dif_neg h16, if_neg h16, if_neg hn, mul_zero, add_zero, mul_one]

/-- Where the blocks hold the weights, a column's token, the gain and the table, a head's normalized and turned rows are its maps' entries. -/
theorem turned_map (w : Vec Ideal S3072x2048 .bf16) (h : Vec Ideal S2048x16384 .bf16) (g : Vec Ideal S64 .f32)
    (x0 : Vec Ideal S3072x2048 .bf16) (x1 : Vec Ideal S2048x512 .bf16) (x2 : Vec Ideal S128x1 .f32) (x4 : Vec Ideal S384x512 .f32)
    (n : Nat) (hn : n < 24) (d : Fin 128) (c : Fin 512) (b : Fin 4) (p : Fin 4096)
    (hw : ∀ (j : Fin 3072) (k : Fin 2048), x0 (ix2 j k) = w (ix2 j k))
    (hh : ∀ k : Fin 2048, x1 (ix2 k c) = h (ix2 k ⟨4096 * b.val + p.val, by omega⟩))
    (hg : ∀ d : Fin 128, x2 (ix2 d 0) = g (ix1 ⟨d.val % 64, by omega⟩))
    (hr : ∀ d : Fin 384, x4 (ix2 d c) = tableEntry d.val p) :
    turned (F := Ideal) (table x4) (unitRows (headRows x0 x1 n hn) (gain x2)) (ix2 d c)
      = turnedMap w h g n hn b p ⟨d.val / 64, by omega⟩ ⟨d.val % 64, by omega⟩ := by
  rw [turned_apply, table_apply, table_apply, table_apply, hr, hr, hr]
  refine (turned_rows p (fun d => unitRows (F := Ideal) (headRows x0 x1 n hn) (gain x2) (ix2 d c)) d).trans ?_
  unfold turnedMap
  congr 1
  funext e
  rw [unitRows_apply, gain_apply, hg]
  unfold unit mapRow feature
  simp only [headRows_apply, hw, hh]
  have hd : d.val < 128 := d.isLt
  have e1 : (64 * (d.val / 64) + e.val) / 64 = d.val / 64 := by omega
  have e2 : (64 * (d.val / 64) + e.val) % 64 = e.val := by omega
  simp only [e1, e2]

/-- Where the blocks hold the arguments' parts, a stored query entry is the whole array's. -/
theorem block_queries (w : Vec Ideal S3072x2048 .bf16) (h : Vec Ideal S2048x16384 .bf16) (g : Vec Ideal S64 .f32)
    (q : grid0.Coords) (x0 : Vec Ideal S3072x2048 .bf16) (x1 : Vec Ideal S2048x512 .bf16) (x2 x3 : Vec Ideal S128x1 .f32) (x4 : Vec Ideal S384x512 .f32)
    (y : S1x8x2x256x512.Idx) (i : S4x8x16x256x512.Idx) (b : 256 * (y 2).val + (y 4).val % 256 < 512)
    (b' : 256 * (i 2).val + (i 4).val % 256 < 4096) (e1 : (i 1).val = (y 1).val) (e3 : (i 3).val = (y 3).val) (e4 : (i 4).val = (y 4).val)
    (hp : 512 * ((q 0).val % 8) + (256 * (y 2).val + (y 4).val % 256) = 256 * (i 2).val + (i 4).val % 256)
    (hw : ∀ (j : Fin 3072) (k : Fin 2048), x0 (ix2 j k) = w (ix2 j k))
    (hh : ∀ (k : Fin 2048) (b'' : _ < 16384), x1 (ix2 k ⟨256 * (y 2).val + (y 4).val % 256, b⟩) = h (ix2 k ⟨4096 * (i 0).val + (256 * (i 2).val + (i 4).val % 256), b''⟩))
    (hg : ∀ d : Fin 128, x2 (ix2 d 0) = g (ix1 ⟨d.val % 64, by omega⟩))
    (hr : ∀ d : Fin 384, x4 (ix2 d ⟨256 * (y 2).val + (y 4).val % 256, b⟩) = tableEntry d.val ⟨256 * (i 2).val + (i 4).val % 256, b'⟩) :
    out0_5 (F := Ideal) q x0 x1 x2 x3 x4 y = allQueries w h g i := by
  have h0 : (i 0).val < 4 := (i 0).isLt
  have h1 : (y 1).val < 8 := (y 1).isLt
  have h3 : (y 3).val < 256 := (y 3).isLt
  have h4 : (y 4).val < 512 := (y 4).isLt
  rw [out5_eq]
  unfold queries allQueries
  dsimp only
  by_cases hs : (y 3).val < 128
  · have hr0 : (y 3).val / 128 = 0 := by omega
    have hs' : (i 3).val < 128 := by omega
    have key : scaled (F := Ideal) x0 x1 x2 x4 (y 1).val (by omega) (ix2 ⟨(y 3).val % 128, by omega⟩ ⟨256 * (y 2).val + (y 4).val % 256, b⟩)
        = turnedMap w h g (i 1).val (by omega) (i 0) ⟨256 * (i 2).val + (i 4).val % 256, b'⟩ ⟨(i 3).val / 64, by omega⟩ ⟨(i 3).val % 64, by omega⟩ * (((8 * Real.log 2)⁻¹ : ℝ) : EReal) := by
      unfold scaled
      pointwise
      rw [qscale_eq]
      refine congrArg (· * (((8 * Real.log 2)⁻¹ : ℝ) : EReal)) ?_
      refine (turned_map w h g x0 x1 x2 x4 _ _ _ _ (i 0) ⟨256 * (i 2).val + (i 4).val % 256, b'⟩ hw (fun k => hh k _) hg hr).trans ?_
      exact turnedMap_congr w h g _ _ _ _ _ _ _ _ _ _ _ _ e1.symm rfl rfl (Fin.ext (by show (y 3).val % 128 / 64 = (i 3).val / 64; omega))
        (Fin.ext (by show (y 3).val % 128 % 64 = (i 3).val % 64; omega))
    by_cases hc : (y 4).val < 256
    · have hc0 : (y 4).val / 256 = 0 := by omega
      simp only [hr0, hc0, hs', dite_true, queryPart]
      pointwise
      rw [firstRows_apply, Cert.Band.select_bit]
      by_cases hf : (y 3).val % 128 < 64
      · have hm : (i 3).val / 64 = (i 4).val / 256 := by omega
        rw [if_pos hf, if_pos hm]
        exact key
      · have hm : ¬ (i 3).val / 64 = (i 4).val / 256 := by omega
        rw [if_neg hf, if_neg hm]
    · have hc0 : (y 4).val / 256 = 0 + 1 := by omega
      simp only [hr0, hc0, hs', dite_true, queryPart]
      pointwise
      rw [firstRows_apply, Cert.Band.select_bit]
      by_cases hf : (y 3).val % 128 < 64
      · have hm : ¬ (i 3).val / 64 = (i 4).val / 256 := by omega
        rw [if_pos hf, if_neg hm]
      · have hm : (i 3).val / 64 = (i 4).val / 256 := by omega
        rw [if_neg hf, if_pos hm]
        exact key
  · have hr0 : (y 3).val / 128 = 0 + 1 := by omega
    have hs' : ¬ (i 3).val < 128 := by omega
    simp only [hr0, hs', dite_false, queryPart]
    rw [maskRows_apply]
    have e5 : (y 3).val % 128 = (i 3).val - 128 := by omega
    simp only [hp, e5]

/-- Likewise a stored value entry. -/
theorem block_values (w : Vec Ideal S3072x2048 .bf16) (h : Vec Ideal S2048x16384 .bf16)
    (q : grid0.Coords) (x0 : Vec Ideal S3072x2048 .bf16) (x1 : Vec Ideal S2048x512 .bf16) (x2 x3 : Vec Ideal S128x1 .f32) (x4 : Vec Ideal S384x512 .f32)
    (y : S1x8x1x128x512.Idx) (i : S4x8x8x128x512.Idx) (e1 : (i 1).val = (y 1).val) (e3 : (i 3).val = (y 3).val)
    (hw : ∀ (j : Fin 3072) (k : Fin 2048), x0 (ix2 j k) = w (ix2 j k))
    (hh : ∀ (k : Fin 2048) (b'' : _ < 16384), x1 (ix2 k (y 4)) = h (ix2 k ⟨4096 * (i 0).val + (512 * (i 2).val + (i 4).val), b''⟩)) :
    out0_6 (F := Ideal) q x0 x1 x2 x3 x4 y = allValues w h i := by
  have h1 : (y 1).val < 8 := (y 1).isLt
  have h3 : (y 3).val < 128 := (y 3).isLt
  rw [out6_eq]
  unfold values allValues feature
  dsimp only
  refine (headRows_apply x0 x1 (8 + (y 1).val) (by omega) (y 3) (y 4)).trans ?_
  refine Finset.sum_congr rfl fun k _ => ?_
  rw [hw, hh]
  refine congrArg (· * _) (congrArg w (congrArg (fun r => ix2 r k) (Fin.ext ?_)))
  show 128 * (8 + (y 1).val) + (y 3).val = 1024 + (128 * (i 1).val + (i 3).val)
  omega

/-- Likewise a stored key entry. -/
theorem block_keys (w : Vec Ideal S3072x2048 .bf16) (h : Vec Ideal S2048x16384 .bf16) (g : Vec Ideal S64 .f32)
    (q : grid0.Coords) (x0 : Vec Ideal S3072x2048 .bf16) (x1 : Vec Ideal S2048x512 .bf16) (x2 x3 : Vec Ideal S128x1 .f32) (x4 : Vec Ideal S384x512 .f32)
    (y : S1x8x1x256x512.Idx) (i : S4x8x8x256x512.Idx) (b' : 512 * (i 2).val + (i 4).val < 4096)
    (e1 : (i 1).val = (y 1).val) (e3 : (i 3).val = (y 3).val)
    (hp : 512 * ((q 0).val % 8) + (y 4).val = 512 * (i 2).val + (i 4).val)
    (hw : ∀ (j : Fin 3072) (k : Fin 2048), x0 (ix2 j k) = w (ix2 j k))
    (hh : ∀ (k : Fin 2048) (b'' : _ < 16384), x1 (ix2 k (y 4)) = h (ix2 k ⟨4096 * (i 0).val + (512 * (i 2).val + (i 4).val), b''⟩))
    (hg : ∀ d : Fin 128, x3 (ix2 d 0) = g (ix1 ⟨d.val % 64, by omega⟩))
    (hr : ∀ d : Fin 384, x4 (ix2 d (y 4)) = tableEntry d.val ⟨512 * (i 2).val + (i 4).val, b'⟩) :
    out0_7 (F := Ideal) q x0 x1 x2 x3 x4 y = allKeys w h g i := by
  have h0 : (i 0).val < 4 := (i 0).isLt
  have h1 : (y 1).val < 8 := (y 1).isLt
  have h3 : (y 3).val < 256 := (y 3).isLt
  rw [out7_eq]
  unfold keys allKeys
  dsimp only
  by_cases hs : (y 3).val < 128
  · have hr0 : (y 3).val / 128 = 0 := by omega
    have hs' : (i 3).val < 128 := by omega
    simp only [hr0, hs', dite_true, keyPart]
    refine (turned_map w h g x0 x1 x3 x4 _ _ _ (y 4) (i 0) ⟨512 * (i 2).val + (i 4).val, b'⟩ hw (fun k => hh k _) hg hr).trans ?_
    exact turnedMap_congr w h g _ _ _ _ _ _ _ _ _ _ _ _ (by rw [e1]) rfl rfl (Fin.ext (by show (y 3).val % 128 / 64 = (i 3).val / 64; omega))
      (Fin.ext (by show (y 3).val % 128 % 64 = (i 3).val % 64; omega))
  · have hr0 : (y 3).val / 128 = 0 + 1 := by omega
    have hs' : ¬ (i 3).val < 128 := by omega
    simp only [hr0, hs', dite_false, keyPart]
    refine (ownRows_apply q _ (y 4)).trans ?_
    have e5 : (y 3).val % 128 = (i 3).val - 128 := by omega
    simp only [hp, e5]

variable (m : (ℓ : Loc nD τ sig) → Buf (Elt Ideal) ℓ)

/-- The weights are taken whole. -/
theorem index0 : ∀ t : Fin cfg0.N, win0_0.index t = ![0, 0] := (by decide +kernel : ∀ t : Fin grid0.N, _)
/-- Which tokens a point takes. -/
theorem index1 : ∀ t : Fin cfg0.N, win0_1.index t = ![0, t.val] := (by decide +kernel : ∀ t : Fin grid0.N, _)
/-- The queries' gain is taken whole. -/
theorem index2 : ∀ t : Fin cfg0.N, win0_2.index t = ![0, 0] := (by decide +kernel : ∀ t : Fin grid0.N, _)
/-- The keys' gain is taken whole. -/
theorem index3 : ∀ t : Fin cfg0.N, win0_3.index t = ![0, 0] := (by decide +kernel : ∀ t : Fin grid0.N, _)
/-- Which positions of the table a point takes. -/
theorem index4 : ∀ t : Fin cfg0.N, win0_4.index t = ![0, t.val % 8] := (by decide +kernel : ∀ t : Fin grid0.N, _)
/-- Which block of the queries a point writes. -/
theorem index5 : ∀ t : Fin cfg0.N, win0_5.index t = ![t.val / 8, 0, t.val % 8, 0, 0] := (by decide +kernel : ∀ t : Fin grid0.N, _)
/-- Which block of the values a point writes. -/
theorem index6 : ∀ t : Fin cfg0.N, win0_6.index t = ![t.val / 8, 0, t.val % 8, 0, 0] := (by decide +kernel : ∀ t : Fin grid0.N, _)
/-- Which block of the keys a point writes. -/
theorem index7 : ∀ t : Fin cfg0.N, win0_7.index t = ![t.val / 8, 0, t.val % 8, 0, 0] := (by decide +kernel : ∀ t : Fin grid0.N, _)
/-- A point's coordinate is its number. -/
theorem point_of : ∀ t : Fin cfg0.N, ((grid0.coords t) 0).val = t.val := (by decide +kernel : ∀ t : Fin grid0.N, _)

/-- The query array after the run. -/
theorem final5 (c : Dev nD) : (dats m 0 c).arrAt 5 cfg0.N = allQueries (V m c main_arg0) (V m c main_arg1) (V m c main_arg2) := by
  refine (dats m 0 c).arrAt_eq_of_covers 5 _ (by decide +kernel) fun t hf y => ?_
  have h0 : (y 0).val < 1 := (y 0).isLt
  have h1 : (y 1).val < 8 := (y 1).isLt
  have h2 : (y 2).val < 2 := (y 2).isLt
  have h3 : (y 3).val < 256 := (y 3).isLt
  have h4 : (y 4).val < 512 := (y 4).isLt
  have ht : t.val < 32 := t.isLt
  blk_simp
  rw [after0_5]
  refine block_queries _ _ _ _ _ _ _ _ _ y _ (by omega) ?_ ?_ ?_ ?_ ?_ (fun j k => ?_) (fun k b'' => ?_) (fun d => ?_) (fun d => ?_)
  · blk_simp [index5]; omega
  · blk_simp [index5]
  · blk_simp [index5]
  · blk_simp [index5]
  · rw [point_of]; blk_simp [index5]; omega
  · blk_simp [iblk]; congr 1; blk_ext [index0]
  · blk_simp [iblk]; congr 1; blk_ext [index1, index5]
  · refine Eq.trans ?_ (gain_q_at m c d)
    blk_simp [iblk]; congr 1; blk_ext [index2]
  · refine Eq.trans ?_ (table_at m c d _)
    blk_simp [iblk]; congr 1; blk_ext [index4, index5]

/-- The value array after the run. -/
theorem final6 (c : Dev nD) : (dats m 0 c).arrAt 6 cfg0.N = allValues (V m c main_arg0) (V m c main_arg1) := by
  refine (dats m 0 c).arrAt_eq_of_covers 6 _ (by decide +kernel) fun t hf y => ?_
  have h0 : (y 0).val < 1 := (y 0).isLt
  have h1 : (y 1).val < 8 := (y 1).isLt
  have h2 : (y 2).val < 1 := (y 2).isLt
  have h3 : (y 3).val < 128 := (y 3).isLt
  have h4 : (y 4).val < 512 := (y 4).isLt
  have ht : t.val < 32 := t.isLt
  blk_simp
  rw [after0_6]
  refine block_values _ _ _ _ _ _ _ _ y _ ?_ ?_ (fun j k => ?_) (fun k b'' => ?_)
  · blk_simp [index6]
  · blk_simp [index6]
  · blk_simp [iblk]; congr 1; blk_ext [index0]
  · blk_simp [iblk]; congr 1; blk_ext [index1, index6]

/-- The key array after the run. -/
theorem final7 (c : Dev nD) : (dats m 0 c).arrAt 7 cfg0.N = allKeys (V m c main_arg0) (V m c main_arg1) (V m c main_arg3) := by
  refine (dats m 0 c).arrAt_eq_of_covers 7 _ (by decide +kernel) fun t hf y => ?_
  have h0 : (y 0).val < 1 := (y 0).isLt
  have h1 : (y 1).val < 8 := (y 1).isLt
  have h2 : (y 2).val < 1 := (y 2).isLt
  have h3 : (y 3).val < 256 := (y 3).isLt
  have h4 : (y 4).val < 512 := (y 4).isLt
  have ht : t.val < 32 := t.isLt
  blk_simp
  rw [after0_7]
  refine block_keys _ _ _ _ _ _ _ _ _ y _ ?_ ?_ ?_ ?_ (fun j k => ?_) (fun k b'' => ?_) (fun d => ?_) (fun d => ?_)
  · blk_simp [index7]; omega
  · blk_simp [index7]
  · blk_simp [index7]
  · rw [point_of]; blk_simp [index7]
  · blk_simp [iblk]; congr 1; blk_ext [index0]
  · blk_simp [iblk]; congr 1; blk_ext [index1, index7]
  · refine Eq.trans ?_ (gain_k_at m c d)
    blk_simp [iblk]; congr 1; blk_ext [index3]
  · refine Eq.trans ?_ (table_at m c d _)
    blk_simp [iblk]; congr 1; blk_ext [index4, index7]

end Cert.Qkv

end
-- ==== Proof.MlaTile.lean ====
module

public import proofs.«01_k».proof.Proof.Gen.MlaKernelIdeal.Value
public import Idealize.ShloMosaic.Lib.Tactic
public import Idealize.ShloMosaic.Lib.Pipeline.ReadBack
public import Idealize.ShloMosaic.Lib.Pipeline.ValueKit
public import Idealize.ShloMosaic.Lib.Pointwise

/-! What one grid point of the latent attention's projection leaves in its three output blocks: for each of the eight heads the
    queries over their turned and masked rows, the keys beside the key all heads share, and the values. -/

@[expose] public section

set_option maxRecDepth 16384

noncomputable section

namespace Cert.Mla

open Cert.MlaKernelIdeal Cert.MlaKernelIdeal.Gen Idealize.ShloMosaic Idealize.ShloMosaic.TcCoe

variable {F : FTy → Type} [FloatOps F] [Named F]

/-- The first position of the point, as the body computes it. -/
def start (i : grid0.Coords) : BitVec 32 :=
  Scalar.muli (Scalar.select (Scalar.andi (Scalar.xori (Scalar.cmpi .slt (Scalar.remsi (BitVec.ofNat 32 (i 0).val) (Scalar.select (Scalar.cmpi .eq 8#32 0#32) 1#32 8#32)) 0#32)
    (Scalar.cmpi .slt (Scalar.select (Scalar.cmpi .eq 8#32 0#32) 1#32 8#32) 0#32))
    (Scalar.cmpi .ne (Scalar.remsi (BitVec.ofNat 32 (i 0).val) (Scalar.select (Scalar.cmpi .eq 8#32 0#32) 1#32 8#32)) 0#32))
    (Scalar.addi (Scalar.remsi (BitVec.ofNat 32 (i 0).val) (Scalar.select (Scalar.cmpi .eq 8#32 0#32) 1#32 8#32)) (Scalar.select (Scalar.cmpi .eq 8#32 0#32) 1#32 8#32))
    (Scalar.remsi (BitVec.ofNat 32 (i 0).val) (Scalar.select (Scalar.cmpi .eq 8#32 0#32) 1#32 8#32))) 512#32

/-- The queries' features: the normalized latent rows through the queries' weights. -/
def queryRows (x0 : Vec F S512x512 .bf16) (x4 : Vec F S1x512 .f32) (x6 : Vec F S2048x512 .bf16) : FVec F S2048x512 .f32 :=
  k0_pay10 (k0_pay7 (View.ld x0 r0_2) (View.ld x4 r0_3)) (View.ld x6 r0_6)

/-- The values' features. -/
def valueRows (x1 : Vec F S512x256 .bf16) (x5 : Vec F S1x256 .f32) (x8 : Vec F S1024x256 .bf16) : FVec F S1024x512 .f32 :=
  k0_pay11 (k0_pay8 (View.ld x1 r0_4)) (View.ld x5 r0_5) (View.ld x8 r0_7)

/-- The keys' features. -/
def keyCols (x1 : Vec F S512x256 .bf16) (x5 : Vec F S1x256 .f32) (x7 : Vec F S256x1024 .bf16) : FVec F S512x1024 .f32 :=
  k0_pay12 (k0_pay8 (View.ld x1 r0_4)) (View.ld x5 r0_5) (View.ld x7 r0_8)

/-- The queries' gain as the body reads it. -/
def gainQ (x9 : Vec F S256x1 .f32) : FVec F S256x1 .f32 := k0_pay13 (View.ld x9 r0_9)

/-- The keys' gain as the body reads it. -/
def gainK (x10 : Vec F S1x256 .f32) : FVec F S1x256 .f32 := k0_pay14 (View.ld x10 r0_5)

/-- The rotation table as the body reads it. -/
def table (x12 : Vec F S384x512 .f32) : FVec F S384x512 .f32 := k0_pay3 (View.ld x12 r0_1)

/-- The turned part of the shared key. -/
def sharedTurned (x2 : Vec F S2048x512 .bf16) (x3 : Vec F S2048x128 .bf16) (x10 : Vec F S1x256 .f32) (x11 : Vec F S512x384 .f32) : FVec F S512x128 .f32 :=
  k0_pay18 (k0_pay4 (View.ld x11 r0_0)) (k0_pay5 (View.ld x11 r0_0)) (k0_pay6 (View.ld x11 r0_0)) (k0_pay15 (View.ld x2 r0_6) (View.ld x3 r0_10))
    (k0_pay16 (View.ld x10 r0_5)) (k0_pay17 (View.ld x2 r0_6) (View.ld x3 r0_10))

/-- The key all heads share, with its chunk's indicator. -/
def shared (i : grid0.Coords) (x2 : Vec F S2048x512 .bf16) (x3 : Vec F S2048x128 .bf16) (x10 : Vec F S1x256 .f32) (x11 : Vec F S512x384 .f32) : FVec F S512x128 .bf16 :=
  k0_pay20 (sharedTurned x2 x3 x10 x11) (k0_pay19 (start i)) (Scalar.ofBits .f32 0x3F800000#32)

/-- The mask rows of the point. -/
def maskRows (i : grid0.Coords) : FVec F S128x512 .f32 := k0_pay21 (F := F) (start i)

/-- 128 rows of the queries' features from row `o`. -/
def part (u : FVec F S2048x512 .f32) (o : Nat) (h : o + 128 ≤ 2048) : FVec F S128x512 .f32 :=
  extractStridedSlice S128x512 ![o, 0] u ⟨by decide, by intro a; fin_cases a <;> simp [Shape.size] <;> omega⟩

/-- Rows over their root mean square, times the gain; `n` is the bits of one over their number. -/
def unitRows (n : BitVec 32) (u : FVec F S128x512 .f32) (g : FVec F S128x1 .f32) : FVec F S128x512 .f32 :=
  mulf (mulf u (broadcastTo S128x512 (rsqrt (addf (mulf (shapeCast S1x512 (multiReduction .add [0] S512 (mulf u u) 0x00000000#32 reduces_S128x512_S512 (.inl rfl) rfl) shapeCasts_S512_S1x512)
      (broadcast S1x512 (Scalar.ofBits .f32 n))) (broadcast S1x512 (Scalar.ofBits .f32 0x358637BD#32)))) broadcasts_S1x512_S128x512))
    (broadcastTo S128x512 g broadcasts_S128x1_S128x512)

/-- The turn by position: the table's cosines, and its sines for the rows 32 below and 32 above. -/
def turned (r : FVec F S384x512 .f32) (y : FVec F S128x512 .f32) : FVec F S128x512 .f32 :=
  addf (addf (mulf y (extractStridedSlice S128x512 ![0, 0] r slices_S384x512_o0_0_S128x512))
    (mulf (concatenate S128x512 0 [⟨S96x512, extractStridedSlice S96x512 ![32, 0] y slices_S128x512_o32_0_S96x512⟩,
        ⟨S32x512, extractStridedSlice S32x512 ![0, 0] y slices_S128x512_o0_0_S32x512⟩] concatenates_S96x512_S32x512_S128x512_d0)
      (extractStridedSlice S128x512 ![128, 0] r slices_S384x512_o128_0_S128x512)))
    (mulf (concatenate S128x512 0 [⟨S32x512, extractStridedSlice S32x512 ![96, 0] y slices_S128x512_o96_0_S32x512⟩,
        ⟨S96x512, extractStridedSlice S96x512 ![0, 0] y slices_S128x512_o0_0_S96x512⟩] concatenates_S32x512_S96x512_S128x512_d0)
      (extractStridedSlice S128x512 ![256, 0] r slices_S384x512_o256_0_S128x512))

/-- What a head's query block holds in its row half `r`: the scaled queries, or the scaled turned queries with the mask. -/
def queryPart (q : FVec F S2048x512 .f32) (g : FVec F S256x1 .f32) (r : FVec F S384x512 .f32) (mk : FVec F S128x512 .f32) (n : Nat) (h : n < 8) : Nat → FVec F S128x512 .bf16
  | 0 => truncf .bf16 (mulf (unitRows 0x3C000000#32 (part q (256 * n) (by omega)) (extractStridedSlice S128x1 ![0, 0] g slices_S256x1_o0_0_S128x1))
      (broadcast S128x512 (Named.named κ "qscale" 0x3DD53B95#32))) bitsLt_bf16_f32
  | _ + 1 => truncf .bf16 (addf (mulf (turned r (unitRows 0x3C800000#32 (part q (256 * n + 128) (by omega)) (extractStridedSlice S128x1 ![128, 0] g slices_S256x1_o128_0_S128x1)))
      (broadcast S128x512 (Named.named κ "qscale" 0x3DD53B95#32))) mk) bitsLt_bf16_f32

/-- A head's normalized keys. -/
def normed (k : FVec F S512x1024 .f32) (g : FVec F S1x256 .f32) (n : Nat) (h : n < 8) : FVec F S512x128 .bf16 :=
  have u : FVec F S512x128 .f32 := extractStridedSlice S512x128 ![0, 128 * n] k ⟨by decide, by intro a; fin_cases a <;> simp [Shape.size] <;> omega⟩
  truncf .bf16 (mulf (mulf u (broadcastTo S512x128 (rsqrt (addf (mulf (shapeCast S512x1 (multiReduction .add [1] S512 (mulf u u) 0x00000000#32 reduces_S512x128_S512 (.inl rfl) rfl) shapeCasts_S512_S512x1)
      (broadcast S512x1 (Scalar.ofBits .f32 0x3C000000#32))) (broadcast S512x1 (Scalar.ofBits .f32 0x358637BD#32)))) broadcasts_S512x1_S512x128))
    (broadcastTo S512x128 (extractStridedSlice S1x128 ![0, 0] g slices_S1x256_o0_0_S1x128) broadcasts_S1x128_S512x128)) bitsLt_bf16_f32

/-- A head's values. -/
def valuePart (v : FVec F S1024x512 .f32) (n : Nat) (h : n < 8) : FVec F S128x512 .bf16 :=
  truncf .bf16 (extractStridedSlice S128x512 ![128 * n, 0] v ⟨by decide, by intro a; fin_cases a <;> simp [Shape.size] <;> omega⟩) bitsLt_bf16_f32

/-- All 512 columns, as the body stores them. -/
def whole (w : FVec F S128x512 .bf16) : FVec F S1x1x1x128x512 .bf16 := shapeCast S1x1x1x128x512 w shapeCasts_S128x512_S1x1x1x128x512

/-- They are read at the same place. -/
theorem whole_apply (w : FVec F S128x512 .bf16) (x : S1x1x1x128x512.Idx) : whole w x = w (ix2 (x 3) (x 4)) := by
  have h0 : (x 0).val < 1 := (x 0).isLt
  have h1 : (x 1).val < 1 := (x 1).isLt
  have h2 : (x 2).val < 1 := (x 2).isLt
  unfold whole
  exact shapeCast_apply _ shapeCasts_S128x512_S1x1x1x128x512 x (ix2 (x 3) (x 4)) (by
    rw [Shape.rowMajor_val_two, Shape.rowMajor_val_five]
    show (x 3).val * 512 + (x 4).val = ((((x 0).val * 1 + (x 1).val) * 1 + (x 2).val) * 128 + (x 3).val) * 512 + (x 4).val
    omega)

/-- The query block of a point. -/
def queries (q : FVec F S2048x512 .f32) (g : FVec F S256x1 .f32) (r : FVec F S384x512 .f32) (mk : FVec F S128x512 .f32) : Vec F S1x8x1x256x512 .bf16 := fun y =>
  have h1 : (y 1).val < 8 := (y 1).isLt
  queryPart q g r mk (y 1).val h1 ((y 3).val / 128) (ix2 ⟨(y 3).val % 128, by omega⟩ (y 4))

/-- The key block of a point. -/
def keys (k : FVec F S512x1024 .f32) (g : FVec F S1x256 .f32) (s : FVec F S512x128 .bf16) : Vec F S512x2048 .bf16 := fun y =>
  have h1 : (y 1).val < 2048 := (y 1).isLt
  if h : (y 1).val % 256 < 128 then normed k g ((y 1).val / 256) (by omega) (ix2 (y 0) ⟨(y 1).val % 256, h⟩)
  else s (ix2 (y 0) ⟨(y 1).val % 256 - 128, by omega⟩)

/-- The value block of a point. -/
def values (v : FVec F S1024x512 .f32) : Vec F S1x8x1x128x512 .bf16 := fun y =>
  have h1 : (y 1).val < 8 := (y 1).isLt
  valuePart v (y 1).val h1 (ix2 (y 3) (y 4))

/-- The query block read through a stored piece. -/
theorem piece_q (q : FVec F S2048x512 .f32) (g : FVec F S256x1 .f32) (t : FVec F S384x512 .f32) (mk : FVec F S128x512 .f32) (n r : Nat) (hn : n < 8)
    (inb : ∀ d, (![0, n, 0, 128 * r, 0] : Fin 5 → Nat) d + S1x1x1x128x512.size d ≤ S1x8x1x256x512.size d) (x : S1x1x1x128x512.Idx) :
    whole (queryPart q g t mk n hn r) x = queries q g t mk (((Rect.unit (s := S1x8x1x256x512) ![0, n, 0, 128 * r, 0] S1x1x1x128x512.size inb).emb x)) := by
  have e1 : (((Rect.unit (s := S1x8x1x256x512) ![0, n, 0, 128 * r, 0] S1x1x1x128x512.size inb).emb x) 1).val = n + (x 1).val := Rect.idx_unit_val (s := S1x8x1x256x512) ![0, n, 0, 128 * r, 0] S1x1x1x128x512.size inb x 1
  have e3 : (((Rect.unit (s := S1x8x1x256x512) ![0, n, 0, 128 * r, 0] S1x1x1x128x512.size inb).emb x) 3).val = 128 * r + (x 3).val := Rect.idx_unit_val (s := S1x8x1x256x512) ![0, n, 0, 128 * r, 0] S1x1x1x128x512.size inb x 3
  have e4 : (((Rect.unit (s := S1x8x1x256x512) ![0, n, 0, 128 * r, 0] S1x1x1x128x512.size inb).emb x) 4).val = 0 + (x 4).val := Rect.idx_unit_val (s := S1x8x1x256x512) ![0, n, 0, 128 * r, 0] S1x1x1x128x512.size inb x 4
  have h1 : (x 1).val < 1 := (x 1).isLt
  have h3 : (x 3).val < 128 := (x 3).isLt
  have h4 : (x 4).val < 512 := (x 4).isLt
  rw [whole_apply]
  unfold queries
  dsimp only
  have key : ∀ (m : Nat) (hm : m < 8) (r' : Nat) (w : S128x512.Idx), n = m → r = r' → ix2 (x 3) (x 4) = w →
      queryPart q g t mk n hn r (ix2 (x 3) (x 4)) = queryPart q g t mk m hm r' w := by
    intro m hm r' w e f g; subst e; subst f; subst g; rfl
  refine key _ _ _ _ (by rw [e1]; omega) (by rw [e3]; omega) (congrArg₂ (ix2 (n0 := 128) (n1 := 512)) (Fin.ext ?_) (Fin.ext ?_))
  · refine Eq.trans (b := (((Rect.unit (s := S1x8x1x256x512) ![0, n, 0, 128 * r, 0] S1x1x1x128x512.size inb).emb x) 3).val % 128) ?_ rfl; omega
  · refine Eq.trans (b := (((Rect.unit (s := S1x8x1x256x512) ![0, n, 0, 128 * r, 0] S1x1x1x128x512.size inb).emb x) 4).val) ?_ rfl; omega

/-- The value block read through a stored piece. -/
theorem piece_v (v : FVec F S1024x512 .f32) (n : Nat) (hn : n < 8)
    (inb : ∀ d, (![0, n, 0, 0, 0] : Fin 5 → Nat) d + S1x1x1x128x512.size d ≤ S1x8x1x128x512.size d) (x : S1x1x1x128x512.Idx) :
    whole (valuePart v n hn) x = values v (((Rect.unit (s := S1x8x1x128x512) ![0, n, 0, 0, 0] S1x1x1x128x512.size inb).emb x)) := by
  have e1 : (((Rect.unit (s := S1x8x1x128x512) ![0, n, 0, 0, 0] S1x1x1x128x512.size inb).emb x) 1).val = n + (x 1).val := Rect.idx_unit_val (s := S1x8x1x128x512) ![0, n, 0, 0, 0] S1x1x1x128x512.size inb x 1
  have e3 : (((Rect.unit (s := S1x8x1x128x512) ![0, n, 0, 0, 0] S1x1x1x128x512.size inb).emb x) 3).val = 0 + (x 3).val := Rect.idx_unit_val (s := S1x8x1x128x512) ![0, n, 0, 0, 0] S1x1x1x128x512.size inb x 3
  have e4 : (((Rect.unit (s := S1x8x1x128x512) ![0, n, 0, 0, 0] S1x1x1x128x512.size inb).emb x) 4).val = 0 + (x 4).val := Rect.idx_unit_val (s := S1x8x1x128x512) ![0, n, 0, 0, 0] S1x1x1x128x512.size inb x 4
  have h1 : (x 1).val < 1 := (x 1).isLt
  have h3 : (x 3).val < 128 := (x 3).isLt
  have h4 : (x 4).val < 512 := (x 4).isLt
  rw [whole_apply]
  unfold values
  dsimp only
  have key : ∀ (m : Nat) (hm : m < 8) (w : S128x512.Idx), n = m → ix2 (x 3) (x 4) = w →
      valuePart v n hn (ix2 (x 3) (x 4)) = valuePart v m hm w := by
    intro m hm w e f; subst e; subst f; rfl
  refine key _ _ _ (by rw [e1]; omega) (congrArg₂ (ix2 (n0 := 128) (n1 := 512)) (Fin.ext ?_) (Fin.ext ?_))
  · refine Eq.trans (b := (((Rect.unit (s := S1x8x1x128x512) ![0, n, 0, 0, 0] S1x1x1x128x512.size inb).emb x) 3).val) ?_ rfl; omega
  · refine Eq.trans (b := (((Rect.unit (s := S1x8x1x128x512) ![0, n, 0, 0, 0] S1x1x1x128x512.size inb).emb x) 4).val) ?_ rfl; omega

/-- The key block read through a piece of one head's columns. -/
theorem piece_k (k : FVec F S512x1024 .f32) (g : FVec F S1x256 .f32) (s : FVec F S512x128 .bf16) (n o : Nat) (hn : n < 8) (ho : o = 256 * n)
    (inb : ∀ d, (![0, o] : Fin 2 → Nat) d + S512x128.size d ≤ S512x2048.size d) (x : S512x128.Idx) :
    normed k g n hn x = keys k g s ((Rect.unit (s := S512x2048) ![0, o] S512x128.size inb).emb x) := by
  have e0 : (((Rect.unit (s := S512x2048) ![0, o] S512x128.size inb).emb x) 0).val = 0 + (x 0).val := Rect.idx_unit_val (s := S512x2048) ![0, o] S512x128.size inb x 0
  have e1 : (((Rect.unit (s := S512x2048) ![0, o] S512x128.size inb).emb x) 1).val = o + (x 1).val := Rect.idx_unit_val (s := S512x2048) ![0, o] S512x128.size inb x 1
  have h1 : (x 1).val < 128 := (x 1).isLt
  unfold keys
  dsimp only
  rw [dif_pos (by rw [e1]; omega)]
  have key : ∀ (m : Nat) (hm : m < 8) (w : S512x128.Idx), n = m → x = w → normed k g n hn x = normed k g m hm w := by
    intro m hm w e f; subst e; subst f; rfl
  refine key _ _ _ (by rw [e1]; omega) (funext fun a => match a with
    | ⟨0, _⟩ => Fin.ext (by refine Eq.trans ?_ e0.symm; show (x 0).val = _; omega)
    | ⟨1, _⟩ => Fin.ext (by
      show (x 1).val = (((Rect.unit (s := S512x2048) ![0, o] S512x128.size inb).emb x) 1).val % 256
      omega))

/-- The key block read through a piece of the shared key's columns. -/
theorem piece_s (k : FVec F S512x1024 .f32) (g : FVec F S1x256 .f32) (s : FVec F S512x128 .bf16) (n o : Nat) (hn : n < 8) (ho : o = 256 * n + 128)
    (inb : ∀ d, (![0, o] : Fin 2 → Nat) d + S512x128.size d ≤ S512x2048.size d) (x : S512x128.Idx) :
    s x = keys k g s ((Rect.unit (s := S512x2048) ![0, o] S512x128.size inb).emb x) := by
  have e0 : (((Rect.unit (s := S512x2048) ![0, o] S512x128.size inb).emb x) 0).val = 0 + (x 0).val := Rect.idx_unit_val (s := S512x2048) ![0, o] S512x128.size inb x 0
  have e1 : (((Rect.unit (s := S512x2048) ![0, o] S512x128.size inb).emb x) 1).val = o + (x 1).val := Rect.idx_unit_val (s := S512x2048) ![0, o] S512x128.size inb x 1
  have h1 : (x 1).val < 128 := (x 1).isLt
  unfold keys
  dsimp only
  rw [dif_neg (by rw [e1]; omega)]
  refine congrArg _ (funext fun a => match a with
    | ⟨0, _⟩ => Fin.ext (by refine Eq.trans ?_ e0.symm; show (x 0).val = _; omega)
    | ⟨1, _⟩ => Fin.ext (by
      show (x 1).val = (((Rect.unit (s := S512x2048) ![0, o] S512x128.size inb).emb x) 1).val % 256 - 128
      omega))

/-- The body's 16 stores into the query block are the block. -/
theorem out13_eq (i : grid0.Coords) (x0 : Vec F S512x512 .bf16) (x1 : Vec F S512x256 .bf16) (x2 : Vec F S2048x512 .bf16) (x3 : Vec F S2048x128 .bf16) (x4 : Vec F S1x512 .f32) (x5 : Vec F S1x256 .f32)
    (x6 : Vec F S2048x512 .bf16) (x7 : Vec F S256x1024 .bf16) (x8 : Vec F S1024x256 .bf16) (x9 : Vec F S256x1 .f32) (x10 : Vec F S1x256 .f32) (x11 : Vec F S512x384 .f32) (x12 : Vec F S384x512 .f32) :
    out0_13 i x0 x1 x2 x3 x4 x5 x6 x7 x8 x9 x10 x11 x12 = queries (queryRows x0 x4 x6) (gainQ x9) (table x12) (maskRows i) := by
  funext y
  unfold out0_13
  refine View.canon_apply_of_pieces _ _ (View.PiecesOf.mem (?_ : View.PiecesOf (queries (queryRows x0 x4 x6) (gainQ x9) (table x12) (maskRows i)) _)) y (cover0_13 _ _ _ _ _ _ _ _ _ _ _ _ _ _ _ _ y)
  have row : ∀ (n r o3 : Nat) (hn : n < 8) (_ : o3 = 128 * r) (inb : ∀ d, (![0, n, 0, o3, 0] : Fin 5 → Nat) d + S1x1x1x128x512.size d ≤ S1x8x1x256x512.size d)
      (w : S1x1x1x128x512.Idx → F .bf16), w = whole (queryPart (queryRows x0 x4 x6) (gainQ x9) (table x12) (maskRows i) n hn r) → ∀ x : S1x1x1x128x512.Idx,
      w x = queries (queryRows x0 x4 x6) (gainQ x9) (table x12) (maskRows i) ((Rect.unit (s := S1x8x1x256x512) ![0, n, 0, o3, 0] S1x1x1x128x512.size inb).emb x) := by
    intro n r o3 hn h3 inb w e x
    subst h3
    exact (congrFun e x).trans (piece_q _ _ _ _ n r hn inb x)
  refine ⟨row 7 1 128 (by decide) (by decide) inb_S1x8x1x256x512_S1x1x1x128x512_0_7_0_128_0 _ ?_, row 7 0 0 (by decide) (by decide) inb_S1x8x1x256x512_S1x1x1x128x512_0_7_0_0_0 _ ?_, row 6 1 128 (by decide) (by decide) inb_S1x8x1x256x512_S1x1x1x128x512_0_6_0_128_0 _ ?_, row 6 0 0 (by decide) (by decide) inb_S1x8x1x256x512_S1x1x1x128x512_0_6_0_0_0 _ ?_, row 5 1 128 (by decide) (by decide) inb_S1x8x1x256x512_S1x1x1x128x512_0_5_0_128_0 _ ?_, row 5 0 0 (by decide) (by decide) inb_S1x8x1x256x512_S1x1x1x128x512_0_5_0_0_0 _ ?_, row 4 1 128 (by decide) (by decide) inb_S1x8x1x256x512_S1x1x1x128x512_0_4_0_128_0 _ ?_, row 4 0 0 (by decide) (by decide) inb_S1x8x1x256x512_S1x1x1x128x512_0_4_0_0_0 _ ?_, row 3 1 128 (by decide) (by decide) inb_S1x8x1x256x512_S1x1x1x128x512_0_3_0_128_0 _ ?_, row 3 0 0 (by decide) (by decide) inb_S1x8x1x256x512_S1x1x1x128x512_0_3_0_0_0 _ ?_, row 2 1 128 (by decide) (by decide) inb_S1x8x1x256x512_S1x1x1x128x512_0_2_0_128_0 _ ?_, row 2 0 0 (by decide) (by decide) inb_S1x8x1x256x512_S1x1x1x128x512_0_2_0_0_0 _ ?_, row 1 1 128 (by decide) (by decide) inb_S1x8x1x256x512_S1x1x1x128x512_0_1_0_128_0 _ ?_, row 1 0 0 (by decide) (by decide) inb_S1x8x1x256x512_S1x1x1x128x512_0_1_0_0_0 _ ?_, row 0 1 128 (by decide) (by decide) inb_S1x8x1x256x512_S1x1x1x128x512_0_0_0_128_0 _ ?_, row 0 0 0 (by decide) (by decide) inb_S1x8x1x256x512_S1x1x1x128x512_0_0_0_0_0 _ ?_, trivial⟩
  all_goals
    simp only [k0_pay1, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, whole, queryPart, turned, unitRows, part, queryRows, gainQ, table, maskRows, start] <;> rfl

/-- The body's 16 stores into the key block are the block. -/
theorem out14_eq (i : grid0.Coords) (x0 : Vec F S512x512 .bf16) (x1 : Vec F S512x256 .bf16) (x2 : Vec F S2048x512 .bf16) (x3 : Vec F S2048x128 .bf16) (x4 : Vec F S1x512 .f32) (x5 : Vec F S1x256 .f32)
    (x6 : Vec F S2048x512 .bf16) (x7 : Vec F S256x1024 .bf16) (x8 : Vec F S1024x256 .bf16) (x9 : Vec F S256x1 .f32) (x10 : Vec F S1x256 .f32) (x11 : Vec F S512x384 .f32) (x12 : Vec F S384x512 .f32) :
    out0_14 i x0 x1 x2 x3 x4 x5 x6 x7 x8 x9 x10 x11 x12 = keys (keyCols x1 x5 x7) (gainK x10) (shared i x2 x3 x10 x11) := by
  funext y
  unfold out0_14
  refine View.canon_apply_of_pieces _ _ (View.PiecesOf.mem (?_ : View.PiecesOf (keys (keyCols x1 x5 x7) (gainK x10) (shared i x2 x3 x10 x11)) _)) y (cover0_14 _ _ _ _ _ _ _ _ _ _ _ _ _ _ _ _ y)
  have rowk : ∀ (n o : Nat) (hn : n < 8) (ho : o = 256 * n) (inb : ∀ d, (![0, o] : Fin 2 → Nat) d + S512x128.size d ≤ S512x2048.size d)
      (w : S512x128.Idx → F .bf16), w = normed (keyCols x1 x5 x7) (gainK x10) n hn → ∀ x : S512x128.Idx,
      w x = keys (keyCols x1 x5 x7) (gainK x10) (shared i x2 x3 x10 x11) ((Rect.unit (s := S512x2048) ![0, o] S512x128.size inb).emb x) :=
    fun n o hn ho inb w e x => (congrFun e x).trans (piece_k _ _ _ n o hn ho inb x)
  have rows : ∀ (n o : Nat) (hn : n < 8) (ho : o = 256 * n + 128) (inb : ∀ d, (![0, o] : Fin 2 → Nat) d + S512x128.size d ≤ S512x2048.size d)
      (w : S512x128.Idx → F .bf16), w = shared i x2 x3 x10 x11 → ∀ x : S512x128.Idx,
      w x = keys (keyCols x1 x5 x7) (gainK x10) (shared i x2 x3 x10 x11) ((Rect.unit (s := S512x2048) ![0, o] S512x128.size inb).emb x) :=
    fun n o hn ho inb w e x => (congrFun e x).trans (piece_s _ _ _ n o hn ho inb x)
  refine ⟨rows 7 1920 (by decide) (by decide) inb_S512x2048_S512x128_0_1920 _ ?_, rowk 7 1792 (by decide) (by decide) inb_S512x2048_S512x128_0_1792 _ ?_, rows 6 1664 (by decide) (by decide) inb_S512x2048_S512x128_0_1664 _ ?_, rowk 6 1536 (by decide) (by decide) inb_S512x2048_S512x128_0_1536 _ ?_, rows 5 1408 (by decide) (by decide) inb_S512x2048_S512x128_0_1408 _ ?_, rowk 5 1280 (by decide) (by decide) inb_S512x2048_S512x128_0_1280 _ ?_, rows 4 1152 (by decide) (by decide) inb_S512x2048_S512x128_0_1152 _ ?_, rowk 4 1024 (by decide) (by decide) inb_S512x2048_S512x128_0_1024 _ ?_, rows 3 896 (by decide) (by decide) inb_S512x2048_S512x128_0_896 _ ?_, rowk 3 768 (by decide) (by decide) inb_S512x2048_S512x128_0_768 _ ?_, rows 2 640 (by decide) (by decide) inb_S512x2048_S512x128_0_640 _ ?_, rowk 2 512 (by decide) (by decide) inb_S512x2048_S512x128_0_512 _ ?_, rows 1 384 (by decide) (by decide) inb_S512x2048_S512x128_0_384 _ ?_, rowk 1 256 (by decide) (by decide) inb_S512x2048_S512x128_0_256 _ ?_, rows 0 128 (by decide) (by decide) inb_S512x2048_S512x128_0_128 _ ?_, rowk 0 0 (by decide) (by decide) inb_S512x2048_S512x128_0_0 _ ?_, trivial⟩
  all_goals
    simp only [k0_pay1, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, normed, keyCols, gainK, shared, sharedTurned, start] <;> rfl

/-- The body's 8 stores into the value block are the block. -/
theorem out15_eq (i : grid0.Coords) (x0 : Vec F S512x512 .bf16) (x1 : Vec F S512x256 .bf16) (x2 : Vec F S2048x512 .bf16) (x3 : Vec F S2048x128 .bf16) (x4 : Vec F S1x512 .f32) (x5 : Vec F S1x256 .f32)
    (x6 : Vec F S2048x512 .bf16) (x7 : Vec F S256x1024 .bf16) (x8 : Vec F S1024x256 .bf16) (x9 : Vec F S256x1 .f32) (x10 : Vec F S1x256 .f32) (x11 : Vec F S512x384 .f32) (x12 : Vec F S384x512 .f32) :
    out0_15 i x0 x1 x2 x3 x4 x5 x6 x7 x8 x9 x10 x11 x12 = values (valueRows x1 x5 x8) := by
  funext y
  unfold out0_15
  refine View.canon_apply_of_pieces _ _ (View.PiecesOf.mem (?_ : View.PiecesOf (values (valueRows x1 x5 x8)) _)) y (cover0_15 _ _ _ _ _ _ _ _ y)
  have row : ∀ (n : Nat) (hn : n < 8) (inb : ∀ d, (![0, n, 0, 0, 0] : Fin 5 → Nat) d + S1x1x1x128x512.size d ≤ S1x8x1x128x512.size d)
      (w : S1x1x1x128x512.Idx → F .bf16), w = whole (valuePart (valueRows x1 x5 x8) n hn) → ∀ x : S1x1x1x128x512.Idx,
      w x = values (valueRows x1 x5 x8) ((Rect.unit (s := S1x8x1x128x512) ![0, n, 0, 0, 0] S1x1x1x128x512.size inb).emb x) :=
    fun n hn inb w e x => (congrFun e x).trans (piece_v _ n hn inb x)
  refine ⟨row 7 (by decide) inb_S1x8x1x128x512_S1x1x1x128x512_0_7_0_0_0 _ ?_, row 6 (by decide) inb_S1x8x1x128x512_S1x1x1x128x512_0_6_0_0_0 _ ?_, row 5 (by decide) inb_S1x8x1x128x512_S1x1x1x128x512_0_5_0_0_0 _ ?_, row 4 (by decide) inb_S1x8x1x128x512_S1x1x1x128x512_0_4_0_0_0 _ ?_, row 3 (by decide) inb_S1x8x1x128x512_S1x1x1x128x512_0_3_0_0_0 _ ?_, row 2 (by decide) inb_S1x8x1x128x512_S1x1x1x128x512_0_2_0_0_0 _ ?_, row 1 (by decide) inb_S1x8x1x128x512_S1x1x1x128x512_0_1_0_0_0 _ ?_, row 0 (by decide) inb_S1x8x1x128x512_S1x1x1x128x512_0_0_0_0_0 _ ?_, trivial⟩
  all_goals
    simp only [k0_pay1, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, whole, valuePart, valueRows] <;> rfl

end Cert.Mla

end
-- ==== Proof.MlaMath.lean ====
module

public import proofs.«01_k».proof.Proof.Gen.MlaReferenceIdeal.Read
public import proofs.«01_k».proof.Proof.BandRef
public import proofs.«01_k».proof.Proof.QkvWord

/-! The latent attention's projection as mathematics: queries, keys and values from a token's latent row. -/

@[expose] public section

set_option maxRecDepth 16384

noncomputable section

namespace Cert.Mla

open Idealize.ShloMosaic Idealize.ShloMosaic.TcCoe
open Cert.MlaReferenceIdeal

variable (u : Vec Ideal S16384x11264 .bf16) (h : Vec Ideal S2048x16384 .bf16) (w : Vec Ideal S2048x128 .bf16) (gc : Vec Ideal S512 .f32)
  (gv : Vec Ideal S256 .f32) (wq : Vec Ideal S512x1536 .f32) (wv : Vec Ideal S256x2048 .f32) (g : Vec Ideal S192 .f32)

/-- One over the root mean square of a row; `n` is the bits of one over its length. -/
def invRms (n : BitVec 32) {k : Nat} (x : Fin k → EReal) : EReal :=
  Ideal.rsqrt ((∑ e : Fin k, x e * x e) * Ideal.ofBits .f32 n + Ideal.ofBits .f32 0x358637BD#32)

/-- The queries' latent row of token `t`, normalized. -/
def latentQ (t : Fin 16384) (k : Fin 512) : EReal :=
  u (ix2 t ⟨10240 + k.val, by omega⟩) * invRms 0x3B000000#32 (fun e : Fin 512 => u (ix2 t ⟨10240 + e.val, by omega⟩)) * gc (ix1 k)

/-- The keys' and values' latent row of token `t`, normalized. -/
def latentK (t : Fin 16384) (k : Fin 256) : EReal :=
  u (ix2 t ⟨10752 + k.val, by omega⟩) * invRms 0x3B800000#32 (fun e : Fin 256 => u (ix2 t ⟨10752 + e.val, by omega⟩)) * gv (ix1 k)

/-- Query feature `e` of head `n`. -/
def queryFeature (n : Fin 8) (t : Fin 16384) (e : Fin 192) : EReal :=
  ∑ k : Fin 512, latentQ u gc t k * wq (ix2 k ⟨192 * n.val + e.val, by omega⟩)

/-- Key or value feature `e` of head `n`: 128 of the key, then 128 of the value. -/
def keyFeature (n : Fin 8) (t : Fin 16384) (e : Fin 256) : EReal :=
  ∑ k : Fin 256, latentK u gv t k * wv (ix2 k ⟨256 * n.val + e.val, by omega⟩)

/-- Feature `e` of the key all heads share. -/
def sharedFeature (t : Fin 16384) (e : Fin 64) : EReal :=
  ∑ k : Fin 2048, h (ix2 k t) * w (ix2 k ⟨e.val, by omega⟩)

/-- 128 features normalized, times the first 128 gains. -/
def plain (x : Fin 128 → EReal) (d : Fin 128) : EReal := x d * invRms 0x3C000000#32 x * g (ix1 ⟨d.val, by omega⟩)

/-- 64 features normalized, times the last 64 gains. -/
def unit (x : Fin 64 → EReal) (e : Fin 64) : EReal := x e * invRms 0x3C800000#32 x * g (ix1 ⟨128 + e.val, by omega⟩)

/-- The angle of frequency `j` at position `p`. -/
def angle (p : Fin 4096) (j : Fin 32) : EReal :=
  FloatOps.sitofp (F := Ideal) .f32 (BitVec.ofNat 32 p.val)
    * Ideal.div 1 (Ideal.pow (Ideal.ofBits .f32 0x461C4000#32)
        (Ideal.div (Ideal.ofBits .f32 0x40000000#32 * FloatOps.sitofp (F := Ideal) .f32 (BitVec.ofNat 32 j.val)) (Ideal.ofBits .f32 0x42800000#32)))

/-- 64 entries turned by their position, in pairs 32 apart. -/
def rotated (p : Fin 4096) (y : Fin 64 → EReal) (e : Fin 64) : EReal :=
  if h : e.val < 32 then y e * Ideal.cos (angle p ⟨e.val, h⟩) - y ⟨32 + e.val, by omega⟩ * Ideal.sin (angle p ⟨e.val, h⟩)
  else y e * Ideal.cos (angle p ⟨e.val - 32, by omega⟩) + y ⟨e.val - 32, by omega⟩ * Ideal.sin (angle p ⟨e.val - 32, by omega⟩)

/-- The queries' scale. -/
abbrev scale : EReal := (((Real.sqrt 192 * Real.log 2)⁻¹ : ℝ) : EReal)

/-- The first 128 entries of a head's query. -/
def plainQuery (n : Fin 8) (t : Fin 16384) (d : Fin 128) : EReal := plain g (fun e => queryFeature u gc wq n t ⟨e.val, by omega⟩) d

/-- The turned 64 entries of a head's query. -/
def turnedQuery (n : Fin 8) (t : Fin 16384) (p : Fin 4096) (e : Fin 64) : EReal :=
  rotated p (unit g (fun e => queryFeature u gc wq n t ⟨128 + e.val, by omega⟩)) e

/-- A head's own 128 key entries. -/
def plainKey (n : Fin 8) (t : Fin 16384) (d : Fin 128) : EReal := plain g (fun e => keyFeature u gv wv n t ⟨e.val, by omega⟩) d

/-- The turned 64 entries of the shared key. -/
def turnedKey (t : Fin 16384) (p : Fin 4096) (e : Fin 64) : EReal := rotated p (unit g (sharedFeature h w t)) e

/-- The whole query array: the scaled queries, the scaled turned queries, and the mask of the later chunks. -/
def allQueries : Vec Ideal S4x8x8x256x512 .bf16 := fun i =>
  have h0 : (i 0).val < 4 := (i 0).isLt
  have h2 : (i 2).val < 8 := (i 2).isLt
  have h3 : (i 3).val < 256 := (i 3).isLt
  have h4 : (i 4).val < 512 := (i 4).isLt
  if hs : (i 3).val < 128 then plainQuery u gc wq g (i 1) ⟨4096 * (i 0).val + (512 * (i 2).val + (i 4).val), by omega⟩ ⟨(i 3).val, hs⟩ * scale
  else if hr : (i 3).val - 128 < 64 then
    turnedQuery u gc wq g (i 1) ⟨4096 * (i 0).val + (512 * (i 2).val + (i 4).val), by omega⟩ ⟨512 * (i 2).val + (i 4).val, by omega⟩ ⟨(i 3).val - 128, hr⟩ * scale
  else if (512 * (i 2).val + (i 4).val) / 64 < (i 3).val - 128 - 64 then ⊥ else 0

/-- The whole key array: a head's keys, the shared turned key, and the indicator of the key's chunk. -/
def allKeys : Vec Ideal S16384x2048 .bf16 := fun i =>
  have h0 : (i 0).val < 16384 := (i 0).isLt
  have h1 : (i 1).val < 2048 := (i 1).isLt
  if hs : (i 1).val % 256 < 128 then plainKey u gv wv g ⟨(i 1).val / 256, by omega⟩ (i 0) ⟨(i 1).val % 256, hs⟩
  else if hr : (i 1).val % 256 - 128 < 64 then turnedKey h w g (i 0) ⟨(i 0).val % 4096, by omega⟩ ⟨(i 1).val % 256 - 128, hr⟩
  else if (i 1).val % 256 - 128 - 64 = (i 0).val % 4096 / 64 then 1 else 0

/-- The whole value array. -/
def allValues : Vec Ideal S4x8x8x128x512 .bf16 := fun i =>
  have h0 : (i 0).val < 4 := (i 0).isLt
  have h2 : (i 2).val < 8 := (i 2).isLt
  have h3 : (i 3).val < 128 := (i 3).isLt
  have h4 : (i 4).val < 512 := (i 4).isLt
  keyFeature u gv wv (i 1) ⟨4096 * (i 0).val + (512 * (i 2).val + (i 4).val), by omega⟩ ⟨128 + (i 3).val, by omega⟩

end Cert.Mla

end
-- ==== Proof.MlaRead.lean ====
module

public import proofs.«01_k».proof.Proof.MlaTile
public import proofs.«01_k».proof.Proof.MlaMath

/-! The latent attention's projection: the point's blocks read at an index over the extended reals. -/

@[expose] public section

set_option maxRecDepth 16384

noncomputable section

namespace Cert.Mla

open Cert.MlaKernelIdeal Cert.MlaKernelIdeal.Gen Idealize.ShloMosaic Idealize.ShloMosaic.WordCmp Idealize.ShloMosaic.TcCoe

/-- The first position of a grid point: 512 positions a point, eight points a sequence. -/
theorem start_word (i : grid0.Coords) : start i = BitVec.ofNat 32 (512 * ((i 0).val % 8)) := by
  have key : ∀ r : Fin 32, Scalar.muli (Scalar.select (Scalar.andi (Scalar.xori (Scalar.cmpi .slt (Scalar.remsi (BitVec.ofNat 32 r.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 r.val) (Scalar.select (Scalar.cmpi .eq 8#32 0#32) 1#32 8#32)) 0#32))
      (Scalar.addi (Scalar.remsi (BitVec.ofNat 32 r.val) (Scalar.select (Scalar.cmpi .eq 8#32 0#32) 1#32 8#32)) (Scalar.select (Scalar.cmpi .eq 8#32 0#32) 1#32 8#32))
      (Scalar.remsi (BitVec.ofNat 32 r.val) (Scalar.select (Scalar.cmpi .eq 8#32 0#32) 1#32 8#32))) 512#32 = BitVec.ofNat 32 (512 * (r.val % 8)) := by decide
  exact key (i 0)

/-- The bit of mask row `s` for a query of chunk `a`. -/
theorem laterBit_ofNat (s a : Nat) (hs : s < 128) (ha : a < 2 ^ 16) :
    IntOp.andi (IntOp.cmpi .sge (BitVec.ofNat 32 s) 64#32) (IntOp.cmpi .sgt (IntOp.subi (BitVec.ofNat 32 s) 64#32) (BitVec.ofNat 32 a))
      = BitVec.ofBool (decide (64 ≤ s ∧ a < s - 64)) := by
  have e2 : (IntOp.subi (BitVec.ofNat 32 s) 64#32).toInt = (s : Int) - 64 := Cert.Band.toInt_word_sub s 64 (by omega) (by omega)
  have e0 : (64#32).toInt = 64 := rfl
  rw [cmpi_sge_eq, cmpi_sgt_eq, e2, e0, Cert.Band.toInt_word s (by omega), Cert.Band.toInt_word a (by omega), Cert.Band.and_bits]
  congr 1
  rw [decide_eq_decide]
  omega

/-- The bit of indicator lane `s` for a key of chunk `a`. -/
theorem ownBit_ofNat (s a : Nat) (hs : s < 128) (ha : a < 2 ^ 16) :
    IntOp.cmpi .eq (IntOp.subi (BitVec.ofNat 32 s) 64#32) (BitVec.ofNat 32 a) = BitVec.ofBool (decide (64 ≤ s ∧ s - 64 = a)) := by
  have e2 : (IntOp.subi (BitVec.ofNat 32 s) 64#32).toInt = (s : Int) - 64 := Cert.Band.toInt_word_sub s 64 (by omega) (by omega)
  have e3 : (IntOp.subi (BitVec.ofNat 32 s) 64#32 = BitVec.ofNat 32 a) ↔ (64 ≤ s ∧ s - 64 = a) := by
    rw [← BitVec.toInt_inj, e2, Cert.Band.toInt_word a (by omega)]
    omega
  rw [cmpi_eq_eq]
  congr 1
  rw [decide_eq_decide, e3]

/-- No offset. -/
theorem zero_offset : (![0, 0] : Fin 2 → Nat) = fun _ => 0 := by funext a; fin_cases a <;> rfl

/-- The queries' latent block, normalized. -/
theorem pay7_apply (x0 : Vec Ideal S512x512 .bf16) (x4 : Vec Ideal S1x512 .f32) (c k : Fin 512) :
    k0_pay7 (F := Ideal) x0 x4 (ix2 c k) = x0 (ix2 c k) * invRms 0x3B000000#32 (fun e : Fin 512 => x0 (ix2 c e)) * x4 (ix2 0 k) := by
  unfold k0_pay7 invRms
  pointwise

/-- The queries' features read at an index. -/
theorem queryRows_apply (x0 : Vec Ideal S512x512 .bf16) (x4 : Vec Ideal S1x512 .f32) (x6 : Vec Ideal S2048x512 .bf16) (j : Fin 2048) (c : Fin 512) :
    queryRows (F := Ideal) x0 x4 x6 (ix2 j c)
      = ∑ k : Fin 512, x6 (ix2 j k) * (x0 (ix2 c k) * invRms 0x3B000000#32 (fun e : Fin 512 => x0 (ix2 c e)) * x4 (ix2 0 k)) := by
  unfold queryRows k0_pay10
  rw [View.ld_unit_zero zero_offset, View.ld_unit_zero zero_offset, View.ld_unit_zero zero_offset]
  pointwise
  simp only [pay7_apply]

/-- The keys' latent block, normalized. -/
theorem pay9_apply (x1 : Vec Ideal S512x256 .bf16) (x5 : Vec Ideal S1x256 .f32) (c : Fin 512) (k : Fin 256) :
    k0_pay9 (F := Ideal) (k0_pay8 x1) x5 (ix2 c k) = x1 (ix2 c k) * invRms 0x3B800000#32 (fun e : Fin 256 => x1 (ix2 c e)) * x5 (ix2 0 k) := by
  unfold k0_pay9 k0_pay8 invRms
  pointwise

/-- The values' features read at an index. -/
theorem valueRows_apply (x1 : Vec Ideal S512x256 .bf16) (x5 : Vec Ideal S1x256 .f32) (x8 : Vec Ideal S1024x256 .bf16) (j : Fin 1024) (c : Fin 512) :
    valueRows (F := Ideal) x1 x5 x8 (ix2 j c)
      = ∑ k : Fin 256, x8 (ix2 j k) * (x1 (ix2 c k) * invRms 0x3B800000#32 (fun e : Fin 256 => x1 (ix2 c e)) * x5 (ix2 0 k)) := by
  unfold valueRows k0_pay11
  rw [View.ld_unit_zero zero_offset, View.ld_unit_zero zero_offset, View.ld_unit_zero zero_offset]
  pointwise
  simp only [pay9_apply]

/-- The keys' features read at an index. -/
theorem keyCols_apply (x1 : Vec Ideal S512x256 .bf16) (x5 : Vec Ideal S1x256 .f32) (x7 : Vec Ideal S256x1024 .bf16) (c : Fin 512) (j : Fin 1024) :
    keyCols (F := Ideal) x1 x5 x7 (ix2 c j)
      = ∑ k : Fin 256, x1 (ix2 c k) * invRms 0x3B800000#32 (fun e : Fin 256 => x1 (ix2 c e)) * x5 (ix2 0 k) * x7 (ix2 k j) := by
  unfold keyCols k0_pay12
  rw [View.ld_unit_zero zero_offset, View.ld_unit_zero zero_offset, View.ld_unit_zero zero_offset]
  pointwise
  simp only [pay9_apply]

/-- The queries' gain read at an index. -/
theorem gainQ_apply (x9 : Vec Ideal S256x1 .f32) (d : Fin 256) : gainQ (F := Ideal) x9 (ix2 d 0) = x9 (ix2 d 0) := by
  unfold gainQ k0_pay13
  rw [View.ld_unit_zero zero_offset]
  pointwise

/-- The keys' gain read at an index. -/
theorem gainK_apply (x10 : Vec Ideal S1x256 .f32) (d : Fin 256) : gainK (F := Ideal) x10 (ix2 0 d) = x10 (ix2 0 d) := by
  unfold gainK k0_pay14
  rw [View.ld_unit_zero zero_offset]
  pointwise

/-- The table read at an index. -/
theorem table_apply (x12 : Vec Ideal S384x512 .f32) (d : Fin 384) (c : Fin 512) : table (F := Ideal) x12 (ix2 d c) = x12 (ix2 d c) := by
  unfold table k0_pay3
  rw [View.ld_unit_zero zero_offset]
  pointwise

/-- Normalized rows read at an index. -/
theorem unitRows_apply (n : BitVec 32) (x : FVec Ideal S128x512 .f32) (g : FVec Ideal S128x1 .f32) (d : Fin 128) (c : Fin 512) :
    unitRows (F := Ideal) n x g (ix2 d c) = x (ix2 d c) * invRms n (fun e : Fin 128 => x (ix2 e c)) * g (ix2 d 0) := by
  unfold unitRows invRms
  pointwise

/-- The turn of rows read at an index. -/
theorem turned_apply (r : FVec Ideal S384x512 .f32) (y : FVec Ideal S128x512 .f32) (d : Fin 128) (c : Fin 512) :
    turned (F := Ideal) r y (ix2 d c) = y (ix2 d c) * r (ix2 ⟨d.val, by omega⟩ c)
      + y (ix2 ⟨(d.val + 32) % 128, by omega⟩ c) * r (ix2 ⟨128 + d.val, by omega⟩ c)
      + y (ix2 ⟨(d.val + 96) % 128, by omega⟩ c) * r (ix2 ⟨256 + d.val, by omega⟩ c) := by
  unfold turned
  pointwise
  have hd : d.val < 128 := d.isLt
  have e1 : (if h : d.val < 96 then y (ix2 ⟨32 + d.val, by omega⟩ c) else y (ix2 ⟨d.val - 96, by omega⟩ c)) = y (ix2 ⟨(d.val + 32) % 128, by omega⟩ c) := by
    split
    · exact congrArg (fun r => y (ix2 r c)) (Fin.ext (by show 32 + d.val = (d.val + 32) % 128; omega))
    · exact congrArg (fun r => y (ix2 r c)) (Fin.ext (by show d.val - 96 = (d.val + 32) % 128; omega))
  have e2 : (if h : d.val < 32 then y (ix2 ⟨96 + d.val, by omega⟩ c) else y (ix2 ⟨d.val - 32, by omega⟩ c)) = y (ix2 ⟨(d.val + 96) % 128, by omega⟩ c) := by
    split
    · exact congrArg (fun r => y (ix2 r c)) (Fin.ext (by show 96 + d.val = (d.val + 96) % 128; omega))
    · exact congrArg (fun r => y (ix2 r c)) (Fin.ext (by show d.val - 32 = (d.val + 96) % 128; omega))
  rw [e1, e2]

/-- The shared key's features read at an index. -/
theorem pay15_apply (x2 : Vec Ideal S2048x512 .bf16) (x3 : Vec Ideal S2048x128 .bf16) (c : Fin 512) (l : Fin 128) :
    k0_pay15 (F := Ideal) x2 x3 (ix2 c l) = ∑ k : Fin 2048, x2 (ix2 k c) * x3 (ix2 k l) := by
  unfold k0_pay15
  pointwise

/-- The shared key's features over their root mean square, times the gain. -/
def sharedUnit (x2 : Vec Ideal S2048x512 .bf16) (x3 : Vec Ideal S2048x128 .bf16) (x10 : Vec Ideal S1x256 .f32) (c : Fin 512) (l : Fin 128) : EReal :=
  (∑ k : Fin 2048, x2 (ix2 k c) * x3 (ix2 k l)) * invRms 0x3C800000#32 (fun e : Fin 128 => ∑ k : Fin 2048, x2 (ix2 k c) * x3 (ix2 k e))
    * x10 (ix2 0 ⟨128 + l.val, by omega⟩)

/-- The turned shared key read at an index. -/
theorem sharedTurned_apply (x2 : Vec Ideal S2048x512 .bf16) (x3 : Vec Ideal S2048x128 .bf16) (x10 : Vec Ideal S1x256 .f32) (x11 : Vec Ideal S512x384 .f32)
    (c : Fin 512) (l : Fin 128) :
    sharedTurned (F := Ideal) x2 x3 x10 x11 (ix2 c l) = sharedUnit x2 x3 x10 c l * x11 (ix2 c ⟨l.val, by omega⟩)
      + sharedUnit x2 x3 x10 c ⟨(l.val + 32) % 128, by omega⟩ * x11 (ix2 c ⟨128 + l.val, by omega⟩)
      + sharedUnit x2 x3 x10 c ⟨(l.val + 96) % 128, by omega⟩ * x11 (ix2 c ⟨256 + l.val, by omega⟩) := by
  unfold sharedTurned k0_pay18 k0_pay17 k0_pay16 k0_pay14 k0_pay6 k0_pay5 k0_pay4 k0_pay2
  rw [View.ld_unit_zero zero_offset, View.ld_unit_zero zero_offset, View.ld_unit_zero zero_offset, View.ld_unit_zero zero_offset]
  pointwise
  simp only [pay15_apply]
  rfl

/-- The queries' scale. -/
theorem qscale_eq : Named.named (F := Ideal) κ "qscale" (φ := .f32) 0x3DD53B95#32 = scale :=
  IdealRules.named_const.ideal_named_scalar _ _ _ _ rfl

/-- The chunk word of a position. -/
theorem chunk_apply (i : grid0.Coords) (c : Fin 512) :
    Cert.Qv.chunkVec (IntOp.addi (BitVec.ofNat 32 (512 * ((i 0).val % 8))) (BitVec.ofNat 32 c.val)) = BitVec.ofNat 32 ((512 * ((i 0).val % 8) + c.val) / 64) := by
  have hw : IntOp.addi (BitVec.ofNat 32 (512 * ((i 0).val % 8))) (BitVec.ofNat 32 c.val) = BitVec.ofNat 32 (512 * ((i 0).val % 8) + c.val) := by
    show BitVec.ofNat 32 _ + BitVec.ofNat 32 _ = _
    rw [← BitVec.ofNat_add]
  rw [hw]
  exact Cert.Qv.chunkVec_ofNat _ (by omega)

/-- The mask read at an index. -/
theorem maskRows_apply (i : grid0.Coords) (s : Fin 128) (c : Fin 512) :
    maskRows (F := Ideal) i (ix2 s c) = if 64 ≤ s.val ∧ (512 * ((i 0).val % 8) + c.val) / 64 < s.val - 64 then (⊥ : EReal) else 0 := by
  unfold maskRows k0_pay21
  rw [start_word]
  pointwise
  have h : Named.named (F := Ideal) κ "mask" (φ := .f32) 0xF149F2CA#32 = (⊥ : EReal) :=
    IdealRules.named_const.ideal_named_scalar _ _ _ _ rfl
  rw [h]
  have hc := chunk_apply i c
  unfold Cert.Qv.chunkVec at hc
  rw [hc]
  refine (congrArg (fun b => Scalar.select b (⊥ : EReal) 0) (laterBit_ofNat s.val _ s.isLt (by omega))).trans ?_
  rw [Cert.Band.select_bit]

/-- The shared key with its chunk's indicator read at an index. -/
theorem shared_apply (i : grid0.Coords) (x2 : Vec Ideal S2048x512 .bf16) (x3 : Vec Ideal S2048x128 .bf16) (x10 : Vec Ideal S1x256 .f32) (x11 : Vec Ideal S512x384 .f32)
    (c : Fin 512) (l : Fin 128) :
    shared (F := Ideal) i x2 x3 x10 x11 (ix2 c l) = sharedTurned (F := Ideal) x2 x3 x10 x11 (ix2 c l)
      + (if 64 ≤ l.val ∧ l.val - 64 = (512 * ((i 0).val % 8) + c.val) / 64 then (1 : EReal) else 0) := by
  unfold shared k0_pay20 k0_pay19
  rw [start_word]
  pointwise
  refine congrArg (sharedTurned (F := Ideal) x2 x3 x10 x11 (ix2 c l) + ·) ?_
  have hc := chunk_apply i c
  unfold Cert.Qv.chunkVec at hc
  rw [hc]
  refine (congrArg (fun b => Scalar.select b (1 : EReal) 0) (ownBit_ofNat l.val _ l.isLt (by omega))).trans ?_
  rw [Cert.Band.select_bit]

end Cert.Mla

end
-- ==== Proof.MlaTable.lean ====
module

public import proofs.«01_k».proof.Proof.MlaMath
public import proofs.«01_k».proof.Proof.Gen.MlaKernelIdeal.Value
public import Idealize.ShloMosaic.Lib.StableHlo.ReadAt

/-! The arrays the host makes for the latent attention's projection. -/

@[expose] public section

set_option maxRecDepth 16384

noncomputable section

namespace Cert.Mla

open Idealize.ShloMosaic Idealize.ShloMosaic.TcCoe
open Cert.MlaKernelIdeal Cert.MlaKernelIdeal.Gen

/-- A frequency's column is read at the place its index word names. -/
theorem gather_apply {α : Type} (x : S4096x32.Idx → α) (idx : IVec S128x1 32) (p : Fin 4096) (e : Fin 128) :
    Host.gather gather_S4096x32_S128x1_S4096x128_0_1_n_n_1_1_40961 x idx (ix2 p e)
      = x (ix2 p ⟨min (idx (ix2 e 0)).toInt.toNat 31, by omega⟩) := by
  unfold Host.gather
  congr 1
  funext a
  refine Fin.ext ?_
  show gather_S4096x32_S128x1_S4096x128_0_1_n_n_1_1_40961.start (ix2 p e) idx a + gather_S4096x32_S128x1_S4096x128_0_1_n_n_1_1_40961.batchCoord (ix2 p e) a
    + gather_S4096x32_S128x1_S4096x128_0_1_n_n_1_1_40961.offCoord (ix2 p e) a = _
  rw [GatherDims.batchCoord_eq_zero _ _ _ List.not_mem_nil]
  obtain rfl | rfl : a = 0 ∨ a = 1 := match a with
    | ⟨0, _⟩ => Or.inl rfl
    | ⟨1, _⟩ => Or.inr rfl
  · unfold GatherDims.start
    rw [dif_neg (by decide)]
    unfold GatherDims.offCoord
    rw [dif_pos (by decide)]
    show 0 + 0 + p.val = p.val
    omega
  · rw [GatherDims.offCoord_eq_zero _ _ _ (by decide)]
    unfold GatherDims.start
    rw [dif_pos (by decide)]
    have hsi : gather_S4096x32_S128x1_S4096x128_0_1_n_n_1_1_40961.siIdx (ix2 p e) ⟨List.idxOf (1 : Fin 2) gather_S4096x32_S128x1_S4096x128_0_1_n_n_1_1_40961.startIndexMap, by decide⟩
        = ix2 e 0 := by
      funext b; refine Fin.ext ?_
      match b with
      | ⟨0, _⟩ => rfl
      | ⟨1, _⟩ => rfl
    erw [hsi]
    rfl

variable (m : (ℓ : Loc nD τ sig) → Buf (Elt Ideal) ℓ)

/-- Lane `d` of the rotation table at position `p`: the cosines, the negated sines of the first 32 lanes, and the sines of the next 32. -/
def tableEntry (d : Nat) (p : Fin 4096) : EReal :=
  if d < 128 then if d < 64 then Ideal.cos (angle p ⟨d % 32, by omega⟩) else 0
  else if d < 256 then if d - 128 < 32 then -Ideal.sin (angle p ⟨(d - 128) % 32, by omega⟩) else 0
  else if 32 ≤ d - 256 ∧ d - 256 < 64 then Ideal.sin (angle p ⟨(d - 256) % 32, by omega⟩) else 0

/-- A word's remainder as the host computes it, of the divisor's sign. -/
def remWord (w k : BitVec 32) : BitVec 32 :=
  Scalar.select
    (IntOp.andi
      (IntOp.cmpi .ne (IntOp.cmpi .slt (IntOp.remsi .host w (Scalar.select (IntOp.cmpi .eq k 0#32) 1#32 k)) 0#32)
        (IntOp.cmpi .slt (Scalar.select (IntOp.cmpi .eq k 0#32) 1#32 k) 0#32))
      (IntOp.cmpi .ne (IntOp.remsi .host w (Scalar.select (IntOp.cmpi .eq k 0#32) 1#32 k)) 0#32))
    (IntOp.addi (IntOp.remsi .host w (Scalar.select (IntOp.cmpi .eq k 0#32) 1#32 k)) (Scalar.select (IntOp.cmpi .eq k 0#32) 1#32 k))
    (IntOp.remsi .host w (Scalar.select (IntOp.cmpi .eq k 0#32) 1#32 k))

/-- A lane's place within its group. -/
def laneWord (w : BitVec 32) : BitVec 32 := remWord w 128#32

/-- The frequency a lane is turned by. -/
def freqWord (w : BitVec 32) : BitVec 32 :=
  Scalar.select (IntOp.cmpi .slt (remWord (laneWord w) 32#32) 0#32) (IntOp.addi (remWord (laneWord w) 32#32) 32#32) (remWord (laneWord w) 32#32)

/-- The bit of the first 32 lanes. -/
def lowBit (w : BitVec 32) : BitVec 1 := IntOp.cmpi .slt (laneWord w) 32#32

/-- The bit of the next 32. -/
def highBit (w : BitVec 32) : BitVec 1 := IntOp.andi (IntOp.cmpi .sge (laneWord w) 32#32) (IntOp.cmpi .slt (laneWord w) 64#32)

/-- A lane's frequency. -/
theorem freqWord_lane : ∀ d : Fin 128, min (freqWord (BitVec.ofNat 32 d.val)).toInt.toNat 31 = d.val % 32 := by decide +kernel

/-- The first 32 lanes. -/
theorem lowBit_lane : ∀ d : Fin 128, lowBit (BitVec.ofNat 32 d.val) = BitVec.ofBool (decide (d.val < 32)) := by decide +kernel

/-- The next 32. -/
theorem highBit_lane : ∀ d : Fin 128, highBit (BitVec.ofNat 32 d.val) = BitVec.ofBool (decide (32 ≤ d.val ∧ d.val < 64)) := by decide +kernel

/-- All 64. -/
theorem eitherBit_lane : ∀ d : Fin 128, IntOp.ori (lowBit (BitVec.ofNat 32 d.val)) (highBit (BitVec.ofNat 32 d.val)) = BitVec.ofBool (decide (d.val < 64)) := by decide +kernel

variable (m : (ℓ : Loc nD τ sig) → Buf (Elt Ideal) ℓ)

set_option maxHeartbeats 1000000 in
/-- The rotation table as the launch finds it. -/
theorem table_at (c : Dev nD) (p : Fin 4096) (d : Fin 384) : V m c main_v57 (ix2 p d) = tableEntry d.val p := by
  unfold V
  after_reads_at
  unfold tableEntry
  by_cases h1 : d.val < 128
  · rw [dif_pos h1, if_pos h1]
    after_reads_at
    rw [gather_apply]
    pointwise
    have hf := freqWord_lane ⟨d.val, h1⟩
    have hb := eitherBit_lane ⟨d.val, h1⟩
    refine Eq.trans (b := Scalar.select (IntOp.ori (lowBit (BitVec.ofNat 32 d.val)) (highBit (BitVec.ofNat 32 d.val)))
      (Ideal.cos (angle p ⟨min (freqWord (BitVec.ofNat 32 d.val)).toInt.toNat 31, by omega⟩)) (Ideal.ofBits .f32 0x00000000#32)) rfl ?_
    rw [hb, Cert.Band.select_bit]
    pointwise
    simp only [hf]
  · rw [dif_neg h1, if_neg h1]
    by_cases h2 : d.val - 128 < 128
    · have h3 : d.val < 256 := by omega
      rw [dif_pos h2, if_pos h3]
      after_reads_at
      rw [gather_apply]
      pointwise
      have hf := freqWord_lane ⟨d.val - 128, h2⟩
      have hb := lowBit_lane ⟨d.val - 128, h2⟩
      refine Eq.trans (b := Scalar.select (lowBit (BitVec.ofNat 32 (d.val - 128)))
        (-Ideal.sin (angle p ⟨min (freqWord (BitVec.ofNat 32 (d.val - 128))).toInt.toNat 31, by omega⟩)) (Ideal.ofBits .f32 0x00000000#32)) rfl ?_
      rw [hb, Cert.Band.select_bit]
      pointwise
      simp only [hf]
    · have h3 : ¬ d.val < 256 := by omega
      rw [dif_neg h2, if_neg h3]
      after_reads_at
      rw [gather_apply]
      pointwise
      have hf := freqWord_lane ⟨d.val - 128 - 128, by omega⟩
      have hb := highBit_lane ⟨d.val - 128 - 128, by omega⟩
      refine Eq.trans (b := Scalar.select (highBit (BitVec.ofNat 32 (d.val - 128 - 128)))
        (Ideal.sin (angle p ⟨min (freqWord (BitVec.ofNat 32 (d.val - 128 - 128))).toInt.toNat 31, by omega⟩)) (Ideal.ofBits .f32 0x00000000#32)) rfl ?_
      rw [hb, Cert.Band.select_bit]
      pointwise
      have e1 : d.val - 128 - 128 = d.val - 256 := by omega
      simp only [hf]
      simp only [e1]

set_option maxHeartbeats 1000000 in
/-- The table transposed. -/
theorem table_t_at (c : Dev nD) (p : Fin 4096) (d : Fin 384) : V m c main_v86 (ix2 d p) = tableEntry d.val p := by
  unfold V
  after_reads_at
  unfold tableEntry
  by_cases h1 : d.val < 128
  · rw [dif_pos h1, if_pos h1]
    after_reads_at
    rw [gather_apply]
    pointwise
    have hf := freqWord_lane ⟨d.val, h1⟩
    have hb := eitherBit_lane ⟨d.val, h1⟩
    refine Eq.trans (b := Scalar.select (IntOp.ori (lowBit (BitVec.ofNat 32 d.val)) (highBit (BitVec.ofNat 32 d.val)))
      (Ideal.cos (angle p ⟨min (freqWord (BitVec.ofNat 32 d.val)).toInt.toNat 31, by omega⟩)) (Ideal.ofBits .f32 0x00000000#32)) rfl ?_
    rw [hb, Cert.Band.select_bit]
    pointwise
    simp only [hf]
  · rw [dif_neg h1, if_neg h1]
    by_cases h2 : d.val - 128 < 128
    · have h3 : d.val < 256 := by omega
      rw [dif_pos h2, if_pos h3]
      after_reads_at
      rw [gather_apply]
      pointwise
      have hf := freqWord_lane ⟨d.val - 128, h2⟩
      have hb := lowBit_lane ⟨d.val - 128, h2⟩
      refine Eq.trans (b := Scalar.select (lowBit (BitVec.ofNat 32 (d.val - 128)))
        (-Ideal.sin (angle p ⟨min (freqWord (BitVec.ofNat 32 (d.val - 128))).toInt.toNat 31, by omega⟩)) (Ideal.ofBits .f32 0x00000000#32)) rfl ?_
      rw [hb, Cert.Band.select_bit]
      pointwise
      simp only [hf]
    · have h3 : ¬ d.val < 256 := by omega
      rw [dif_neg h2, if_neg h3]
      after_reads_at
      rw [gather_apply]
      pointwise
      have hf := freqWord_lane ⟨d.val - 128 - 128, by omega⟩
      have hb := highBit_lane ⟨d.val - 128 - 128, by omega⟩
      refine Eq.trans (b := Scalar.select (highBit (BitVec.ofNat 32 (d.val - 128 - 128)))
        (Ideal.sin (angle p ⟨min (freqWord (BitVec.ofNat 32 (d.val - 128 - 128))).toInt.toNat 31, by omega⟩)) (Ideal.ofBits .f32 0x00000000#32)) rfl ?_
      rw [hb, Cert.Band.select_bit]
      pointwise
      have e1 : d.val - 128 - 128 = d.val - 256 := by omega
      simp only [hf]
      simp only [e1]

end Cert.Mla

end
-- ==== Proof.MlaTurn.lean ====
module

public import proofs.«01_k».proof.Proof.MlaRead
public import proofs.«01_k».proof.Proof.MlaTable

/-! The latent attention's projection: a point's blocks are the whole arrays' entries. -/

@[expose] public section

set_option maxRecDepth 16384

noncomputable section

namespace Cert.Mla

open Idealize.ShloMosaic Idealize.ShloMosaic.TcCoe
open Cert.MlaKernelIdeal Cert.MlaKernelIdeal.Gen

/-- The three products with the table's rows are the turn of the first 64 entries, and zero after them. -/
theorem turned_rows (p : Fin 4096) (y : Fin 128 → EReal) (d : Fin 128) :
    y d * tableEntry d.val p + y ⟨(d.val + 32) % 128, by omega⟩ * tableEntry (128 + d.val) p + y ⟨(d.val + 96) % 128, by omega⟩ * tableEntry (256 + d.val) p
      = if h : d.val < 64 then rotated p (fun e => y ⟨e.val, by omega⟩) ⟨d.val, h⟩ else 0 := by
  have hd : d.val < 128 := d.isLt
  have a1 : 128 + d.val - 128 = d.val := by omega
  have a2 : 256 + d.val - 256 = d.val := by omega
  have c1 : ¬ 128 + d.val < 128 := by omega
  have c2 : 128 + d.val < 256 := by omega
  have c3 : ¬ 256 + d.val < 128 := by omega
  have c4 : ¬ 256 + d.val < 256 := by omega
  unfold tableEntry rotated
  simp only [a1, a2, c1, c2, c3, c4, hd, if_true, if_false]
  by_cases h32 : d.val < 32
  · have h64 : d.val < 64 := by omega
    have hn : ¬ (32 ≤ d.val ∧ d.val < 64) := by omega
    have f1 : (⟨32 + d.val, by omega⟩ : Fin 128) = ⟨(d.val + 32) % 128, by omega⟩ := Fin.ext (by show 32 + d.val = (d.val + 32) % 128; omega)
    have f2 : (⟨d.val, h32⟩ : Fin 32) = ⟨d.val % 32, by omega⟩ := Fin.ext (by show d.val = d.val % 32; omega)
    rw [dif_pos h64, dif_pos h32, if_pos h64, if_pos h32, if_neg hn, f1, f2, mul_zero, add_zero, mul_neg, ← sub_eq_add_neg]
  · rw [if_neg h32, mul_zero, add_zero]
    by_cases h64 : d.val < 64
    · have hn : 32 ≤ d.val ∧ d.val < 64 := by omega
      have f1 : (⟨d.val - 32, by omega⟩ : Fin 128) = ⟨(d.val + 96) % 128, by omega⟩ := Fin.ext (by show d.val - 32 = (d.val + 96) % 128; omega)
      have f2 : (⟨d.val - 32, by omega⟩ : Fin 32) = ⟨d.val % 32, by omega⟩ := Fin.ext (by show d.val - 32 = d.val % 32; omega)
      rw [dif_pos h64, dif_neg h32, if_pos h64, if_pos hn, f1, f2]
    · have hn : ¬ (32 ≤ d.val ∧ d.val < 64) := by omega
      rw [dif_neg h64, if_neg h64, if_neg hn, mul_zero, mul_zero, add_zero]

/-- Zeros after the first 64 entries do not count in the root mean square. -/
theorem invRms_front (n : BitVec 32) (x : Fin 128 → EReal) (hx : ∀ e : Fin 128, 64 ≤ e.val → x e = 0) :
    invRms n x = invRms n (fun e : Fin 64 => x ⟨e.val, by omega⟩) := by
  unfold invRms
  have hs : (∑ e : Fin 128, x e * x e) = ∑ e : Fin 64, x ⟨e.val, by omega⟩ * x ⟨e.val, by omega⟩ := by
    refine (Fin.sum_univ_add (a := 64) (b := 64) (fun e : Fin (64 + 64) => x e * x e)).trans ?_
    have hz : (∑ e : Fin 64, x (Fin.natAdd 64 e : Fin (64 + 64)) * x (Fin.natAdd 64 e : Fin (64 + 64))) = 0 :=
      Finset.sum_eq_zero fun e _ => by rw [hx _ (by simp), mul_zero]
    rw [hz, add_zero]
    rfl
  rw [hs]

variable (u : Vec Ideal S16384x11264 .bf16) (h : Vec Ideal S2048x16384 .bf16) (w : Vec Ideal S2048x128 .bf16) (gc : Vec Ideal S512 .f32)
  (gv : Vec Ideal S256 .f32) (wq : Vec Ideal S512x1536 .f32) (wv : Vec Ideal S256x2048 .f32) (g : Vec Ideal S192 .f32)

/-- Rows cut from the features, read at an index. -/
theorem part_apply (q : FVec Ideal S2048x512 .f32) (o : Nat) (ho : o + 128 ≤ 2048) (d : Fin 128) (c : Fin 512) :
    part (F := Ideal) q o ho (ix2 d c) = q (ix2 ⟨o + d.val, by omega⟩ c) := by
  unfold part
  pointwise

/-- The first 128 gains, read at an index. -/
theorem gain_low_apply (x : FVec Ideal S256x1 .f32) (d : Fin 128) :
    extractStridedSlice S128x1 ![0, 0] x slices_S256x1_o0_0_S128x1 (ix2 d 0) = x (ix2 ⟨d.val, by omega⟩ 0) := by
  pointwise

/-- The last 128 gains, read at an index. -/
theorem gain_high_apply (x : FVec Ideal S256x1 .f32) (d : Fin 128) :
    extractStridedSlice S128x1 ![128, 0] x slices_S256x1_o128_0_S128x1 (ix2 d 0) = x (ix2 ⟨128 + d.val, by omega⟩ 0) := by
  pointwise

/-- Where the blocks hold the token and the weights, a row of the query block is a query feature, or zero past the head's 192. -/
theorem rows_query (x0 : Vec Ideal S512x512 .bf16) (x4 : Vec Ideal S1x512 .f32) (x6 : Vec Ideal S2048x512 .bf16) (n : Fin 8) (e : Fin 256) (c : Fin 512) (t : Fin 16384)
    (hu : ∀ k : Fin 512, x0 (ix2 c k) = u (ix2 t ⟨10240 + k.val, by omega⟩)) (hc : ∀ k : Fin 512, x4 (ix2 0 k) = gc (ix1 k))
    (hw : ∀ (j : Fin 2048) (k : Fin 512), x6 (ix2 j k) = if h : j.val % 256 < 192 then wq (ix2 k ⟨192 * (j.val / 256) + j.val % 256, by omega⟩) else (0 : EReal)) :
    queryRows (F := Ideal) x0 x4 x6 (ix2 ⟨256 * n.val + e.val, by omega⟩ c) = if h : e.val < 192 then queryFeature u gc wq n t ⟨e.val, h⟩ else 0 := by
  have e1 : (256 * n.val + e.val) / 256 = n.val := by omega
  have e2 : (256 * n.val + e.val) % 256 = e.val := by omega
  rw [queryRows_apply]
  by_cases he : e.val < 192
  · rw [dif_pos he]
    unfold queryFeature latentQ
    refine Finset.sum_congr rfl fun k _ => ?_
    refine (mul_comm _ _).trans ?_
    simp only [hw, hu, hc, e1, e2, he, dite_true]
  · rw [dif_neg he]
    refine Finset.sum_eq_zero fun k _ => ?_
    have hz : x6 (ix2 ⟨256 * n.val + e.val, by omega⟩ k) = 0 := by
      rw [hw]
      exact dif_neg (by show ¬ (256 * n.val + e.val) % 256 < 192; omega)
    rw [hz, zero_mul]

/-- Then a normalized row of the first half is the query's entry. -/
theorem plain_query (x0 : Vec Ideal S512x512 .bf16) (x4 : Vec Ideal S1x512 .f32) (x6 : Vec Ideal S2048x512 .bf16) (x9 : Vec Ideal S256x1 .f32)
    (n : Fin 8) (hn : 256 * n.val + 128 ≤ 2048) (d : Fin 128) (c : Fin 512) (t : Fin 16384)
    (hu : ∀ k : Fin 512, x0 (ix2 c k) = u (ix2 t ⟨10240 + k.val, by omega⟩)) (hc : ∀ k : Fin 512, x4 (ix2 0 k) = gc (ix1 k))
    (hw : ∀ (j : Fin 2048) (k : Fin 512), x6 (ix2 j k) = if h : j.val % 256 < 192 then wq (ix2 k ⟨192 * (j.val / 256) + j.val % 256, by omega⟩) else (0 : EReal))
    (hg : ∀ d : Fin 256, x9 (ix2 d 0) = if h : d.val < 192 then g (ix1 ⟨d.val, h⟩) else (0 : EReal)) :
    unitRows (F := Ideal) 0x3C000000#32 (part (queryRows x0 x4 x6) (256 * n.val) hn) (extractStridedSlice S128x1 ![0, 0] (gainQ x9) slices_S256x1_o0_0_S128x1) (ix2 d c)
      = plainQuery u gc wq g n t d := by
  have key : ∀ e : Fin 128, part (F := Ideal) (queryRows x0 x4 x6) (256 * n.val) hn (ix2 e c) = queryFeature u gc wq n t ⟨e.val, by omega⟩ := fun e =>
    (part_apply _ _ _ _ _).trans ((rows_query u gc wq x0 x4 x6 n ⟨e.val, by omega⟩ c t hu hc hw).trans (dif_pos (by show e.val < 192; omega)))
  have hgain : x9 (ix2 ⟨d.val, by omega⟩ 0) = g (ix1 ⟨d.val, by omega⟩) := (hg _).trans (dif_pos (by show d.val < 192; omega))
  rw [unitRows_apply, gain_low_apply, gainQ_apply, hgain]
  unfold plainQuery plain
  simp only [key]

/-- And a turned row of the second half is the query's turned entry, or zero past the 64. -/
theorem turned_query (x0 : Vec Ideal S512x512 .bf16) (x4 : Vec Ideal S1x512 .f32) (x6 : Vec Ideal S2048x512 .bf16) (x9 : Vec Ideal S256x1 .f32) (x12 : Vec Ideal S384x512 .f32)
    (n : Fin 8) (hn : 256 * n.val + 128 + 128 ≤ 2048) (d : Fin 128) (c : Fin 512) (t : Fin 16384) (p : Fin 4096)
    (hu : ∀ k : Fin 512, x0 (ix2 c k) = u (ix2 t ⟨10240 + k.val, by omega⟩)) (hc : ∀ k : Fin 512, x4 (ix2 0 k) = gc (ix1 k))
    (hw : ∀ (j : Fin 2048) (k : Fin 512), x6 (ix2 j k) = if h : j.val % 256 < 192 then wq (ix2 k ⟨192 * (j.val / 256) + j.val % 256, by omega⟩) else (0 : EReal))
    (hg : ∀ d : Fin 256, x9 (ix2 d 0) = if h : d.val < 192 then g (ix1 ⟨d.val, h⟩) else (0 : EReal))
    (hr : ∀ d : Fin 384, x12 (ix2 d c) = tableEntry d.val p) :
    turned (F := Ideal) (table x12) (unitRows 0x3C800000#32 (part (queryRows x0 x4 x6) (256 * n.val + 128) hn) (extractStridedSlice S128x1 ![128, 0] (gainQ x9) slices_S256x1_o128_0_S128x1)) (ix2 d c)
      = if h : d.val < 64 then turnedQuery u gc wq g n t p ⟨d.val, h⟩ else 0 := by
  have key : ∀ e : Fin 128, part (F := Ideal) (queryRows x0 x4 x6) (256 * n.val + 128) hn (ix2 e c)
      = if h : e.val < 64 then queryFeature u gc wq n t ⟨128 + e.val, by omega⟩ else 0 := fun e => by
    refine (part_apply _ _ _ _ _).trans ?_
    have ei : (⟨256 * n.val + 128 + e.val, by omega⟩ : Fin 2048) = ⟨256 * n.val + (128 + e.val), by omega⟩ := Fin.ext (by show 256 * n.val + 128 + e.val = 256 * n.val + (128 + e.val); omega)
    refine (congrArg (fun r => queryRows (F := Ideal) x0 x4 x6 (ix2 r c)) ei).trans ?_
    refine (rows_query u gc wq x0 x4 x6 n ⟨128 + e.val, by omega⟩ c t hu hc hw).trans ?_
    by_cases he : e.val < 64
    · rw [dif_pos he]
      exact dif_pos (by show 128 + e.val < 192; omega)
    · rw [dif_neg he]
      exact dif_neg (by show ¬ 128 + e.val < 192; omega)
  generalize hY : unitRows (F := Ideal) 0x3C800000#32 (part (queryRows x0 x4 x6) (256 * n.val + 128) hn) (extractStridedSlice S128x1 ![128, 0] (gainQ x9) slices_S256x1_o128_0_S128x1) = Y
  rw [turned_apply, table_apply, table_apply, table_apply, hr, hr, hr]
  refine (turned_rows p (fun e => Y (ix2 e c)) d).trans ?_
  by_cases hd : d.val < 64
  · rw [dif_pos hd, dif_pos hd]
    unfold turnedQuery
    refine congrArg (fun y => rotated p y ⟨d.val, hd⟩) ?_
    funext e
    have he : e.val < 64 := e.isLt
    have hgain : x9 (ix2 ⟨128 + e.val, by omega⟩ 0) = g (ix1 ⟨128 + e.val, by omega⟩) := (hg _).trans (dif_pos (by show 128 + e.val < 192; omega))
    rw [← hY, unitRows_apply, gain_high_apply, gainQ_apply, invRms_front _ _ (fun e he => (key e).trans (dif_neg (by omega)))]
    unfold unit
    refine congrArg₂ (· * ·) (congrArg₂ (· * ·) ?_ (congrArg (invRms 0x3C800000#32) ?_)) hgain
    · exact (key _).trans (dif_pos he)
    · funext e'
      exact (key _).trans (dif_pos e'.isLt)
  · rw [dif_neg hd, dif_neg hd]

/-- Where the blocks hold the token and the weights, a row of the value block is a value feature. -/
theorem rows_value (x1 : Vec Ideal S512x256 .bf16) (x5 : Vec Ideal S1x256 .f32) (x8 : Vec Ideal S1024x256 .bf16) (n : Fin 8) (d : Fin 128) (c : Fin 512) (t : Fin 16384)
    (hu : ∀ k : Fin 256, x1 (ix2 c k) = u (ix2 t ⟨10752 + k.val, by omega⟩)) (hc : ∀ k : Fin 256, x5 (ix2 0 k) = gv (ix1 k))
    (hw : ∀ (j : Fin 1024) (k : Fin 256), x8 (ix2 j k) = wv (ix2 k ⟨256 * (j.val / 128) + (128 + j.val % 128), by omega⟩)) :
    valueRows (F := Ideal) x1 x5 x8 (ix2 ⟨128 * n.val + d.val, by omega⟩ c) = keyFeature u gv wv n t ⟨128 + d.val, by omega⟩ := by
  have e1 : (128 * n.val + d.val) / 128 = n.val := by omega
  have e2 : (128 * n.val + d.val) % 128 = d.val := by omega
  rw [valueRows_apply]
  unfold keyFeature latentK
  refine Finset.sum_congr rfl fun k _ => ?_
  refine (mul_comm _ _).trans ?_
  simp only [hw, hu, hc, e1, e2]

/-- Likewise a column of the key block is a key feature. -/
theorem cols_key (x1 : Vec Ideal S512x256 .bf16) (x5 : Vec Ideal S1x256 .f32) (x7 : Vec Ideal S256x1024 .bf16) (n : Fin 8) (d : Fin 128) (c : Fin 512) (t : Fin 16384)
    (hu : ∀ k : Fin 256, x1 (ix2 c k) = u (ix2 t ⟨10752 + k.val, by omega⟩)) (hc : ∀ k : Fin 256, x5 (ix2 0 k) = gv (ix1 k))
    (hw : ∀ (k : Fin 256) (j : Fin 1024), x7 (ix2 k j) = wv (ix2 k ⟨256 * (j.val / 128) + j.val % 128, by omega⟩)) :
    keyCols (F := Ideal) x1 x5 x7 (ix2 c ⟨128 * n.val + d.val, by omega⟩) = keyFeature u gv wv n t ⟨d.val, by omega⟩ := by
  have e1 : (128 * n.val + d.val) / 128 = n.val := by omega
  have e2 : (128 * n.val + d.val) % 128 = d.val := by omega
  rw [keyCols_apply]
  unfold keyFeature latentK
  refine Finset.sum_congr rfl fun k _ => ?_
  simp only [hw, hu, hc, e1, e2]

/-- A head's normalized keys read at an index. -/
theorem normed_apply (k : FVec Ideal S512x1024 .f32) (x : FVec Ideal S1x256 .f32) (n : Fin 8) (hn : n.val < 8) (c : Fin 512) (d : Fin 128) :
    normed (F := Ideal) k x n.val hn (ix2 c d)
      = k (ix2 c ⟨128 * n.val + d.val, by omega⟩) * invRms 0x3C000000#32 (fun e : Fin 128 => k (ix2 c ⟨128 * n.val + e.val, by omega⟩)) * x (ix2 0 ⟨d.val, by omega⟩) := by
  unfold normed invRms
  pointwise

/-- The shared key's turned entry, or the chunk's indicator past the 64. -/
theorem shared_key (q : grid0.Coords) (x2 : Vec Ideal S2048x512 .bf16) (x3 : Vec Ideal S2048x128 .bf16) (x10 : Vec Ideal S1x256 .f32) (x11 : Vec Ideal S512x384 .f32)
    (c : Fin 512) (l : Fin 128) (t : Fin 16384) (p : Fin 4096) (hp : 512 * ((q 0).val % 8) + c.val = p.val)
    (hh : ∀ k : Fin 2048, x2 (ix2 k c) = h (ix2 k t)) (hw : ∀ (k : Fin 2048) (l : Fin 128), x3 (ix2 k l) = w (ix2 k l))
    (hz : ∀ (k : Fin 2048) (l : Fin 128), 64 ≤ l.val → w (ix2 k l) = 0)
    (hg : ∀ d : Fin 256, x10 (ix2 0 d) = if h : d.val < 192 then g (ix1 ⟨d.val, h⟩) else (0 : EReal))
    (hr : ∀ d : Fin 384, x11 (ix2 c d) = tableEntry d.val p) :
    shared (F := Ideal) q x2 x3 x10 x11 (ix2 c l) = if hl : l.val < 64 then turnedKey h w g t p ⟨l.val, hl⟩ else if l.val - 64 = p.val / 64 then 1 else 0 := by
  rw [shared_apply, sharedTurned_apply, hr, hr, hr, hp]
  refine (congrArg (· + _) (turned_rows p (fun e => sharedUnit x2 x3 x10 c e) l)).trans ?_
  by_cases hl : l.val < 64
  · have hn : ¬ (64 ≤ l.val ∧ l.val - 64 = p.val / 64) := by omega
    rw [dif_pos hl, dif_pos hl, if_neg hn, add_zero]
    unfold turnedKey
    refine congrArg (fun y => rotated p y ⟨l.val, hl⟩) ?_
    funext e
    have hgain : x10 (ix2 0 ⟨128 + e.val, by omega⟩) = g (ix1 ⟨128 + e.val, by omega⟩) := (hg _).trans (dif_pos (by show 128 + e.val < 192; omega))
    unfold sharedUnit unit
    rw [invRms_front _ _ (fun e he => Finset.sum_eq_zero fun k _ => by rw [hw, hz k e he, mul_zero])]
    unfold sharedFeature
    simp only [hh, hw]
    exact congrArg _ hgain
  · rw [dif_neg hl, dif_neg hl, zero_add]
    exact if_congr (by omega) rfl rfl

/-- Where the blocks hold the arguments' parts, a stored query entry is the whole array's. -/
theorem block_queries (q : grid0.Coords) (x0 : Vec Ideal S512x512 .bf16) (x1 : Vec Ideal S512x256 .bf16) (x2 : Vec Ideal S2048x512 .bf16) (x3 : Vec Ideal S2048x128 .bf16) (x4 : Vec Ideal S1x512 .f32) (x5 : Vec Ideal S1x256 .f32)
    (x6 : Vec Ideal S2048x512 .bf16) (x7 : Vec Ideal S256x1024 .bf16) (x8 : Vec Ideal S1024x256 .bf16) (x9 : Vec Ideal S256x1 .f32) (x10 : Vec Ideal S1x256 .f32) (x11 : Vec Ideal S512x384 .f32) (x12 : Vec Ideal S384x512 .f32)
    (y : S1x8x1x256x512.Idx) (i : S4x8x8x256x512.Idx) (b : 512 * (i 2).val + (i 4).val < 4096) (bt : 4096 * (i 0).val + (512 * (i 2).val + (i 4).val) < 16384)
    (e1 : (i 1).val = (y 1).val) (e3 : (i 3).val = (y 3).val) (hp : 512 * ((q 0).val % 8) + (y 4).val = 512 * (i 2).val + (i 4).val)
    (hu : ∀ k : Fin 512, x0 (ix2 (y 4) k) = u (ix2 ⟨4096 * (i 0).val + (512 * (i 2).val + (i 4).val), bt⟩ ⟨10240 + k.val, by omega⟩))
    (hc : ∀ k : Fin 512, x4 (ix2 0 k) = gc (ix1 k))
    (hw : ∀ (j : Fin 2048) (k : Fin 512), x6 (ix2 j k) = if h : j.val % 256 < 192 then wq (ix2 k ⟨192 * (j.val / 256) + j.val % 256, by omega⟩) else (0 : EReal))
    (hg : ∀ d : Fin 256, x9 (ix2 d 0) = if h : d.val < 192 then g (ix1 ⟨d.val, h⟩) else (0 : EReal))
    (hr : ∀ d : Fin 384, x12 (ix2 d (y 4)) = tableEntry d.val ⟨512 * (i 2).val + (i 4).val, b⟩) :
    out0_13 (F := Ideal) q x0 x1 x2 x3 x4 x5 x6 x7 x8 x9 x10 x11 x12 y = allQueries u gc wq g i := by
  have h1 : (y 1).val < 8 := (y 1).isLt
  have h3 : (y 3).val < 256 := (y 3).isLt
  have en : (⟨(y 1).val, h1⟩ : Fin 8) = i 1 := Fin.ext e1.symm
  rw [out13_eq]
  unfold queries allQueries
  dsimp only
  by_cases hs : (y 3).val < 128
  · have hr0 : (y 3).val / 128 = 0 := by omega
    have hs' : (i 3).val < 128 := by omega
    simp only [hr0, hs', dite_true, queryPart]
    pointwise
    rw [qscale_eq]
    refine congrArg (· * scale) ?_
    refine (plain_query u gc wq g x0 x4 x6 x9 ⟨(y 1).val, h1⟩ _ ⟨(y 3).val % 128, by omega⟩ (y 4) _ hu hc hw hg).trans ?_
    exact congrArg₂ (fun n d => plainQuery u gc wq g n ⟨4096 * (i 0).val + (512 * (i 2).val + (i 4).val), bt⟩ d) en
      (Fin.ext (by show (y 3).val % 128 = (i 3).val; omega))
  · have hr0 : (y 3).val / 128 = 0 + 1 := by omega
    have hs' : ¬ (i 3).val < 128 := by omega
    simp only [hr0, hs', dite_false, queryPart]
    pointwise
    rw [qscale_eq]
    refine (congrArg₂ (· + ·) (congrArg (· * scale) (turned_query u gc wq g x0 x4 x6 x9 x12 ⟨(y 1).val, h1⟩ _ ⟨(y 3).val % 128, by omega⟩ (y 4) _ _ hu hc hw hg hr))
      (maskRows_apply q ⟨(y 3).val % 128, by omega⟩ (y 4))).trans ?_
    dsimp only
    by_cases hd : (i 3).val - 128 < 64
    · have n1 : (y 3).val % 128 < 64 := by omega
      have n2 : ¬ (64 ≤ (y 3).val % 128 ∧ (512 * ((q 0).val % 8) + (y 4).val) / 64 < (y 3).val % 128 - 64) := by omega
      rw [dif_pos n1, if_neg n2, dif_pos hd, add_zero]
      refine congrArg (· * scale) ?_
      exact congrArg₂ (fun n d => turnedQuery u gc wq g n ⟨4096 * (i 0).val + (512 * (i 2).val + (i 4).val), bt⟩ ⟨512 * (i 2).val + (i 4).val, b⟩ d) en
        (Fin.ext (by show (y 3).val % 128 = (i 3).val - 128; omega))
    · have n1 : ¬ (y 3).val % 128 < 64 := by omega
      rw [dif_neg n1, dif_neg hd, zero_mul, zero_add, hp]
      have e5 : (y 3).val % 128 = (i 3).val - 128 := by omega
      exact if_congr ⟨fun h => e5 ▸ h.2, fun h => ⟨by omega, e5.symm ▸ h⟩⟩ rfl rfl

/-- Likewise a stored value entry. -/
theorem block_values (q : grid0.Coords) (x0 : Vec Ideal S512x512 .bf16) (x1 : Vec Ideal S512x256 .bf16) (x2 : Vec Ideal S2048x512 .bf16) (x3 : Vec Ideal S2048x128 .bf16) (x4 : Vec Ideal S1x512 .f32) (x5 : Vec Ideal S1x256 .f32)
    (x6 : Vec Ideal S2048x512 .bf16) (x7 : Vec Ideal S256x1024 .bf16) (x8 : Vec Ideal S1024x256 .bf16) (x9 : Vec Ideal S256x1 .f32) (x10 : Vec Ideal S1x256 .f32) (x11 : Vec Ideal S512x384 .f32) (x12 : Vec Ideal S384x512 .f32)
    (y : S1x8x1x128x512.Idx) (i : S4x8x8x128x512.Idx) (bt : 4096 * (i 0).val + (512 * (i 2).val + (i 4).val) < 16384)
    (e1 : (i 1).val = (y 1).val) (e3 : (i 3).val = (y 3).val)
    (hu : ∀ k : Fin 256, x1 (ix2 (y 4) k) = u (ix2 ⟨4096 * (i 0).val + (512 * (i 2).val + (i 4).val), bt⟩ ⟨10752 + k.val, by omega⟩))
    (hc : ∀ k : Fin 256, x5 (ix2 0 k) = gv (ix1 k))
    (hw : ∀ (j : Fin 1024) (k : Fin 256), x8 (ix2 j k) = wv (ix2 k ⟨256 * (j.val / 128) + (128 + j.val % 128), by omega⟩)) :
    out0_15 (F := Ideal) q x0 x1 x2 x3 x4 x5 x6 x7 x8 x9 x10 x11 x12 y = allValues u gv wv i := by
  have h1 : (y 1).val < 8 := (y 1).isLt
  have h3 : (y 3).val < 128 := (y 3).isLt
  have en : (⟨(y 1).val, h1⟩ : Fin 8) = i 1 := Fin.ext e1.symm
  rw [out15_eq]
  unfold values allValues valuePart
  dsimp only
  pointwise
  refine (rows_value u gv wv x1 x5 x8 ⟨(y 1).val, h1⟩ ⟨(y 3).val, h3⟩ (y 4) _ hu hc hw).trans ?_
  exact congrArg₂ (fun n d => keyFeature u gv wv n ⟨4096 * (i 0).val + (512 * (i 2).val + (i 4).val), bt⟩ d) en
    (Fin.ext (by show 128 + (y 3).val = 128 + (i 3).val; omega))

/-- Likewise a stored key entry. -/
theorem block_keys (q : grid0.Coords) (x0 : Vec Ideal S512x512 .bf16) (x1 : Vec Ideal S512x256 .bf16) (x2 : Vec Ideal S2048x512 .bf16) (x3 : Vec Ideal S2048x128 .bf16) (x4 : Vec Ideal S1x512 .f32) (x5 : Vec Ideal S1x256 .f32)
    (x6 : Vec Ideal S2048x512 .bf16) (x7 : Vec Ideal S256x1024 .bf16) (x8 : Vec Ideal S1024x256 .bf16) (x9 : Vec Ideal S256x1 .f32) (x10 : Vec Ideal S1x256 .f32) (x11 : Vec Ideal S512x384 .f32) (x12 : Vec Ideal S384x512 .f32)
    (y : S512x2048.Idx) (i : S16384x2048.Idx) (e1 : (i 1).val = (y 1).val) (hp : 512 * ((q 0).val % 8) + (y 0).val = (i 0).val % 4096)
    (hu : ∀ k : Fin 256, x1 (ix2 (y 0) k) = u (ix2 (i 0) ⟨10752 + k.val, by omega⟩))
    (hc : ∀ k : Fin 256, x5 (ix2 0 k) = gv (ix1 k))
    (hw : ∀ (k : Fin 256) (j : Fin 1024), x7 (ix2 k j) = wv (ix2 k ⟨256 * (j.val / 128) + j.val % 128, by omega⟩))
    (hh : ∀ k : Fin 2048, x2 (ix2 k (y 0)) = h (ix2 k (i 0))) (hw3 : ∀ (k : Fin 2048) (l : Fin 128), x3 (ix2 k l) = w (ix2 k l))
    (hz : ∀ (k : Fin 2048) (l : Fin 128), 64 ≤ l.val → w (ix2 k l) = 0)
    (hg : ∀ d : Fin 256, x10 (ix2 0 d) = if h : d.val < 192 then g (ix1 ⟨d.val, h⟩) else (0 : EReal))
    (hr : ∀ d : Fin 384, x11 (ix2 (y 0) d) = tableEntry d.val ⟨(i 0).val % 4096, by omega⟩) :
    out0_14 (F := Ideal) q x0 x1 x2 x3 x4 x5 x6 x7 x8 x9 x10 x11 x12 y = allKeys u h w gv wv g i := by
  have h1 : (y 1).val < 2048 := (y 1).isLt
  rw [out14_eq]
  unfold keys allKeys
  dsimp only
  by_cases hs : (y 1).val % 256 < 128
  · have hs' : (i 1).val % 256 < 128 := by omega
    rw [dif_pos hs, dif_pos hs']
    refine (normed_apply _ _ ⟨(y 1).val / 256, by omega⟩ _ (y 0) ⟨(y 1).val % 256, hs⟩).trans ?_
    have hgain : x10 (ix2 0 ⟨(y 1).val % 256, by omega⟩) = g (ix1 ⟨(y 1).val % 256, by omega⟩) := (hg _).trans (dif_pos (by show (y 1).val % 256 < 192; omega))
    have key := fun e : Fin 128 => cols_key u gv wv x1 x5 x7 ⟨(y 1).val / 256, by omega⟩ e (y 0) (i 0) hu hc hw
    refine Eq.trans (b := plainKey u gv wv g ⟨(y 1).val / 256, by omega⟩ (i 0) ⟨(y 1).val % 256, hs⟩) ?_ ?_
    · unfold plainKey plain
      refine congrArg₂ (· * ·) (congrArg₂ (· * ·) (key ⟨(y 1).val % 256, hs⟩) (congrArg (invRms 0x3C000000#32) (funext fun e => key e))) ?_
      exact (gainK_apply x10 _).trans hgain
    · exact congrArg₂ (fun n d => plainKey u gv wv g n (i 0) d) (Fin.ext (by show (y 1).val / 256 = (i 1).val / 256; rw [e1]))
        (Fin.ext (by show (y 1).val % 256 = (i 1).val % 256; rw [e1]))
  · have hs' : ¬ (i 1).val % 256 < 128 := by omega
    rw [dif_neg hs, dif_neg hs']
    refine (shared_key h w g q x2 x3 x10 x11 (y 0) ⟨(y 1).val % 256 - 128, by omega⟩ (i 0) ⟨(i 0).val % 4096, by omega⟩ hp hh hw3 hz hg hr).trans ?_
    dsimp only
    simp only [e1]

end Cert.Mla

end
-- ==== Proof.MlaHost.lean ====
module

public import proofs.«01_k».proof.Proof.MlaMath
public import proofs.«01_k».proof.Proof.Gen.MlaKernelIdeal.Value
public import Idealize.ShloMosaic.Lib.StableHlo.ReadAt

/-! The weights and gains the host lays out for the latent attention's projection. -/

@[expose] public section

set_option maxRecDepth 16384

noncomputable section

namespace Cert.Mla

open Idealize.ShloMosaic Idealize.ShloMosaic.TcCoe
open Cert.MlaKernelIdeal Cert.MlaKernelIdeal.Gen

variable (m : (ℓ : Loc nD τ sig) → Buf (Elt Ideal) ℓ)

/-- The latent queries' gain as a row. -/
theorem gain_cq_at (c : Dev nD) (k : Fin 512) : V m c main_v81 (ix2 0 k) = V m c main_arg3 (ix1 k) := by
  unfold V
  after_reads_at

/-- The latent keys' gain as a row. -/
theorem gain_ckv_at (c : Dev nD) (k : Fin 256) : V m c main_v82 (ix2 0 k) = V m c main_arg4 (ix1 k) := by
  unfold V
  after_reads_at

/-- The queries' weights: 192 rows a head, padded with zeros to 256. -/
theorem weights_q_at (c : Dev nD) (j : Fin 2048) (k : Fin 512) : V m c main_v84 (ix2 j k)
    = if h : j.val % 256 < 192 then V m c main_arg5 (ix2 k ⟨192 * (j.val / 256) + j.val % 256, by omega⟩) else (0 : EReal) := by
  unfold V
  after_reads_at
  have hz : FloatOps.sitofp (F := Ideal) .f32 0#32 = (0 : EReal) := by simp [FloatOps.sitofp]
  have hj : j.val / 256 < 8 := by omega
  by_cases h : j.val % 256 < 192
  · simp only [hj, h, and_self, dite_true, Nat.mul_comm]
  · simp only [hj, h, and_false, dite_false, hz]

/-- The keys' weights: the first 128 of a head's 256 columns. -/
theorem weights_k_at (c : Dev nD) (k : Fin 256) (j : Fin 1024) : V m c main_v64 (ix2 k j)
    = V m c main_arg6 (ix2 k ⟨256 * (j.val / 128) + j.val % 128, by omega⟩) := by
  unfold V
  after_reads_at
  simp only [Nat.mul_comm]

/-- The values' weights: the last 128 of a head's 256 columns, transposed. -/
theorem weights_v_at (c : Dev nD) (j : Fin 1024) (k : Fin 256) : V m c main_v68 (ix2 j k)
    = V m c main_arg6 (ix2 k ⟨256 * (j.val / 128) + (128 + j.val % 128), by omega⟩) := by
  unfold V
  after_reads_at
  simp only [Nat.mul_comm]

/-- The queries' gain as a column, padded with zeros to 256. -/
theorem gain_q_at (c : Dev nD) (d : Fin 256) : V m c main_v85 (ix2 d 0)
    = if h : d.val < 192 then V m c main_arg7 (ix1 ⟨d.val, h⟩) else (0 : EReal) := by
  unfold V
  after_reads_at
  have hz : FloatOps.sitofp (F := Ideal) .f32 0#32 = (0 : EReal) := by simp [FloatOps.sitofp]
  by_cases h : d.val < 128
  · rw [dif_pos h, dif_pos (by omega)]
    after_reads_at
  · rw [dif_neg h]
    after_reads_at
    by_cases h' : d.val < 192
    · have e : 128 + (d.val - 128) = d.val := by omega
      rw [dif_pos (by omega), dif_pos h']
      simp only [e]
    · rw [dif_neg (by omega), dif_neg h', hz]

/-- The keys' gain as a row, padded with zeros to 256. -/
theorem gain_k_at (c : Dev nD) (d : Fin 256) : V m c main_v80 (ix2 0 d)
    = if h : d.val < 192 then V m c main_arg8 (ix1 ⟨d.val, h⟩) else (0 : EReal) := by
  unfold V
  after_reads_at
  have hz : FloatOps.sitofp (F := Ideal) .f32 0#32 = (0 : EReal) := by simp [FloatOps.sitofp]
  by_cases h : d.val < 128
  · have h' : d.val < 192 := by omega
    simp only [h, h', dite_true]
  · by_cases h' : d.val < 192
    · have e : 128 + (d.val - 128) = d.val := by omega
      have h2 : d.val - 128 < 64 := by omega
      simp only [h, h', h2, e, dite_true, dite_false]
    · have h2 : ¬ d.val - 128 < 64 := by omega
      simp only [h, h', h2, dite_false, hz]

end Cert.Mla

end
-- ==== Proof.MlaSame.lean ====
module

public import proofs.«01_k».proof.Proof.MlaTurn
public import proofs.«01_k».proof.Proof.MlaHost
public import proofs.«01_k».proof.Proof.Gen.MlaKernelIdeal.Value

/-! The latent attention's projection: the kernel's three result arrays after the run are the whole query, key and value arrays. -/

@[expose] public section

set_option maxRecDepth 16384

noncomputable section

namespace Cert.Mla

open Idealize.ShloMosaic Idealize.ShloMosaic.TcCoe
open Cert.MlaKernelIdeal Cert.MlaKernelIdeal.Gen

variable (m : (ℓ : Loc nD τ sig) → Buf (Elt Ideal) ℓ)

/-- Which tokens' query latents a point takes. -/
theorem index0 : ∀ t : Fin cfg0.N, win0_0.index t = ![t.val, 20] := (by decide +kernel : ∀ t : Fin grid0.N, _)
/-- Which tokens' key latents a point takes. -/
theorem index1 : ∀ t : Fin cfg0.N, win0_1.index t = ![t.val, 42] := (by decide +kernel : ∀ t : Fin grid0.N, _)
/-- Which tokens of the transposed input a point takes. -/
theorem index2 : ∀ t : Fin cfg0.N, win0_2.index t = ![0, t.val] := (by decide +kernel : ∀ t : Fin grid0.N, _)
/-- Operand 3 is taken whole. -/
theorem index3 : ∀ t : Fin cfg0.N, win0_3.index t = ![0, 0] := (by decide +kernel : ∀ t : Fin grid0.N, _)
/-- Operand 4 is taken whole. -/
theorem index4 : ∀ t : Fin cfg0.N, win0_4.index t = ![0, 0] := (by decide +kernel : ∀ t : Fin grid0.N, _)
/-- Operand 5 is taken whole. -/
theorem index5 : ∀ t : Fin cfg0.N, win0_5.index t = ![0, 0] := (by decide +kernel : ∀ t : Fin grid0.N, _)
/-- Operand 6 is taken whole. -/
theorem index6 : ∀ t : Fin cfg0.N, win0_6.index t = ![0, 0] := (by decide +kernel : ∀ t : Fin grid0.N, _)
/-- Operand 7 is taken whole. -/
theorem index7 : ∀ t : Fin cfg0.N, win0_7.index t = ![0, 0] := (by decide +kernel : ∀ t : Fin grid0.N, _)
/-- Operand 8 is taken whole. -/
theorem index8 : ∀ t : Fin cfg0.N, win0_8.index t = ![0, 0] := (by decide +kernel : ∀ t : Fin grid0.N, _)
/-- Operand 9 is taken whole. -/
theorem index9 : ∀ t : Fin cfg0.N, win0_9.index t = ![0, 0] := (by decide +kernel : ∀ t : Fin grid0.N, _)
/-- Operand 10 is taken whole. -/
theorem index10 : ∀ t : Fin cfg0.N, win0_10.index t = ![0, 0] := (by decide +kernel : ∀ t : Fin grid0.N, _)
/-- Which positions of the table a point takes. -/
theorem index11 : ∀ t : Fin cfg0.N, win0_11.index t = ![t.val % 8, 0] := (by decide +kernel : ∀ t : Fin grid0.N, _)
/-- Which positions of the transposed table a point takes. -/
theorem index12 : ∀ t : Fin cfg0.N, win0_12.index t = ![0, t.val % 8] := (by decide +kernel : ∀ t : Fin grid0.N, _)
/-- Which block of the queries a point writes. -/
theorem index13 : ∀ t : Fin cfg0.N, win0_13.index t = ![t.val / 8, 0, t.val % 8, 0, 0] := (by decide +kernel : ∀ t : Fin grid0.N, _)
/-- Which block of the keys a point writes. -/
theorem index14 : ∀ t : Fin cfg0.N, win0_14.index t = ![t.val, 0] := (by decide +kernel : ∀ t : Fin grid0.N, _)
/-- Which block of the values a point writes. -/
theorem index15 : ∀ t : Fin cfg0.N, win0_15.index t = ![t.val / 8, 0, t.val % 8, 0, 0] := (by decide +kernel : ∀ t : Fin grid0.N, _)
/-- A point's coordinate is its number. -/
theorem point_of : ∀ t : Fin cfg0.N, ((grid0.coords t) 0).val = t.val := (by decide +kernel : ∀ t : Fin grid0.N, _)

set_option maxHeartbeats 1000000 in
/-- The query array after the run. -/
theorem final13 (c : Dev nD) : (dats m 0 c).arrAt 13 cfg0.N = allQueries (V m c main_arg0) (V m c main_arg3) (V m c main_arg5) (V m c main_arg7) := by
  refine (dats m 0 c).arrAt_eq_of_covers 13 _ (by decide +kernel) fun t hf y => ?_
  have h0 : (y 0).val < 1 := (y 0).isLt
  have h1 : (y 1).val < 8 := (y 1).isLt
  have h2 : (y 2).val < 1 := (y 2).isLt
  have h3 : (y 3).val < 256 := (y 3).isLt
  have h4 : (y 4).val < 512 := (y 4).isLt
  have ht : t.val < 32 := t.isLt
  blk_simp
  rw [after0_13]
  refine block_queries _ _ _ _ _ _ _ _ _ _ _ _ _ _ _ _ _ _ y _ ?_ ?_ ?_ ?_ ?_ (fun k => ?_) (fun k => ?_) (fun j k => ?_) (fun d => ?_) (fun d => ?_)
  · blk_simp [index13]; omega
  · blk_simp [index13]; omega
  · blk_simp [index13]
  · blk_simp [index13]
  · rw [point_of]; blk_simp [index13]
  · blk_simp [iblk]; congr 1; blk_ext [index0, index13]
  · refine Eq.trans ?_ (gain_cq_at m c k)
    blk_simp [iblk]; congr 1; blk_ext [index4]
  · refine Eq.trans ?_ (weights_q_at m c j k)
    blk_simp [iblk]; congr 1; blk_ext [index6]
  · refine Eq.trans ?_ (gain_q_at m c d)
    blk_simp [iblk]; congr 1; blk_ext [index9]
  · refine Eq.trans ?_ (table_t_at m c _ d)
    blk_simp [iblk]; congr 1; blk_ext [index12, index13]

/-- The value array after the run. -/
theorem final15 (c : Dev nD) : (dats m 0 c).arrAt 15 cfg0.N = allValues (V m c main_arg0) (V m c main_arg4) (V m c main_arg6) := by
  refine (dats m 0 c).arrAt_eq_of_covers 15 _ (by decide +kernel) fun t hf y => ?_
  have h0 : (y 0).val < 1 := (y 0).isLt
  have h1 : (y 1).val < 8 := (y 1).isLt
  have h2 : (y 2).val < 1 := (y 2).isLt
  have h3 : (y 3).val < 128 := (y 3).isLt
  have h4 : (y 4).val < 512 := (y 4).isLt
  have ht : t.val < 32 := t.isLt
  blk_simp
  rw [after0_15]
  refine block_values _ _ _ _ _ _ _ _ _ _ _ _ _ _ _ _ _ y _ ?_ ?_ ?_ (fun k => ?_) (fun k => ?_) (fun j k => ?_)
  · blk_simp [index15]; omega
  · blk_simp [index15]
  · blk_simp [index15]
  · blk_simp [iblk]; congr 1; blk_ext [index1, index15]
  · refine Eq.trans ?_ (gain_ckv_at m c k)
    blk_simp [iblk]; congr 1; blk_ext [index5]
  · refine Eq.trans ?_ (weights_v_at m c j k)
    blk_simp [iblk]; congr 1; blk_ext [index8]

set_option maxHeartbeats 1000000 in
/-- The key array after the run, where the shared key's weights are zero past their 64 columns. -/
theorem final14 (c : Dev nD) (hz : ∀ (k : Fin 2048) (l : Fin 128), 64 ≤ l.val → V m c main_arg2 (ix2 k l) = (0 : EReal)) : (dats m 0 c).arrAt 14 cfg0.N
    = allKeys (V m c main_arg0) (V m c main_arg1) (V m c main_arg2) (V m c main_arg4) (V m c main_arg6) (V m c main_arg8) := by
  refine (dats m 0 c).arrAt_eq_of_covers 14 _ (by decide +kernel) fun t hf y => ?_
  have h0 : (y 0).val < 512 := (y 0).isLt
  have h1 : (y 1).val < 2048 := (y 1).isLt
  have ht : t.val < 32 := t.isLt
  blk_simp
  rw [after0_14]
  refine block_keys _ _ _ _ _ _ _ _ _ _ _ _ _ _ _ _ _ _ _ _ y _ ?_ ?_ (fun k => ?_) (fun k => ?_) (fun k j => ?_) (fun k => ?_) (fun k l => ?_) hz (fun d => ?_) (fun d => ?_)
  · blk_simp [index14]
  · rw [point_of]; blk_simp [index14]; omega
  · blk_simp [iblk]; congr 1; blk_ext [index1, index14]
  · refine Eq.trans ?_ (gain_ckv_at m c k)
    blk_simp [iblk]; congr 1; blk_ext [index5]
  · refine Eq.trans ?_ (weights_k_at m c k j)
    blk_simp [iblk]; congr 1; blk_ext [index7]
  · blk_simp [iblk]; congr 1; blk_ext [index2, index14]
  · blk_simp [iblk]; congr 1; blk_ext [index3]
  · refine Eq.trans ?_ (gain_k_at m c d)
    blk_simp [iblk]; congr 1; blk_ext [index10]
  · refine Eq.trans ?_ (table_at m c _ d)
    blk_simp [iblk]; congr 1; blk_ext [index11, index14]

end Cert.Mla

end
-- ==== Proof.MlaRef.lean ====
module

public import proofs.«01_k».proof.Proof.MlaMath

/-! The latent attention's projection: the reference read as mathematics. -/

@[expose] public section

set_option maxRecDepth 16384

noncomputable section

namespace Cert.Mla

open Idealize.ShloMosaic Idealize.ShloMosaic.WordCmp Idealize.ShloMosaic.TcCoe
open Cert.MlaReferenceIdeal Cert.MlaReferenceIdeal.Read

variable (u : Vec Ideal S16384x11264 .bf16) (h : Vec Ideal S2048x16384 .bf16) (w : Vec Ideal S2048x128 .bf16) (gc : Vec Ideal S512 .f32)
  (gv : Vec Ideal S256 .f32) (wq : Vec Ideal S512x1536 .f32) (wv : Vec Ideal S256x2048 .f32) (g : Vec Ideal S192 .f32)

/-- Dividing by 512 is multiplying by its inverse. -/
theorem div_512 (x : EReal) : Ideal.div x (Ideal.ofBits .f32 0x44000000#32) = x * Ideal.ofBits .f32 0x3B000000#32 := by
  have e1 : Ideal.ofBits .f32 0x44000000#32 = ((512 : ℝ) : EReal) := by
    simp [Ideal.ofBits, Ideal.ieee]; rw [← EReal.coe_mul]; norm_num
  have e2 : Ideal.ofBits .f32 0x3B000000#32 = ((1 / 512 : ℝ) : EReal) := by
    simp [Ideal.ofBits, Ideal.ieee]; rw [← EReal.coe_mul]; norm_num
  rw [e1, e2, Ideal.div_coe (by norm_num)]

/-- Dividing by 256 is multiplying by its inverse. -/
theorem div_256 (x : EReal) : Ideal.div x (Ideal.ofBits .f32 0x43800000#32) = x * Ideal.ofBits .f32 0x3B800000#32 := by
  have e1 : Ideal.ofBits .f32 0x43800000#32 = ((256 : ℝ) : EReal) := by
    simp [Ideal.ofBits, Ideal.ieee]; rw [← EReal.coe_mul]; norm_num
  have e2 : Ideal.ofBits .f32 0x3B800000#32 = ((1 / 256 : ℝ) : EReal) := by
    simp [Ideal.ofBits, Ideal.ieee]; rw [← EReal.coe_mul]; norm_num
  rw [e1, e2, Ideal.div_coe (by norm_num)]

/-- Dividing by 128 is multiplying by its inverse. -/
theorem div_128 (x : EReal) : Ideal.div x (Ideal.ofBits .f32 0x43000000#32) = x * Ideal.ofBits .f32 0x3C000000#32 := by
  have e1 : Ideal.ofBits .f32 0x43000000#32 = ((128 : ℝ) : EReal) := by
    simp [Ideal.ofBits, Ideal.ieee]; rw [← EReal.coe_mul]; norm_num
  have e2 : Ideal.ofBits .f32 0x3C000000#32 = ((1 / 128 : ℝ) : EReal) := by
    simp [Ideal.ofBits, Ideal.ieee]; rw [← EReal.coe_mul]; norm_num
  rw [e1, e2, Ideal.div_coe (by norm_num)]

/-- Dividing by 64 is multiplying by its inverse. -/
theorem div_64 (x : EReal) : Ideal.div x (Ideal.ofBits .f32 0x42800000#32) = x * Ideal.ofBits .f32 0x3C800000#32 := by
  have e1 : Ideal.ofBits .f32 0x42800000#32 = ((64 : ℝ) : EReal) := by
    simp [Ideal.ofBits, Ideal.ieee]; rw [← EReal.coe_mul]; norm_num
  have e2 : Ideal.ofBits .f32 0x3C800000#32 = ((1 / 64 : ℝ) : EReal) := by
    simp [Ideal.ofBits, Ideal.ieee]; rw [← EReal.coe_mul]; norm_num
  rw [e1, e2, Ideal.div_coe (by norm_num)]

/-- The constant 192. -/
theorem bits_192 : Ideal.ofBits .f32 0x43400000#32 = ((192 : ℝ) : EReal) := by
  simp [Ideal.ofBits, Ideal.ieee]
  rw [← EReal.coe_mul]
  norm_num

/-- The reference's angle. -/
theorem angle_apply (p : Fin 4096) (j : Fin 32) : val_main_v16 (F := Ideal) (ix2 p j) = angle p j := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The reference's latent queries. -/
theorem v36_apply (t : Fin 16384) (k : Fin 512) : val_main_v36 (F := Ideal) u gc (ix2 t k) = latentQ u gc t k := by
  unfold latentQ invRms
  pointwise [val_main_v36, val_main_v35, val_main_v34, val_main_v33, val_main_v32, val_main_v31, val_main_v30, val_main_v29, val_main_v28, val_main_v27, val_main_v26, val_main_v25, val_main_v24, val_main_v23, val_main_v22, val_main_v21, val_main_cst_4, val_main_cst_5, val_main_cst_6]
  rw [div_512]

/-- The reference's latent keys. -/
theorem v52_apply (t : Fin 16384) (k : Fin 256) : val_main_v52 (F := Ideal) u gv (ix2 t k) = latentK u gv t k := by
  unfold latentK invRms
  pointwise [val_main_v52, val_main_v51, val_main_v50, val_main_v49, val_main_v48, val_main_v47, val_main_v46, val_main_v45, val_main_v44, val_main_v43, val_main_v42, val_main_v41, val_main_v40, val_main_v39, val_main_v38, val_main_v37, val_main_cst_7, val_main_cst_8, val_main_cst_9]
  rw [div_256]

/-- The reference's query features. -/
theorem v55_apply (b : Fin 4) (p : Fin 4096) (n : Fin 8) (e : Fin 192) :
    val_main_v55 (F := Ideal) u gc wq (ix4 b p n e) = queryFeature u gc wq n ⟨4096 * b.val + p.val, by omega⟩ e := by
  unfold queryFeature
  pointwise [val_main_v55, val_main_v54, val_main_v53]
  simp only [v36_apply, Nat.mul_comm]

/-- The reference's key and value features. -/
theorem v58_apply (b : Fin 4) (p : Fin 4096) (n : Fin 8) (e : Fin 256) :
    val_main_v58 (F := Ideal) u gv wv (ix4 b p n e) = keyFeature u gv wv n ⟨4096 * b.val + p.val, by omega⟩ e := by
  unfold keyFeature
  pointwise [val_main_v58, val_main_v57, val_main_v56]
  simp only [v52_apply, Nat.mul_comm]

/-- The reference's shared key features. -/
theorem v62_apply (b : Fin 4) (p : Fin 4096) (e : Fin 64) :
    val_main_v62 (F := Ideal) h w (ix4 b p 0 e) = sharedFeature h w ⟨4096 * b.val + p.val, by omega⟩ e := by
  unfold sharedFeature
  pointwise [val_main_v62, val_main_v61, val_main_v60, val_main_v59]
  simp only [Nat.mul_comm]

/-- The reference's scale. -/
theorem scale_apply (i : S_.Idx) : val_main_v71 (F := Ideal) i = scale := by
  pointwise [val_main_v71, val_main_v70, val_main_v69, val_main_v68, val_main_cst_10, val_main_cst_11, val_main_cst_12]
  have hp : (Real.sqrt 192 * Real.log 2) ≠ 0 := mul_ne_zero (Real.sqrt_ne_zero'.mpr (by norm_num)) (Real.log_pos (by norm_num)).ne'
  rw [bits_192, Cert.ReferenceIdeal.Band.log_two, Ideal.sqrt_coe, if_neg (by norm_num), ← EReal.coe_mul, Ideal.div_coe hp, one_mul, one_div]

/-- The reference's first query entries. -/
theorem v94_apply (b : Fin 4) (p : Fin 4096) (n : Fin 8) (d : Fin 128) :
    val_main_v94 (F := Ideal) u gc wq g (ix4 b p n d) = plainQuery u gc wq g n ⟨4096 * b.val + p.val, by omega⟩ d * scale := by
  unfold plainQuery plain invRms
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_15, val_main_cst_16, val_main_cst_17]
  rw [scale_apply, div_128]
  simp only [v55_apply]

/-- The reference's last query entries, normalized. -/
theorem v109_apply (b : Fin 4) (p : Fin 4096) (n : Fin 8) (e : Fin 64) :
    val_main_v109 (F := Ideal) u gc wq g (ix4 b p n e)
      = unit g (fun e => queryFeature u gc wq n ⟨4096 * b.val + p.val, by omega⟩ ⟨128 + e.val, by omega⟩) e := by
  unfold unit invRms
  pointwise [val_main_v109, val_main_v108, val_main_v107, val_main_v106, val_main_v105, val_main_v104, val_main_v103, val_main_v102, val_main_v101, val_main_v100, val_main_v99, val_main_v98, val_main_v97, val_main_v96, val_main_v95, val_main_cst_18, val_main_cst_19, val_main_cst_20]
  rw [div_64]
  simp only [v55_apply]

/-- The turn as it is put together from two pieces. -/
theorem rotated_pieces (c s : Fin 32 → EReal) (y : Fin 64 → EReal) (e : Fin 64) :
    (if h : e.val < 32 then y ⟨e.val, by omega⟩ * c ⟨e.val, h⟩ - y ⟨32 + e.val, by omega⟩ * s ⟨e.val, h⟩
      else y ⟨32 + (e.val - 32), by omega⟩ * c ⟨e.val - 32, by omega⟩ + y ⟨e.val - 32, by omega⟩ * s ⟨e.val - 32, by omega⟩)
    = if h : e.val < 32 then y e * c ⟨e.val, h⟩ - y ⟨32 + e.val, by omega⟩ * s ⟨e.val, h⟩
      else y e * c ⟨e.val - 32, by omega⟩ + y ⟨e.val - 32, by omega⟩ * s ⟨e.val - 32, by omega⟩ := by
  by_cases h : e.val < 32
  · rw [dif_pos h, dif_pos h]
  · rw [dif_neg h, dif_neg h]
    have : (⟨32 + (e.val - 32), by omega⟩ : Fin 64) = e := Fin.ext (by show 32 + (e.val - 32) = e.val; omega)
    rw [this]

/-- The reference's turned query entries. -/
theorem v122_apply (b : Fin 4) (p : Fin 4096) (n : Fin 8) (e : Fin 64) :
    val_main_v122 (F := Ideal) u gc wq g (ix4 b p n e) = turnedQuery u gc wq g n ⟨4096 * b.val + p.val, by omega⟩ p e := by
  unfold turnedQuery rotated
  pointwise [val_main_v122, val_main_v121, val_main_v120, val_main_v119, val_main_v118, val_main_v117, val_main_v116, val_main_v115, val_main_v114, val_main_v113, val_main_v112, val_main_v111, val_main_v110, val_main_v20, val_main_v19, val_main_v18, val_main_v17]
  simp only [v109_apply, angle_apply]
  exact rotated_pieces (fun j => Ideal.cos (angle p j)) (fun j => Ideal.sin (angle p j)) _ e

/-- The reference's shared key entries, normalized. -/
theorem v149_apply (b : Fin 4) (p : Fin 4096) (e : Fin 64) :
    val_main_v149 (F := Ideal) h w g (ix4 b p 0 e) = unit g (sharedFeature h w ⟨4096 * b.val + p.val, by omega⟩) e := by
  unfold unit invRms
  pointwise [val_main_v149, val_main_v148, val_main_v147, val_main_v146, val_main_v145, val_main_v144, val_main_v143, val_main_v142, val_main_v141, val_main_v140, val_main_v139, val_main_v138, val_main_v137, val_main_v136, val_main_cst_23, val_main_cst_24, val_main_cst_25]
  rw [div_64]
  simp only [v62_apply]

/-- The reference's turned shared key entries. -/
theorem v162_apply (b : Fin 4) (p : Fin 4096) (e : Fin 64) :
    val_main_v162 (F := Ideal) h w g (ix4 b p 0 e) = turnedKey h w g ⟨4096 * b.val + p.val, by omega⟩ p e := by
  unfold turnedKey rotated
  pointwise [val_main_v162, val_main_v161, val_main_v160, val_main_v159, val_main_v158, val_main_v157, val_main_v156, val_main_v155, val_main_v154, val_main_v153, val_main_v152, val_main_v151, val_main_v150, val_main_v20, val_main_v19, val_main_v18, val_main_v17]
  simp only [v149_apply, angle_apply]
  exact rotated_pieces (fun j => Ideal.cos (angle p j)) (fun j => Ideal.sin (angle p j)) _ e

/-- The reference's own key entries of a head. -/
theorem v179_apply (b : Fin 4) (p : Fin 4096) (n : Fin 8) (d : Fin 128) :
    val_main_v179 (F := Ideal) u gv wv g (ix4 b p n d) = plainKey u gv wv g n ⟨4096 * b.val + p.val, by omega⟩ d := by
  unfold plainKey plain invRms
  pointwise [val_main_v179, val_main_v178, val_main_v177, val_main_v176, val_main_v175, val_main_v174, val_main_v173, val_main_v172, val_main_v171, val_main_v170, val_main_v169, val_main_v168, val_main_v167, val_main_v166, val_main_v165, val_main_cst_26, val_main_cst_27, val_main_cst_28]
  rw [div_128]
  simp only [v58_apply]

/-- A position's chunk. -/
theorem v65_apply (p : Fin 4096) : val_main_v65 (F := Ideal) (ix2 p 0) = BitVec.ofNat 32 (p.val / 64) := by
  pointwise [val_main_v65, val_main_call0_v13, val_main_call0_v12, val_main_call0_c_0, val_main_call0_v11, val_main_call0_v10,
    val_main_call0_v9, val_main_call0_c, val_main_call0_v8, val_main_call0_v7, val_main_call0_v6, val_main_call0_v5,
    val_main_call0_v4, val_main_call0_v3, val_main_call0_v2, val_main_call0_v1, val_main_call0_v0, val_main_c, val_main_v64, val_main_v63]
  exact Cert.Band.chunkWord_ofNat p.val (by omega)

/-- The reference's mask. -/
theorem v75_apply (p : Fin 4096) (s : Fin 64) :
    val_main_v75 (F := Ideal) (ix2 p s) = if p.val / 64 < s.val then (⊥ : EReal) else 0 := by
  pointwise [val_main_v75, val_main_call1_v1, val_main_call1_v0, val_main_cst_13, val_main_cst_14, val_main_v74, val_main_v73, val_main_v72, val_main_v67, val_main_v66]
  have hb : Ideal.ofBits .f32 0xFF800000#32 = ⊥ := by simp [Ideal.ofBits, Ideal.ieee]
  rw [v65_apply, hb]
  refine (congrArg (fun b => Scalar.select b (⊥ : EReal) 0) (Cert.Qkv.afterBit_ofNat s.val _ (by omega) (by omega))).trans ?_
  rw [Cert.Band.select_bit]

/-- The reference's indicator. -/
theorem v133_apply (p : Fin 4096) (s : Fin 64) :
    val_main_v133 (F := Ideal) (ix2 p s) = if s.val = p.val / 64 then (1 : EReal) else 0 := by
  pointwise [val_main_v133, val_main_call2_v1, val_main_call2_v0, val_main_cst_21, val_main_cst_22, val_main_v132, val_main_v131, val_main_v130, val_main_v67, val_main_v66]
  rw [v65_apply]
  refine (congrArg (fun b => Scalar.select b (1 : EReal) 0) (Cert.Qkv.ownBit_ofNat s.val _ (by omega) (by omega))).trans ?_
  rw [Cert.Band.select_bit]

/-- The reference's values are the whole value array. -/
theorem reference_values : val_main_v187 (F := Ideal) u gv wv = allValues u gv wv := by
  funext i
  unfold allValues
  pointwise [val_main_v187, val_main_v186, val_main_v185, val_main_v184]
  have h2 : (i 2).val < 8 := (i 2).isLt
  have h3 : (i 3).val < 128 := (i 3).isLt
  have h4 : (i 4).val < 512 := (i 4).isLt
  refine (v58_apply u gv wv (i 0) ⟨(i 2).val * 512 + (i 4).val, by omega⟩ (i 1) ⟨128 + (i 3).val, by omega⟩).trans ?_
  simp only [Nat.mul_comm]

/-- The reference's queries are the whole query array. -/
theorem reference_queries : val_main_v129 (F := Ideal) u gc wq g = allQueries u gc wq g := by
  funext i
  unfold allQueries
  pointwise [val_main_v129, val_main_v128, val_main_v127, val_main_v126, val_main_v125, val_main_v124, val_main_v123, val_main_v77, val_main_v76]
  have h0 : (i 0).val < 4 := (i 0).isLt
  have h2 : (i 2).val < 8 := (i 2).isLt
  have h3 : (i 3).val < 256 := (i 3).isLt
  have h4 : (i 4).val < 512 := (i 4).isLt
  by_cases hs : (i 3).val < 128
  · simp only [hs, dite_true]
    refine (v94_apply u gc wq g (i 0) ⟨(i 2).val * 512 + (i 4).val, by omega⟩ (i 1) ⟨(i 3).val, hs⟩).trans ?_
    simp only [Nat.mul_comm]
  · by_cases hr : (i 3).val - 128 < 64
    · simp only [hs, hr, dite_true, dite_false, scale_apply]
      refine congrArg (· * scale) ?_
      refine (v122_apply u gc wq g (i 0) ⟨(i 2).val * 512 + (i 4).val, by omega⟩ (i 1) ⟨(i 3).val - 128, hr⟩).trans ?_
      simp only [Nat.mul_comm]
    · simp only [hs, hr, dite_false, id_eq]
      pointwise
      rw [v75_apply]
      simp only [Nat.mul_comm]

/-- The reference's keys are the whole key array. -/
theorem reference_keys : val_main_v183 (F := Ideal) u h w gv wv g = allKeys u h w gv wv g := by
  funext i
  unfold allKeys
  pointwise [val_main_v183, val_main_v182, val_main_v181, val_main_v180, val_main_v164, val_main_v163, val_main_v135, val_main_v134]
  have h0 : (i 0).val < 16384 := (i 0).isLt
  have h1 : (i 1).val < 2048 := (i 1).isLt
  have e0 : 4096 * ((i 0).val / 4096) + (i 0).val % 4096 = (i 0).val := by omega
  by_cases hs : (i 1).val % 256 < 128
  · simp only [hs, dite_true]
    refine (v179_apply u gv wv g ⟨(i 0).val / 4096, by omega⟩ ⟨(i 0).val % 4096, by omega⟩ ⟨(i 1).val / 256, by omega⟩ ⟨(i 1).val % 256, hs⟩).trans ?_
    simp only [e0]
    rfl
  · by_cases hr : (i 1).val % 256 - 128 < 64
    · simp only [hs, hr, dite_true, dite_false]
      refine (v162_apply h w g ⟨(i 0).val / 4096, by omega⟩ ⟨(i 0).val % 4096, by omega⟩ ⟨(i 1).val % 256 - 128, hr⟩).trans ?_
      simp only [e0]
      rfl
    · simp only [hs, hr, dite_false, id_eq]
      pointwise
      rw [v133_apply]

end Cert.Mla

end
-- ==== Proof.MlaPre.lean ====
module

public import proofs.«01_k».proof.Proof.Gen.Pre_rope_padded
public import Idealize.ShloMosaic.Lib.Pointwise

/-! What the precondition says of the shared key's weights. -/

@[expose] public section

set_option maxRecDepth 16384

noncomputable section

namespace Cert.Pre_rope_padded.Mla

open Cert.Pre_rope_padded Cert.Pre_rope_padded.Gen Idealize.ShloMosaic

/-- The shared key's weights are zero past their 64 columns. -/
theorem weights_zero (x0 : FVec Ideal S16384x11264 .bf16) (x1 : FVec Ideal S2048x16384 .bf16) (x2 : FVec Ideal S2048x128 .bf16) (x3 : FVec Ideal S512 .f32)
    (x4 : FVec Ideal S256 .f32) (x5 : FVec Ideal S512x1536 .f32) (x6 : FVec Ideal S256x2048 .f32) (x7 x8 : FVec Ideal S192 .f32)
    (hp : fn (F := Ideal) x0 x1 x2 x3 x4 x5 x6 x7 x8 = fun _ => 1#1) (k : Fin 2048) (l : Fin 128) (hl : 64 ≤ l.val) : x2 (ix2 k l) = (0 : EReal) := by
  have h := congrFun hp (ix2 k ⟨l.val - 64, by omega⟩)
  have e : BitVec.ofBool (decide (x2 (ix2 k l) = (0 : EReal))) = 1#1 := by
    refine Eq.trans ?_ h
    unfold fn
    dsimp only
    have ei : (⟨64 + (l.val - 64), by omega⟩ : Fin 128) = l := Fin.ext (by show 64 + (l.val - 64) = l.val; omega)
    pointwise
    rw [ei]
  by_contra hn
  simp [hn] at e

end Cert.Pre_rope_padded.Mla

end
-- ==== Proof.PrepTile.lean ====
module

public import proofs.«01_k».proof.Proof.Gen.PrepKernelIdeal.Value
public import Idealize.ShloMosaic.Lib.Tactic
public import Idealize.ShloMosaic.Lib.Pipeline.ReadBack
public import Idealize.ShloMosaic.Lib.Pipeline.ValueKit
public import Idealize.ShloMosaic.Lib.Pointwise

/-! What one grid point of the band branch's key preparation leaves in its output block: for each of the eight heads the normalized keys beside the
    indicator of their chunk. -/

@[expose] public section

set_option maxRecDepth 16384

noncomputable section

namespace Cert.Prep

open Cert.PrepKernelIdeal Cert.PrepKernelIdeal.Gen Idealize.ShloMosaic Idealize.ShloMosaic.TcCoe

variable {F : FTy → Type} [FloatOps F] [Named F]

/-- One head's columns of the point's block. -/
def headCols (x0 : Vec F S512x1024 .bf16) (n : Nat) (h : n < 8) : Vec F S512x128 .bf16 :=
  View.ld x0 (Rect.unit (s := S512x1024) ![0, 128 * n] S512x128.size (by intro a; fin_cases a <;> simp [Shape.size] <;> omega))

/-- A head's keys normalized by their root mean square, times the weights, zero in the padding. -/
def normed (i : grid0.Coords) (u : Vec F S512x128 .bf16) (x1 : Vec F S1x128 .f32) : FVec F S512x128 .bf16 :=
  k0_pay7 (Scalar.cmpi .eq (BitVec.ofNat 32 (i 1).val) 0#32) (k0_pay2 (View.ld x1 r0_0)) u

/-- The indicator columns of the point. -/
def slots (i : grid0.Coords) : FVec F S512x128 .bf16 :=
  k0_pay6 (F := F) (Scalar.cmpi .eq (BitVec.ofNat 32 (i 1).val) 0#32) (k0_pay3 (F := F)) (k0_pay4 i) (iota .tc S512x128 32 [1] iota_S512x128_d1_w32) k0_pay5

/-- The output block of a point: a head's 128 normalized columns, then its 128 indicator columns. -/
def keys (i : grid0.Coords) (x0 : Vec F S512x1024 .bf16) (x1 : Vec F S1x128 .f32) : Vec F S512x2048 .bf16 := fun y =>
  have h1 : (y 1).val < 2048 := (y 1).isLt
  if h : (y 1).val % 256 < 128 then normed i (headCols x0 ((y 1).val / 256) (by omega)) x1 (ix2 (y 0) ⟨(y 1).val % 256, h⟩)
  else slots i (ix2 (y 0) ⟨(y 1).val % 256 - 128, by omega⟩)

/-- The block read through a piece of key columns. -/
theorem piece_k (i : grid0.Coords) (x0 : Vec F S512x1024 .bf16) (x1 : Vec F S1x128 .f32) (n o : Nat) (hn : n < 8) (ho : o = 256 * n)
    (inb : ∀ d, (![0, o] : Fin 2 → Nat) d + S512x128.size d ≤ S512x2048.size d) (x : S512x128.Idx) :
    normed i (headCols x0 n hn) x1 x = keys i x0 x1 ((Rect.unit (s := S512x2048) ![0, o] S512x128.size inb).emb x) := by
  have e0 : (((Rect.unit (s := S512x2048) ![0, o] S512x128.size inb).emb x) 0).val = 0 + (x 0).val := Rect.idx_unit_val (s := S512x2048) ![0, o] S512x128.size inb x 0
  have e1 : (((Rect.unit (s := S512x2048) ![0, o] S512x128.size inb).emb x) 1).val = o + (x 1).val := Rect.idx_unit_val (s := S512x2048) ![0, o] S512x128.size inb x 1
  have h1 : (x 1).val < 128 := (x 1).isLt
  unfold keys
  dsimp only
  rw [dif_pos (by rw [e1]; omega)]
  have key : ∀ (m : Nat) (hm : m < 8) (w : S512x128.Idx), n = m → x = w →
      normed i (headCols x0 n hn) x1 x = normed i (headCols x0 m hm) x1 w := by
    intro m hm w e f; subst e; subst f; rfl
  refine key _ _ _ (by rw [e1]; omega) (funext fun a => match a with
    | ⟨0, _⟩ => Fin.ext (by refine Eq.trans ?_ e0.symm; show (x 0).val = _; omega)
    | ⟨1, _⟩ => Fin.ext (by
      show (x 1).val = (((Rect.unit (s := S512x2048) ![0, o] S512x128.size inb).emb x) 1).val % 256
      omega))

/-- The block read through a piece of indicator columns. -/
theorem piece_s (i : grid0.Coords) (x0 : Vec F S512x1024 .bf16) (x1 : Vec F S1x128 .f32) (n o : Nat) (hn : n < 8) (ho : o = 256 * n + 128)
    (inb : ∀ d, (![0, o] : Fin 2 → Nat) d + S512x128.size d ≤ S512x2048.size d) (x : S512x128.Idx) :
    slots i x = keys i x0 x1 ((Rect.unit (s := S512x2048) ![0, o] S512x128.size inb).emb x) := by
  have e0 : (((Rect.unit (s := S512x2048) ![0, o] S512x128.size inb).emb x) 0).val = 0 + (x 0).val := Rect.idx_unit_val (s := S512x2048) ![0, o] S512x128.size inb x 0
  have e1 : (((Rect.unit (s := S512x2048) ![0, o] S512x128.size inb).emb x) 1).val = o + (x 1).val := Rect.idx_unit_val (s := S512x2048) ![0, o] S512x128.size inb x 1
  have h1 : (x 1).val < 128 := (x 1).isLt
  unfold keys
  dsimp only
  rw [dif_neg (by rw [e1]; omega)]
  refine congrArg _ (funext fun a => match a with
    | ⟨0, _⟩ => Fin.ext (by refine Eq.trans ?_ e0.symm; show (x 0).val = _; omega)
    | ⟨1, _⟩ => Fin.ext (by
      show (x 1).val = (((Rect.unit (s := S512x2048) ![0, o] S512x128.size inb).emb x) 1).val % 256 - 128
      omega))

/-- The body's 16 stores are the block. -/
theorem out2_eq (i : grid0.Coords) (x0 : Vec F S512x1024 .bf16) (x1 : Vec F S1x128 .f32) : out0_2 i x0 x1 = keys i x0 x1 := by
  funext y
  unfold out0_2
  refine View.canon_apply_of_pieces _ _ (View.PiecesOf.mem (?_ : View.PiecesOf (keys i x0 x1) _)) y (cover0_2 _ _ _ _ _ _ _ _ _ _ _ _ _ _ _ _ y)
  have rowk : ∀ (n o : Nat) (hn : n < 8) (ho : o = 256 * n) (inb : ∀ d, (![0, o] : Fin 2 → Nat) d + S512x128.size d ≤ S512x2048.size d)
      (w : S512x128.Idx → F .bf16), w = normed i (headCols x0 n hn) x1 → ∀ x : S512x128.Idx,
      w x = keys i x0 x1 ((Rect.unit (s := S512x2048) ![0, o] S512x128.size inb).emb x) :=
    fun n o hn ho inb w e x => (congrFun e x).trans (piece_k i x0 x1 n o hn ho inb x)
  have rows : ∀ (n o : Nat) (hn : n < 8) (ho : o = 256 * n + 128) (inb : ∀ d, (![0, o] : Fin 2 → Nat) d + S512x128.size d ≤ S512x2048.size d)
      (w : S512x128.Idx → F .bf16), w = slots i → ∀ x : S512x128.Idx,
      w x = keys i x0 x1 ((Rect.unit (s := S512x2048) ![0, o] S512x128.size inb).emb x) :=
    fun n o hn ho inb w e x => (congrFun e x).trans (piece_s i x0 x1 n o hn ho inb x)
  refine ⟨rows 7 1920 (by decide) (by decide) inb_S512x2048_S512x128_0_1920 _ ?_, rowk 7 1792 (by decide) (by decide) inb_S512x2048_S512x128_0_1792 _ ?_,
    rows 6 1664 (by decide) (by decide) inb_S512x2048_S512x128_0_1664 _ ?_, rowk 6 1536 (by decide) (by decide) inb_S512x2048_S512x128_0_1536 _ ?_,
    rows 5 1408 (by decide) (by decide) inb_S512x2048_S512x128_0_1408 _ ?_, rowk 5 1280 (by decide) (by decide) inb_S512x2048_S512x128_0_1280 _ ?_,
    rows 4 1152 (by decide) (by decide) inb_S512x2048_S512x128_0_1152 _ ?_, rowk 4 1024 (by decide) (by decide) inb_S512x2048_S512x128_0_1024 _ ?_,
    rows 3 896 (by decide) (by decide) inb_S512x2048_S512x128_0_896 _ ?_, rowk 3 768 (by decide) (by decide) inb_S512x2048_S512x128_0_768 _ ?_,
    rows 2 640 (by decide) (by decide) inb_S512x2048_S512x128_0_640 _ ?_, rowk 2 512 (by decide) (by decide) inb_S512x2048_S512x128_0_512 _ ?_,
    rows 1 384 (by decide) (by decide) inb_S512x2048_S512x128_0_384 _ ?_, rowk 1 256 (by decide) (by decide) inb_S512x2048_S512x128_0_256 _ ?_,
    rows 0 128 (by decide) (by decide) inb_S512x2048_S512x128_0_128 _ ?_, rowk 0 0 (by decide) (by decide) inb_S512x2048_S512x128_0_0 _ ?_, trivial⟩
  all_goals rfl

end Cert.Prep

end
-- ==== Proof.PrepRef.lean ====
module

public import proofs.«01_k».proof.Proof.Gen.PrepReferenceIdeal.Read
public import proofs.«01_k».proof.Proof.QvRef
public import proofs.«01_k».proof.Proof.QkvWord

/-! The band branch's prepared keys as mathematics, and the reference read as them. -/

@[expose] public section

set_option maxRecDepth 16384

noncomputable section

namespace Cert.Prep

open Idealize.ShloMosaic Idealize.ShloMosaic.WordCmp Idealize.ShloMosaic.TcCoe
open Cert.PrepReferenceIdeal Cert.PrepReferenceIdeal.Read

variable (u : Vec Ideal S16384x11264 .bf16) (g : Vec Ideal S128 .f32)

/-- Entry `d` of head `n`'s normalized key at token `t`; the keys' columns start at 2048. -/
def key (n : Fin 8) (d : Fin 128) (t : Fin 16384) : EReal :=
  u (ix2 t ⟨2048 + (128 * n.val + d.val), by omega⟩) * Cert.Qv.invRms (fun e => u (ix2 t ⟨2048 + (128 * n.val + e.val), by omega⟩)) * g (ix1 d)

/-- Indicator slot `s` of a sequence's row `p`: slot 64 in the 512 rows of padding, then the position's chunk. -/
abbrev Own (s p : Nat) : Prop := if p < 512 then s = 64 else s = (p - 512) / 64

/-- The whole array of prepared keys: for each sequence 512 rows of padding, then the keys, each head's beside its indicator. -/
def allKeys : Vec Ideal S18432x2048 .bf16 := fun i =>
  have h0 : (i 0).val < 18432 := (i 0).isLt
  have h1 : (i 1).val < 2048 := (i 1).isLt
  if hs : (i 1).val % 256 < 128 then
    if (i 0).val % 4608 < 512 then 0
    else key u g ⟨(i 1).val / 256, by omega⟩ ⟨(i 1).val % 256, hs⟩ ⟨4096 * ((i 0).val / 4608) + ((i 0).val % 4608 - 512), by omega⟩
  else if Own ((i 1).val % 256 - 128) ((i 0).val % 4608) then 1 else 0

/-- The reference's key feature. -/
theorem v2_apply (b : Fin 4) (p : Fin 4096) (n : Fin 8) (d : Fin 128) :
    val_main_v2 (F := Ideal) u (ix4 b p n d) = u (ix2 ⟨4096 * b.val + p.val, by omega⟩ ⟨2048 + (128 * n.val + d.val), by omega⟩) := by
  pointwise [val_main_v2, val_main_v1, val_main_v0]
  exact congrArg u (congrArg₂ (ix2 (n0 := 16384) (n1 := 11264)) (Fin.ext (by show b.val * 4096 + p.val = 4096 * b.val + p.val; omega))
    (Fin.ext (by show 2048 + (n.val * 128 + d.val) = 2048 + (128 * n.val + d.val); omega)))

/-- The reference's normalized key. -/
theorem v15_apply (b : Fin 4) (p : Fin 4096) (n : Fin 8) (d : Fin 128) :
    val_main_v15 (F := Ideal) u g (ix4 b p n d) = key u g n d ⟨4096 * b.val + p.val, by omega⟩ := by
  unfold key Cert.Qv.invRms
  pointwise [val_main_v15, val_main_v14, val_main_v13, val_main_v12, val_main_v11, val_main_v10, val_main_v9, val_main_v8, val_main_v7,
    val_main_v6, val_main_v5, val_main_v4, val_main_v3, val_main_cst, val_main_cst_0, val_main_cst_1]
  rw [Cert.Qv.bits_128, Cert.Qv.bits_inv_128, Ideal.div_coe (by norm_num)]
  simp only [v2_apply]

/-- A position's chunk. -/
theorem v19_apply (p : Fin 4096) : val_main_v19 (F := Ideal) (ix2 p 0) = BitVec.ofNat 32 (p.val / 64) := by
  pointwise [val_main_v19, val_main_call1_v13, val_main_call1_v12, val_main_call1_c_0, val_main_call1_v11, val_main_call1_v10,
    val_main_call1_v9, val_main_call1_c, val_main_call1_v8, val_main_call1_v7, val_main_call1_v6, val_main_call1_v5,
    val_main_call1_v4, val_main_call1_v3, val_main_call1_v2, val_main_call1_v1, val_main_call1_v0, val_main_c_2, val_main_v18, val_main_v17]
  exact Cert.Band.chunkWord_ofNat p.val (by omega)

/-- The reference's indicator of a position. -/
theorem v25_apply (p : Fin 4096) (s : Fin 128) : val_main_v25 (F := Ideal) (ix2 p s) = if s.val = p.val / 64 then (1 : EReal) else 0 := by
  pointwise [val_main_v25, val_main_call2_v1, val_main_call2_v0, val_main_cst_3, val_main_cst_4, val_main_v24, val_main_v23, val_main_v22,
    val_main_v21, val_main_v20]
  rw [v19_apply]
  refine (congrArg (fun b => Scalar.select b (1 : EReal) 0) (Cert.Qkv.ownBit_ofNat s.val _ s.isLt (by omega))).trans ?_
  rw [Cert.Band.select_bit]

/-- The reference's indicator of the padding. -/
theorem v29_apply (p : Fin 512) (s : Fin 128) : val_main_v29 (F := Ideal) (ix2 p s) = if s.val = 64 then (1 : EReal) else 0 := by
  pointwise [val_main_v29, val_main_v28, val_main_call3_v1, val_main_call3_v0, val_main_cst_6, val_main_cst_7, val_main_v27, val_main_v26, val_main_c_5,
    val_main_v21, val_main_v20]
  refine (congrArg (fun b => Scalar.select b (1 : EReal) 0) (Cert.Qkv.ownBit_ofNat s.val 64 s.isLt (by omega))).trans ?_
  rw [Cert.Band.select_bit]

/-- The reference's padding value. -/
theorem pad_apply (i : S_.Idx) : val_main_call0_v0 (F := Ideal) i = (0 : EReal) := by
  pointwise [val_main_call0_v0, val_main_c]
  simp [FloatOps.sitofp]

/-- The reference's result is the whole array of prepared keys. -/
theorem reference_keys : val_main_v36 (F := Ideal) u g = allKeys u g := by
  funext i
  unfold allKeys
  pointwise [val_main_v36, val_main_v35, val_main_v34, val_main_v33, val_main_v32, val_main_v31, val_main_v30, val_main_v16]
  have h0 : (i 0).val < 18432 := (i 0).isLt
  have h1 : (i 1).val < 2048 := (i 1).isLt
  have hb : (i 0).val / 4608 < 4 := by omega
  have hl : (i 0).val % 4608 - 512 < 4096 := by omega
  have hh : (i 1).val / 256 < 8 := by omega
  by_cases hs : (i 1).val % 256 < 128
  · by_cases hp : (i 0).val % 4608 < 512
    · have hn : ¬ 512 ≤ (i 0).val % 4608 := by omega
      simp only [hs, hp, hn, dite_true, if_true, false_and, and_false, dite_false, pad_apply]
    · have hn : 512 ≤ (i 0).val % 4608 := by omega
      simp only [hs, hp, hn, hb, hl, hh, true_and, dite_true, if_false, v15_apply]
  · simp only [hs, dite_false, id_eq]
    pointwise
    by_cases hp : (i 0).val % 4608 < 512
    · simp only [hp, dite_true, v29_apply, Own, if_true]
    · simp only [hp, dite_false, v25_apply, Own, if_false]

end Cert.Prep

end
-- ==== Proof.PrepSame.lean ====
module

public import proofs.«01_k».proof.Proof.PrepTile
public import proofs.«01_k».proof.Proof.PrepRef
public import Idealize.ShloMosaic.Lib.StableHlo.ReadAt

/-! The band branch's prepared keys: the kernel's result array after the run is the whole array of prepared keys. -/

@[expose] public section

set_option maxRecDepth 16384

noncomputable section

namespace Cert.Prep

open Idealize.ShloMosaic Idealize.ShloMosaic.WordCmp Idealize.ShloMosaic.TcCoe
open Cert.PrepKernelIdeal Cert.PrepKernelIdeal.Gen

/-- A head's columns read at an index. -/
theorem headCols_apply (x0 : Vec Ideal S512x1024 .bf16) (n : Nat) (h : n < 8) (r : Fin 512) (d : Fin 128) :
    headCols (F := Ideal) x0 n h (ix2 r d) = x0 (ix2 r ⟨128 * n + d.val, by omega⟩) := by
  unfold headCols
  pointwise

/-- The normalized keys read at an index. -/
theorem normed_apply (i : grid0.Coords) (v : Vec Ideal S512x128 .bf16) (x1 : Vec Ideal S1x128 .f32) (r : Fin 512) (d : Fin 128) :
    normed (F := Ideal) i v x1 (ix2 r d) = if (i 1).val = 0 then 0
      else v (ix2 r d) * Cert.Qv.invRms (fun e => v (ix2 r e)) * x1 (ix2 0 d) := by
  have hz : (![0, 0] : Fin 2 → Nat) = fun _ => 0 := by funext a; fin_cases a <;> rfl
  unfold normed k0_pay7 k0_pay2 Cert.Qv.invRms
  rw [View.ld_unit_zero hz]
  pointwise
  rw [Cert.Qv.first_word (i 1), Cert.Band.select_bit]

/-- The kernel's chunk word of a position. -/
theorem pay4_apply (i : grid0.Coords) (r : Fin 512) (s : Fin 128) :
    k0_pay4 i (ix2 r s) = BitVec.ofNat 32 ((512 * ((i 1).val - 1) + r.val) / 64) := by
  unfold k0_pay4
  pointwise
  rw [Cert.Qv.start_word (i 1)]
  have hr : (i 1).val < 9 := (i 1).isLt
  have hw : IntOp.addi (BitVec.ofNat 32 (512 * ((i 1).val - 1))) (BitVec.ofNat 32 r.val) = BitVec.ofNat 32 (512 * ((i 1).val - 1) + r.val) := by
    show BitVec.ofNat 32 _ + BitVec.ofNat 32 _ = _
    rw [← BitVec.ofNat_add]
  rw [hw]
  exact Cert.Qv.chunkVec_ofNat _ (by omega)

/-- The indicator read at an index. -/
theorem slots_apply (i : grid0.Coords) (r : Fin 512) (s : Fin 128) :
    slots (F := Ideal) i (ix2 r s) = if (i 1).val = 0 then (if s.val = 64 then (1 : EReal) else 0)
      else if s.val = (512 * ((i 1).val - 1) + r.val) / 64 then 1 else 0 := by
  unfold slots k0_pay6 k0_pay3 k0_pay5
  pointwise
  have hr : (i 1).val < 9 := (i 1).isLt
  have hz : IntOp.subi (BitVec.ofNat 32 s.val) 0#32 = BitVec.ofNat 32 s.val := by
    show BitVec.ofNat 32 s.val - 0#32 = _
    rw [BitVec.sub_zero]
  rw [pay4_apply, Cert.Qv.first_word (i 1), Cert.Band.select_bit, hz]
  have ha := Cert.Qkv.ownBit_ofNat s.val ((512 * ((i 1).val - 1) + r.val) / 64) s.isLt (by omega)
  have hp := Cert.Qkv.ownBit_ofNat s.val 64 s.isLt (by omega)
  refine congrArg₂ (fun a b : EReal => if (i 1).val = 0 then a else b) ?_ ?_
  · exact (congrArg (fun b => Scalar.select b (1 : EReal) 0) hp).trans (Cert.Band.select_bit _ _ _)
  · exact (congrArg (fun b => Scalar.select b (1 : EReal) 0) ha).trans (Cert.Band.select_bit _ _ _)

/-- Where the blocks hold the row's columns and the weights, a stored entry is the whole array's. -/
theorem block_keys (u : Vec Ideal S16384x11264 .bf16) (g : Vec Ideal S128 .f32) (q : grid0.Coords) (x0 : Vec Ideal S512x1024 .bf16)
    (x1 : Vec Ideal S1x128 .f32) (y : S512x2048.Idx) (i : S18432x2048.Idx)
    (b : 4096 * ((i 0).val / 4608) + ((i 0).val % 4608 - 512) < 16384) (e1 : (i 1).val = (y 1).val)
    (hp : (i 0).val % 4608 = 512 * (q 1).val + (y 0).val)
    (hu : (q 1).val ≠ 0 → ∀ k : Fin 1024, x0 (ix2 (y 0) k) = u (ix2 ⟨4096 * ((i 0).val / 4608) + ((i 0).val % 4608 - 512), b⟩ ⟨2048 + k.val, by omega⟩))
    (hg : ∀ d : Fin 128, x1 (ix2 0 d) = g (ix1 d)) :
    out0_2 (F := Ideal) q x0 x1 y = allKeys u g i := by
  have h0 : (y 0).val < 512 := (y 0).isLt
  have h1 : (y 1).val < 2048 := (y 1).isLt
  rw [out2_eq]
  unfold keys allKeys
  dsimp only
  by_cases hs : (y 1).val % 256 < 128
  · rw [dif_pos hs, dif_pos (by rw [e1]; exact hs)]
    refine (normed_apply q _ x1 (y 0) _).trans ?_
    rw [hg]
    by_cases hq : (q 1).val = 0
    · rw [if_pos hq, if_pos (by omega)]
    · rw [if_neg hq, if_neg (by omega)]
      have hc : ∀ e : Fin 128, headCols (F := Ideal) x0 ((y 1).val / 256) (by omega) (ix2 (y 0) e)
          = u (ix2 ⟨4096 * ((i 0).val / 4608) + ((i 0).val % 4608 - 512), b⟩ ⟨2048 + (128 * ((y 1).val / 256) + e.val), by omega⟩) :=
        fun e => (headCols_apply x0 _ (by omega) (y 0) e).trans (hu hq _)
      unfold key
      simp only [hc, e1]
  · rw [dif_neg hs, dif_neg (by rw [e1]; exact hs)]
    refine (slots_apply q (y 0) _).trans ?_
    by_cases hq : (q 1).val = 0
    · have hn : (i 0).val % 4608 < 512 := by omega
      simp only [hq, hn, if_true, e1, Own]
    · have hn : ¬ (i 0).val % 4608 < 512 := by omega
      have he : 512 * ((q 1).val - 1) + (y 0).val = (i 0).val % 4608 - 512 := by omega
      simp only [hq, hn, if_false, e1, Own, he]

variable (m : (ℓ : Loc nD τ sig) → Buf (Elt Ideal) ℓ)

/-- The weights as the launch finds them are the argument's, as a row. -/
theorem weights_at (c : Dev nD) (d : Fin 128) : V m c main_v0 (ix2 0 d) = V m c main_arg1 (ix1 d) := by
  unfold V
  after_reads_at

/-- Which rows a point takes; the keys' columns are the third block of 1024. -/
theorem index0 : ∀ t : Fin cfg0.N, win0_0.index t = ![8 * (t.val / 9) + (t.val % 9 - 1), 2] := (by decide +kernel : ∀ t : Fin grid0.N, _)
/-- The weights are taken whole. -/
theorem index1 : ∀ t : Fin cfg0.N, win0_1.index t = ![0, 0] := (by decide +kernel : ∀ t : Fin grid0.N, _)
/-- Which block of the result a point writes. -/
theorem index2 : ∀ t : Fin cfg0.N, win0_2.index t = ![t.val, 0] := (by decide +kernel : ∀ t : Fin grid0.N, _)
/-- A point's row in the grid. -/
theorem row_of : ∀ t : Fin cfg0.N, ((grid0.coords t) 1).val = t.val % 9 := (by decide +kernel : ∀ t : Fin grid0.N, _)

/-- The result array after the run. -/
theorem final (c : Dev nD) : (dats m 0 c).arrAt 2 cfg0.N = allKeys (V m c main_arg0) (V m c main_arg1) := by
  refine (dats m 0 c).arrAt_eq_of_covers 2 _ (by decide +kernel) fun t hf y => ?_
  have h0 : (y 0).val < 512 := (y 0).isLt
  have h1 : (y 1).val < 2048 := (y 1).isLt
  have ht : t.val < 36 := t.isLt
  blk_simp
  rw [after0_2]
  refine block_keys _ _ _ _ _ y _ ?_ ?_ ?_ (fun hq k => ?_) (fun d => ?_)
  · blk_simp [index2]; omega
  · blk_simp [index2]
  · rw [row_of]; blk_simp [index2]; omega
  · rw [row_of] at hq
    blk_simp [iblk]; congr 1; blk_ext [index0, index2]
  · refine Eq.trans ?_ (weights_at m c d)
    blk_simp [iblk]; congr 1; blk_ext [index1]

end Cert.Prep

end
-- ==== Proof.NormSame.lean ====
module

public import proofs.«01_k».proof.Proof.Gen.NormKernelIdeal.Value
public import proofs.«01_k».proof.Proof.Gen.NormReferenceIdeal.Read
public import Idealize.ShloMosaic.Lib.Tactic
public import Idealize.ShloMosaic.Lib.Pipeline.ValueKit
public import Idealize.ShloMosaic.Lib.Pointwise
public import Idealize.ShloMosaic.Lib.StableHlo.ReadAt

/-! The input's normalisation: every entry of the kernel's result and of the reference's is one entry of the input over the root of its row's mean
    square, times its weight. -/

@[expose] public section

set_option maxRecDepth 16384

noncomputable section

namespace Cert.Norm

open Idealize.ShloMosaic Idealize.ShloMosaic.TcCoe

/-- The constant 2048. -/
theorem bits_2048 : Ideal.ofBits .f32 0x45000000#32 = ((2048 : ℝ) : EReal) := by
  simp [Ideal.ofBits, Ideal.ieee]
  rw [← EReal.coe_mul]
  norm_num

/-- The constant 1/2048. -/
theorem bits_inv_2048 : Ideal.ofBits .f32 0x3A000000#32 = ((1 / 2048 : ℝ) : EReal) := by
  simp [Ideal.ofBits, Ideal.ieee]
  rw [← EReal.coe_mul]
  norm_num

/-- One over the root of a row's mean square. -/
def invRms (x : Fin 2048 → EReal) : EReal :=
  Ideal.rsqrt ((∑ e : Fin 2048, x e * x e) * ((1 / 2048 : ℝ) : EReal) + Ideal.ofBits .f32 0x358637BD#32)

/-- The whole result: the normalised rows, transposed. -/
def normalised (x : Vec Ideal Cert.NormKernelIdeal.S16384x2048 .f32) (g : Vec Ideal Cert.NormKernelIdeal.S2048 .f32) :
    Vec Ideal Cert.NormKernelIdeal.S2048x16384 .bf16 := fun i =>
  x (ix2 (i 1) (i 0)) * invRms (fun e => x (ix2 (i 1) e)) * g (ix1 (i 0))

/-- The reference computes the normalised rows. -/
theorem reference_normalised (x : Vec Ideal Cert.NormKernelIdeal.S16384x2048 .f32) (g : Vec Ideal Cert.NormKernelIdeal.S2048 .f32) :
    Cert.NormReferenceIdeal.Read.val_main_v14 (F := Ideal) x g = normalised x g := by
  open Cert.NormReferenceIdeal.Read in
  funext i
  unfold normalised invRms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rw [bits_2048, Ideal.div_coe (by norm_num)]

open Cert.NormKernelIdeal Cert.NormKernelIdeal.Gen

/-- The block that a grid point stores: its normalised rows, transposed. -/
theorem block_apply (x0 : Vec Ideal S512x2048 .f32) (x1 : Vec Ideal S1x2048 .f32) (y : S2048x512.Idx) :
    out0_2 (F := Ideal) x0 x1 y = x0 (ix2 (y 1) (y 0)) * invRms (fun e => x0 (ix2 (y 1) e)) * x1 (ix2 0 (y 0)) := by
  have hz : (![0, 0] : Fin 2 → Nat) = fun _ => 0 := by funext a; fin_cases a <;> rfl
  unfold out0_2 invRms
  rw [View.canon_unit_zero hz, View.ld_unit_zero hz, View.ld_unit_zero hz]
  unfold_payloads
  pointwise
  rw [bits_inv_2048]

/-- Where the blocks hold a row and the weights of the whole arrays, the stored block holds the result's entry. -/
theorem block_normalised (x : Vec Ideal S16384x2048 .f32) (g : Vec Ideal S2048 .f32) (x0 : Vec Ideal S512x2048 .f32) (x1 : Vec Ideal S1x2048 .f32)
    (y : S2048x512.Idx) (i : S2048x16384.Idx) (h0 : ∀ k : Fin 2048, x0 (ix2 (y 1) k) = x (ix2 (i 1) k))
    (h1 : x1 (ix2 0 (y 0)) = g (ix1 (i 0))) (e0 : (i 0).val = (y 0).val) : out0_2 (F := Ideal) x0 x1 y = normalised x g i := by
  have e : i 0 = y 0 := Fin.ext e0
  rw [block_apply]
  unfold normalised
  have hk := h0 (y 0)
  simp only [h0, h1, e]
  exact congrArg (· * _) (congrArg (· * _) hk)

variable (m : (ℓ : Loc nD τ sig) → Buf (Elt Ideal) ℓ)

/-- The weights as the launch finds them are the argument's, as a row. -/
theorem weights_at (c : Dev nD) (d : Fin 2048) : V m c main_v0 (ix2 0 d) = V m c main_arg1 (ix1 d) := by
  unfold V
  after_reads_at

/-- Which rows of the input a point takes. -/
theorem index0 : ∀ t : Fin cfg0.N, win0_0.index t = ![t.val, 0] := (by decide +kernel : ∀ t : Fin grid0.N, _)
/-- The weights are taken whole. -/
theorem index1 : ∀ t : Fin cfg0.N, win0_1.index t = ![0, 0] := (by decide +kernel : ∀ t : Fin grid0.N, _)
/-- Which block of the result a point writes. -/
theorem index2 : ∀ t : Fin cfg0.N, win0_2.index t = ![0, t.val] := (by decide +kernel : ∀ t : Fin grid0.N, _)

/-- The result array after the run is the normalised rows of the arguments. -/
theorem final (c : Dev nD) : (dats m 0 c).arrAt 2 cfg0.N = normalised (V m c main_arg0) (V m c main_arg1) := by
  refine (dats m 0 c).arrAt_eq_of_covers 2 _ (by decide +kernel) fun t hf y => ?_
  blk_simp
  rw [after0_2]
  refine block_normalised _ _ _ _ y _ (fun k => ?_) ?_ ?_
  · blk_simp [iblk]
    congr 1
    blk_ext [index0, index2]
  · refine Eq.trans ?_ (weights_at m c _)
    blk_simp [iblk]
    congr 1
    blk_ext [index1, index2]
  · blk_simp [index2]

end Cert.Norm

end
-- ==== Proof.SortMap.lean ====
module

public import proofs.«01_k».proof.Proof.Gen.SortReferenceIdeal.Read
public import proofs.«01_k».proof.Proof.Gen.SortKernelIdeal.Value
public import Idealize.ShloMosaic.Lib.Pointwise
public import Idealize.ShloMosaic.Lib.Pipeline.ValueKit

/-! The input weights sorted by where they are used: which column of the weights each column of the sorted arrays is, and that the reference sorts
    them so. -/

@[expose] public section

set_option maxRecDepth 16384

noncomputable section

namespace Cert.Sort

open Idealize.ShloMosaic Idealize.ShloMosaic.TcCoe Cert.SortKernelIdeal

/-- The column of the weights that a column of the main array holds: four gate and key pieces, the merge's gates, the latents. -/
def pickMain (k : Nat) : Nat :=
  if k < 1024 then 832 + k else if k < 2048 then 3904 + k else if k < 3072 then 4928 + k else if k < 10240 then 5952 + k else k - 10240

/-- The column of the weights that a row of the differential branch's array holds: queries, values, keys. -/
def pickB (k : Nat) : Nat := if k < 1024 then 1856 + k else if k < 2048 then 2880 + k else 832 + k

/-- The column of the weights that a row of the band branch's array holds: queries, values. -/
def pickC (k : Nat) : Nat := if k < 1024 then 5952 + k else 6976 + k

/-- The main array's columns are the weights'. -/
theorem pickMain_lt (k : Nat) (h : k < 11008) : pickMain k < 16192 := by unfold pickMain; split_ifs <;> omega
/-- The differential branch's rows are the weights' columns. -/
theorem pickB_lt (k : Nat) (h : k < 3072) : pickB k < 16192 := by unfold pickB; split_ifs <;> omega
/-- The band branch's rows are the weights' columns. -/
theorem pickC_lt (k : Nat) (h : k < 2048) : pickC k < 16192 := by unfold pickC; split_ifs <;> omega

/-- The main array of the first layer's weights, zero in the last 256 columns. -/
def mainArr (w : Vec Ideal S2x2048x16192 .f32) : Vec Ideal S2048x11264 .bf16 := fun i =>
  if h : (i 1).val < 11008 then w (ix3 0 (i 0) ⟨pickMain (i 1).val, pickMain_lt _ h⟩) else 0

/-- The differential branch's array of the first layer's weights. -/
def arrB (w : Vec Ideal S2x2048x16192 .f32) : Vec Ideal S3072x2048 .bf16 := fun i =>
  w (ix3 0 (i 1) ⟨pickB (i 0).val, pickB_lt _ (i 0).isLt⟩)

/-- The band branch's array of the first layer's weights. -/
def arrC (w : Vec Ideal S2x2048x16192 .f32) : Vec Ideal S2048x2048 .bf16 := fun i =>
  w (ix3 0 (i 1) ⟨pickC (i 0).val, pickC_lt _ (i 0).isLt⟩)

/-- The shared key's array of the first layer's weights, zero in the last 64 columns. -/
def arrK (w : Vec Ideal S2x2048x16192 .f32) : Vec Ideal S2048x128 .bf16 := fun i =>
  if h : (i 1).val < 64 then w (ix3 0 (i 0) ⟨768 + (i 1).val, by omega⟩) else 0

open Cert.SortReferenceIdeal.Read

/-- The reference's main array. -/
theorem reference_main (w : Vec Ideal S2x2048x16192 .f32) : val_main_v17 (F := Ideal) w = mainArr w := by
  funext i
  have hi : (i 1).val < 11264 := (i 1).isLt
  by_cases hk : (i 1).val < 11008
  · refine Eq.trans ?_ (dif_pos hk).symm
    pointwise [val_main_v17, val_main_v16, val_main_v15, val_main_v13, val_main_v11, val_main_v7, val_main_v6, val_main_v5, val_main_v3,
      val_main_v2, val_main_v1, val_main_v0, val_main_cst]
    split_ifs <;> first
      | omega
      | (refine congrArg (fun n => w (ix3 0 (i 0) n)) (Fin.ext ?_); unfold pickMain; dsimp only; split_ifs <;> omega)
  · refine Eq.trans ?_ (dif_neg hk).symm
    pointwise [val_main_v17, val_main_v16, val_main_v15, val_main_v13, val_main_v11, val_main_v7, val_main_v6, val_main_v5, val_main_v3,
      val_main_v2, val_main_v1, val_main_v0, val_main_cst]
    split_ifs <;> first
      | rfl
      | omega

/-- The reference's array of the differential branch. -/
theorem reference_B (w : Vec Ideal S2x2048x16192 .f32) : val_main_v19 (F := Ideal) w = arrB w := by
  funext i
  unfold arrB
  pointwise [val_main_v19, val_main_v18, val_main_v10, val_main_v9, val_main_v8, val_main_v5, val_main_v2, val_main_v1, val_main_v0]
  split_ifs <;> (refine congrArg (fun n => w (ix3 0 (i 1) n)) (Fin.ext ?_); unfold pickB; dsimp only; split_ifs <;> omega)

/-- The reference's array of the band branch. -/
theorem reference_C (w : Vec Ideal S2x2048x16192 .f32) : val_main_v21 (F := Ideal) w = arrC w := by
  funext i
  unfold arrC
  pointwise [val_main_v21, val_main_v20, val_main_v12, val_main_v14, val_main_v5, val_main_v2, val_main_v1, val_main_v0]
  split_ifs <;> (refine congrArg (fun n => w (ix3 0 (i 1) n)) (Fin.ext ?_); unfold pickC; dsimp only; split_ifs <;> omega)

/-- The reference's array of the shared key. -/
theorem reference_K (w : Vec Ideal S2x2048x16192 .f32) : val_main_v23 (F := Ideal) w = arrK w := by
  funext i
  unfold arrK
  pointwise [val_main_v23, val_main_v22, val_main_v4, val_main_v2, val_main_v1, val_main_v0, val_main_cst_0]
-- ==== Proof.SortTile.lean ====
module

public import proofs.«01_k».proof.Proof.SortMap
public import Idealize.ShloMosaic.Lib.Tactic
public import Idealize.ShloMosaic.Lib.Pipeline.ReadBack

/-! What one grid point leaves in the four output blocks when it sorts the input weights. -/

@[expose] public section

set_option maxRecDepth 16384

noncomputable section

namespace Cert.Sort

open Cert.SortKernelIdeal Cert.SortKernelIdeal.Gen Idealize.ShloMosaic Idealize.ShloMosaic.TcCoe

/-- The block of the main array. -/
def mainBlock (x0 : Vec Ideal S1x16192x128 .f32) : Vec Ideal S128x11264 .bf16 := fun y =>
  if h : (y 1).val < 11008 then x0 (ix3 0 ⟨pickMain (y 1).val, pickMain_lt _ h⟩ (y 0)) else 0

/-- The block of the differential branch's array. -/
def blockB (x0 : Vec Ideal S1x16192x128 .f32) : Vec Ideal S3072x128 .bf16 := fun y =>
  x0 (ix3 0 ⟨pickB (y 0).val, pickB_lt _ (y 0).isLt⟩ (y 1))

/-- The block of the band branch's array. -/
def blockC (x0 : Vec Ideal S1x16192x128 .f32) : Vec Ideal S2048x128 .bf16 := fun y =>
  x0 (ix3 0 ⟨pickC (y 0).val, pickC_lt _ (y 0).isLt⟩ (y 1))

/-- The block of the shared key's array. -/
def blockK (x0 : Vec Ideal S1x16192x128 .f32) : Vec Ideal S128x128 .bf16 := fun y =>
  if h : (y 1).val < 64 then x0 (ix3 0 ⟨768 + (y 1).val, by omega⟩ (y 0)) else 0

/-- A piece of 1024 columns of the main block. -/
theorem main_piece (x0 : Vec Ideal S1x16192x128 .f32) (o s : Nat) (inb : ∀ d, (![0, o] : Fin 2 → Nat) d + S128x1024.size d ≤ S128x11264.size d)
    (w : S128x1024.Idx → EReal) (hs : s + 1024 ≤ 16192) (ho : o + 1024 ≤ 11008) (hp : ∀ k, o ≤ k → k < o + 1024 → pickMain k = k - o + s)
    (e : ∀ x : S128x1024.Idx, w x = x0 (ix3 0 ⟨s + (x 1).val, by have h : (x 1).val < 1024 := (x 1).isLt; omega⟩ (x 0))) (x : S128x1024.Idx) :
    w x = mainBlock x0 ((Rect.unit (s := S128x11264) ![0, o] S128x1024.size inb).emb x) := by
  have e0 : (((Rect.unit (s := S128x11264) ![0, o] S128x1024.size inb).emb x) 0).val = 0 + (x 0).val := Rect.idx_unit_val (s := S128x11264) ![0, o] S128x1024.size inb x 0
  have e1 : (((Rect.unit (s := S128x11264) ![0, o] S128x1024.size inb).emb x) 1).val = o + (x 1).val := Rect.idx_unit_val (s := S128x11264) ![0, o] S128x1024.size inb x 1
  have h1 : (x 1).val < 1024 := (x 1).isLt
  refine (e x).trans (Eq.trans ?_ (dif_pos (by rw [e1]; omega)).symm)
  refine congrArg₂ (fun n r => x0 (ix3 0 n r)) (Fin.ext ?_) (Fin.ext ?_)
  · have h := hp (o + (x 1).val) (by omega) (by omega)
    dsimp only
    rw [e1]
    omega
  · refine Eq.trans ?_ e0.symm
    show (x 0).val = _
    omega

/-- The latents' columns of the main block. -/
theorem main_latents (x0 : Vec Ideal S1x16192x128 .f32) (o s : Nat) (inb : ∀ d, (![0, o] : Fin 2 → Nat) d + S128x768.size d ≤ S128x11264.size d)
    (w : S128x768.Idx → EReal) (hs : s + 768 ≤ 16192) (ho : o + 768 ≤ 11008) (hp : ∀ k, o ≤ k → k < o + 768 → pickMain k = k - o + s)
    (e : ∀ x : S128x768.Idx, w x = x0 (ix3 0 ⟨s + (x 1).val, by have h : (x 1).val < 768 := (x 1).isLt; omega⟩ (x 0))) (x : S128x768.Idx) :
    w x = mainBlock x0 ((Rect.unit (s := S128x11264) ![0, o] S128x768.size inb).emb x) := by
  have e0 : (((Rect.unit (s := S128x11264) ![0, o] S128x768.size inb).emb x) 0).val = 0 + (x 0).val := Rect.idx_unit_val (s := S128x11264) ![0, o] S128x768.size inb x 0
  have e1 : (((Rect.unit (s := S128x11264) ![0, o] S128x768.size inb).emb x) 1).val = o + (x 1).val := Rect.idx_unit_val (s := S128x11264) ![0, o] S128x768.size inb x 1
  have h1 : (x 1).val < 768 := (x 1).isLt
  refine (e x).trans (Eq.trans ?_ (dif_pos (by rw [e1]; omega)).symm)
  refine congrArg₂ (fun n r => x0 (ix3 0 n r)) (Fin.ext ?_) (Fin.ext ?_)
  · have h := hp (o + (x 1).val) (by omega) (by omega)
    dsimp only
    rw [e1]
    omega
  · refine Eq.trans ?_ e0.symm
    show (x 0).val = _
    omega

/-- The last columns of the main block are zero. -/
theorem main_zero (x0 : Vec Ideal S1x16192x128 .f32) (inb : ∀ d, (![0, 11008] : Fin 2 → Nat) d + S128x256.size d ≤ S128x11264.size d)
    (w : S128x256.Idx → EReal) (e : ∀ x : S128x256.Idx, w x = 0) (x : S128x256.Idx) :
    w x = mainBlock x0 ((Rect.unit (s := S128x11264) ![0, 11008] S128x256.size inb).emb x) := by
  have e1 : (((Rect.unit (s := S128x11264) ![0, 11008] S128x256.size inb).emb x) 1).val = 11008 + (x 1).val := Rect.idx_unit_val (s := S128x11264) ![0, 11008] S128x256.size inb x 1
  refine (e x).trans (Eq.symm (dif_neg ?_))
  rw [e1]
  omega

/-- The columns of the shared key's block. -/
theorem shared_piece (x0 : Vec Ideal S1x16192x128 .f32) (o s : Nat) (inb : ∀ d, (![0, o] : Fin 2 → Nat) d + S128x64.size d ≤ S128x128.size d)
    (w : S128x64.Idx → EReal) (hs : s + 64 ≤ 16192) (ho : o + 64 ≤ 64) (hp : ∀ k, o ≤ k → k < o + 64 → 768 + k = k - o + s)
    (e : ∀ x : S128x64.Idx, w x = x0 (ix3 0 ⟨s + (x 1).val, by have h : (x 1).val < 64 := (x 1).isLt; omega⟩ (x 0))) (x : S128x64.Idx) :
    w x = blockK x0 ((Rect.unit (s := S128x128) ![0, o] S128x64.size inb).emb x) := by
  have e0 : (((Rect.unit (s := S128x128) ![0, o] S128x64.size inb).emb x) 0).val = 0 + (x 0).val := Rect.idx_unit_val (s := S128x128) ![0, o] S128x64.size inb x 0
  have e1 : (((Rect.unit (s := S128x128) ![0, o] S128x64.size inb).emb x) 1).val = o + (x 1).val := Rect.idx_unit_val (s := S128x128) ![0, o] S128x64.size inb x 1
  have h1 : (x 1).val < 64 := (x 1).isLt
  refine (e x).trans (Eq.trans ?_ (dif_pos (by rw [e1]; omega)).symm)
  refine congrArg₂ (fun n r => x0 (ix3 0 n r)) (Fin.ext ?_) (Fin.ext ?_)
  · have h := hp (o + (x 1).val) (by omega) (by omega)
    dsimp only
    rw [e1]
    omega
  · refine Eq.trans ?_ e0.symm
    show (x 0).val = _
    omega

/-- The last columns of the shared key's block are zero. -/
theorem shared_zero (x0 : Vec Ideal S1x16192x128 .f32) (inb : ∀ d, (![0, 64] : Fin 2 → Nat) d + S128x64.size d ≤ S128x128.size d)
    (w : S128x64.Idx → EReal) (e : ∀ x : S128x64.Idx, w x = 0) (x : S128x64.Idx) :
    w x = blockK x0 ((Rect.unit (s := S128x128) ![0, 64] S128x64.size inb).emb x) := by
  have e1 : (((Rect.unit (s := S128x128) ![0, 64] S128x64.size inb).emb x) 1).val = 64 + (x 1).val := Rect.idx_unit_val (s := S128x128) ![0, 64] S128x64.size inb x 1
  refine (e x).trans (Eq.symm (dif_neg ?_))
  rw [e1]
  omega

/-- A piece of 1024 rows of the differential branch's block. -/
theorem rows_B (x0 : Vec Ideal S1x16192x128 .f32) (o s : Nat) (inb : ∀ d, (![o, 0] : Fin 2 → Nat) d + S1024x128.size d ≤ S3072x128.size d)
    (w : S1024x128.Idx → EReal) (hs : s + 1024 ≤ 16192) (hp : ∀ k, o ≤ k → k < o + 1024 → pickB k = k - o + s)
    (e : ∀ x : S1024x128.Idx, w x = x0 (ix3 0 ⟨s + (x 0).val, by have h : (x 0).val < 1024 := (x 0).isLt; omega⟩ (x 1))) (x : S1024x128.Idx) :
    w x = blockB x0 ((Rect.unit (s := S3072x128) ![o, 0] S1024x128.size inb).emb x) := by
  have e0 : (((Rect.unit (s := S3072x128) ![o, 0] S1024x128.size inb).emb x) 0).val = o + (x 0).val := Rect.idx_unit_val (s := S3072x128) ![o, 0] S1024x128.size inb x 0
  have e1 : (((Rect.unit (s := S3072x128) ![o, 0] S1024x128.size inb).emb x) 1).val = 0 + (x 1).val := Rect.idx_unit_val (s := S3072x128) ![o, 0] S1024x128.size inb x 1
  have h0 : (x 0).val < 1024 := (x 0).isLt
  refine (e x).trans ?_
  unfold blockB
  refine congrArg₂ (fun n r => x0 (ix3 0 n r)) (Fin.ext ?_) (Fin.ext ?_)
  · have h := hp (o + (x 0).val) (by omega) (by omega)
    dsimp only
    rw [e0]
    omega
  · refine Eq.trans ?_ e1.symm
    show (x 1).val = _
    omega

/-- A piece of 1024 rows of the band branch's block. -/
theorem rows_C (x0 : Vec Ideal S1x16192x128 .f32) (o s : Nat) (inb : ∀ d, (![o, 0] : Fin 2 → Nat) d + S1024x128.size d ≤ S2048x128.size d)
    (w : S1024x128.Idx → EReal) (hs : s + 1024 ≤ 16192) (hp : ∀ k, o ≤ k → k < o + 1024 → pickC k = k - o + s)
    (e : ∀ x : S1024x128.Idx, w x = x0 (ix3 0 ⟨s + (x 0).val, by have h : (x 0).val < 1024 := (x 0).isLt; omega⟩ (x 1))) (x : S1024x128.Idx) :
    w x = blockC x0 ((Rect.unit (s := S2048x128) ![o, 0] S1024x128.size inb).emb x) := by
  have e0 : (((Rect.unit (s := S2048x128) ![o, 0] S1024x128.size inb).emb x) 0).val = o + (x 0).val := Rect.idx_unit_val (s := S2048x128) ![o, 0] S1024x128.size inb x 0
  have e1 : (((Rect.unit (s := S2048x128) ![o, 0] S1024x128.size inb).emb x) 1).val = 0 + (x 1).val := Rect.idx_unit_val (s := S2048x128) ![o, 0] S1024x128.size inb x 1
  have h0 : (x 0).val < 1024 := (x 0).isLt
  refine (e x).trans ?_
  unfold blockC
  refine congrArg₂ (fun n r => x0 (ix3 0 n r)) (Fin.ext ?_) (Fin.ext ?_)
  · have h := hp (o + (x 0).val) (by omega) (by omega)
    dsimp only
    rw [e0]
    omega
  · refine Eq.trans ?_ e1.symm
    show (x 1).val = _
    omega

/-- The stores into the main array's block are that block. -/
theorem out1_eq (c : Dev nD) (i : grid0.Coords) (arg1 : Memref sig .tc .vmem S1x16192x128 .f32) (harg1 : arg1.IsWhole) (arg2 : Memref sig .tc .vmem S128x11264 .bf16)
    (harg2 : arg2.IsWhole) (arg3 : Memref sig .tc .vmem S3072x128 .bf16) (harg3 : arg3.IsWhole) (arg4 : Memref sig .tc .vmem S2048x128 .bf16)
    (harg4 : arg4.IsWhole) (arg5 : Memref sig .tc .vmem S128x128 .bf16) (harg5 : arg5.IsWhole) (x0 : Vec Ideal S1x16192x128 .f32) :
    out0_A_1 (F := Ideal) c i arg1 harg1 arg2 harg2 arg3 harg3 arg4 harg4 arg5 harg5 x0 = mainBlock x0 := by
  have hc := cover0_A_1 (F := Ideal) c i arg1 harg1 arg2 harg2 arg3 harg3 arg4 harg4 arg5 harg5 x0
  unfold out0_A_1
  rw [View.read_writes_eq_canon _ _ _ hc]
  funext y
  suffices hP : View.PiecesOf (mainBlock x0) (kernelRun0_A (F := Ideal) c i arg1 harg1 arg2 harg2 arg3 harg3 arg4 harg4 arg5 harg5 x0).1 from
    View.canon_apply_of_pieces _ _ hP.mem y (hc y)
  unfold kernelRun0_A
  dsimp only
  sl_unfold_words
  simp (disch := decide) only [↓View.readCov_fill, View.readAt_eq_ld, Memref.IsWhole.read_unread]
  refine ⟨main_zero x0 inb_S128x11264_S128x256_0_11008 _ (fun x => ?_), main_latents x0 10240 0 inb_S128x11264_S128x768_0_10240 _ (by decide) (by decide) (by intro k h1 h2; unfold pickMain; split_ifs <;> omega) (fun x => ?_),
    main_piece x0 9216 15168 inb_S128x11264_S128x1024_0_9216 _ (by decide) (by decide) (by intro k h1 h2; unfold pickMain; split_ifs <;> omega) (fun x => ?_),
    main_piece x0 8192 14144 inb_S128x11264_S128x1024_0_8192 _ (by decide) (by decide) (by intro k h1 h2; unfold pickMain; split_ifs <;> omega) (fun x => ?_),
    main_piece x0 7168 13120 inb_S128x11264_S128x1024_0_7168 _ (by decide) (by decide) (by intro k h1 h2; unfold pickMain; split_ifs <;> omega) (fun x => ?_),
    main_piece x0 6144 12096 inb_S128x11264_S128x1024_0_6144 _ (by decide) (by decide) (by intro k h1 h2; unfold pickMain; split_ifs <;> omega) (fun x => ?_),
    main_piece x0 5120 11072 inb_S128x11264_S128x1024_0_5120 _ (by decide) (by decide) (by intro k h1 h2; unfold pickMain; split_ifs <;> omega) (fun x => ?_),
    main_piece x0 4096 10048 inb_S128x11264_S128x1024_0_4096 _ (by decide) (by decide) (by intro k h1 h2; unfold pickMain; split_ifs <;> omega) (fun x => ?_),
    main_piece x0 3072 9024 inb_S128x11264_S128x1024_0_3072 _ (by decide) (by decide) (by intro k h1 h2; unfold pickMain; split_ifs <;> omega) (fun x => ?_),
    main_piece x0 2048 6976 inb_S128x11264_S128x1024_0_2048 _ (by decide) (by decide) (by intro k h1 h2; unfold pickMain; split_ifs <;> omega) (fun x => ?_),
    main_piece x0 1024 4928 inb_S128x11264_S128x1024_0_1024 _ (by decide) (by decide) (by intro k h1 h2; unfold pickMain; split_ifs <;> omega) (fun x => ?_),
    main_piece x0 0 832 inb_S128x11264_S128x1024_0_0 _ (by decide) (by decide) (by intro k h1 h2; unfold pickMain; split_ifs <;> omega) (fun x => ?_), trivial⟩
  all_goals
    unfold_payloads
    pointwise

/-- The stores into the block of the differential branch's array are that block. -/
theorem out2_eq (c : Dev nD) (i : grid0.Coords) (arg1 : Memref sig .tc .vmem S1x16192x128 .f32) (harg1 : arg1.IsWhole) (arg2 : Memref sig .tc .vmem S128x11264 .bf16)
    (harg2 : arg2.IsWhole) (arg3 : Memref sig .tc .vmem S3072x128 .bf16) (harg3 : arg3.IsWhole) (arg4 : Memref sig .tc .vmem S2048x128 .bf16)
    (harg4 : arg4.IsWhole) (arg5 : Memref sig .tc .vmem S128x128 .bf16) (harg5 : arg5.IsWhole) (x0 : Vec Ideal S1x16192x128 .f32) :
    out0_A_2 (F := Ideal) c i arg1 harg1 arg2 harg2 arg3 harg3 arg4 harg4 arg5 harg5 x0 = blockB x0 := by
  have hc := cover0_A_2 (F := Ideal) c i arg1 harg1 arg2 harg2 arg3 harg3 arg4 harg4 arg5 harg5 x0
  unfold out0_A_2
  rw [View.read_writes_eq_canon _ _ _ hc]
  funext y
  suffices hP : View.PiecesOf (blockB x0) (kernelRun0_A (F := Ideal) c i arg1 harg1 arg2 harg2 arg3 harg3 arg4 harg4 arg5 harg5 x0).2.1 from
    View.canon_apply_of_pieces _ _ hP.mem y (hc y)
  unfold kernelRun0_A
  dsimp only
  sl_unfold_words
  simp (disch := decide) only [↓View.readCov_fill, View.readAt_eq_ld, Memref.IsWhole.read_unread]
  refine ⟨rows_B x0 2048 2880 inb_S3072x128_S1024x128_2048_0 _ (by decide) (by intro k h1 h2; unfold pickB; split_ifs <;> omega) (fun x => ?_),
    rows_B x0 1024 3904 inb_S3072x128_S1024x128_1024_0 _ (by decide) (by intro k h1 h2; unfold pickB; split_ifs <;> omega) (fun x => ?_),
    rows_B x0 0 1856 inb_S3072x128_S1024x128_0_0 _ (by decide) (by intro k h1 h2; unfold pickB; split_ifs <;> omega) (fun x => ?_), trivial⟩
  all_goals
    unfold_payloads
    pointwise

/-- The stores into the block of the band branch's array are that block. -/
theorem out3_eq (c : Dev nD) (i : grid0.Coords) (arg1 : Memref sig .tc .vmem S1x16192x128 .f32) (harg1 : arg1.IsWhole) (arg2 : Memref sig .tc .vmem S128x11264 .bf16)
    (harg2 : arg2.IsWhole) (arg3 : Memref sig .tc .vmem S3072x128 .bf16) (harg3 : arg3.IsWhole) (arg4 : Memref sig .tc .vmem S2048x128 .bf16)
    (harg4 : arg4.IsWhole) (arg5 : Memref sig .tc .vmem S128x128 .bf16) (harg5 : arg5.IsWhole) (x0 : Vec Ideal S1x16192x128 .f32) :
    out0_A_3 (F := Ideal) c i arg1 harg1 arg2 harg2 arg3 harg3 arg4 harg4 arg5 harg5 x0 = blockC x0 := by
  have hc := cover0_A_3 (F := Ideal) c i arg1 harg1 arg2 harg2 arg3 harg3 arg4 harg4 arg5 harg5 x0
  unfold out0_A_3
  rw [View.read_writes_eq_canon _ _ _ hc]
  funext y
  suffices hP : View.PiecesOf (blockC x0) (kernelRun0_A (F := Ideal) c i arg1 harg1 arg2 harg2 arg3 harg3 arg4 harg4 arg5 harg5 x0).2.2.1 from
    View.canon_apply_of_pieces _ _ hP.mem y (hc y)
  unfold kernelRun0_A
  dsimp only
  sl_unfold_words
  simp (disch := decide) only [↓View.readCov_fill, View.readAt_eq_ld, Memref.IsWhole.read_unread]
  refine ⟨rows_C x0 1024 8000 inb_S2048x128_S1024x128_1024_0 _ (by decide) (by intro k h1 h2; unfold pickC; split_ifs <;> omega) (fun x => ?_),
    rows_C x0 0 5952 inb_S2048x128_S1024x128_0_0 _ (by decide) (by intro k h1 h2; unfold pickC; split_ifs <;> omega) (fun x => ?_), trivial⟩
  all_goals
    unfold_payloads
    pointwise

/-- The stores into the block of the shared key's array are that block. -/
theorem out4_eq (c : Dev nD) (i : grid0.Coords) (arg1 : Memref sig .tc .vmem S1x16192x128 .f32) (harg1 : arg1.IsWhole) (arg2 : Memref sig .tc .vmem S128x11264 .bf16)
    (harg2 : arg2.IsWhole) (arg3 : Memref sig .tc .vmem S3072x128 .bf16) (harg3 : arg3.IsWhole) (arg4 : Memref sig .tc .vmem S2048x128 .bf16)
    (harg4 : arg4.IsWhole) (arg5 : Memref sig .tc .vmem S128x128 .bf16) (harg5 : arg5.IsWhole) (x0 : Vec Ideal S1x16192x128 .f32) :
    out0_A_4 (F := Ideal) c i arg1 harg1 arg2 harg2 arg3 harg3 arg4 harg4 arg5 harg5 x0 = blockK x0 := by
  have hc := cover0_A_4 (F := Ideal) c i arg1 harg1 arg2 harg2 arg3 harg3 arg4 harg4 arg5 harg5 x0
  unfold out0_A_4
  rw [View.read_writes_eq_canon _ _ _ hc]
  funext y
  suffices hP : View.PiecesOf (blockK x0) (kernelRun0_A (F := Ideal) c i arg1 harg1 arg2 harg2 arg3 harg3 arg4 harg4 arg5 harg5 x0).2.2.2.1 from
    View.canon_apply_of_pieces _ _ hP.mem y (hc y)
  unfold kernelRun0_A
  dsimp only
  sl_unfold_words
  simp (disch := decide) only [↓View.readCov_fill, View.readAt_eq_ld, Memref.IsWhole.read_unread]
  refine ⟨shared_zero x0 inb_S128x128_S128x64_0_64 _ (fun x => ?_), shared_piece x0 0 768 inb_S128x128_S128x64_0_0 _ (by decide) (by decide) (by intro k _ _; omega) (fun x => ?_), trivial⟩
  all_goals
    unfold_payloads
    pointwise

end Cert.Sort

end
-- ==== Proof.SortSame.lean ====
module

public import proofs.«01_k».proof.Proof.SortTile
public import Idealize.ShloMosaic.Lib.StableHlo.ReadAt

/-! The sorted input weights: the kernel's four result arrays after the run are the sorted arrays of the argument. -/

@[expose] public section

set_option maxRecDepth 16384

noncomputable section

namespace Cert.Sort

open Idealize.ShloMosaic Idealize.ShloMosaic.TcCoe
open Cert.SortKernelIdeal Cert.SortKernelIdeal.Gen

variable (m : (ℓ : Loc nD τ sig) → Buf (Elt Ideal) ℓ)

/-- The transposed weights as the launch finds them. -/
theorem weights_at (c : Dev nD) (k : Fin 16192) (d : Fin 2048) : V m c main_v0 (ix3 0 k d) = V m c main_arg0 (ix3 0 d k) := by
  unfold V
  after_reads_at

/-- Which rows of the weights a point takes, of the first layer. -/
theorem index0 : ∀ t : Fin cfg0.N, win0_0.index t = ![0, 0, t.val] := (by decide +kernel : ∀ t : Fin grid0.N, _)
/-- Which block of the main array a point writes. -/
theorem index1 : ∀ t : Fin cfg0.N, win0_1.index t = ![t.val, 0] := (by decide +kernel : ∀ t : Fin grid0.N, _)
/-- Which block of the differential branch's array a point writes. -/
theorem index2 : ∀ t : Fin cfg0.N, win0_2.index t = ![0, t.val] := (by decide +kernel : ∀ t : Fin grid0.N, _)
/-- Which block of the band branch's array a point writes. -/
theorem index3 : ∀ t : Fin cfg0.N, win0_3.index t = ![0, t.val] := (by decide +kernel : ∀ t : Fin grid0.N, _)
/-- Which block of the shared key's array a point writes. -/
theorem index4 : ∀ t : Fin cfg0.N, win0_4.index t = ![t.val, 0] := (by decide +kernel : ∀ t : Fin grid0.N, _)

/-- A point's block of the weights is 128 of the first layer's rows, transposed. -/
theorem iblk_at (c : Dev nD) (t : Fin cfg0.N) (k : Fin 16192) (r : Fin 128) (d : Fin 2048) (hd : d.val = t.val * 128 + r.val) :
    iblk m c 0 t (ix3 0 k r) = V m c main_arg0 (ix3 0 d k) := by
  refine Eq.trans ?_ (weights_at m c k d)
  blk_simp [iblk]
  congr 1
  blk_ext [index0, hd]

/-- The main array after the run. -/
theorem final1 (c : Dev nD) : (dats m 0 c).arrAt 1 cfg0.N = mainArr (V m c main_arg0) := by
  refine (dats m 0 c).arrAt_eq_of_covers 1 _ (by decide +kernel) fun t hf y => ?_
  blk_simp
  rw [after0_1]
  unfold outsAt0
  dsimp only
  rw [out1_eq]
  have main_of : ∀ (x0 : Vec Ideal S1x16192x128 .f32) (w : Vec Ideal S2x2048x16192 .f32) (y : S128x11264.Idx) (i : S2048x11264.Idx),
      (i 1).val = (y 1).val → (∀ k : Fin 16192, x0 (ix3 0 k (y 0)) = w (ix3 0 (i 0) k)) → mainBlock x0 y = mainArr w i := by
    intro x0 w y i e h
    unfold mainBlock mainArr
    simp only [h, e]
  refine main_of _ _ y _ ?_ fun k => iblk_at m c t k _ _ ?_
  · blk_simp [index1]
  · blk_simp [index1]

/-- The differential branch's array after the run. -/
theorem final2 (c : Dev nD) : (dats m 0 c).arrAt 2 cfg0.N = arrB (V m c main_arg0) := by
  refine (dats m 0 c).arrAt_eq_of_covers 2 _ (by decide +kernel) fun t hf y => ?_
  blk_simp
  rw [after0_2]
  unfold outsAt0
  dsimp only
  rw [out2_eq]
  have of : ∀ (x0 : Vec Ideal S1x16192x128 .f32) (w : Vec Ideal S2x2048x16192 .f32) (y : S3072x128.Idx) (i : S3072x2048.Idx),
      (i 0).val = (y 0).val → (∀ k : Fin 16192, x0 (ix3 0 k (y 1)) = w (ix3 0 (i 1) k)) → blockB x0 y = arrB w i := by
    intro x0 w y i e h
    unfold blockB arrB
    simp only [h, e]
  refine of _ _ y _ ?_ fun k => iblk_at m c t k _ _ ?_
  · blk_simp [index2]
  · blk_simp [index2]

/-- The band branch's array after the run. -/
theorem final3 (c : Dev nD) : (dats m 0 c).arrAt 3 cfg0.N = arrC (V m c main_arg0) := by
  refine (dats m 0 c).arrAt_eq_of_covers 3 _ (by decide +kernel) fun t hf y => ?_
  blk_simp
  rw [after0_3]
  unfold outsAt0
  dsimp only
  rw [out3_eq]
  have of : ∀ (x0 : Vec Ideal S1x16192x128 .f32) (w : Vec Ideal S2x2048x16192 .f32) (y : S2048x128.Idx) (i : S2048x2048.Idx),
      (i 0).val = (y 0).val → (∀ k : Fin 16192, x0 (ix3 0 k (y 1)) = w (ix3 0 (i 1) k)) → blockC x0 y = arrC w i := by
    intro x0 w y i e h
    unfold blockC arrC
    simp only [h, e]
  refine of _ _ y _ ?_ fun k => iblk_at m c t k _ _ ?_
  · blk_simp [index3]
  · blk_simp [index3]

/-- The shared key's array after the run. -/
theorem final4 (c : Dev nD) : (dats m 0 c).arrAt 4 cfg0.N = arrK (V m c main_arg0) := by
  refine (dats m 0 c).arrAt_eq_of_covers 4 _ (by decide +kernel) fun t hf y => ?_
  blk_simp
  rw [after0_4]
  unfold outsAt0
  dsimp only
  rw [out4_eq]
  have of : ∀ (x0 : Vec Ideal S1x16192x128 .f32) (w : Vec Ideal S2x2048x16192 .f32) (y : S128x128.Idx) (i : S2048x128.Idx),
      (i 1).val = (y 1).val → (∀ k : Fin 16192, x0 (ix3 0 k (y 0)) = w (ix3 0 (i 0) k)) → blockK x0 y = arrK w i := by
    intro x0 w y i e h
    unfold blockK arrK
    simp only [h, e]
  refine of _ _ y _ ?_ fun k => iblk_at m c t k _ _ ?_
  · blk_simp [index4]
  · blk_simp [index4]

end Cert.Sort

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_band_masked
public import proofs.«01_k».proof.Proof.Gen.ProjKernelIdeal.Value
public import proofs.«01_k».proof.Proof.Gen.MergeKernelIdeal.Value
public import proofs.«01_k».proof.Proof.Gen.OutKernelIdeal.Value
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.QvKernel
public import proofs.«01_k».proof.Proof.Gen.QvKernel.Skeleton
public import proofs.«01_k».proof.Proof.Gen.QvKernel.Launch
public import proofs.«01_k».proof.Proof.Gen.QvKernel.Points
public import proofs.«01_k».proof.Proof.Gen.QvKernel.Frame
public import proofs.«01_k».proof.Proof.Gen.QvKernelIdeal
public import proofs.«01_k».proof.Proof.Gen.QvKernelIdeal.Frame
public import proofs.«01_k».proof.Proof.Gen.QvKernelIdeal.Value
public import proofs.«01_k».proof.Proof.Gen.QvReferenceIdeal
public import proofs.«01_k».proof.Proof.Gen.QvReferenceIdeal.Run
public import proofs.«01_k».proof.Proof.Gen.QvReferenceIdeal.Read
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.MlaKernel
public import proofs.«01_k».proof.Proof.Gen.MlaKernel.Skeleton
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Frame
public import proofs.«01_k».proof.Proof.Gen.MlaKernelIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.Pre_rope_padded
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Frame
public import proofs.«01_k».proof.Proof.Gen.PrepKernelIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.SortKernel
public import proofs.«01_k».proof.Proof.Gen.SortKernel.Skeleton
public import proofs.«01_k».proof.Proof.Gen.SortKernel.Launch
public import proofs.«01_k».proof.Proof.Gen.SortKernel.Points
public import proofs.«01_k».proof.Proof.Gen.SortKernel.Frame
public import proofs.«01_k».proof.Proof.Gen.SortKernelIdeal
public import proofs.«01_k».proof.Proof.Gen.SortKernelIdeal.Frame
public import proofs.«01_k».proof.Proof.Gen.SortKernelIdeal.Value
public import proofs.«01_k».proof.Proof.Gen.SortReferenceIdeal
public import proofs.«01_k».proof.Proof.Gen.SortReferenceIdeal.Run
public import proofs.«01_k».proof.Proof.Gen.SortReferenceIdeal.Read
public import proofs.«01_k».proof.Proof.BandSame
public import proofs.«01_k».proof.Proof.ProjSame
public import proofs.«01_k».proof.Proof.MergeSame
public import proofs.«01_k».proof.Proof.OutSame
public import proofs.«01_k».proof.Proof.QvSame
public import proofs.«01_k».proof.Proof.QkvSame
public import proofs.«01_k».proof.Proof.MlaSame
public import proofs.«01_k».proof.Proof.MlaRef
public import proofs.«01_k».proof.Proof.MlaPre
public import proofs.«01_k».proof.Proof.PrepSame
public import proofs.«01_k».proof.Proof.NormSame
public import proofs.«01_k».proof.Proof.SortSame
public import Idealize.ShloMosaic.Adequacy
public import Idealize.ShloMosaic.Init

@[expose] public section

noncomputable section

namespace Cert.Proof

open Idealize.ShloMosaic Idealize.SL.Sem

/-- The kernel as compiled runs, ends, and leaves its arguments. -/
theorem kernel_frame : quiescent_Kernel := fun m g _ => Cert.Kernel.Gen.frame m g

/-- The idealised kernel runs, ends, and leaves its arguments. -/
theorem kernelIdeal_frame : quiescent_KernelIdeal := fun m g _ => Cert.KernelIdeal.Gen.frame m g

/-- The idealised reference runs, ends, and leaves its arguments. -/
theorem referenceIdeal_frame : quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Under the precondition the idealised kernel and the idealised reference end with the same result. -/
theorem band_same : algebraic_KernelIdeal_ReferenceIdeal_pre_band_masked := fun m g m' g' hpre heq =>
  ⟨fun c => Cert.KernelIdeal.Band.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (Cert.KernelIdeal.Gen.V m c Cert.KernelIdeal.main_v18),
    (θ_run _ _ _).mono (fun _ h c => by
      refine ⟨(h c).1.trans ?_, (h c).2⟩
      rw [Cert.KernelIdeal.Band.final, Cert.KernelIdeal.Gen.V_main_arg0, Cert.KernelIdeal.Gen.V_main_arg1, Cert.KernelIdeal.Gen.V_main_arg2,
        Cert.KernelIdeal.Gen.V_main_arg3]) (Cert.KernelIdeal.Value.run_blocks m g),
    (θ_run _ _ _).mono (fun _ h c => by
      refine ⟨(h c).1.trans ?_, (h c).2⟩
      obtain ⟨e0, e1, e2, e3, e4⟩ := heq c
      obtain ⟨p1, p2, p3⟩ := hpre c
      rw [Cert.ReferenceIdeal.Read.val_main_v69_eq, e0, e1, e2, e3, e4]
      exact (Cert.Band.whole_same _ _ _ _ _ _ (Cert.Band.operands_of_pre _ _ _ _ _ p1 p2 p3) (Cert.KernelIdeal.Band.rel_at m c)).symm)
      (Cert.ReferenceIdeal.Value.run m' g')⟩

/-- The input projection as compiled runs, ends, and leaves its arguments. -/
theorem proj_frame : quiescent_ProjKernel := fun m g _ => Cert.ProjKernel.Gen.frame m g

/-- The input projection, idealised, runs, ends, and leaves its arguments. -/
theorem projIdeal_frame : quiescent_ProjKernelIdeal := fun m g _ => Cert.ProjKernelIdeal.Gen.frame m g

/-- The input projection's idealised reference runs, ends, and leaves its arguments. -/
theorem projReference_frame : quiescent_ProjReferenceIdeal := fun m g _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m g)

/-- The input projection and its reference, both idealised, end with the same result. -/
theorem proj_same : algebraic_ProjKernelIdeal_ProjReferenceIdeal := fun m g m' g' _ heq =>
  ⟨fun c => Cert.Proj.product (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    (θ_run _ _ _).mono (fun _ h c => by
      refine ⟨(h c).1.trans ?_, (h c).2⟩
      rw [Cert.Proj.final, Cert.ProjKernelIdeal.Gen.V_main_arg0, Cert.ProjKernelIdeal.Gen.V_main_arg1]) (Cert.ProjKernelIdeal.Value.run_blocks m g),
    (θ_run _ _ _).mono (fun _ h c => by
      refine ⟨(h c).1.trans ?_, (h c).2⟩
      obtain ⟨e0, e1⟩ := heq c
      rw [Cert.ProjReferenceIdeal.Read.val_main_v2_eq, e0, e1]
      exact Cert.Proj.reference_product _ _) (Cert.ProjReferenceIdeal.Value.run m' g')⟩

/-- The gated merge as compiled runs, ends, and leaves its arguments. -/
theorem merge_frame : quiescent_MergeKernel := fun m g _ => Cert.MergeKernel.Gen.frame m g

/-- The gated merge, idealised, runs, ends, and leaves its arguments. -/
theorem mergeIdeal_frame : quiescent_MergeKernelIdeal := fun m g _ => Cert.MergeKernelIdeal.Gen.frame m g

/-- The gated merge's idealised reference runs, ends, and leaves its arguments. -/
theorem mergeReference_frame : quiescent_MergeReferenceIdeal := fun m g _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m g)

/-- The gated merge and its reference, both idealised, end with the same result. -/
theorem merge_same : algebraic_MergeKernelIdeal_MergeReferenceIdeal := fun m g m' g' _ heq =>
  ⟨fun c => Cert.Merge.merged (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)),
    (θ_run _ _ _).mono (fun _ h c => by
      refine ⟨(h c).1.trans ?_, (h c).2⟩
      rw [Cert.Merge.final, Cert.MergeKernelIdeal.Gen.V_main_arg0, Cert.MergeKernelIdeal.Gen.V_main_arg1, Cert.MergeKernelIdeal.Gen.V_main_arg2, Cert.MergeKernelIdeal.Gen.V_main_arg3, Cert.MergeKernelIdeal.Gen.V_main_arg4]) (Cert.MergeKernelIdeal.Value.run_blocks m g),
    (θ_run _ _ _).mono (fun _ h c => by
      refine ⟨(h c).1.trans ?_, (h c).2⟩
      obtain ⟨e0, e1, e2, e3, e4⟩ := heq c
      rw [Cert.MergeReferenceIdeal.Read.val_main_v30_eq, e0, e1, e2, e3, e4]
      exact Cert.Merge.reference_merged _ _ _ _ _) (Cert.MergeReferenceIdeal.Value.run m' g')⟩

/-- The output projection as compiled runs, ends, and leaves its arguments. -/
theorem out_frame : quiescent_OutKernel := fun m g _ => Cert.OutKernel.Gen.frame m g

/-- The output projection, idealised, runs, ends, and leaves its arguments. -/
theorem outIdeal_frame : quiescent_OutKernelIdeal := fun m g _ => Cert.OutKernelIdeal.Gen.frame m g

/-- The output projection's idealised reference runs, ends, and leaves its arguments. -/
theorem outReference_frame : quiescent_OutReferenceIdeal := fun m g _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m g)

/-- The output projection and its reference, both idealised, end with the same result. -/
theorem out_same : algebraic_OutKernelIdeal_OutReferenceIdeal := fun m g m' g' _ heq =>
  ⟨fun c => Cert.Out.residual (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)),
    (θ_run _ _ _).mono (fun _ h c => by
      refine ⟨(h c).1.trans ?_, (h c).2⟩
      rw [Cert.Out.final, Cert.OutKernelIdeal.Gen.V_main_arg0, Cert.OutKernelIdeal.Gen.V_main_arg1, Cert.OutKernelIdeal.Gen.V_main_arg2]) (Cert.OutKernelIdeal.Value.run_blocks m g),
    (θ_run _ _ _).mono (fun _ h c => by
      refine ⟨(h c).1.trans ?_, (h c).2⟩
      obtain ⟨e0, e1, e2⟩ := heq c
      rw [Cert.OutReferenceIdeal.Read.val_main_v2_eq, e0, e1, e2]
      exact Cert.Out.reference_residual _ _ _) (Cert.OutReferenceIdeal.Value.run m' g')⟩

/-- The band-branch projection terminates as printed, its arguments kept. -/
theorem qv_frame : quiescent_QvKernel := fun m g _ => Cert.QvKernel.Gen.frame m g

/-- So does the idealized band-branch projection. -/
theorem qvIdeal_frame : quiescent_QvKernelIdeal := fun m g _ => Cert.QvKernelIdeal.Gen.frame m g

/-- And so does its reference. -/
theorem qvReference_frame : quiescent_QvReferenceIdeal := fun m g _ =>
  (θ_run Cert.QvReferenceIdeal.defs _ _).mono (fun r h => ⟨fun c => (h c).2.2, Idealize.ShloMosaic.sem_eq_zero_of_no_sems (by decide) r.2⟩)
    (Cert.QvReferenceIdeal.Value.run (F := Ideal) m g)

/-- The idealized band-branch projection and its reference leave the same queries and the same values. -/
theorem qv_same : algebraic_QvKernelIdeal_QvReferenceIdeal := fun m g m' g' _ heq =>
  ⟨fun c => Cert.Qv.allQueries (m ((c.tc : Thread Cert.QvKernelIdeal.nD Cert.QvKernelIdeal.τ).loc Cert.QvKernelIdeal.main_arg0))
      (m ((c.tc : Thread Cert.QvKernelIdeal.nD Cert.QvKernelIdeal.τ).loc Cert.QvKernelIdeal.main_arg1)) (m ((c.tc : Thread Cert.QvKernelIdeal.nD Cert.QvKernelIdeal.τ).loc Cert.QvKernelIdeal.main_arg2)),
    fun c => Cert.Qv.allValues (m ((c.tc : Thread Cert.QvKernelIdeal.nD Cert.QvKernelIdeal.τ).loc Cert.QvKernelIdeal.main_arg0))
      (m ((c.tc : Thread Cert.QvKernelIdeal.nD Cert.QvKernelIdeal.τ).loc Cert.QvKernelIdeal.main_arg1)),
    (θ_run _ _ _).mono (fun _ h c => by
      refine ⟨(h c).1.trans ?_, (h c).2.1.trans ?_, (h c).2.2⟩
      · rw [Cert.Qv.final3, Cert.QvKernelIdeal.Gen.V_main_arg0, Cert.QvKernelIdeal.Gen.V_main_arg1, Cert.QvKernelIdeal.Gen.V_main_arg2]
      · rw [Cert.Qv.final4, Cert.QvKernelIdeal.Gen.V_main_arg0, Cert.QvKernelIdeal.Gen.V_main_arg1]) (Cert.QvKernelIdeal.Value.run_blocks m g),
    (θ_run _ _ _).mono (fun _ h c => by
      obtain ⟨e0, e1, e2⟩ := heq c
      refine ⟨(h c).1.trans ?_, (h c).2.1.trans ?_, (h c).2.2⟩
      · rw [Cert.QvReferenceIdeal.Read.val_main_v53_eq, e0, e1, e2]
        exact Cert.Qv.reference_queries _ _ _
      · rw [Cert.QvReferenceIdeal.Read.val_main_v60_eq, e0, e1]
        exact Cert.Qv.reference_values _ _) (Cert.QvReferenceIdeal.Value.run m' g')⟩

/-- The differential branch's projection terminates as printed, its arguments kept. -/
theorem qkv_frame : quiescent_QkvKernel := fun m g _ => Cert.QkvKernel.Gen.frame m g

/-- So does the idealized differential projection. -/
theorem qkvIdeal_frame : quiescent_QkvKernelIdeal := fun m g _ => Cert.QkvKernelIdeal.Gen.frame m g

/-- And so does its reference. -/
theorem qkvReference_frame : quiescent_QkvReferenceIdeal := fun m g _ =>
  (θ_run Cert.QkvReferenceIdeal.defs _ _).mono (fun r h => ⟨fun c => (h c).2.2.2, Idealize.ShloMosaic.sem_eq_zero_of_no_sems (by decide) r.2⟩)
    (Cert.QkvReferenceIdeal.Value.run (F := Ideal) m g)

/-- The idealized differential projection and its reference leave the same queries, the same values and the same keys. -/
theorem qkv_same : algebraic_QkvKernelIdeal_QkvReferenceIdeal := fun m g m' g' _ heq =>
  ⟨fun c => Cert.Qkv.allQueries (m ((c.tc : Thread Cert.QkvKernelIdeal.nD Cert.QkvKernelIdeal.τ).loc Cert.QkvKernelIdeal.main_arg0))
      (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)),
    fun c => Cert.Qkv.allValues (m ((c.tc : Thread Cert.QkvKernelIdeal.nD Cert.QkvKernelIdeal.τ).loc Cert.QkvKernelIdeal.main_arg0))
      (m ((c.tc : Thread Cert.QkvKernelIdeal.nD Cert.QkvKernelIdeal.τ).loc Cert.QkvKernelIdeal.main_arg1)),
    fun c => Cert.Qkv.allKeys (m ((c.tc : Thread Cert.QkvKernelIdeal.nD Cert.QkvKernelIdeal.τ).loc Cert.QkvKernelIdeal.main_arg0))
      (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg3)),
    (θ_run _ _ _).mono (fun _ h c => by
      refine ⟨(h c).1.trans ?_, (h c).2.1.trans ?_, (h c).2.2.1.trans ?_, (h c).2.2.2⟩
      · rw [Cert.Qkv.final5, Cert.QkvKernelIdeal.Gen.V_main_arg0, Cert.QkvKernelIdeal.Gen.V_main_arg1, Cert.QkvKernelIdeal.Gen.V_main_arg2]
      · rw [Cert.Qkv.final6, Cert.QkvKernelIdeal.Gen.V_main_arg0, Cert.QkvKernelIdeal.Gen.V_main_arg1]
      · rw [Cert.Qkv.final7, Cert.QkvKernelIdeal.Gen.V_main_arg0, Cert.QkvKernelIdeal.Gen.V_main_arg1, Cert.QkvKernelIdeal.Gen.V_main_arg3]) (Cert.QkvKernelIdeal.Value.run_blocks m g),
    (θ_run _ _ _).mono (fun _ h c => by
      obtain ⟨e0, e1, e2, e3⟩ := heq c
      refine ⟨(h c).1.trans ?_, (h c).2.1.trans ?_, (h c).2.2.1.trans ?_, (h c).2.2.2⟩
      · rw [Cert.QkvReferenceIdeal.Read.val_main_v84_eq, e0, e1, e2]
        exact Cert.Qkv.reference_queries _ _ _
      · rw [Cert.QkvReferenceIdeal.Read.val_main_v88_eq, e0, e1]
        exact Cert.Qkv.reference_values _ _
      · rw [Cert.QkvReferenceIdeal.Read.val_main_v129_eq, e0, e1, e3]
        exact Cert.Qkv.reference_keys _ _ _) (Cert.QkvReferenceIdeal.Value.run m' g')⟩

/-- The band branch's key preparation terminates as printed, its arguments kept. -/
theorem prep_frame : quiescent_PrepKernel := fun m g _ => Cert.PrepKernel.Gen.frame m g

/-- So does its idealisation. -/
theorem prepIdeal_frame : quiescent_PrepKernelIdeal := fun m g _ => Cert.PrepKernelIdeal.Gen.frame m g

/-- And so does its reference. -/
theorem prepReference_frame : quiescent_PrepReferenceIdeal := fun m g _ =>
  (θ_run Cert.PrepReferenceIdeal.defs _ _).mono (fun r h => ⟨fun c => (h c).2, Idealize.ShloMosaic.sem_eq_zero_of_no_sems (by decide) r.2⟩)
    (Cert.PrepReferenceIdeal.Value.run (F := Ideal) m g)

/-- The idealized key preparation and its reference leave the same prepared keys. -/
theorem prep_same : algebraic_PrepKernelIdeal_PrepReferenceIdeal := fun m g m' g' _ heq =>
  ⟨fun c => Cert.Prep.allKeys (m ((c.tc : Thread Cert.PrepKernelIdeal.nD Cert.PrepKernelIdeal.τ).loc Cert.PrepKernelIdeal.main_arg0))
      (m ((c.tc : Thread Cert.PrepKernelIdeal.nD Cert.PrepKernelIdeal.τ).loc Cert.PrepKernelIdeal.main_arg1)),
    (θ_run _ _ _).mono (fun _ h c => by
      refine ⟨(h c).1.trans ?_, (h c).2⟩
      rw [Cert.Prep.final, Cert.PrepKernelIdeal.Gen.V_main_arg0, Cert.PrepKernelIdeal.Gen.V_main_arg1]) (Cert.PrepKernelIdeal.Value.run_blocks m g),
    (θ_run _ _ _).mono (fun _ h c => by
      obtain ⟨e0, e1⟩ := heq c
      refine ⟨(h c).1.trans ?_, (h c).2⟩
      rw [Cert.PrepReferenceIdeal.Read.val_main_v36_eq, e0, e1]
      exact Cert.Prep.reference_keys _ _) (Cert.PrepReferenceIdeal.Value.run m' g')⟩

/-- The input's normalisation terminates as printed, its arguments kept. -/
theorem norm_frame : quiescent_NormKernel := fun m g _ => Cert.NormKernel.Gen.frame m g

/-- So does its idealisation. -/
theorem normIdeal_frame : quiescent_NormKernelIdeal := fun m g _ => Cert.NormKernelIdeal.Gen.frame m g

/-- And so does its reference. -/
theorem normReference_frame : quiescent_NormReferenceIdeal := fun m g _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m g)

/-- The idealized normalisation and its reference leave the same rows. -/
theorem norm_same : algebraic_NormKernelIdeal_NormReferenceIdeal := fun m g m' g' _ heq =>
  ⟨fun c => Cert.Norm.normalised (m ((c.tc : Thread Cert.NormKernelIdeal.nD Cert.NormKernelIdeal.τ).loc Cert.NormKernelIdeal.main_arg0))
      (m ((c.tc : Thread Cert.NormKernelIdeal.nD Cert.NormKernelIdeal.τ).loc Cert.NormKernelIdeal.main_arg1)),
    (θ_run _ _ _).mono (fun _ h c => by
      refine ⟨(h c).1.trans ?_, (h c).2⟩
      rw [Cert.Norm.final, Cert.NormKernelIdeal.Gen.V_main_arg0, Cert.NormKernelIdeal.Gen.V_main_arg1]) (Cert.NormKernelIdeal.Value.run_blocks m g),
    (θ_run _ _ _).mono (fun _ h c => by
      obtain ⟨e0, e1⟩ := heq c
      refine ⟨(h c).1.trans ?_, (h c).2⟩
      rw [Cert.NormReferenceIdeal.Read.val_main_v14_eq, e0, e1]
      exact Cert.Norm.reference_normalised _ _) (Cert.NormReferenceIdeal.Value.run m' g')⟩

/-- The latent attention's projection terminates as printed, its arguments kept. -/
theorem mla_frame : quiescent_MlaKernel := fun m g _ => Cert.MlaKernel.Gen.frame m g

/-- So does the idealized latent projection. -/
theorem mlaIdeal_frame : quiescent_MlaKernelIdeal := fun m g _ => Cert.MlaKernelIdeal.Gen.frame m g

/-- And so does its reference. -/
theorem mlaReference_frame : quiescent_MlaReferenceIdeal := fun m g _ =>
  (θ_run Cert.MlaReferenceIdeal.defs _ _).mono (fun r h => ⟨fun c => (h c).2.2.2, Idealize.ShloMosaic.sem_eq_zero_of_no_sems (by decide) r.2⟩)
    (Cert.MlaReferenceIdeal.Value.run (F := Ideal) m g)

/-- Under the precondition the idealized latent projection and its reference leave the same queries, the same keys and the same values. -/
theorem mla_same : algebraic_MlaKernelIdeal_MlaReferenceIdeal_pre_rope_padded := fun m g m' g' hpre heq =>
  ⟨fun c => Cert.Mla.allQueries (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg5)) (m ((c.tc : Thread Cert.MlaKernelIdeal.nD Cert.MlaKernelIdeal.τ).loc Cert.MlaKernelIdeal.main_arg7)),
    fun c => Cert.Mla.allKeys (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg6)) (m ((c.tc : Thread Cert.MlaKernelIdeal.nD Cert.MlaKernelIdeal.τ).loc Cert.MlaKernelIdeal.main_arg8)),
    fun c => Cert.Mla.allValues (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg6)),
    (θ_run _ _ _).mono (fun _ h c => by
      refine ⟨(h c).1.trans ?_, (h c).2.1.trans ?_, (h c).2.2.1.trans ?_, (h c).2.2.2⟩
      · rw [Cert.Mla.final13, Cert.MlaKernelIdeal.Gen.V_main_arg0, Cert.MlaKernelIdeal.Gen.V_main_arg3, Cert.MlaKernelIdeal.Gen.V_main_arg5, Cert.MlaKernelIdeal.Gen.V_main_arg7]
      · rw [Cert.Mla.final14 m c (by
          rw [Cert.MlaKernelIdeal.Gen.V_main_arg2]
          exact Cert.Pre_rope_padded.Mla.weights_zero _ _ _ _ _ _ _ _ _ (hpre c)), Cert.MlaKernelIdeal.Gen.V_main_arg0, Cert.MlaKernelIdeal.Gen.V_main_arg1, Cert.MlaKernelIdeal.Gen.V_main_arg2, Cert.MlaKernelIdeal.Gen.V_main_arg4, Cert.MlaKernelIdeal.Gen.V_main_arg6, Cert.MlaKernelIdeal.Gen.V_main_arg8]
      · rw [Cert.Mla.final15, Cert.MlaKernelIdeal.Gen.V_main_arg0, Cert.MlaKernelIdeal.Gen.V_main_arg4, Cert.MlaKernelIdeal.Gen.V_main_arg6]) (Cert.MlaKernelIdeal.Value.run_blocks m g),
    (θ_run _ _ _).mono (fun _ h c => by
      obtain ⟨e0, e1, e2, e3, e4, e5, e6, e7, e8⟩ := heq c
      have a0 : Idealize.ShloMosaic.StableHlo.launchContents m' c (Proc.devRef .tc Cert.MlaReferenceIdeal.main_arg0) = m ((c.tc : Thread Cert.MlaKernelIdeal.nD Cert.MlaKernelIdeal.τ).loc Cert.MlaKernelIdeal.main_arg0) := e0
      have a1 : Idealize.ShloMosaic.StableHlo.launchContents m' c (Proc.devRef .tc Cert.MlaReferenceIdeal.main_arg1) = m ((c.tc : Thread Cert.MlaKernelIdeal.nD Cert.MlaKernelIdeal.τ).loc Cert.MlaKernelIdeal.main_arg1) := e1
      have a2 : Idealize.ShloMosaic.StableHlo.launchContents m' c (Proc.devRef .tc Cert.MlaReferenceIdeal.main_arg2) = m ((c.tc : Thread Cert.MlaKernelIdeal.nD Cert.MlaKernelIdeal.τ).loc Cert.MlaKernelIdeal.main_arg2) := e2
      have a3 : Idealize.ShloMosaic.StableHlo.launchContents m' c (Proc.devRef .tc Cert.MlaReferenceIdeal.main_arg3) = m ((c.tc : Thread Cert.MlaKernelIdeal.nD Cert.MlaKernelIdeal.τ).loc Cert.MlaKernelIdeal.main_arg3) := e3
      have a4 : Idealize.ShloMosaic.StableHlo.launchContents m' c (Proc.devRef .tc Cert.MlaReferenceIdeal.main_arg4) = m ((c.tc : Thread Cert.MlaKernelIdeal.nD Cert.MlaKernelIdeal.τ).loc Cert.MlaKernelIdeal.main_arg4) := e4
      have a5 : Idealize.ShloMosaic.StableHlo.launchContents m' c (Proc.devRef .tc Cert.MlaReferenceIdeal.main_arg5) = m ((c.tc : Thread Cert.MlaKernelIdeal.nD Cert.MlaKernelIdeal.τ).loc Cert.MlaKernelIdeal.main_arg5) := e5
      have a6 : Idealize.ShloMosaic.StableHlo.launchContents m' c (Proc.devRef .tc Cert.MlaReferenceIdeal.main_arg6) = m ((c.tc : Thread Cert.MlaKernelIdeal.nD Cert.MlaKernelIdeal.τ).loc Cert.MlaKernelIdeal.main_arg6) := e6
      have a7 : Idealize.ShloMosaic.StableHlo.launchContents m' c (Proc.devRef .tc Cert.MlaReferenceIdeal.main_arg7) = m ((c.tc : Thread Cert.MlaKernelIdeal.nD Cert.MlaKernelIdeal.τ).loc Cert.MlaKernelIdeal.main_arg7) := e7
      have a8 : Idealize.ShloMosaic.StableHlo.launchContents m' c (Proc.devRef .tc Cert.MlaReferenceIdeal.main_arg8) = m ((c.tc : Thread Cert.MlaKernelIdeal.nD Cert.MlaKernelIdeal.τ).loc Cert.MlaKernelIdeal.main_arg8) := e8
      refine ⟨(h c).1.trans ?_, (h c).2.1.trans ?_, (h c).2.2.1.trans ?_, (h c).2.2.2⟩
      · rw [Cert.MlaReferenceIdeal.Read.val_main_v129_eq, a0, a3, a5, a7]
        exact Cert.Mla.reference_queries _ _ _ _
      · rw [Cert.MlaReferenceIdeal.Read.val_main_v183_eq, a0, a1, a2, a4, a6, a8]
        exact Cert.Mla.reference_keys _ _ _ _ _ _
      · rw [Cert.MlaReferenceIdeal.Read.val_main_v187_eq, a0, a4, a6]
        exact Cert.Mla.reference_values _ _ _) (Cert.MlaReferenceIdeal.Value.run m' g')⟩

/-- The sorting of the input weights terminates as printed, its argument kept. -/
theorem sort_frame : quiescent_SortKernel := fun m g _ => Cert.SortKernel.Gen.frame m g

/-- So does the idealized sorting. -/
theorem sortIdeal_frame : quiescent_SortKernelIdeal := fun m g _ => Cert.SortKernelIdeal.Gen.frame m g

/-- So does its reference. -/
theorem sortReference_frame : quiescent_SortReferenceIdeal := fun m g _ =>
  (θ_run Cert.SortReferenceIdeal.defs _ _).mono (fun r h => ⟨fun c => (h c).2.2.2.2, Idealize.ShloMosaic.sem_eq_zero_of_no_sems (by decide) r.2⟩)
    (Cert.SortReferenceIdeal.Value.run (F := Ideal) m g)

/-- The idealized sorting and its reference leave the same four arrays. -/
theorem sort_same : algebraic_SortKernelIdeal_SortReferenceIdeal := fun m g m' g' _ heq =>
  ⟨fun c => Cert.Sort.mainArr (m ((c.tc : Thread Cert.SortKernelIdeal.nD Cert.SortKernelIdeal.τ).loc Cert.SortKernelIdeal.main_arg0)),
    fun c => Cert.Sort.arrB (m ((c.tc : Thread Cert.SortKernelIdeal.nD Cert.SortKernelIdeal.τ).loc Cert.SortKernelIdeal.main_arg0)),
    fun c => Cert.Sort.arrC (m ((c.tc : Thread Cert.SortKernelIdeal.nD Cert.SortKernelIdeal.τ).loc Cert.SortKernelIdeal.main_arg0)),
    fun c => Cert.Sort.arrK (m ((c.tc : Thread Cert.SortKernelIdeal.nD Cert.SortKernelIdeal.τ).loc Cert.SortKernelIdeal.main_arg0)),
    (θ_run _ _ _).mono (fun _ h c => by
      refine ⟨(h c).1.trans ?_, (h c).2.1.trans ?_, (h c).2.2.1.trans ?_, (h c).2.2.2.1.trans ?_, (h c).2.2.2.2⟩
      · rw [Cert.Sort.final1, Cert.SortKernelIdeal.Gen.V_main_arg0]
      · rw [Cert.Sort.final2, Cert.SortKernelIdeal.Gen.V_main_arg0]
      · rw [Cert.Sort.final3, Cert.SortKernelIdeal.Gen.V_main_arg0]
      · rw [Cert.Sort.final4, Cert.SortKernelIdeal.Gen.V_main_arg0]) (Cert.SortKernelIdeal.Value.run_blocks m g),
    (θ_run _ _ _).mono (fun _ h c => by
      have e0 := heq c
      refine ⟨(h c).1.trans ?_, (h c).2.1.trans ?_, (h c).2.2.1.trans ?_, (h c).2.2.2.1.trans ?_, (h c).2.2.2.2⟩
      · rw [Cert.SortReferenceIdeal.Read.val_main_v17_eq, e0]
        exact Cert.Sort.reference_main _
      · rw [Cert.SortReferenceIdeal.Read.val_main_v19_eq, e0]
        exact Cert.Sort.reference_B _
      · rw [Cert.SortReferenceIdeal.Read.val_main_v21_eq, e0]
        exact Cert.Sort.reference_C _
      · rw [Cert.SortReferenceIdeal.Read.val_main_v23_eq, e0]
        exact Cert.Sort.reference_K _) (Cert.SortReferenceIdeal.Value.run m' g')⟩

/-- Everything that is claimed. -/
theorem claim : Cert.Claim := ⟨Cert.Kernel.Gen.facts, Cert.KernelIdeal.Gen.facts, Cert.ReferenceIdeal.Gen.facts,
  Cert.ProjKernel.Gen.facts, Cert.ProjKernelIdeal.Gen.facts, Cert.ProjReferenceIdeal.Gen.facts,
  Cert.MergeKernel.Gen.facts, Cert.MergeKernelIdeal.Gen.facts, Cert.MergeReferenceIdeal.Gen.facts,
  Cert.OutKernel.Gen.facts, Cert.OutKernelIdeal.Gen.facts, Cert.OutReferenceIdeal.Gen.facts,
  Cert.QvKernel.Gen.facts, Cert.QvKernelIdeal.Gen.facts, Cert.QvReferenceIdeal.Gen.facts,
  Cert.QkvKernel.Gen.facts, Cert.QkvKernelIdeal.Gen.facts, Cert.QkvReferenceIdeal.Gen.facts,
  Cert.PrepKernel.Gen.facts, Cert.PrepKernelIdeal.Gen.facts, Cert.PrepReferenceIdeal.Gen.facts,
  Cert.NormKernel.Gen.facts, Cert.NormKernelIdeal.Gen.facts, Cert.NormReferenceIdeal.Gen.facts,
  Cert.MlaKernel.Gen.facts, Cert.MlaKernelIdeal.Gen.facts, Cert.MlaReferenceIdeal.Gen.facts,
  Cert.SortKernel.Gen.facts, Cert.SortKernelIdeal.Gen.facts, Cert.SortReferenceIdeal.Gen.facts, Cert.Pre_band_masked.Gen.facts, Cert.Pre_rope_padded.Gen.facts,
  kernel_frame, kernelIdeal_frame, fun m g _ => kernelIdeal_frame m g True.intro, referenceIdeal_frame, fun m g _ => referenceIdeal_frame m g True.intro,
  proj_frame, projIdeal_frame, projReference_frame, merge_frame, mergeIdeal_frame, mergeReference_frame, out_frame, outIdeal_frame, outReference_frame,
  qv_frame, qvIdeal_frame, qvReference_frame, qkv_frame, qkvIdeal_frame, qkvReference_frame,
  prep_frame, prepIdeal_frame, prepReference_frame, norm_frame, normIdeal_frame, normReference_frame,
  mla_frame, mlaIdeal_frame, fun m g _ => mlaIdeal_frame m g True.intro, mlaReference_frame, fun m g _ => mlaReference_frame m g True.intro,
  sort_frame, sortIdeal_frame, sortReference_frame,
  IdealRules.named_const.statement Cert.KernelIdeal.κ "log2e" .f32 0x3FB8AA3B#32 _ rfl, band_same,
  trivial, proj_same, trivial, merge_same, trivial, out_same,
  ⟨IdealRules.named_const.statement Cert.QvKernelIdeal.κ "mask" .f32 0xF149F2CA#32 _ rfl,
    IdealRules.named_const.statement Cert.QvKernelIdeal.κ "qscale" .f32 0x3E0293EE#32 _ rfl⟩, qv_same,
  ⟨IdealRules.named_const.statement Cert.QkvKernelIdeal.κ "mask" .f32 0xF149F2CA#32 _ rfl,
    IdealRules.named_const.statement Cert.QkvKernelIdeal.κ "qscale" .f32 0x3E38AA3B#32 _ rfl⟩, qkv_same, trivial, prep_same, trivial, norm_same,
  ⟨IdealRules.named_const.statement Cert.MlaKernelIdeal.κ "mask" .f32 0xF149F2CA#32 _ rfl,
    IdealRules.named_const.statement Cert.MlaKernelIdeal.κ "qscale" .f32 0x3DD53B95#32 _ rfl⟩, mla_same, trivial, sort_same⟩

end Cert.Proof

end
